-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S32 : Shape := ⟨1, ![32]⟩
abbrev S5x32 : Shape := ⟨2, ![5, 32]⟩
abbrev S2x2x128x512 : Shape := ⟨4, ![2, 2, 128, 512]⟩
abbrev S2x2 : Shape := ⟨2, ![2, 2]⟩
abbrev S_ : Shape := ⟨0, ![]⟩
abbrev S5x8x128 : Shape := ⟨3, ![5, 8, 128]⟩
abbrev S5 : Shape := ⟨1, ![5]⟩
abbrev S1 : Shape := ⟨1, ![1]⟩
abbrev S128x128 : Shape := ⟨2, ![128, 128]⟩
abbrev S128x512 : Shape := ⟨2, ![128, 512]⟩
abbrev S1x1x128x512 : Shape := ⟨4, ![1, 1, 128, 512]⟩
abbrev S1x1 : Shape := ⟨2, ![1, 1]⟩
abbrev S1x128x512 : Shape := ⟨3, ![1, 128, 512]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 6
  | .vmem => 9
  | .smem => 3
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S32, .i32⟩
  | .hbm, ⟨3, _⟩ => ⟨S32, .i32⟩
  | .hbm, ⟨4, _⟩ => ⟨S5x32, .i32⟩
  | .hbm, ⟨5, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S128x2048, .f32⟩
  | .local _ .vmem, ⟨3, _⟩ => ⟨S2x2x128x512, .f32⟩
  | .local _ .vmem, ⟨4, _⟩ => ⟨S2x2x128x512, .f32⟩
  | .local _ .vmem, ⟨5, _⟩ => ⟨S2x2x128x512, .f32⟩
  | .local _ .vmem, ⟨6, _⟩ => ⟨S2x2x128x512, .f32⟩
  | .local _ .vmem, ⟨7, _⟩ => ⟨S5x8x128, .f32⟩
  | .local _ .vmem, ⟨8, _⟩ => ⟨S5x8x128, .f32⟩
  | .local _ .smem, ⟨0, _⟩ => ⟨S32, .i32⟩
  | .local _ .smem, ⟨1, _⟩ => ⟨S32, .i32⟩
  | .local _ .smem, ⟨2, _⟩ => ⟨S5x32, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 5 32 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch12 : Ref sig .tc := ⟨.vmem, 7, rfl⟩
abbrev cc0_scratch13 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let c0_i32 : BitVec 32 := 0#32
  let v6 : BitVec 1 := Scalar.cmpi .eq c32_i32_1 c0_i32
  let c1_i32_2 : BitVec 32 := 1#32
  let v7 : BitVec 32 := Scalar.select v6 c1_i32_2 c32_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : Index := Scalar.indexCast v15
  ![v16.toNat]

def k0_off3 (v4 : BitVec 32) : Fin 1 → Nat :=
  let c1_i32_6 : BitVec 32 := 1#32
  let v18 : BitVec 32 := Scalar.subi v4 c1_i32_6
  let c32_i32_7 : BitVec 32 := 32#32
  let c0_i32_8 : BitVec 32 := 0#32
  let v19 : BitVec 1 := Scalar.cmpi .eq c32_i32_7 c0_i32_8
  let c1_i32_9 : BitVec 32 := 1#32
  let v20 : BitVec 32 := Scalar.select v19 c1_i32_9 c32_i32_7
  let v21 : BitVec 32 := Scalar.remsi v18 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v29 : Index := Scalar.indexCast v28
  ![v29.toNat]
def k0_dev1 (v30 : BitVec 32) : Nat :=
  let c0_i32_15 : BitVec 32 := 0#32
  let c1_i32_14 : BitVec 32 := 1#32
  let v32 : BitVec 32 := Scalar.muli v30 c1_i32_14
  let v33 : BitVec 32 := Scalar.addi c0_i32_15 v32
  v33.toNat

def k0_dev2 (v17 : BitVec 32) : Nat :=
  let c0_i32_18 : BitVec 32 := 0#32
  let c1_i32_17 : BitVec 32 := 1#32
  let v34 : BitVec 32 := Scalar.muli v17 c1_i32_17
  let v35 : BitVec 32 := Scalar.addi c0_i32_18 v34
  v35.toNat

def k0_off4 (v4 : BitVec 32) : Fin 1 → Nat :=
  let c1_i32_19 : BitVec 32 := 1#32
  let v36 : BitVec 32 := Scalar.subi v4 c1_i32_19
  let c32_i32_20 : BitVec 32 := 32#32
  let c0_i32_21 : BitVec 32 := 0#32
  let v37 : BitVec 1 := Scalar.cmpi .eq c32_i32_20 c0_i32_21
  let c1_i32_22 : BitVec 32 := 1#32
  let v38 : BitVec 32 := Scalar.select v37 c1_i32_22 c32_i32_20
  let v39 : BitVec 32 := Scalar.remsi v36 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let v47 : Index := Scalar.indexCast v46
  ![v47.toNat]
def k0_off5 (v48 : BitVec 32) : Fin 2 → Nat :=
  let c128_i32 : BitVec 32 := 128#32
  let v49 : BitVec 32 := Scalar.muli v48 c128_i32
  let v50 : Index := Scalar.indexCast v49
  let c0 : Index := 0#32
  ![v50.toNat, 0]

def k0_chk4 (v48 : BitVec 32) : Prop :=
  (∀ a, (k0_off5 v48) a + S128x128.size a ≤ S4096x128.size a)
theorem k0_off5_inb : ∀ (v48 : BitVec 32) (k0_hw4 : k0_chk4 v48), ∀ a, (k0_off5 v48) a + S128x128.size a ≤ S4096x128.size a := fun v48 k0_hw4 => k0_hw4

def k0_off6 (v4 : BitVec 32) : Fin 1 → Nat :=
  let c1_i32_39 : BitVec 32 := 1#32
  let v69 : BitVec 32 := Scalar.addi v4 c1_i32_39
  let c32_i32_40 : BitVec 32 := 32#32
  let c0_i32_41 : BitVec 32 := 0#32
  let v70 : BitVec 1 := Scalar.cmpi .eq c32_i32_40 c0_i32_41
  let c1_i32_42 : BitVec 32 := 1#32
  let v71 : BitVec 32 := Scalar.select v70 c1_i32_42 c32_i32_40
  let v72 : BitVec 32 := Scalar.remsi v69 v71
  let c0_i32_44 : BitVec 32 := 0#32
  let v74 : BitVec 1 := Scalar.cmpi .slt v72 c0_i32_44
  let c0_i32_45 : BitVec 32 := 0#32
  let v75 : BitVec 1 := Scalar.cmpi .slt v71 c0_i32_45
  let v76 : BitVec 1 := Scalar.xori v74 v75
  let c0_i32_43 : BitVec 32 := 0#32
  let v73 : BitVec 1 := Scalar.cmpi .ne v72 c0_i32_43
  let v77 : BitVec 1 := Scalar.andi v76 v73
  let v78 : BitVec 32 := Scalar.addi v72 v71
  let v79 : BitVec 32 := Scalar.select v77 v78 v72
  let v80 : Index := Scalar.indexCast v79
  ![v80.toNat]
def k0_off7 (v81 : BitVec 32) : Fin 2 → Nat :=
  let c128_i32_46 : BitVec 32 := 128#32
  let v82 : BitVec 32 := Scalar.muli v81 c128_i32_46
  let v83 : Index := Scalar.indexCast v82
  let c0_47 : Index := 0#32
  ![v83.toNat, 0]

def k0_chk5 (v81 : BitVec 32) : Prop :=
  (∀ a, (k0_off7 v81) a + S128x128.size a ≤ S4096x128.size a)
theorem k0_off7_inb : ∀ (v81 : BitVec 32) (k0_hw5 : k0_chk5 v81), ∀ a, (k0_off7 v81) a + S128x128.size a ≤ S4096x128.size a := fun v81 k0_hw5 => k0_hw5

def k0_dev3 (v17 : BitVec 32) : Nat :=
  let c0_i32_71 : BitVec 32 := 0#32
  let c1_i32_70 : BitVec 32 := 1#32
  let v102 : BitVec 32 := Scalar.muli v17 c1_i32_70
  let v103 : BitVec 32 := Scalar.addi c0_i32_71 v102
  v103.toNat
def k0_dev4 (v17 : BitVec 32) : Nat :=
  let c0_i32_85 : BitVec 32 := 0#32
  let c1_i32_84 : BitVec 32 := 1#32
  let v112 : BitVec 32 := Scalar.muli v17 c1_i32_84
  let v113 : BitVec 32 := Scalar.addi c0_i32_85 v112
  v113.toNat
def k0_dev5 (v30 : BitVec 32) : Nat :=
  let c0_i32_99 : BitVec 32 := 0#32
  let c1_i32_98 : BitVec 32 := 1#32
  let v122 : BitVec 32 := Scalar.muli v30 c1_i32_98
  let v123 : BitVec 32 := Scalar.addi c0_i32_99 v122
  v123.toNat
def k0_dev6 (v30 : BitVec 32) : Nat :=
  let c0_i32_113 : BitVec 32 := 0#32
  let c1_i32_112 : BitVec 32 := 1#32
  let v132 : BitVec 32 := Scalar.muli v30 c1_i32_112
  let v133 : BitVec 32 := Scalar.addi c0_i32_113 v132
  v133.toNat
def k0_off8 (v4 : BitVec 32) : Fin 1 → Nat :=
  let c2_i32_118 : BitVec 32 := 2#32
  let v142 : BitVec 32 := Scalar.subi v4 c2_i32_118
  let c0_i32_119 : BitVec 32 := 0#32
  let v143 : BitVec 32 := Scalar.subi v142 c0_i32_119
  let c32_i32_120 : BitVec 32 := 32#32
  let c0_i32_121 : BitVec 32 := 0#32
  let v144 : BitVec 1 := Scalar.cmpi .eq c32_i32_120 c0_i32_121
  let c1_i32_122 : BitVec 32 := 1#32
  let v145 : BitVec 32 := Scalar.select v144 c1_i32_122 c32_i32_120
  let v146 : BitVec 32 := Scalar.remsi v143 v145
  let c0_i32_124 : BitVec 32 := 0#32
  let v148 : BitVec 1 := Scalar.cmpi .slt v146 c0_i32_124
  let c0_i32_125 : BitVec 32 := 0#32
  let v149 : BitVec 1 := Scalar.cmpi .slt v145 c0_i32_125
  let v150 : BitVec 1 := Scalar.xori v148 v149
  let c0_i32_123 : BitVec 32 := 0#32
  let v147 : BitVec 1 := Scalar.cmpi .ne v146 c0_i32_123
  let v151 : BitVec 1 := Scalar.andi v150 v147
  let v152 : BitVec 32 := Scalar.addi v146 v145
  let v153 : BitVec 32 := Scalar.select v151 v152 v146
  let v154 : Index := Scalar.indexCast v153
  ![v154.toNat]
def k0_off9 (v155 : BitVec 32) : Fin 2 → Nat :=
  let c128_i32_126 : BitVec 32 := 128#32
  let v156 : BitVec 32 := Scalar.muli v155 c128_i32_126
  let v157 : Index := Scalar.indexCast v156
  let c0_127 : Index := 0#32
  ![v157.toNat, 0]

def k0_chk6 (v155 : BitVec 32) : Prop :=
  (∀ a, (k0_off9 v155) a + S128x128.size a ≤ S4096x128.size a)
theorem k0_off9_inb : ∀ (v155 : BitVec 32) (k0_hw6 : k0_chk6 v155), ∀ a, (k0_off9 v155) a + S128x128.size a ≤ S4096x128.size a := fun v155 k0_hw6 => k0_hw6

def k0_off10 (v4 : BitVec 32) : Fin 1 → Nat :=
  let c2_i32_136 : BitVec 32 := 2#32
  let v170 : BitVec 32 := Scalar.addi v4 c2_i32_136
  let c0_i32_137 : BitVec 32 := 0#32
  let v171 : BitVec 32 := Scalar.addi v170 c0_i32_137
  let c32_i32_138 : BitVec 32 := 32#32
  let c0_i32_139 : BitVec 32 := 0#32
  let v172 : BitVec 1 := Scalar.cmpi .eq c32_i32_138 c0_i32_139
  let c1_i32_140 : BitVec 32 := 1#32
  let v173 : BitVec 32 := Scalar.select v172 c1_i32_140 c32_i32_138
  let v174 : BitVec 32 := Scalar.remsi v171 v173
  let c0_i32_142 : BitVec 32 := 0#32
  let v176 : BitVec 1 := Scalar.cmpi .slt v174 c0_i32_142
  let c0_i32_143 : BitVec 32 := 0#32
  let v177 : BitVec 1 := Scalar.cmpi .slt v173 c0_i32_143
  let v178 : BitVec 1 := Scalar.xori v176 v177
  let c0_i32_141 : BitVec 32 := 0#32
  let v175 : BitVec 1 := Scalar.cmpi .ne v174 c0_i32_141
  let v179 : BitVec 1 := Scalar.andi v178 v175
  let v180 : BitVec 32 := Scalar.addi v174 v173
  let v181 : BitVec 32 := Scalar.select v179 v180 v174
  let v182 : Index := Scalar.indexCast v181
  ![v182.toNat]
def k0_off11 (v183 : BitVec 32) : Fin 2 → Nat :=
  let c128_i32_144 : BitVec 32 := 128#32
  let v184 : BitVec 32 := Scalar.muli v183 c128_i32_144
  let v185 : Index := Scalar.indexCast v184
  let c0_145 : Index := 0#32
  ![v185.toNat, 0]

def k0_chk7 (v183 : BitVec 32) : Prop :=
  (∀ a, (k0_off11 v183) a + S128x128.size a ≤ S4096x128.size a)
theorem k0_off11_inb : ∀ (v183 : BitVec 32) (k0_hw7 : k0_chk7 v183), ∀ a, (k0_off11 v183) a + S128x128.size a ≤ S4096x128.size a := fun v183 k0_hw7 => k0_hw7

def k0_dev7 (v17 : BitVec 32) : Nat :=
  let c0_i32_185 : BitVec 32 := 0#32
  let c1_i32_184 : BitVec 32 := 1#32
  let v212 : BitVec 32 := Scalar.muli v17 c1_i32_184
  let v213 : BitVec 32 := Scalar.addi c0_i32_185 v212
  v213.toNat
def k0_dev8 (v30 : BitVec 32) : Nat :=
  let c0_i32_192 : BitVec 32 := 0#32
  let c1_i32_191 : BitVec 32 := 1#32
  let v222 : BitVec 32 := Scalar.muli v30 c1_i32_191
  let v223 : BitVec 32 := Scalar.addi c0_i32_192 v222
  v223.toNat
def k0_dev9 (v30 : BitVec 32) : Nat :=
  let c0_i32_224 : BitVec 32 := 0#32
  let c1_i32_223 : BitVec 32 := 1#32
  let v238 : BitVec 32 := Scalar.muli v30 c1_i32_223
  let v239 : BitVec 32 := Scalar.addi c0_i32_224 v238
  v239.toNat
def k0_dev10 (v17 : BitVec 32) : Nat :=
  let c0_i32_231 : BitVec 32 := 0#32
  let c1_i32_230 : BitVec 32 := 1#32
  let v248 : BitVec 32 := Scalar.muli v17 c1_i32_230
  let v249 : BitVec 32 := Scalar.addi c0_i32_231 v248
  v249.toNat
def k0_dev11 (v17 : BitVec 32) : Nat :=
  let c0_i32_263 : BitVec 32 := 0#32
  let c1_i32_262 : BitVec 32 := 1#32
  let v264 : BitVec 32 := Scalar.muli v17 c1_i32_262
  let v265 : BitVec 32 := Scalar.addi c0_i32_263 v264
  v265.toNat
def k0_dev12 (v30 : BitVec 32) : Nat :=
  let c0_i32_270 : BitVec 32 := 0#32
  let c1_i32_269 : BitVec 32 := 1#32
  let v274 : BitVec 32 := Scalar.muli v30 c1_i32_269
  let v275 : BitVec 32 := Scalar.addi c0_i32_270 v274
  v275.toNat
def k0_dev13 (v30 : BitVec 32) : Nat :=
  let c0_i32_302 : BitVec 32 := 0#32
  let c1_i32_301 : BitVec 32 := 1#32
  let v290 : BitVec 32 := Scalar.muli v30 c1_i32_301
  let v291 : BitVec 32 := Scalar.addi c0_i32_302 v290
  v291.toNat
def k0_dev14 (v17 : BitVec 32) : Nat :=
  let c0_i32_309 : BitVec 32 := 0#32
  let c1_i32_308 : BitVec 32 := 1#32
  let v300 : BitVec 32 := Scalar.muli v17 c1_i32_308
  let v301 : BitVec 32 := Scalar.addi c0_i32_309 v300
  v301.toNat
def k0_off12 (v4 : BitVec 32) : Fin 1 → Nat :=
  let c2_i32_310 : BitVec 32 := 2#32
  let v302 : BitVec 32 := Scalar.subi v4 c2_i32_310
  let c1_i32_311 : BitVec 32 := 1#32
  let v303 : BitVec 32 := Scalar.subi v302 c1_i32_311
  let c32_i32_312 : BitVec 32 := 32#32
  let c0_i32_313 : BitVec 32 := 0#32
  let v304 : BitVec 1 := Scalar.cmpi .eq c32_i32_312 c0_i32_313
  let c1_i32_314 : BitVec 32 := 1#32
  let v305 : BitVec 32 := Scalar.select v304 c1_i32_314 c32_i32_312
  let v306 : BitVec 32 := Scalar.remsi v303 v305
  let c0_i32_316 : BitVec 32 := 0#32
  let v308 : BitVec 1 := Scalar.cmpi .slt v306 c0_i32_316
  let c0_i32_317 : BitVec 32 := 0#32
  let v309 : BitVec 1 := Scalar.cmpi .slt v305 c0_i32_317
  let v310 : BitVec 1 := Scalar.xori v308 v309
  let c0_i32_315 : BitVec 32 := 0#32
  let v307 : BitVec 1 := Scalar.cmpi .ne v306 c0_i32_315
  let v311 : BitVec 1 := Scalar.andi v310 v307
  let v312 : BitVec 32 := Scalar.addi v306 v305
  let v313 : BitVec 32 := Scalar.select v311 v312 v306
  let v314 : Index := Scalar.indexCast v313
  ![v314.toNat]
def k0_off13 (v315 : BitVec 32) : Fin 2 → Nat :=
  let c128_i32_318 : BitVec 32 := 128#32
  let v316 : BitVec 32 := Scalar.muli v315 c128_i32_318
  let v317 : Index := Scalar.indexCast v316
  let c0_319 : Index := 0#32
  ![v317.toNat, 0]

def k0_chk8 (v315 : BitVec 32) : Prop :=
  (∀ a, (k0_off13 v315) a + S128x128.size a ≤ S4096x128.size a)
theorem k0_off13_inb : ∀ (v315 : BitVec 32) (k0_hw8 : k0_chk8 v315), ∀ a, (k0_off13 v315) a + S128x128.size a ≤ S4096x128.size a := fun v315 k0_hw8 => k0_hw8

def k0_off14 (v4 : BitVec 32) : Fin 1 → Nat :=
  let c2_i32_328 : BitVec 32 := 2#32
  let v330 : BitVec 32 := Scalar.addi v4 c2_i32_328
  let c1_i32_329 : BitVec 32 := 1#32
  let v331 : BitVec 32 := Scalar.addi v330 c1_i32_329
  let c32_i32_330 : BitVec 32 := 32#32
  let c0_i32_331 : BitVec 32 := 0#32
  let v332 : BitVec 1 := Scalar.cmpi .eq c32_i32_330 c0_i32_331
  let c1_i32_332 : BitVec 32 := 1#32
  let v333 : BitVec 32 := Scalar.select v332 c1_i32_332 c32_i32_330
  let v334 : BitVec 32 := Scalar.remsi v331 v333
  let c0_i32_334 : BitVec 32 := 0#32
  let v336 : BitVec 1 := Scalar.cmpi .slt v334 c0_i32_334
  let c0_i32_335 : BitVec 32 := 0#32
  let v337 : BitVec 1 := Scalar.cmpi .slt v333 c0_i32_335
  let v338 : BitVec 1 := Scalar.xori v336 v337
  let c0_i32_333 : BitVec 32 := 0#32
  let v335 : BitVec 1 := Scalar.cmpi .ne v334 c0_i32_333
  let v339 : BitVec 1 := Scalar.andi v338 v335
  let v340 : BitVec 32 := Scalar.addi v334 v333
  let v341 : BitVec 32 := Scalar.select v339 v340 v334
  let v342 : Index := Scalar.indexCast v341
  ![v342.toNat]
def k0_off15 (v343 : BitVec 32) : Fin 2 → Nat :=
  let c128_i32_336 : BitVec 32 := 128#32
  let v344 : BitVec 32 := Scalar.muli v343 c128_i32_336
  let v345 : Index := Scalar.indexCast v344
  let c0_337 : Index := 0#32
  ![v345.toNat, 0]

def k0_chk9 (v343 : BitVec 32) : Prop :=
  (∀ a, (k0_off15 v343) a + S128x128.size a ≤ S4096x128.size a)
theorem k0_off15_inb : ∀ (v343 : BitVec 32) (k0_hw9 : k0_chk9 v343), ∀ a, (k0_off15 v343) a + S128x128.size a ≤ S4096x128.size a := fun v343 k0_hw9 => k0_hw9

def k0_dev15 (v17 : BitVec 32) : Nat :=
  let c0_i32_392 : BitVec 32 := 0#32
  let c1_i32_391 : BitVec 32 := 1#32
  let v378 : BitVec 32 := Scalar.muli v17 c1_i32_391
  let v379 : BitVec 32 := Scalar.addi c0_i32_392 v378
  v379.toNat
def k0_dev16 (v30 : BitVec 32) : Nat :=
  let c0_i32_399 : BitVec 32 := 0#32
  let c1_i32_398 : BitVec 32 := 1#32
  let v388 : BitVec 32 := Scalar.muli v30 c1_i32_398
  let v389 : BitVec 32 := Scalar.addi c0_i32_399 v388
  v389.toNat
def k0_dev17 (v30 : BitVec 32) : Nat :=
  let c0_i32_446 : BitVec 32 := 0#32
  let c1_i32_445 : BitVec 32 := 1#32
  let v410 : BitVec 32 := Scalar.muli v30 c1_i32_445
  let v411 : BitVec 32 := Scalar.addi c0_i32_446 v410
  v411.toNat
def k0_dev18 (v17 : BitVec 32) : Nat :=
  let c0_i32_453 : BitVec 32 := 0#32
  let c1_i32_452 : BitVec 32 := 1#32
  let v420 : BitVec 32 := Scalar.muli v17 c1_i32_452
  let v421 : BitVec 32 := Scalar.addi c0_i32_453 v420
  v421.toNat
def k0_dev19 (v17 : BitVec 32) : Nat :=
  let c0_i32_500 : BitVec 32 := 0#32
  let c1_i32_499 : BitVec 32 := 1#32
  let v442 : BitVec 32 := Scalar.muli v17 c1_i32_499
  let v443 : BitVec 32 := Scalar.addi c0_i32_500 v442
  v443.toNat
def k0_dev20 (v30 : BitVec 32) : Nat :=
  let c0_i32_507 : BitVec 32 := 0#32
  let c1_i32_506 : BitVec 32 := 1#32
  let v452 : BitVec 32 := Scalar.muli v30 c1_i32_506
  let v453 : BitVec 32 := Scalar.addi c0_i32_507 v452
  v453.toNat
def k0_dev21 (v30 : BitVec 32) : Nat :=
  let c0_i32_554 : BitVec 32 := 0#32
  let c1_i32_553 : BitVec 32 := 1#32
  let v474 : BitVec 32 := Scalar.muli v30 c1_i32_553
  let v475 : BitVec 32 := Scalar.addi c0_i32_554 v474
  v475.toNat
def k0_dev22 (v17 : BitVec 32) : Nat :=
  let c0_i32_561 : BitVec 32 := 0#32
  let c1_i32_560 : BitVec 32 := 1#32
  let v484 : BitVec 32 := Scalar.muli v17 c1_i32_560
  let v485 : BitVec 32 := Scalar.addi c0_i32_561 v484
  v485.toNat
def k0_off16 (v4 : BitVec 32) : Fin 1 → Nat :=
  let c2_i32_562 : BitVec 32 := 2#32
  let v486 : BitVec 32 := Scalar.subi v4 c2_i32_562
  let c2_i32_563 : BitVec 32 := 2#32
  let v487 : BitVec 32 := Scalar.subi v486 c2_i32_563
  let c32_i32_564 : BitVec 32 := 32#32
  let c0_i32_565 : BitVec 32 := 0#32
  let v488 : BitVec 1 := Scalar.cmpi .eq c32_i32_564 c0_i32_565
  let c1_i32_566 : BitVec 32 := 1#32
  let v489 : BitVec 32 := Scalar.select v488 c1_i32_566 c32_i32_564
  let v490 : BitVec 32 := Scalar.remsi v487 v489
  let c0_i32_568 : BitVec 32 := 0#32
  let v492 : BitVec 1 := Scalar.cmpi .slt v490 c0_i32_568
  let c0_i32_569 : BitVec 32 := 0#32
  let v493 : BitVec 1 := Scalar.cmpi .slt v489 c0_i32_569
  let v494 : BitVec 1 := Scalar.xori v492 v493
  let c0_i32_567 : BitVec 32 := 0#32
  let v491 : BitVec 1 := Scalar.cmpi .ne v490 c0_i32_567
  let v495 : BitVec 1 := Scalar.andi v494 v491
  let v496 : BitVec 32 := Scalar.addi v490 v489
  let v497 : BitVec 32 := Scalar.select v495 v496 v490
  let v498 : Index := Scalar.indexCast v497
  ![v498.toNat]
def k0_off17 (v499 : BitVec 32) : Fin 2 → Nat :=
  let c128_i32_570 : BitVec 32 := 128#32
  let v500 : BitVec 32 := Scalar.muli v499 c128_i32_570
  let v501 : Index := Scalar.indexCast v500
  let c0_571 : Index := 0#32
  ![v501.toNat, 0]

def k0_chk10 (v499 : BitVec 32) : Prop :=
  (∀ a, (k0_off17 v499) a + S128x128.size a ≤ S4096x128.size a)
theorem k0_off17_inb : ∀ (v499 : BitVec 32) (k0_hw10 : k0_chk10 v499), ∀ a, (k0_off17 v499) a + S128x128.size a ≤ S4096x128.size a := fun v499 k0_hw10 => k0_hw10

def k0_off18 (v4 : BitVec 32) : Fin 1 → Nat :=
  let c2_i32_580 : BitVec 32 := 2#32
  let v514 : BitVec 32 := Scalar.addi v4 c2_i32_580
  let c2_i32_581 : BitVec 32 := 2#32
  let v515 : BitVec 32 := Scalar.addi v514 c2_i32_581
  let c32_i32_582 : BitVec 32 := 32#32
  let c0_i32_583 : BitVec 32 := 0#32
  let v516 : BitVec 1 := Scalar.cmpi .eq c32_i32_582 c0_i32_583
  let c1_i32_584 : BitVec 32 := 1#32
  let v517 : BitVec 32 := Scalar.select v516 c1_i32_584 c32_i32_582
  let v518 : BitVec 32 := Scalar.remsi v515 v517
  let c0_i32_586 : BitVec 32 := 0#32
  let v520 : BitVec 1 := Scalar.cmpi .slt v518 c0_i32_586
  let c0_i32_587 : BitVec 32 := 0#32
  let v521 : BitVec 1 := Scalar.cmpi .slt v517 c0_i32_587
  let v522 : BitVec 1 := Scalar.xori v520 v521
  let c0_i32_585 : BitVec 32 := 0#32
  let v519 : BitVec 1 := Scalar.cmpi .ne v518 c0_i32_585
  let v523 : BitVec 1 := Scalar.andi v522 v519
  let v524 : BitVec 32 := Scalar.addi v518 v517
  let v525 : BitVec 32 := Scalar.select v523 v524 v518
  let v526 : Index := Scalar.indexCast v525
  ![v526.toNat]
def k0_off19 (v527 : BitVec 32) : Fin 2 → Nat :=
  let c128_i32_588 : BitVec 32 := 128#32
  let v528 : BitVec 32 := Scalar.muli v527 c128_i32_588
  let v529 : Index := Scalar.indexCast v528
  let c0_589 : Index := 0#32
  ![v529.toNat, 0]

def k0_chk11 (v527 : BitVec 32) : Prop :=
  (∀ a, (k0_off19 v527) a + S128x128.size a ≤ S4096x128.size a)
theorem k0_off19_inb : ∀ (v527 : BitVec 32) (k0_hw11 : k0_chk11 v527), ∀ a, (k0_off19 v527) a + S128x128.size a ≤ S4096x128.size a := fun v527 k0_hw11 => k0_hw11

def k0_dev23 (v17 : BitVec 32) : Nat :=
  let c0_i32_644 : BitVec 32 := 0#32
  let c1_i32_643 : BitVec 32 := 1#32
  let v562 : BitVec 32 := Scalar.muli v17 c1_i32_643
  let v563 : BitVec 32 := Scalar.addi c0_i32_644 v562
  v563.toNat
def k0_dev24 (v30 : BitVec 32) : Nat :=
  let c0_i32_651 : BitVec 32 := 0#32
  let c1_i32_650 : BitVec 32 := 1#32
  let v572 : BitVec 32 := Scalar.muli v30 c1_i32_650
  let v573 : BitVec 32 := Scalar.addi c0_i32_651 v572
  v573.toNat
def k0_dev25 (v30 : BitVec 32) : Nat :=
  let c0_i32_698 : BitVec 32 := 0#32
  let c1_i32_697 : BitVec 32 := 1#32
  let v594 : BitVec 32 := Scalar.muli v30 c1_i32_697
  let v595 : BitVec 32 := Scalar.addi c0_i32_698 v594
  v595.toNat
def k0_dev26 (v17 : BitVec 32) : Nat :=
  let c0_i32_705 : BitVec 32 := 0#32
  let c1_i32_704 : BitVec 32 := 1#32
  let v604 : BitVec 32 := Scalar.muli v17 c1_i32_704
  let v605 : BitVec 32 := Scalar.addi c0_i32_705 v604
  v605.toNat
def k0_dev27 (v17 : BitVec 32) : Nat :=
  let c0_i32_752 : BitVec 32 := 0#32
  let c1_i32_751 : BitVec 32 := 1#32
  let v626 : BitVec 32 := Scalar.muli v17 c1_i32_751
  let v627 : BitVec 32 := Scalar.addi c0_i32_752 v626
  v627.toNat
def k0_dev28 (v30 : BitVec 32) : Nat :=
  let c0_i32_759 : BitVec 32 := 0#32
  let c1_i32_758 : BitVec 32 := 1#32
  let v636 : BitVec 32 := Scalar.muli v30 c1_i32_758
  let v637 : BitVec 32 := Scalar.addi c0_i32_759 v636
  v637.toNat
def k0_dev29 (v30 : BitVec 32) : Nat :=
  let c0_i32_806 : BitVec 32 := 0#32
  let c1_i32_805 : BitVec 32 := 1#32
  let v658 : BitVec 32 := Scalar.muli v30 c1_i32_805
  let v659 : BitVec 32 := Scalar.addi c0_i32_806 v658
  v659.toNat
def k0_dev30 (v17 : BitVec 32) : Nat :=
  let c0_i32_813 : BitVec 32 := 0#32
  let c1_i32_812 : BitVec 32 := 1#32
  let v668 : BitVec 32 := Scalar.muli v17 c1_i32_812
  let v669 : BitVec 32 := Scalar.addi c0_i32_813 v668
  v669.toNat
def k0_off20 (v4 : BitVec 32) : Fin 1 → Nat :=
  let c2_i32_814 : BitVec 32 := 2#32
  let v670 : BitVec 32 := Scalar.subi v4 c2_i32_814
  let c3_i32 : BitVec 32 := 3#32
  let v671 : BitVec 32 := Scalar.subi v670 c3_i32
  let c32_i32_815 : BitVec 32 := 32#32
  let c0_i32_816 : BitVec 32 := 0#32
  let v672 : BitVec 1 := Scalar.cmpi .eq c32_i32_815 c0_i32_816
  let c1_i32_817 : BitVec 32 := 1#32
  let v673 : BitVec 32 := Scalar.select v672 c1_i32_817 c32_i32_815
  let v674 : BitVec 32 := Scalar.remsi v671 v673
  let c0_i32_819 : BitVec 32 := 0#32
  let v676 : BitVec 1 := Scalar.cmpi .slt v674 c0_i32_819
  let c0_i32_820 : BitVec 32 := 0#32
  let v677 : BitVec 1 := Scalar.cmpi .slt v673 c0_i32_820
  let v678 : BitVec 1 := Scalar.xori v676 v677
  let c0_i32_818 : BitVec 32 := 0#32
  let v675 : BitVec 1 := Scalar.cmpi .ne v674 c0_i32_818
  let v679 : BitVec 1 := Scalar.andi v678 v675
  let v680 : BitVec 32 := Scalar.addi v674 v673
  let v681 : BitVec 32 := Scalar.select v679 v680 v674
  let v682 : Index := Scalar.indexCast v681
  ![v682.toNat]
def k0_off21 (v683 : BitVec 32) : Fin 2 → Nat :=
  let c128_i32_821 : BitVec 32 := 128#32
  let v684 : BitVec 32 := Scalar.muli v683 c128_i32_821
  let v685 : Index := Scalar.indexCast v684
  let c0_822 : Index := 0#32
  ![v685.toNat, 0]

def k0_chk12 (v683 : BitVec 32) : Prop :=
  (∀ a, (k0_off21 v683) a + S128x128.size a ≤ S4096x128.size a)
theorem k0_off21_inb : ∀ (v683 : BitVec 32) (k0_hw12 : k0_chk12 v683), ∀ a, (k0_off21 v683) a + S128x128.size a ≤ S4096x128.size a := fun v683 k0_hw12 => k0_hw12

def k0_off22 (v4 : BitVec 32) : Fin 1 → Nat :=
  let c2_i32_831 : BitVec 32 := 2#32
  let v698 : BitVec 32 := Scalar.addi v4 c2_i32_831
  let c3_i32_832 : BitVec 32 := 3#32
  let v699 : BitVec 32 := Scalar.addi v698 c3_i32_832
  let c32_i32_833 : BitVec 32 := 32#32
  let c0_i32_834 : BitVec 32 := 0#32
  let v700 : BitVec 1 := Scalar.cmpi .eq c32_i32_833 c0_i32_834
  let c1_i32_835 : BitVec 32 := 1#32
  let v701 : BitVec 32 := Scalar.select v700 c1_i32_835 c32_i32_833
  let v702 : BitVec 32 := Scalar.remsi v699 v701
  let c0_i32_837 : BitVec 32 := 0#32
  let v704 : BitVec 1 := Scalar.cmpi .slt v702 c0_i32_837
  let c0_i32_838 : BitVec 32 := 0#32
  let v705 : BitVec 1 := Scalar.cmpi .slt v701 c0_i32_838
  let v706 : BitVec 1 := Scalar.xori v704 v705
  let c0_i32_836 : BitVec 32 := 0#32
  let v703 : BitVec 1 := Scalar.cmpi .ne v702 c0_i32_836
  let v707 : BitVec 1 := Scalar.andi v706 v703
  let v708 : BitVec 32 := Scalar.addi v702 v701
  let v709 : BitVec 32 := Scalar.select v707 v708 v702
  let v710 : Index := Scalar.indexCast v709
  ![v710.toNat]
def k0_off23 (v711 : BitVec 32) : Fin 2 → Nat :=
  let c128_i32_839 : BitVec 32 := 128#32
  let v712 : BitVec 32 := Scalar.muli v711 c128_i32_839
  let v713 : Index := Scalar.indexCast v712
  let c0_840 : Index := 0#32
  ![v713.toNat, 0]

def k0_chk13 (v711 : BitVec 32) : Prop :=
  (∀ a, (k0_off23 v711) a + S128x128.size a ≤ S4096x128.size a)
theorem k0_off23_inb : ∀ (v711 : BitVec 32) (k0_hw13 : k0_chk13 v711), ∀ a, (k0_off23 v711) a + S128x128.size a ≤ S4096x128.size a := fun v711 k0_hw13 => k0_hw13

def k0_dev31 (v17 : BitVec 32) : Nat :=
  let c0_i32_895 : BitVec 32 := 0#32
  let c1_i32_894 : BitVec 32 := 1#32
  let v746 : BitVec 32 := Scalar.muli v17 c1_i32_894
  let v747 : BitVec 32 := Scalar.addi c0_i32_895 v746
  v747.toNat
def k0_dev32 (v30 : BitVec 32) : Nat :=
  let c0_i32_902 : BitVec 32 := 0#32
  let c1_i32_901 : BitVec 32 := 1#32
  let v756 : BitVec 32 := Scalar.muli v30 c1_i32_901
  let v757 : BitVec 32 := Scalar.addi c0_i32_902 v756
  v757.toNat
def k0_dev33 (v30 : BitVec 32) : Nat :=
  let c0_i32_949 : BitVec 32 := 0#32
  let c1_i32_948 : BitVec 32 := 1#32
  let v778 : BitVec 32 := Scalar.muli v30 c1_i32_948
  let v779 : BitVec 32 := Scalar.addi c0_i32_949 v778
  v779.toNat
def k0_dev34 (v17 : BitVec 32) : Nat :=
  let c0_i32_956 : BitVec 32 := 0#32
  let c1_i32_955 : BitVec 32 := 1#32
  let v788 : BitVec 32 := Scalar.muli v17 c1_i32_955
  let v789 : BitVec 32 := Scalar.addi c0_i32_956 v788
  v789.toNat
def k0_dev35 (v17 : BitVec 32) : Nat :=
  let c0_i32_1003 : BitVec 32 := 0#32
  let c1_i32_1002 : BitVec 32 := 1#32
  let v810 : BitVec 32 := Scalar.muli v17 c1_i32_1002
  let v811 : BitVec 32 := Scalar.addi c0_i32_1003 v810
  v811.toNat
def k0_dev36 (v30 : BitVec 32) : Nat :=
  let c0_i32_1010 : BitVec 32 := 0#32
  let c1_i32_1009 : BitVec 32 := 1#32
  let v820 : BitVec 32 := Scalar.muli v30 c1_i32_1009
  let v821 : BitVec 32 := Scalar.addi c0_i32_1010 v820
  v821.toNat
def k0_dev37 (v30 : BitVec 32) : Nat :=
  let c0_i32_1057 : BitVec 32 := 0#32
  let c1_i32_1056 : BitVec 32 := 1#32
  let v842 : BitVec 32 := Scalar.muli v30 c1_i32_1056
  let v843 : BitVec 32 := Scalar.addi c0_i32_1057 v842
  v843.toNat
def k0_dev38 (v17 : BitVec 32) : Nat :=
  let c0_i32_1064 : BitVec 32 := 0#32
  let c1_i32_1063 : BitVec 32 := 1#32
  let v852 : BitVec 32 := Scalar.muli v17 c1_i32_1063
  let v853 : BitVec 32 := Scalar.addi c0_i32_1064 v852
  v853.toNat
def k0_off24 (v4 : BitVec 32) : Fin 1 → Nat :=
  let c2_i32_1065 : BitVec 32 := 2#32
  let v854 : BitVec 32 := Scalar.subi v4 c2_i32_1065
  let c4_i32 : BitVec 32 := 4#32
  let v855 : BitVec 32 := Scalar.subi v854 c4_i32
  let c32_i32_1066 : BitVec 32 := 32#32
  let c0_i32_1067 : BitVec 32 := 0#32
  let v856 : BitVec 1 := Scalar.cmpi .eq c32_i32_1066 c0_i32_1067
  let c1_i32_1068 : BitVec 32 := 1#32
  let v857 : BitVec 32 := Scalar.select v856 c1_i32_1068 c32_i32_1066
  let v858 : BitVec 32 := Scalar.remsi v855 v857
  let c0_i32_1070 : BitVec 32 := 0#32
  let v860 : BitVec 1 := Scalar.cmpi .slt v858 c0_i32_1070
  let c0_i32_1071 : BitVec 32 := 0#32
  let v861 : BitVec 1 := Scalar.cmpi .slt v857 c0_i32_1071
  let v862 : BitVec 1 := Scalar.xori v860 v861
  let c0_i32_1069 : BitVec 32 := 0#32
  let v859 : BitVec 1 := Scalar.cmpi .ne v858 c0_i32_1069
  let v863 : BitVec 1 := Scalar.andi v862 v859
  let v864 : BitVec 32 := Scalar.addi v858 v857
  let v865 : BitVec 32 := Scalar.select v863 v864 v858
  let v866 : Index := Scalar.indexCast v865
  ![v866.toNat]
def k0_off25 (v867 : BitVec 32) : Fin 2 → Nat :=
  let c128_i32_1072 : BitVec 32 := 128#32
  let v868 : BitVec 32 := Scalar.muli v867 c128_i32_1072
  let v869 : Index := Scalar.indexCast v868
  let c0_1073 : Index := 0#32
  ![v869.toNat, 0]

def k0_chk14 (v867 : BitVec 32) : Prop :=
  (∀ a, (k0_off25 v867) a + S128x128.size a ≤ S4096x128.size a)
theorem k0_off25_inb : ∀ (v867 : BitVec 32) (k0_hw14 : k0_chk14 v867), ∀ a, (k0_off25 v867) a + S128x128.size a ≤ S4096x128.size a := fun v867 k0_hw14 => k0_hw14

def k0_off26 (v4 : BitVec 32) : Fin 1 → Nat :=
  let c2_i32_1082 : BitVec 32 := 2#32
  let v882 : BitVec 32 := Scalar.addi v4 c2_i32_1082
  let c4_i32_1083 : BitVec 32 := 4#32
  let v883 : BitVec 32 := Scalar.addi v882 c4_i32_1083
  let c32_i32_1084 : BitVec 32 := 32#32
  let c0_i32_1085 : BitVec 32 := 0#32
  let v884 : BitVec 1 := Scalar.cmpi .eq c32_i32_1084 c0_i32_1085
  let c1_i32_1086 : BitVec 32 := 1#32
  let v885 : BitVec 32 := Scalar.select v884 c1_i32_1086 c32_i32_1084
  let v886 : BitVec 32 := Scalar.remsi v883 v885
  let c0_i32_1088 : BitVec 32 := 0#32
  let v888 : BitVec 1 := Scalar.cmpi .slt v886 c0_i32_1088
  let c0_i32_1089 : BitVec 32 := 0#32
  let v889 : BitVec 1 := Scalar.cmpi .slt v885 c0_i32_1089
  let v890 : BitVec 1 := Scalar.xori v888 v889
  let c0_i32_1087 : BitVec 32 := 0#32
  let v887 : BitVec 1 := Scalar.cmpi .ne v886 c0_i32_1087
  let v891 : BitVec 1 := Scalar.andi v890 v887
  let v892 : BitVec 32 := Scalar.addi v886 v885
  let v893 : BitVec 32 := Scalar.select v891 v892 v886
  let v894 : Index := Scalar.indexCast v893
  ![v894.toNat]
def k0_off27 (v895 : BitVec 32) : Fin 2 → Nat :=
  let c128_i32_1090 : BitVec 32 := 128#32
  let v896 : BitVec 32 := Scalar.muli v895 c128_i32_1090
  let v897 : Index := Scalar.indexCast v896
  let c0_1091 : Index := 0#32
  ![v897.toNat, 0]

def k0_chk15 (v895 : BitVec 32) : Prop :=
  (∀ a, (k0_off27 v895) a + S128x128.size a ≤ S4096x128.size a)
theorem k0_off27_inb : ∀ (v895 : BitVec 32) (k0_hw15 : k0_chk15 v895), ∀ a, (k0_off27 v895) a + S128x128.size a ≤ S4096x128.size a := fun v895 k0_hw15 => k0_hw15

def k0_dev39 (v17 : BitVec 32) : Nat :=
  let c0_i32_1146 : BitVec 32 := 0#32
  let c1_i32_1145 : BitVec 32 := 1#32
  let v930 : BitVec 32 := Scalar.muli v17 c1_i32_1145
  let v931 : BitVec 32 := Scalar.addi c0_i32_1146 v930
  v931.toNat
def k0_dev40 (v30 : BitVec 32) : Nat :=
  let c0_i32_1153 : BitVec 32 := 0#32
  let c1_i32_1152 : BitVec 32 := 1#32
  let v940 : BitVec 32 := Scalar.muli v30 c1_i32_1152
  let v941 : BitVec 32 := Scalar.addi c0_i32_1153 v940
  v941.toNat
def k0_dev41 (v30 : BitVec 32) : Nat :=
  let c0_i32_1200 : BitVec 32 := 0#32
  let c1_i32_1199 : BitVec 32 := 1#32
  let v962 : BitVec 32 := Scalar.muli v30 c1_i32_1199
  let v963 : BitVec 32 := Scalar.addi c0_i32_1200 v962
  v963.toNat
def k0_dev42 (v17 : BitVec 32) : Nat :=
  let c0_i32_1207 : BitVec 32 := 0#32
  let c1_i32_1206 : BitVec 32 := 1#32
  let v972 : BitVec 32 := Scalar.muli v17 c1_i32_1206
  let v973 : BitVec 32 := Scalar.addi c0_i32_1207 v972
  v973.toNat
def k0_dev43 (v17 : BitVec 32) : Nat :=
  let c0_i32_1254 : BitVec 32 := 0#32
  let c1_i32_1253 : BitVec 32 := 1#32
  let v994 : BitVec 32 := Scalar.muli v17 c1_i32_1253
  let v995 : BitVec 32 := Scalar.addi c0_i32_1254 v994
  v995.toNat
def k0_dev44 (v30 : BitVec 32) : Nat :=
  let c0_i32_1261 : BitVec 32 := 0#32
  let c1_i32_1260 : BitVec 32 := 1#32
  let v1004 : BitVec 32 := Scalar.muli v30 c1_i32_1260
  let v1005 : BitVec 32 := Scalar.addi c0_i32_1261 v1004
  v1005.toNat
def k0_dev45 (v30 : BitVec 32) : Nat :=
  let c0_i32_1308 : BitVec 32 := 0#32
  let c1_i32_1307 : BitVec 32 := 1#32
  let v1026 : BitVec 32 := Scalar.muli v30 c1_i32_1307
  let v1027 : BitVec 32 := Scalar.addi c0_i32_1308 v1026
  v1027.toNat
def k0_dev46 (v17 : BitVec 32) : Nat :=
  let c0_i32_1315 : BitVec 32 := 0#32
  let c1_i32_1314 : BitVec 32 := 1#32
  let v1036 : BitVec 32 := Scalar.muli v17 c1_i32_1314
  let v1037 : BitVec 32 := Scalar.addi c0_i32_1315 v1036
  v1037.toNat
def k0_off28 (v4 : BitVec 32) : Fin 1 → Nat :=
  let c2_i32_1316 : BitVec 32 := 2#32
  let v1038 : BitVec 32 := Scalar.subi v4 c2_i32_1316
  let c5_i32 : BitVec 32 := 5#32
  let v1039 : BitVec 32 := Scalar.subi v1038 c5_i32
  let c32_i32_1317 : BitVec 32 := 32#32
  let c0_i32_1318 : BitVec 32 := 0#32
  let v1040 : BitVec 1 := Scalar.cmpi .eq c32_i32_1317 c0_i32_1318
  let c1_i32_1319 : BitVec 32 := 1#32
  let v1041 : BitVec 32 := Scalar.select v1040 c1_i32_1319 c32_i32_1317
  let v1042 : BitVec 32 := Scalar.remsi v1039 v1041
  let c0_i32_1321 : BitVec 32 := 0#32
  let v1044 : BitVec 1 := Scalar.cmpi .slt v1042 c0_i32_1321
  let c0_i32_1322 : BitVec 32 := 0#32
  let v1045 : BitVec 1 := Scalar.cmpi .slt v1041 c0_i32_1322
  let v1046 : BitVec 1 := Scalar.xori v1044 v1045
  let c0_i32_1320 : BitVec 32 := 0#32
  let v1043 : BitVec 1 := Scalar.cmpi .ne v1042 c0_i32_1320
  let v1047 : BitVec 1 := Scalar.andi v1046 v1043
  let v1048 : BitVec 32 := Scalar.addi v1042 v1041
  let v1049 : BitVec 32 := Scalar.select v1047 v1048 v1042
  let v1050 : Index := Scalar.indexCast v1049
  ![v1050.toNat]
def k0_off29 (v1051 : BitVec 32) : Fin 2 → Nat :=
  let c128_i32_1323 : BitVec 32 := 128#32
  let v1052 : BitVec 32 := Scalar.muli v1051 c128_i32_1323
  let v1053 : Index := Scalar.indexCast v1052
  let c0_1324 : Index := 0#32
  ![v1053.toNat, 0]

def k0_chk16 (v1051 : BitVec 32) : Prop :=
  (∀ a, (k0_off29 v1051) a + S128x128.size a ≤ S4096x128.size a)
theorem k0_off29_inb : ∀ (v1051 : BitVec 32) (k0_hw16 : k0_chk16 v1051), ∀ a, (k0_off29 v1051) a + S128x128.size a ≤ S4096x128.size a := fun v1051 k0_hw16 => k0_hw16

def k0_off30 (v4 : BitVec 32) : Fin 1 → Nat :=
  let c2_i32_1333 : BitVec 32 := 2#32
  let v1066 : BitVec 32 := Scalar.addi v4 c2_i32_1333
  let c5_i32_1334 : BitVec 32 := 5#32
  let v1067 : BitVec 32 := Scalar.addi v1066 c5_i32_1334
  let c32_i32_1335 : BitVec 32 := 32#32
  let c0_i32_1336 : BitVec 32 := 0#32
  let v1068 : BitVec 1 := Scalar.cmpi .eq c32_i32_1335 c0_i32_1336
  let c1_i32_1337 : BitVec 32 := 1#32
  let v1069 : BitVec 32 := Scalar.select v1068 c1_i32_1337 c32_i32_1335
  let v1070 : BitVec 32 := Scalar.remsi v1067 v1069
  let c0_i32_1339 : BitVec 32 := 0#32
  let v1072 : BitVec 1 := Scalar.cmpi .slt v1070 c0_i32_1339
  let c0_i32_1340 : BitVec 32 := 0#32
  let v1073 : BitVec 1 := Scalar.cmpi .slt v1069 c0_i32_1340
  let v1074 : BitVec 1 := Scalar.xori v1072 v1073
  let c0_i32_1338 : BitVec 32 := 0#32
  let v1071 : BitVec 1 := Scalar.cmpi .ne v1070 c0_i32_1338
  let v1075 : BitVec 1 := Scalar.andi v1074 v1071
  let v1076 : BitVec 32 := Scalar.addi v1070 v1069
  let v1077 : BitVec 32 := Scalar.select v1075 v1076 v1070
  let v1078 : Index := Scalar.indexCast v1077
  ![v1078.toNat]
def k0_off31 (v1079 : BitVec 32) : Fin 2 → Nat :=
  let c128_i32_1341 : BitVec 32 := 128#32
  let v1080 : BitVec 32 := Scalar.muli v1079 c128_i32_1341
  let v1081 : Index := Scalar.indexCast v1080
  let c0_1342 : Index := 0#32
  ![v1081.toNat, 0]

def k0_chk17 (v1079 : BitVec 32) : Prop :=
  (∀ a, (k0_off31 v1079) a + S128x128.size a ≤ S4096x128.size a)
theorem k0_off31_inb : ∀ (v1079 : BitVec 32) (k0_hw17 : k0_chk17 v1079), ∀ a, (k0_off31 v1079) a + S128x128.size a ≤ S4096x128.size a := fun v1079 k0_hw17 => k0_hw17

def k0_dev47 (v17 : BitVec 32) : Nat :=
  let c0_i32_1397 : BitVec 32 := 0#32
  let c1_i32_1396 : BitVec 32 := 1#32
  let v1114 : BitVec 32 := Scalar.muli v17 c1_i32_1396
  let v1115 : BitVec 32 := Scalar.addi c0_i32_1397 v1114
  v1115.toNat
def k0_dev48 (v30 : BitVec 32) : Nat :=
  let c0_i32_1404 : BitVec 32 := 0#32
  let c1_i32_1403 : BitVec 32 := 1#32
  let v1124 : BitVec 32 := Scalar.muli v30 c1_i32_1403
  let v1125 : BitVec 32 := Scalar.addi c0_i32_1404 v1124
  v1125.toNat
def k0_dev49 (v30 : BitVec 32) : Nat :=
  let c0_i32_1451 : BitVec 32 := 0#32
  let c1_i32_1450 : BitVec 32 := 1#32
  let v1146 : BitVec 32 := Scalar.muli v30 c1_i32_1450
  let v1147 : BitVec 32 := Scalar.addi c0_i32_1451 v1146
  v1147.toNat
def k0_dev50 (v17 : BitVec 32) : Nat :=
  let c0_i32_1458 : BitVec 32 := 0#32
  let c1_i32_1457 : BitVec 32 := 1#32
  let v1156 : BitVec 32 := Scalar.muli v17 c1_i32_1457
  let v1157 : BitVec 32 := Scalar.addi c0_i32_1458 v1156
  v1157.toNat
def k0_dev51 (v17 : BitVec 32) : Nat :=
  let c0_i32_1505 : BitVec 32 := 0#32
  let c1_i32_1504 : BitVec 32 := 1#32
  let v1178 : BitVec 32 := Scalar.muli v17 c1_i32_1504
  let v1179 : BitVec 32 := Scalar.addi c0_i32_1505 v1178
  v1179.toNat
def k0_dev52 (v30 : BitVec 32) : Nat :=
  let c0_i32_1512 : BitVec 32 := 0#32
  let c1_i32_1511 : BitVec 32 := 1#32
  let v1188 : BitVec 32 := Scalar.muli v30 c1_i32_1511
  let v1189 : BitVec 32 := Scalar.addi c0_i32_1512 v1188
  v1189.toNat
def k0_dev53 (v30 : BitVec 32) : Nat :=
  let c0_i32_1559 : BitVec 32 := 0#32
  let c1_i32_1558 : BitVec 32 := 1#32
  let v1210 : BitVec 32 := Scalar.muli v30 c1_i32_1558
  let v1211 : BitVec 32 := Scalar.addi c0_i32_1559 v1210
  v1211.toNat
def k0_dev54 (v17 : BitVec 32) : Nat :=
  let c0_i32_1566 : BitVec 32 := 0#32
  let c1_i32_1565 : BitVec 32 := 1#32
  let v1220 : BitVec 32 := Scalar.muli v17 c1_i32_1565
  let v1221 : BitVec 32 := Scalar.addi c0_i32_1566 v1220
  v1221.toNat
def k0_off32 (v4 : BitVec 32) : Fin 1 → Nat :=
  let c2_i32_1567 : BitVec 32 := 2#32
  let v1222 : BitVec 32 := Scalar.subi v4 c2_i32_1567
  let c6_i32 : BitVec 32 := 6#32
  let v1223 : BitVec 32 := Scalar.subi v1222 c6_i32
  let c32_i32_1568 : BitVec 32 := 32#32
  let c0_i32_1569 : BitVec 32 := 0#32
  let v1224 : BitVec 1 := Scalar.cmpi .eq c32_i32_1568 c0_i32_1569
  let c1_i32_1570 : BitVec 32 := 1#32
  let v1225 : BitVec 32 := Scalar.select v1224 c1_i32_1570 c32_i32_1568
  let v1226 : BitVec 32 := Scalar.remsi v1223 v1225
  let c0_i32_1572 : BitVec 32 := 0#32
  let v1228 : BitVec 1 := Scalar.cmpi .slt v1226 c0_i32_1572
  let c0_i32_1573 : BitVec 32 := 0#32
  let v1229 : BitVec 1 := Scalar.cmpi .slt v1225 c0_i32_1573
  let v1230 : BitVec 1 := Scalar.xori v1228 v1229
  let c0_i32_1571 : BitVec 32 := 0#32
  let v1227 : BitVec 1 := Scalar.cmpi .ne v1226 c0_i32_1571
  let v1231 : BitVec 1 := Scalar.andi v1230 v1227
  let v1232 : BitVec 32 := Scalar.addi v1226 v1225
  let v1233 : BitVec 32 := Scalar.select v1231 v1232 v1226
  let v1234 : Index := Scalar.indexCast v1233
  ![v1234.toNat]
def k0_off33 (v1235 : BitVec 32) : Fin 2 → Nat :=
  let c128_i32_1574 : BitVec 32 := 128#32
  let v1236 : BitVec 32 := Scalar.muli v1235 c128_i32_1574
  let v1237 : Index := Scalar.indexCast v1236
  let c0_1575 : Index := 0#32
  ![v1237.toNat, 0]

def k0_chk18 (v1235 : BitVec 32) : Prop :=
  (∀ a, (k0_off33 v1235) a + S128x128.size a ≤ S4096x128.size a)
theorem k0_off33_inb : ∀ (v1235 : BitVec 32) (k0_hw18 : k0_chk18 v1235), ∀ a, (k0_off33 v1235) a + S128x128.size a ≤ S4096x128.size a := fun v1235 k0_hw18 => k0_hw18

def k0_off34 (v4 : BitVec 32) : Fin 1 → Nat :=
  let c2_i32_1584 : BitVec 32 := 2#32
  let v1250 : BitVec 32 := Scalar.addi v4 c2_i32_1584
  let c6_i32_1585 : BitVec 32 := 6#32
  let v1251 : BitVec 32 := Scalar.addi v1250 c6_i32_1585
  let c32_i32_1586 : BitVec 32 := 32#32
  let c0_i32_1587 : BitVec 32 := 0#32
  let v1252 : BitVec 1 := Scalar.cmpi .eq c32_i32_1586 c0_i32_1587
  let c1_i32_1588 : BitVec 32 := 1#32
  let v1253 : BitVec 32 := Scalar.select v1252 c1_i32_1588 c32_i32_1586
  let v1254 : BitVec 32 := Scalar.remsi v1251 v1253
  let c0_i32_1590 : BitVec 32 := 0#32
  let v1256 : BitVec 1 := Scalar.cmpi .slt v1254 c0_i32_1590
  let c0_i32_1591 : BitVec 32 := 0#32
  let v1257 : BitVec 1 := Scalar.cmpi .slt v1253 c0_i32_1591
  let v1258 : BitVec 1 := Scalar.xori v1256 v1257
  let c0_i32_1589 : BitVec 32 := 0#32
  let v1255 : BitVec 1 := Scalar.cmpi .ne v1254 c0_i32_1589
  let v1259 : BitVec 1 := Scalar.andi v1258 v1255
  let v1260 : BitVec 32 := Scalar.addi v1254 v1253
  let v1261 : BitVec 32 := Scalar.select v1259 v1260 v1254
  let v1262 : Index := Scalar.indexCast v1261
  ![v1262.toNat]
def k0_off35 (v1263 : BitVec 32) : Fin 2 → Nat :=
  let c128_i32_1592 : BitVec 32 := 128#32
  let v1264 : BitVec 32 := Scalar.muli v1263 c128_i32_1592
  let v1265 : Index := Scalar.indexCast v1264
  let c0_1593 : Index := 0#32
  ![v1265.toNat, 0]

def k0_chk19 (v1263 : BitVec 32) : Prop :=
  (∀ a, (k0_off35 v1263) a + S128x128.size a ≤ S4096x128.size a)
theorem k0_off35_inb : ∀ (v1263 : BitVec 32) (k0_hw19 : k0_chk19 v1263), ∀ a, (k0_off35 v1263) a + S128x128.size a ≤ S4096x128.size a := fun v1263 k0_hw19 => k0_hw19

def k0_dev55 (v17 : BitVec 32) : Nat :=
  let c0_i32_1648 : BitVec 32 := 0#32
  let c1_i32_1647 : BitVec 32 := 1#32
  let v1298 : BitVec 32 := Scalar.muli v17 c1_i32_1647
  let v1299 : BitVec 32 := Scalar.addi c0_i32_1648 v1298
  v1299.toNat
def k0_dev56 (v30 : BitVec 32) : Nat :=
  let c0_i32_1655 : BitVec 32 := 0#32
  let c1_i32_1654 : BitVec 32 := 1#32
  let v1308 : BitVec 32 := Scalar.muli v30 c1_i32_1654
  let v1309 : BitVec 32 := Scalar.addi c0_i32_1655 v1308
  v1309.toNat
def k0_dev57 (v30 : BitVec 32) : Nat :=
  let c0_i32_1702 : BitVec 32 := 0#32
  let c1_i32_1701 : BitVec 32 := 1#32
  let v1330 : BitVec 32 := Scalar.muli v30 c1_i32_1701
  let v1331 : BitVec 32 := Scalar.addi c0_i32_1702 v1330
  v1331.toNat
def k0_dev58 (v17 : BitVec 32) : Nat :=
  let c0_i32_1709 : BitVec 32 := 0#32
  let c1_i32_1708 : BitVec 32 := 1#32
  let v1340 : BitVec 32 := Scalar.muli v17 c1_i32_1708
  let v1341 : BitVec 32 := Scalar.addi c0_i32_1709 v1340
  v1341.toNat
def k0_dev59 (v17 : BitVec 32) : Nat :=
  let c0_i32_1756 : BitVec 32 := 0#32
  let c1_i32_1755 : BitVec 32 := 1#32
  let v1362 : BitVec 32 := Scalar.muli v17 c1_i32_1755
  let v1363 : BitVec 32 := Scalar.addi c0_i32_1756 v1362
  v1363.toNat
def k0_dev60 (v30 : BitVec 32) : Nat :=
  let c0_i32_1763 : BitVec 32 := 0#32
  let c1_i32_1762 : BitVec 32 := 1#32
  let v1372 : BitVec 32 := Scalar.muli v30 c1_i32_1762
  let v1373 : BitVec 32 := Scalar.addi c0_i32_1763 v1372
  v1373.toNat
def k0_dev61 (v30 : BitVec 32) : Nat :=
  let c0_i32_1810 : BitVec 32 := 0#32
  let c1_i32_1809 : BitVec 32 := 1#32
  let v1394 : BitVec 32 := Scalar.muli v30 c1_i32_1809
  let v1395 : BitVec 32 := Scalar.addi c0_i32_1810 v1394
  v1395.toNat
def k0_dev62 (v17 : BitVec 32) : Nat :=
  let c0_i32_1817 : BitVec 32 := 0#32
  let c1_i32_1816 : BitVec 32 := 1#32
  let v1404 : BitVec 32 := Scalar.muli v17 c1_i32_1816
  let v1405 : BitVec 32 := Scalar.addi c0_i32_1817 v1404
  v1405.toNat
def k0_off36 (v4 : BitVec 32) : Fin 1 → Nat :=
  let c2_i32_1818 : BitVec 32 := 2#32
  let v1406 : BitVec 32 := Scalar.subi v4 c2_i32_1818
  let c7_i32 : BitVec 32 := 7#32
  let v1407 : BitVec 32 := Scalar.subi v1406 c7_i32
  let c32_i32_1819 : BitVec 32 := 32#32
  let c0_i32_1820 : BitVec 32 := 0#32
  let v1408 : BitVec 1 := Scalar.cmpi .eq c32_i32_1819 c0_i32_1820
  let c1_i32_1821 : BitVec 32 := 1#32
  let v1409 : BitVec 32 := Scalar.select v1408 c1_i32_1821 c32_i32_1819
  let v1410 : BitVec 32 := Scalar.remsi v1407 v1409
  let c0_i32_1823 : BitVec 32 := 0#32
  let v1412 : BitVec 1 := Scalar.cmpi .slt v1410 c0_i32_1823
  let c0_i32_1824 : BitVec 32 := 0#32
  let v1413 : BitVec 1 := Scalar.cmpi .slt v1409 c0_i32_1824
  let v1414 : BitVec 1 := Scalar.xori v1412 v1413
  let c0_i32_1822 : BitVec 32 := 0#32
  let v1411 : BitVec 1 := Scalar.cmpi .ne v1410 c0_i32_1822
  let v1415 : BitVec 1 := Scalar.andi v1414 v1411
  let v1416 : BitVec 32 := Scalar.addi v1410 v1409
  let v1417 : BitVec 32 := Scalar.select v1415 v1416 v1410
  let v1418 : Index := Scalar.indexCast v1417
  ![v1418.toNat]
def k0_off37 (v1419 : BitVec 32) : Fin 2 → Nat :=
  let c128_i32_1825 : BitVec 32 := 128#32
  let v1420 : BitVec 32 := Scalar.muli v1419 c128_i32_1825
  let v1421 : Index := Scalar.indexCast v1420
  let c0_1826 : Index := 0#32
  ![v1421.toNat, 0]

def k0_chk20 (v1419 : BitVec 32) : Prop :=
  (∀ a, (k0_off37 v1419) a + S128x128.size a ≤ S4096x128.size a)
theorem k0_off37_inb : ∀ (v1419 : BitVec 32) (k0_hw20 : k0_chk20 v1419), ∀ a, (k0_off37 v1419) a + S128x128.size a ≤ S4096x128.size a := fun v1419 k0_hw20 => k0_hw20

def k0_off38 (v4 : BitVec 32) : Fin 1 → Nat :=
  let c2_i32_1835 : BitVec 32 := 2#32
  let v1434 : BitVec 32 := Scalar.addi v4 c2_i32_1835
  let c7_i32_1836 : BitVec 32 := 7#32
  let v1435 : BitVec 32 := Scalar.addi v1434 c7_i32_1836
  let c32_i32_1837 : BitVec 32 := 32#32
  let c0_i32_1838 : BitVec 32 := 0#32
  let v1436 : BitVec 1 := Scalar.cmpi .eq c32_i32_1837 c0_i32_1838
  let c1_i32_1839 : BitVec 32 := 1#32
  let v1437 : BitVec 32 := Scalar.select v1436 c1_i32_1839 c32_i32_1837
  let v1438 : BitVec 32 := Scalar.remsi v1435 v1437
  let c0_i32_1841 : BitVec 32 := 0#32
  let v1440 : BitVec 1 := Scalar.cmpi .slt v1438 c0_i32_1841
  let c0_i32_1842 : BitVec 32 := 0#32
  let v1441 : BitVec 1 := Scalar.cmpi .slt v1437 c0_i32_1842
  let v1442 : BitVec 1 := Scalar.xori v1440 v1441
  let c0_i32_1840 : BitVec 32 := 0#32
  let v1439 : BitVec 1 := Scalar.cmpi .ne v1438 c0_i32_1840
  let v1443 : BitVec 1 := Scalar.andi v1442 v1439
  let v1444 : BitVec 32 := Scalar.addi v1438 v1437
  let v1445 : BitVec 32 := Scalar.select v1443 v1444 v1438
  let v1446 : Index := Scalar.indexCast v1445
  ![v1446.toNat]
def k0_off39 (v1447 : BitVec 32) : Fin 2 → Nat :=
  let c128_i32_1843 : BitVec 32 := 128#32
  let v1448 : BitVec 32 := Scalar.muli v1447 c128_i32_1843
  let v1449 : Index := Scalar.indexCast v1448
  let c0_1844 : Index := 0#32
  ![v1449.toNat, 0]

def k0_chk21 (v1447 : BitVec 32) : Prop :=
  (∀ a, (k0_off39 v1447) a + S128x128.size a ≤ S4096x128.size a)
theorem k0_off39_inb : ∀ (v1447 : BitVec 32) (k0_hw21 : k0_chk21 v1447), ∀ a, (k0_off39 v1447) a + S128x128.size a ≤ S4096x128.size a := fun v1447 k0_hw21 => k0_hw21

def k0_dev63 (v17 : BitVec 32) : Nat :=
  let c0_i32_1899 : BitVec 32 := 0#32
  let c1_i32_1898 : BitVec 32 := 1#32
  let v1482 : BitVec 32 := Scalar.muli v17 c1_i32_1898
  let v1483 : BitVec 32 := Scalar.addi c0_i32_1899 v1482
  v1483.toNat
def k0_dev64 (v30 : BitVec 32) : Nat :=
  let c0_i32_1906 : BitVec 32 := 0#32
  let c1_i32_1905 : BitVec 32 := 1#32
  let v1492 : BitVec 32 := Scalar.muli v30 c1_i32_1905
  let v1493 : BitVec 32 := Scalar.addi c0_i32_1906 v1492
  v1493.toNat
def k0_dev65 (v30 : BitVec 32) : Nat :=
  let c0_i32_1953 : BitVec 32 := 0#32
  let c1_i32_1952 : BitVec 32 := 1#32
  let v1514 : BitVec 32 := Scalar.muli v30 c1_i32_1952
  let v1515 : BitVec 32 := Scalar.addi c0_i32_1953 v1514
  v1515.toNat
def k0_dev66 (v17 : BitVec 32) : Nat :=
  let c0_i32_1960 : BitVec 32 := 0#32
  let c1_i32_1959 : BitVec 32 := 1#32
  let v1524 : BitVec 32 := Scalar.muli v17 c1_i32_1959
  let v1525 : BitVec 32 := Scalar.addi c0_i32_1960 v1524
  v1525.toNat
def k0_dev67 (v17 : BitVec 32) : Nat :=
  let c0_i32_2007 : BitVec 32 := 0#32
  let c1_i32_2006 : BitVec 32 := 1#32
  let v1546 : BitVec 32 := Scalar.muli v17 c1_i32_2006
  let v1547 : BitVec 32 := Scalar.addi c0_i32_2007 v1546
  v1547.toNat
def k0_dev68 (v30 : BitVec 32) : Nat :=
  let c0_i32_2014 : BitVec 32 := 0#32
  let c1_i32_2013 : BitVec 32 := 1#32
  let v1556 : BitVec 32 := Scalar.muli v30 c1_i32_2013
  let v1557 : BitVec 32 := Scalar.addi c0_i32_2014 v1556
  v1557.toNat
def k0_dev69 (v30 : BitVec 32) : Nat :=
  let c0_i32_2061 : BitVec 32 := 0#32
  let c1_i32_2060 : BitVec 32 := 1#32
  let v1578 : BitVec 32 := Scalar.muli v30 c1_i32_2060
  let v1579 : BitVec 32 := Scalar.addi c0_i32_2061 v1578
  v1579.toNat
def k0_dev70 (v17 : BitVec 32) : Nat :=
  let c0_i32_2068 : BitVec 32 := 0#32
  let c1_i32_2067 : BitVec 32 := 1#32
  let v1588 : BitVec 32 := Scalar.muli v17 c1_i32_2067
  let v1589 : BitVec 32 := Scalar.addi c0_i32_2068 v1588
  v1589.toNat
def k0_off40 (v4 : BitVec 32) : Fin 1 → Nat :=
  let c2_i32_2069 : BitVec 32 := 2#32
  let v1590 : BitVec 32 := Scalar.subi v4 c2_i32_2069
  let c8_i32 : BitVec 32 := 8#32
  let v1591 : BitVec 32 := Scalar.subi v1590 c8_i32
  let c32_i32_2070 : BitVec 32 := 32#32
  let c0_i32_2071 : BitVec 32 := 0#32
  let v1592 : BitVec 1 := Scalar.cmpi .eq c32_i32_2070 c0_i32_2071
  let c1_i32_2072 : BitVec 32 := 1#32
  let v1593 : BitVec 32 := Scalar.select v1592 c1_i32_2072 c32_i32_2070
  let v1594 : BitVec 32 := Scalar.remsi v1591 v1593
  let c0_i32_2074 : BitVec 32 := 0#32
  let v1596 : BitVec 1 := Scalar.cmpi .slt v1594 c0_i32_2074
  let c0_i32_2075 : BitVec 32 := 0#32
  let v1597 : BitVec 1 := Scalar.cmpi .slt v1593 c0_i32_2075
  let v1598 : BitVec 1 := Scalar.xori v1596 v1597
  let c0_i32_2073 : BitVec 32 := 0#32
  let v1595 : BitVec 1 := Scalar.cmpi .ne v1594 c0_i32_2073
  let v1599 : BitVec 1 := Scalar.andi v1598 v1595
  let v1600 : BitVec 32 := Scalar.addi v1594 v1593
  let v1601 : BitVec 32 := Scalar.select v1599 v1600 v1594
  let v1602 : Index := Scalar.indexCast v1601
  ![v1602.toNat]
def k0_off41 (v1603 : BitVec 32) : Fin 2 → Nat :=
  let c128_i32_2076 : BitVec 32 := 128#32
  let v1604 : BitVec 32 := Scalar.muli v1603 c128_i32_2076
  let v1605 : Index := Scalar.indexCast v1604
  let c0_2077 : Index := 0#32
  ![v1605.toNat, 0]

def k0_chk22 (v1603 : BitVec 32) : Prop :=
  (∀ a, (k0_off41 v1603) a + S128x128.size a ≤ S4096x128.size a)
theorem k0_off41_inb : ∀ (v1603 : BitVec 32) (k0_hw22 : k0_chk22 v1603), ∀ a, (k0_off41 v1603) a + S128x128.size a ≤ S4096x128.size a := fun v1603 k0_hw22 => k0_hw22

def k0_off42 (v4 : BitVec 32) : Fin 1 → Nat :=
  let c2_i32_2086 : BitVec 32 := 2#32
  let v1618 : BitVec 32 := Scalar.addi v4 c2_i32_2086
  let c8_i32_2087 : BitVec 32 := 8#32
  let v1619 : BitVec 32 := Scalar.addi v1618 c8_i32_2087
  let c32_i32_2088 : BitVec 32 := 32#32
  let c0_i32_2089 : BitVec 32 := 0#32
  let v1620 : BitVec 1 := Scalar.cmpi .eq c32_i32_2088 c0_i32_2089
  let c1_i32_2090 : BitVec 32 := 1#32
  let v1621 : BitVec 32 := Scalar.select v1620 c1_i32_2090 c32_i32_2088
  let v1622 : BitVec 32 := Scalar.remsi v1619 v1621
  let c0_i32_2092 : BitVec 32 := 0#32
  let v1624 : BitVec 1 := Scalar.cmpi .slt v1622 c0_i32_2092
  let c0_i32_2093 : BitVec 32 := 0#32
  let v1625 : BitVec 1 := Scalar.cmpi .slt v1621 c0_i32_2093
  let v1626 : BitVec 1 := Scalar.xori v1624 v1625
  let c0_i32_2091 : BitVec 32 := 0#32
  let v1623 : BitVec 1 := Scalar.cmpi .ne v1622 c0_i32_2091
  let v1627 : BitVec 1 := Scalar.andi v1626 v1623
  let v1628 : BitVec 32 := Scalar.addi v1622 v1621
  let v1629 : BitVec 32 := Scalar.select v1627 v1628 v1622
  let v1630 : Index := Scalar.indexCast v1629
  ![v1630.toNat]
def k0_off43 (v1631 : BitVec 32) : Fin 2 → Nat :=
  let c128_i32_2094 : BitVec 32 := 128#32
  let v1632 : BitVec 32 := Scalar.muli v1631 c128_i32_2094
  let v1633 : Index := Scalar.indexCast v1632
  let c0_2095 : Index := 0#32
  ![v1633.toNat, 0]

def k0_chk23 (v1631 : BitVec 32) : Prop :=
  (∀ a, (k0_off43 v1631) a + S128x128.size a ≤ S4096x128.size a)
theorem k0_off43_inb : ∀ (v1631 : BitVec 32) (k0_hw23 : k0_chk23 v1631), ∀ a, (k0_off43 v1631) a + S128x128.size a ≤ S4096x128.size a := fun v1631 k0_hw23 => k0_hw23

def k0_dev71 (v17 : BitVec 32) : Nat :=
  let c0_i32_2150 : BitVec 32 := 0#32
  let c1_i32_2149 : BitVec 32 := 1#32
  let v1666 : BitVec 32 := Scalar.muli v17 c1_i32_2149
  let v1667 : BitVec 32 := Scalar.addi c0_i32_2150 v1666
  v1667.toNat
def k0_dev72 (v30 : BitVec 32) : Nat :=
  let c0_i32_2157 : BitVec 32 := 0#32
  let c1_i32_2156 : BitVec 32 := 1#32
  let v1676 : BitVec 32 := Scalar.muli v30 c1_i32_2156
  let v1677 : BitVec 32 := Scalar.addi c0_i32_2157 v1676
  v1677.toNat
def k0_dev73 (v30 : BitVec 32) : Nat :=
  let c0_i32_2204 : BitVec 32 := 0#32
  let c1_i32_2203 : BitVec 32 := 1#32
  let v1698 : BitVec 32 := Scalar.muli v30 c1_i32_2203
  let v1699 : BitVec 32 := Scalar.addi c0_i32_2204 v1698
  v1699.toNat
def k0_dev74 (v17 : BitVec 32) : Nat :=
  let c0_i32_2211 : BitVec 32 := 0#32
  let c1_i32_2210 : BitVec 32 := 1#32
  let v1708 : BitVec 32 := Scalar.muli v17 c1_i32_2210
  let v1709 : BitVec 32 := Scalar.addi c0_i32_2211 v1708
  v1709.toNat
def k0_dev75 (v17 : BitVec 32) : Nat :=
  let c0_i32_2258 : BitVec 32 := 0#32
  let c1_i32_2257 : BitVec 32 := 1#32
  let v1730 : BitVec 32 := Scalar.muli v17 c1_i32_2257
  let v1731 : BitVec 32 := Scalar.addi c0_i32_2258 v1730
  v1731.toNat
def k0_dev76 (v30 : BitVec 32) : Nat :=
  let c0_i32_2265 : BitVec 32 := 0#32
  let c1_i32_2264 : BitVec 32 := 1#32
  let v1740 : BitVec 32 := Scalar.muli v30 c1_i32_2264
  let v1741 : BitVec 32 := Scalar.addi c0_i32_2265 v1740
  v1741.toNat
def k0_dev77 (v30 : BitVec 32) : Nat :=
  let c0_i32_2312 : BitVec 32 := 0#32
  let c1_i32_2311 : BitVec 32 := 1#32
  let v1762 : BitVec 32 := Scalar.muli v30 c1_i32_2311
  let v1763 : BitVec 32 := Scalar.addi c0_i32_2312 v1762
  v1763.toNat
def k0_dev78 (v17 : BitVec 32) : Nat :=
  let c0_i32_2319 : BitVec 32 := 0#32
  let c1_i32_2318 : BitVec 32 := 1#32
  let v1772 : BitVec 32 := Scalar.muli v17 c1_i32_2318
  let v1773 : BitVec 32 := Scalar.addi c0_i32_2319 v1772
  v1773.toNat
def k0_off44 (v4 : BitVec 32) : Fin 1 → Nat :=
  let c2_i32_2320 : BitVec 32 := 2#32
  let v1774 : BitVec 32 := Scalar.subi v4 c2_i32_2320
  let c9_i32 : BitVec 32 := 9#32
  let v1775 : BitVec 32 := Scalar.subi v1774 c9_i32
  let c32_i32_2321 : BitVec 32 := 32#32
  let c0_i32_2322 : BitVec 32 := 0#32
  let v1776 : BitVec 1 := Scalar.cmpi .eq c32_i32_2321 c0_i32_2322
  let c1_i32_2323 : BitVec 32 := 1#32
  let v1777 : BitVec 32 := Scalar.select v1776 c1_i32_2323 c32_i32_2321
  let v1778 : BitVec 32 := Scalar.remsi v1775 v1777
  let c0_i32_2325 : BitVec 32 := 0#32
  let v1780 : BitVec 1 := Scalar.cmpi .slt v1778 c0_i32_2325
  let c0_i32_2326 : BitVec 32 := 0#32
  let v1781 : BitVec 1 := Scalar.cmpi .slt v1777 c0_i32_2326
  let v1782 : BitVec 1 := Scalar.xori v1780 v1781
  let c0_i32_2324 : BitVec 32 := 0#32
  let v1779 : BitVec 1 := Scalar.cmpi .ne v1778 c0_i32_2324
  let v1783 : BitVec 1 := Scalar.andi v1782 v1779
  let v1784 : BitVec 32 := Scalar.addi v1778 v1777
  let v1785 : BitVec 32 := Scalar.select v1783 v1784 v1778
  let v1786 : Index := Scalar.indexCast v1785
  ![v1786.toNat]
def k0_off45 (v1787 : BitVec 32) : Fin 2 → Nat :=
  let c128_i32_2327 : BitVec 32 := 128#32
  let v1788 : BitVec 32 := Scalar.muli v1787 c128_i32_2327
  let v1789 : Index := Scalar.indexCast v1788
  let c0_2328 : Index := 0#32
  ![v1789.toNat, 0]

def k0_chk24 (v1787 : BitVec 32) : Prop :=
  (∀ a, (k0_off45 v1787) a + S128x128.size a ≤ S4096x128.size a)
theorem k0_off45_inb : ∀ (v1787 : BitVec 32) (k0_hw24 : k0_chk24 v1787), ∀ a, (k0_off45 v1787) a + S128x128.size a ≤ S4096x128.size a := fun v1787 k0_hw24 => k0_hw24

def k0_off46 (v4 : BitVec 32) : Fin 1 → Nat :=
  let c2_i32_2337 : BitVec 32 := 2#32
  let v1802 : BitVec 32 := Scalar.addi v4 c2_i32_2337
  let c9_i32_2338 : BitVec 32 := 9#32
  let v1803 : BitVec 32 := Scalar.addi v1802 c9_i32_2338
  let c32_i32_2339 : BitVec 32 := 32#32
  let c0_i32_2340 : BitVec 32 := 0#32
  let v1804 : BitVec 1 := Scalar.cmpi .eq c32_i32_2339 c0_i32_2340
  let c1_i32_2341 : BitVec 32 := 1#32
  let v1805 : BitVec 32 := Scalar.select v1804 c1_i32_2341 c32_i32_2339
  let v1806 : BitVec 32 := Scalar.remsi v1803 v1805
  let c0_i32_2343 : BitVec 32 := 0#32
  let v1808 : BitVec 1 := Scalar.cmpi .slt v1806 c0_i32_2343
  let c0_i32_2344 : BitVec 32 := 0#32
  let v1809 : BitVec 1 := Scalar.cmpi .slt v1805 c0_i32_2344
  let v1810 : BitVec 1 := Scalar.xori v1808 v1809
  let c0_i32_2342 : BitVec 32 := 0#32
  let v1807 : BitVec 1 := Scalar.cmpi .ne v1806 c0_i32_2342
  let v1811 : BitVec 1 := Scalar.andi v1810 v1807
  let v1812 : BitVec 32 := Scalar.addi v1806 v1805
  let v1813 : BitVec 32 := Scalar.select v1811 v1812 v1806
  let v1814 : Index := Scalar.indexCast v1813
  ![v1814.toNat]
def k0_off47 (v1815 : BitVec 32) : Fin 2 → Nat :=
  let c128_i32_2345 : BitVec 32 := 128#32
  let v1816 : BitVec 32 := Scalar.muli v1815 c128_i32_2345
  let v1817 : Index := Scalar.indexCast v1816
  let c0_2346 : Index := 0#32
  ![v1817.toNat, 0]

def k0_chk25 (v1815 : BitVec 32) : Prop :=
  (∀ a, (k0_off47 v1815) a + S128x128.size a ≤ S4096x128.size a)
theorem k0_off47_inb : ∀ (v1815 : BitVec 32) (k0_hw25 : k0_chk25 v1815), ∀ a, (k0_off47 v1815) a + S128x128.size a ≤ S4096x128.size a := fun v1815 k0_hw25 => k0_hw25

def k0_dev79 (v17 : BitVec 32) : Nat :=
  let c0_i32_2401 : BitVec 32 := 0#32
  let c1_i32_2400 : BitVec 32 := 1#32
  let v1850 : BitVec 32 := Scalar.muli v17 c1_i32_2400
  let v1851 : BitVec 32 := Scalar.addi c0_i32_2401 v1850
  v1851.toNat
def k0_dev80 (v30 : BitVec 32) : Nat :=
  let c0_i32_2408 : BitVec 32 := 0#32
  let c1_i32_2407 : BitVec 32 := 1#32
  let v1860 : BitVec 32 := Scalar.muli v30 c1_i32_2407
  let v1861 : BitVec 32 := Scalar.addi c0_i32_2408 v1860
  v1861.toNat
def k0_dev81 (v30 : BitVec 32) : Nat :=
  let c0_i32_2455 : BitVec 32 := 0#32
  let c1_i32_2454 : BitVec 32 := 1#32
  let v1882 : BitVec 32 := Scalar.muli v30 c1_i32_2454
  let v1883 : BitVec 32 := Scalar.addi c0_i32_2455 v1882
  v1883.toNat
def k0_dev82 (v17 : BitVec 32) : Nat :=
  let c0_i32_2462 : BitVec 32 := 0#32
  let c1_i32_2461 : BitVec 32 := 1#32
  let v1892 : BitVec 32 := Scalar.muli v17 c1_i32_2461
  let v1893 : BitVec 32 := Scalar.addi c0_i32_2462 v1892
  v1893.toNat
def k0_dev83 (v17 : BitVec 32) : Nat :=
  let c0_i32_2509 : BitVec 32 := 0#32
  let c1_i32_2508 : BitVec 32 := 1#32
  let v1914 : BitVec 32 := Scalar.muli v17 c1_i32_2508
  let v1915 : BitVec 32 := Scalar.addi c0_i32_2509 v1914
  v1915.toNat
def k0_dev84 (v30 : BitVec 32) : Nat :=
  let c0_i32_2516 : BitVec 32 := 0#32
  let c1_i32_2515 : BitVec 32 := 1#32
  let v1924 : BitVec 32 := Scalar.muli v30 c1_i32_2515
  let v1925 : BitVec 32 := Scalar.addi c0_i32_2516 v1924
  v1925.toNat
def k0_dev85 (v30 : BitVec 32) : Nat :=
  let c0_i32_2563 : BitVec 32 := 0#32
  let c1_i32_2562 : BitVec 32 := 1#32
  let v1946 : BitVec 32 := Scalar.muli v30 c1_i32_2562
  let v1947 : BitVec 32 := Scalar.addi c0_i32_2563 v1946
  v1947.toNat
def k0_dev86 (v17 : BitVec 32) : Nat :=
  let c0_i32_2570 : BitVec 32 := 0#32
  let c1_i32_2569 : BitVec 32 := 1#32
  let v1956 : BitVec 32 := Scalar.muli v17 c1_i32_2569
  let v1957 : BitVec 32 := Scalar.addi c0_i32_2570 v1956
  v1957.toNat
def k0_off48 (v4 : BitVec 32) : Fin 1 → Nat :=
  let c2_i32_2571 : BitVec 32 := 2#32
  let v1958 : BitVec 32 := Scalar.subi v4 c2_i32_2571
  let c10_i32 : BitVec 32 := 10#32
  let v1959 : BitVec 32 := Scalar.subi v1958 c10_i32
  let c32_i32_2572 : BitVec 32 := 32#32
  let c0_i32_2573 : BitVec 32 := 0#32
  let v1960 : BitVec 1 := Scalar.cmpi .eq c32_i32_2572 c0_i32_2573
  let c1_i32_2574 : BitVec 32 := 1#32
  let v1961 : BitVec 32 := Scalar.select v1960 c1_i32_2574 c32_i32_2572
  let v1962 : BitVec 32 := Scalar.remsi v1959 v1961
  let c0_i32_2576 : BitVec 32 := 0#32
  let v1964 : BitVec 1 := Scalar.cmpi .slt v1962 c0_i32_2576
  let c0_i32_2577 : BitVec 32 := 0#32
  let v1965 : BitVec 1 := Scalar.cmpi .slt v1961 c0_i32_2577
  let v1966 : BitVec 1 := Scalar.xori v1964 v1965
  let c0_i32_2575 : BitVec 32 := 0#32
  let v1963 : BitVec 1 := Scalar.cmpi .ne v1962 c0_i32_2575
  let v1967 : BitVec 1 := Scalar.andi v1966 v1963
  let v1968 : BitVec 32 := Scalar.addi v1962 v1961
  let v1969 : BitVec 32 := Scalar.select v1967 v1968 v1962
  let v1970 : Index := Scalar.indexCast v1969
  ![v1970.toNat]
def k0_off49 (v1971 : BitVec 32) : Fin 2 → Nat :=
  let c128_i32_2578 : BitVec 32 := 128#32
  let v1972 : BitVec 32 := Scalar.muli v1971 c128_i32_2578
  let v1973 : Index := Scalar.indexCast v1972
  let c0_2579 : Index := 0#32
  ![v1973.toNat, 0]

def k0_chk26 (v1971 : BitVec 32) : Prop :=
  (∀ a, (k0_off49 v1971) a + S128x128.size a ≤ S4096x128.size a)
theorem k0_off49_inb : ∀ (v1971 : BitVec 32) (k0_hw26 : k0_chk26 v1971), ∀ a, (k0_off49 v1971) a + S128x128.size a ≤ S4096x128.size a := fun v1971 k0_hw26 => k0_hw26

def k0_off50 (v4 : BitVec 32) : Fin 1 → Nat :=
  let c2_i32_2588 : BitVec 32 := 2#32
  let v1986 : BitVec 32 := Scalar.addi v4 c2_i32_2588
  let c10_i32_2589 : BitVec 32 := 10#32
  let v1987 : BitVec 32 := Scalar.addi v1986 c10_i32_2589
  let c32_i32_2590 : BitVec 32 := 32#32
  let c0_i32_2591 : BitVec 32 := 0#32
  let v1988 : BitVec 1 := Scalar.cmpi .eq c32_i32_2590 c0_i32_2591
  let c1_i32_2592 : BitVec 32 := 1#32
  let v1989 : BitVec 32 := Scalar.select v1988 c1_i32_2592 c32_i32_2590
  let v1990 : BitVec 32 := Scalar.remsi v1987 v1989
  let c0_i32_2594 : BitVec 32 := 0#32
  let v1992 : BitVec 1 := Scalar.cmpi .slt v1990 c0_i32_2594
  let c0_i32_2595 : BitVec 32 := 0#32
  let v1993 : BitVec 1 := Scalar.cmpi .slt v1989 c0_i32_2595
  let v1994 : BitVec 1 := Scalar.xori v1992 v1993
  let c0_i32_2593 : BitVec 32 := 0#32
  let v1991 : BitVec 1 := Scalar.cmpi .ne v1990 c0_i32_2593
  let v1995 : BitVec 1 := Scalar.andi v1994 v1991
  let v1996 : BitVec 32 := Scalar.addi v1990 v1989
  let v1997 : BitVec 32 := Scalar.select v1995 v1996 v1990
  let v1998 : Index := Scalar.indexCast v1997
  ![v1998.toNat]
def k0_off51 (v1999 : BitVec 32) : Fin 2 → Nat :=
  let c128_i32_2596 : BitVec 32 := 128#32
  let v2000 : BitVec 32 := Scalar.muli v1999 c128_i32_2596
  let v2001 : Index := Scalar.indexCast v2000
  let c0_2597 : Index := 0#32
  ![v2001.toNat, 0]

def k0_chk27 (v1999 : BitVec 32) : Prop :=
  (∀ a, (k0_off51 v1999) a + S128x128.size a ≤ S4096x128.size a)
theorem k0_off51_inb : ∀ (v1999 : BitVec 32) (k0_hw27 : k0_chk27 v1999), ∀ a, (k0_off51 v1999) a + S128x128.size a ≤ S4096x128.size a := fun v1999 k0_hw27 => k0_hw27

def k0_dev87 (v17 : BitVec 32) : Nat :=
  let c0_i32_2652 : BitVec 32 := 0#32
  let c1_i32_2651 : BitVec 32 := 1#32
  let v2034 : BitVec 32 := Scalar.muli v17 c1_i32_2651
  let v2035 : BitVec 32 := Scalar.addi c0_i32_2652 v2034
  v2035.toNat
def k0_dev88 (v30 : BitVec 32) : Nat :=
  let c0_i32_2659 : BitVec 32 := 0#32
  let c1_i32_2658 : BitVec 32 := 1#32
  let v2044 : BitVec 32 := Scalar.muli v30 c1_i32_2658
  let v2045 : BitVec 32 := Scalar.addi c0_i32_2659 v2044
  v2045.toNat
def k0_dev89 (v30 : BitVec 32) : Nat :=
  let c0_i32_2706 : BitVec 32 := 0#32
  let c1_i32_2705 : BitVec 32 := 1#32
  let v2066 : BitVec 32 := Scalar.muli v30 c1_i32_2705
  let v2067 : BitVec 32 := Scalar.addi c0_i32_2706 v2066
  v2067.toNat
def k0_dev90 (v17 : BitVec 32) : Nat :=
  let c0_i32_2713 : BitVec 32 := 0#32
  let c1_i32_2712 : BitVec 32 := 1#32
  let v2076 : BitVec 32 := Scalar.muli v17 c1_i32_2712
  let v2077 : BitVec 32 := Scalar.addi c0_i32_2713 v2076
  v2077.toNat
def k0_dev91 (v17 : BitVec 32) : Nat :=
  let c0_i32_2760 : BitVec 32 := 0#32
  let c1_i32_2759 : BitVec 32 := 1#32
  let v2098 : BitVec 32 := Scalar.muli v17 c1_i32_2759
  let v2099 : BitVec 32 := Scalar.addi c0_i32_2760 v2098
  v2099.toNat
def k0_dev92 (v30 : BitVec 32) : Nat :=
  let c0_i32_2767 : BitVec 32 := 0#32
  let c1_i32_2766 : BitVec 32 := 1#32
  let v2108 : BitVec 32 := Scalar.muli v30 c1_i32_2766
  let v2109 : BitVec 32 := Scalar.addi c0_i32_2767 v2108
  v2109.toNat
def k0_dev93 (v30 : BitVec 32) : Nat :=
  let c0_i32_2814 : BitVec 32 := 0#32
  let c1_i32_2813 : BitVec 32 := 1#32
  let v2130 : BitVec 32 := Scalar.muli v30 c1_i32_2813
  let v2131 : BitVec 32 := Scalar.addi c0_i32_2814 v2130
  v2131.toNat
def k0_dev94 (v17 : BitVec 32) : Nat :=
  let c0_i32_2821 : BitVec 32 := 0#32
  let c1_i32_2820 : BitVec 32 := 1#32
  let v2140 : BitVec 32 := Scalar.muli v17 c1_i32_2820
  let v2141 : BitVec 32 := Scalar.addi c0_i32_2821 v2140
  v2141.toNat
def k0_off52 (v4 : BitVec 32) : Fin 1 → Nat :=
  let c2_i32_2822 : BitVec 32 := 2#32
  let v2142 : BitVec 32 := Scalar.subi v4 c2_i32_2822
  let c11_i32 : BitVec 32 := 11#32
  let v2143 : BitVec 32 := Scalar.subi v2142 c11_i32
  let c32_i32_2823 : BitVec 32 := 32#32
  let c0_i32_2824 : BitVec 32 := 0#32
  let v2144 : BitVec 1 := Scalar.cmpi .eq c32_i32_2823 c0_i32_2824
  let c1_i32_2825 : BitVec 32 := 1#32
  let v2145 : BitVec 32 := Scalar.select v2144 c1_i32_2825 c32_i32_2823
  let v2146 : BitVec 32 := Scalar.remsi v2143 v2145
  let c0_i32_2827 : BitVec 32 := 0#32
  let v2148 : BitVec 1 := Scalar.cmpi .slt v2146 c0_i32_2827
  let c0_i32_2828 : BitVec 32 := 0#32
  let v2149 : BitVec 1 := Scalar.cmpi .slt v2145 c0_i32_2828
  let v2150 : BitVec 1 := Scalar.xori v2148 v2149
  let c0_i32_2826 : BitVec 32 := 0#32
  let v2147 : BitVec 1 := Scalar.cmpi .ne v2146 c0_i32_2826
  let v2151 : BitVec 1 := Scalar.andi v2150 v2147
  let v2152 : BitVec 32 := Scalar.addi v2146 v2145
  let v2153 : BitVec 32 := Scalar.select v2151 v2152 v2146
  let v2154 : Index := Scalar.indexCast v2153
  ![v2154.toNat]
def k0_off53 (v2155 : BitVec 32) : Fin 2 → Nat :=
  let c128_i32_2829 : BitVec 32 := 128#32
  let v2156 : BitVec 32 := Scalar.muli v2155 c128_i32_2829
  let v2157 : Index := Scalar.indexCast v2156
  let c0_2830 : Index := 0#32
  ![v2157.toNat, 0]

def k0_chk28 (v2155 : BitVec 32) : Prop :=
  (∀ a, (k0_off53 v2155) a + S128x128.size a ≤ S4096x128.size a)
theorem k0_off53_inb : ∀ (v2155 : BitVec 32) (k0_hw28 : k0_chk28 v2155), ∀ a, (k0_off53 v2155) a + S128x128.size a ≤ S4096x128.size a := fun v2155 k0_hw28 => k0_hw28

def k0_off54 (v4 : BitVec 32) : Fin 1 → Nat :=
  let c2_i32_2839 : BitVec 32 := 2#32
  let v2170 : BitVec 32 := Scalar.addi v4 c2_i32_2839
  let c11_i32_2840 : BitVec 32 := 11#32
  let v2171 : BitVec 32 := Scalar.addi v2170 c11_i32_2840
  let c32_i32_2841 : BitVec 32 := 32#32
  let c0_i32_2842 : BitVec 32 := 0#32
  let v2172 : BitVec 1 := Scalar.cmpi .eq c32_i32_2841 c0_i32_2842
  let c1_i32_2843 : BitVec 32 := 1#32
  let v2173 : BitVec 32 := Scalar.select v2172 c1_i32_2843 c32_i32_2841
  let v2174 : BitVec 32 := Scalar.remsi v2171 v2173
  let c0_i32_2845 : BitVec 32 := 0#32
  let v2176 : BitVec 1 := Scalar.cmpi .slt v2174 c0_i32_2845
  let c0_i32_2846 : BitVec 32 := 0#32
  let v2177 : BitVec 1 := Scalar.cmpi .slt v2173 c0_i32_2846
  let v2178 : BitVec 1 := Scalar.xori v2176 v2177
  let c0_i32_2844 : BitVec 32 := 0#32
  let v2175 : BitVec 1 := Scalar.cmpi .ne v2174 c0_i32_2844
  let v2179 : BitVec 1 := Scalar.andi v2178 v2175
  let v2180 : BitVec 32 := Scalar.addi v2174 v2173
  let v2181 : BitVec 32 := Scalar.select v2179 v2180 v2174
  let v2182 : Index := Scalar.indexCast v2181
  ![v2182.toNat]
def k0_off55 (v2183 : BitVec 32) : Fin 2 → Nat :=
  let c128_i32_2847 : BitVec 32 := 128#32
  let v2184 : BitVec 32 := Scalar.muli v2183 c128_i32_2847
  let v2185 : Index := Scalar.indexCast v2184
  let c0_2848 : Index := 0#32
  ![v2185.toNat, 0]

def k0_chk29 (v2183 : BitVec 32) : Prop :=
  (∀ a, (k0_off55 v2183) a + S128x128.size a ≤ S4096x128.size a)
theorem k0_off55_inb : ∀ (v2183 : BitVec 32) (k0_hw29 : k0_chk29 v2183), ∀ a, (k0_off55 v2183) a + S128x128.size a ≤ S4096x128.size a := fun v2183 k0_hw29 => k0_hw29

def k0_dev95 (v17 : BitVec 32) : Nat :=
  let c0_i32_2903 : BitVec 32 := 0#32
  let c1_i32_2902 : BitVec 32 := 1#32
  let v2218 : BitVec 32 := Scalar.muli v17 c1_i32_2902
  let v2219 : BitVec 32 := Scalar.addi c0_i32_2903 v2218
  v2219.toNat
def k0_dev96 (v30 : BitVec 32) : Nat :=
  let c0_i32_2910 : BitVec 32 := 0#32
  let c1_i32_2909 : BitVec 32 := 1#32
  let v2228 : BitVec 32 := Scalar.muli v30 c1_i32_2909
  let v2229 : BitVec 32 := Scalar.addi c0_i32_2910 v2228
  v2229.toNat
def k0_dev97 (v30 : BitVec 32) : Nat :=
  let c0_i32_2957 : BitVec 32 := 0#32
  let c1_i32_2956 : BitVec 32 := 1#32
  let v2250 : BitVec 32 := Scalar.muli v30 c1_i32_2956
  let v2251 : BitVec 32 := Scalar.addi c0_i32_2957 v2250
  v2251.toNat
def k0_dev98 (v17 : BitVec 32) : Nat :=
  let c0_i32_2964 : BitVec 32 := 0#32
  let c1_i32_2963 : BitVec 32 := 1#32
  let v2260 : BitVec 32 := Scalar.muli v17 c1_i32_2963
  let v2261 : BitVec 32 := Scalar.addi c0_i32_2964 v2260
  v2261.toNat
def k0_dev99 (v17 : BitVec 32) : Nat :=
  let c0_i32_3011 : BitVec 32 := 0#32
  let c1_i32_3010 : BitVec 32 := 1#32
  let v2282 : BitVec 32 := Scalar.muli v17 c1_i32_3010
  let v2283 : BitVec 32 := Scalar.addi c0_i32_3011 v2282
  v2283.toNat
def k0_dev100 (v30 : BitVec 32) : Nat :=
  let c0_i32_3018 : BitVec 32 := 0#32
  let c1_i32_3017 : BitVec 32 := 1#32
  let v2292 : BitVec 32 := Scalar.muli v30 c1_i32_3017
  let v2293 : BitVec 32 := Scalar.addi c0_i32_3018 v2292
  v2293.toNat
def k0_dev101 (v30 : BitVec 32) : Nat :=
  let c0_i32_3065 : BitVec 32 := 0#32
  let c1_i32_3064 : BitVec 32 := 1#32
  let v2314 : BitVec 32 := Scalar.muli v30 c1_i32_3064
  let v2315 : BitVec 32 := Scalar.addi c0_i32_3065 v2314
  v2315.toNat
def k0_dev102 (v17 : BitVec 32) : Nat :=
  let c0_i32_3072 : BitVec 32 := 0#32
  let c1_i32_3071 : BitVec 32 := 1#32
  let v2324 : BitVec 32 := Scalar.muli v17 c1_i32_3071
  let v2325 : BitVec 32 := Scalar.addi c0_i32_3072 v2324
  v2325.toNat
def k0_off56 (v4 : BitVec 32) : Fin 1 → Nat :=
  let c2_i32_3073 : BitVec 32 := 2#32
  let v2326 : BitVec 32 := Scalar.subi v4 c2_i32_3073
  let c12_i32 : BitVec 32 := 12#32
  let v2327 : BitVec 32 := Scalar.subi v2326 c12_i32
  let c32_i32_3074 : BitVec 32 := 32#32
  let c0_i32_3075 : BitVec 32 := 0#32
  let v2328 : BitVec 1 := Scalar.cmpi .eq c32_i32_3074 c0_i32_3075
  let c1_i32_3076 : BitVec 32 := 1#32
  let v2329 : BitVec 32 := Scalar.select v2328 c1_i32_3076 c32_i32_3074
  let v2330 : BitVec 32 := Scalar.remsi v2327 v2329
  let c0_i32_3078 : BitVec 32 := 0#32
  let v2332 : BitVec 1 := Scalar.cmpi .slt v2330 c0_i32_3078
  let c0_i32_3079 : BitVec 32 := 0#32
  let v2333 : BitVec 1 := Scalar.cmpi .slt v2329 c0_i32_3079
  let v2334 : BitVec 1 := Scalar.xori v2332 v2333
  let c0_i32_3077 : BitVec 32 := 0#32
  let v2331 : BitVec 1 := Scalar.cmpi .ne v2330 c0_i32_3077
  let v2335 : BitVec 1 := Scalar.andi v2334 v2331
  let v2336 : BitVec 32 := Scalar.addi v2330 v2329
  let v2337 : BitVec 32 := Scalar.select v2335 v2336 v2330
  let v2338 : Index := Scalar.indexCast v2337
  ![v2338.toNat]
def k0_off57 (v2339 : BitVec 32) : Fin 2 → Nat :=
  let c128_i32_3080 : BitVec 32 := 128#32
  let v2340 : BitVec 32 := Scalar.muli v2339 c128_i32_3080
  let v2341 : Index := Scalar.indexCast v2340
  let c0_3081 : Index := 0#32
  ![v2341.toNat, 0]

def k0_chk30 (v2339 : BitVec 32) : Prop :=
  (∀ a, (k0_off57 v2339) a + S128x128.size a ≤ S4096x128.size a)
theorem k0_off57_inb : ∀ (v2339 : BitVec 32) (k0_hw30 : k0_chk30 v2339), ∀ a, (k0_off57 v2339) a + S128x128.size a ≤ S4096x128.size a := fun v2339 k0_hw30 => k0_hw30

def k0_off58 (v4 : BitVec 32) : Fin 1 → Nat :=
  let c2_i32_3090 : BitVec 32 := 2#32
  let v2354 : BitVec 32 := Scalar.addi v4 c2_i32_3090
  let c12_i32_3091 : BitVec 32 := 12#32
  let v2355 : BitVec 32 := Scalar.addi v2354 c12_i32_3091
  let c32_i32_3092 : BitVec 32 := 32#32
  let c0_i32_3093 : BitVec 32 := 0#32
  let v2356 : BitVec 1 := Scalar.cmpi .eq c32_i32_3092 c0_i32_3093
  let c1_i32_3094 : BitVec 32 := 1#32
  let v2357 : BitVec 32 := Scalar.select v2356 c1_i32_3094 c32_i32_3092
  let v2358 : BitVec 32 := Scalar.remsi v2355 v2357
  let c0_i32_3096 : BitVec 32 := 0#32
  let v2360 : BitVec 1 := Scalar.cmpi .slt v2358 c0_i32_3096
  let c0_i32_3097 : BitVec 32 := 0#32
  let v2361 : BitVec 1 := Scalar.cmpi .slt v2357 c0_i32_3097
  let v2362 : BitVec 1 := Scalar.xori v2360 v2361
  let c0_i32_3095 : BitVec 32 := 0#32
  let v2359 : BitVec 1 := Scalar.cmpi .ne v2358 c0_i32_3095
  let v2363 : BitVec 1 := Scalar.andi v2362 v2359
  let v2364 : BitVec 32 := Scalar.addi v2358 v2357
  let v2365 : BitVec 32 := Scalar.select v2363 v2364 v2358
  let v2366 : Index := Scalar.indexCast v2365
  ![v2366.toNat]
def k0_off59 (v2367 : BitVec 32) : Fin 2 → Nat :=
  let c128_i32_3098 : BitVec 32 := 128#32
  let v2368 : BitVec 32 := Scalar.muli v2367 c128_i32_3098
  let v2369 : Index := Scalar.indexCast v2368
  let c0_3099 : Index := 0#32
  ![v2369.toNat, 0]

def k0_chk31 (v2367 : BitVec 32) : Prop :=
  (∀ a, (k0_off59 v2367) a + S128x128.size a ≤ S4096x128.size a)
theorem k0_off59_inb : ∀ (v2367 : BitVec 32) (k0_hw31 : k0_chk31 v2367), ∀ a, (k0_off59 v2367) a + S128x128.size a ≤ S4096x128.size a := fun v2367 k0_hw31 => k0_hw31

def k0_dev103 (v17 : BitVec 32) : Nat :=
  let c0_i32_3154 : BitVec 32 := 0#32
  let c1_i32_3153 : BitVec 32 := 1#32
  let v2402 : BitVec 32 := Scalar.muli v17 c1_i32_3153
  let v2403 : BitVec 32 := Scalar.addi c0_i32_3154 v2402
  v2403.toNat
def k0_dev104 (v30 : BitVec 32) : Nat :=
  let c0_i32_3161 : BitVec 32 := 0#32
  let c1_i32_3160 : BitVec 32 := 1#32
  let v2412 : BitVec 32 := Scalar.muli v30 c1_i32_3160
  let v2413 : BitVec 32 := Scalar.addi c0_i32_3161 v2412
  v2413.toNat
def k0_dev105 (v30 : BitVec 32) : Nat :=
  let c0_i32_3208 : BitVec 32 := 0#32
  let c1_i32_3207 : BitVec 32 := 1#32
  let v2434 : BitVec 32 := Scalar.muli v30 c1_i32_3207
  let v2435 : BitVec 32 := Scalar.addi c0_i32_3208 v2434
  v2435.toNat
def k0_dev106 (v17 : BitVec 32) : Nat :=
  let c0_i32_3215 : BitVec 32 := 0#32
  let c1_i32_3214 : BitVec 32 := 1#32
  let v2444 : BitVec 32 := Scalar.muli v17 c1_i32_3214
  let v2445 : BitVec 32 := Scalar.addi c0_i32_3215 v2444
  v2445.toNat
def k0_dev107 (v17 : BitVec 32) : Nat :=
  let c0_i32_3262 : BitVec 32 := 0#32
  let c1_i32_3261 : BitVec 32 := 1#32
  let v2466 : BitVec 32 := Scalar.muli v17 c1_i32_3261
  let v2467 : BitVec 32 := Scalar.addi c0_i32_3262 v2466
  v2467.toNat
def k0_dev108 (v30 : BitVec 32) : Nat :=
  let c0_i32_3269 : BitVec 32 := 0#32
  let c1_i32_3268 : BitVec 32 := 1#32
  let v2476 : BitVec 32 := Scalar.muli v30 c1_i32_3268
  let v2477 : BitVec 32 := Scalar.addi c0_i32_3269 v2476
  v2477.toNat
def k0_dev109 (v30 : BitVec 32) : Nat :=
  let c0_i32_3316 : BitVec 32 := 0#32
  let c1_i32_3315 : BitVec 32 := 1#32
  let v2498 : BitVec 32 := Scalar.muli v30 c1_i32_3315
  let v2499 : BitVec 32 := Scalar.addi c0_i32_3316 v2498
  v2499.toNat
def k0_dev110 (v17 : BitVec 32) : Nat :=
  let c0_i32_3323 : BitVec 32 := 0#32
  let c1_i32_3322 : BitVec 32 := 1#32
  let v2508 : BitVec 32 := Scalar.muli v17 c1_i32_3322
  let v2509 : BitVec 32 := Scalar.addi c0_i32_3323 v2508
  v2509.toNat
def k0_off60 (v4 : BitVec 32) : Fin 1 → Nat :=
  let c2_i32_3324 : BitVec 32 := 2#32
  let v2510 : BitVec 32 := Scalar.subi v4 c2_i32_3324
  let c13_i32 : BitVec 32 := 13#32
  let v2511 : BitVec 32 := Scalar.subi v2510 c13_i32
  let c32_i32_3325 : BitVec 32 := 32#32
  let c0_i32_3326 : BitVec 32 := 0#32
  let v2512 : BitVec 1 := Scalar.cmpi .eq c32_i32_3325 c0_i32_3326
  let c1_i32_3327 : BitVec 32 := 1#32
  let v2513 : BitVec 32 := Scalar.select v2512 c1_i32_3327 c32_i32_3325
  let v2514 : BitVec 32 := Scalar.remsi v2511 v2513
  let c0_i32_3329 : BitVec 32 := 0#32
  let v2516 : BitVec 1 := Scalar.cmpi .slt v2514 c0_i32_3329
  let c0_i32_3330 : BitVec 32 := 0#32
  let v2517 : BitVec 1 := Scalar.cmpi .slt v2513 c0_i32_3330
  let v2518 : BitVec 1 := Scalar.xori v2516 v2517
  let c0_i32_3328 : BitVec 32 := 0#32
  let v2515 : BitVec 1 := Scalar.cmpi .ne v2514 c0_i32_3328
  let v2519 : BitVec 1 := Scalar.andi v2518 v2515
  let v2520 : BitVec 32 := Scalar.addi v2514 v2513
  let v2521 : BitVec 32 := Scalar.select v2519 v2520 v2514
  let v2522 : Index := Scalar.indexCast v2521
  ![v2522.toNat]
def k0_off61 (v2523 : BitVec 32) : Fin 2 → Nat :=
  let c128_i32_3331 : BitVec 32 := 128#32
  let v2524 : BitVec 32 := Scalar.muli v2523 c128_i32_3331
  let v2525 : Index := Scalar.indexCast v2524
  let c0_3332 : Index := 0#32
  ![v2525.toNat, 0]

def k0_chk32 (v2523 : BitVec 32) : Prop :=
  (∀ a, (k0_off61 v2523) a + S128x128.size a ≤ S4096x128.size a)
theorem k0_off61_inb : ∀ (v2523 : BitVec 32) (k0_hw32 : k0_chk32 v2523), ∀ a, (k0_off61 v2523) a + S128x128.size a ≤ S4096x128.size a := fun v2523 k0_hw32 => k0_hw32

def k0_off62 (v4 : BitVec 32) : Fin 1 → Nat :=
  let c2_i32_3341 : BitVec 32 := 2#32
  let v2538 : BitVec 32 := Scalar.addi v4 c2_i32_3341
  let c13_i32_3342 : BitVec 32 := 13#32
  let v2539 : BitVec 32 := Scalar.addi v2538 c13_i32_3342
  let c32_i32_3343 : BitVec 32 := 32#32
  let c0_i32_3344 : BitVec 32 := 0#32
  let v2540 : BitVec 1 := Scalar.cmpi .eq c32_i32_3343 c0_i32_3344
  let c1_i32_3345 : BitVec 32 := 1#32
  let v2541 : BitVec 32 := Scalar.select v2540 c1_i32_3345 c32_i32_3343
  let v2542 : BitVec 32 := Scalar.remsi v2539 v2541
  let c0_i32_3347 : BitVec 32 := 0#32
  let v2544 : BitVec 1 := Scalar.cmpi .slt v2542 c0_i32_3347
  let c0_i32_3348 : BitVec 32 := 0#32
  let v2545 : BitVec 1 := Scalar.cmpi .slt v2541 c0_i32_3348
  let v2546 : BitVec 1 := Scalar.xori v2544 v2545
  let c0_i32_3346 : BitVec 32 := 0#32
  let v2543 : BitVec 1 := Scalar.cmpi .ne v2542 c0_i32_3346
  let v2547 : BitVec 1 := Scalar.andi v2546 v2543
  let v2548 : BitVec 32 := Scalar.addi v2542 v2541
  let v2549 : BitVec 32 := Scalar.select v2547 v2548 v2542
  let v2550 : Index := Scalar.indexCast v2549
  ![v2550.toNat]
def k0_off63 (v2551 : BitVec 32) : Fin 2 → Nat :=
  let c128_i32_3349 : BitVec 32 := 128#32
  let v2552 : BitVec 32 := Scalar.muli v2551 c128_i32_3349
  let v2553 : Index := Scalar.indexCast v2552
  let c0_3350 : Index := 0#32
  ![v2553.toNat, 0]

def k0_chk33 (v2551 : BitVec 32) : Prop :=
  (∀ a, (k0_off63 v2551) a + S128x128.size a ≤ S4096x128.size a)
theorem k0_off63_inb : ∀ (v2551 : BitVec 32) (k0_hw33 : k0_chk33 v2551), ∀ a, (k0_off63 v2551) a + S128x128.size a ≤ S4096x128.size a := fun v2551 k0_hw33 => k0_hw33

def k0_dev111 (v17 : BitVec 32) : Nat :=
  let c0_i32_3405 : BitVec 32 := 0#32
  let c1_i32_3404 : BitVec 32 := 1#32
  let v2586 : BitVec 32 := Scalar.muli v17 c1_i32_3404
  let v2587 : BitVec 32 := Scalar.addi c0_i32_3405 v2586
  v2587.toNat
def k0_dev112 (v30 : BitVec 32) : Nat :=
  let c0_i32_3412 : BitVec 32 := 0#32
  let c1_i32_3411 : BitVec 32 := 1#32
  let v2596 : BitVec 32 := Scalar.muli v30 c1_i32_3411
  let v2597 : BitVec 32 := Scalar.addi c0_i32_3412 v2596
  v2597.toNat
def k0_dev113 (v30 : BitVec 32) : Nat :=
  let c0_i32_3459 : BitVec 32 := 0#32
  let c1_i32_3458 : BitVec 32 := 1#32
  let v2618 : BitVec 32 := Scalar.muli v30 c1_i32_3458
  let v2619 : BitVec 32 := Scalar.addi c0_i32_3459 v2618
  v2619.toNat
def k0_dev114 (v17 : BitVec 32) : Nat :=
  let c0_i32_3466 : BitVec 32 := 0#32
  let c1_i32_3465 : BitVec 32 := 1#32
  let v2628 : BitVec 32 := Scalar.muli v17 c1_i32_3465
  let v2629 : BitVec 32 := Scalar.addi c0_i32_3466 v2628
  v2629.toNat
def k0_dev115 (v17 : BitVec 32) : Nat :=
  let c0_i32_3513 : BitVec 32 := 0#32
  let c1_i32_3512 : BitVec 32 := 1#32
  let v2650 : BitVec 32 := Scalar.muli v17 c1_i32_3512
  let v2651 : BitVec 32 := Scalar.addi c0_i32_3513 v2650
  v2651.toNat
def k0_dev116 (v30 : BitVec 32) : Nat :=
  let c0_i32_3520 : BitVec 32 := 0#32
  let c1_i32_3519 : BitVec 32 := 1#32
  let v2660 : BitVec 32 := Scalar.muli v30 c1_i32_3519
  let v2661 : BitVec 32 := Scalar.addi c0_i32_3520 v2660
  v2661.toNat
def k0_dev117 (v30 : BitVec 32) : Nat :=
  let c0_i32_3567 : BitVec 32 := 0#32
  let c1_i32_3566 : BitVec 32 := 1#32
  let v2682 : BitVec 32 := Scalar.muli v30 c1_i32_3566
  let v2683 : BitVec 32 := Scalar.addi c0_i32_3567 v2682
  v2683.toNat
def k0_dev118 (v17 : BitVec 32) : Nat :=
  let c0_i32_3574 : BitVec 32 := 0#32
  let c1_i32_3573 : BitVec 32 := 1#32
  let v2692 : BitVec 32 := Scalar.muli v17 c1_i32_3573
  let v2693 : BitVec 32 := Scalar.addi c0_i32_3574 v2692
  v2693.toNat
def k0_off64 (v4 : BitVec 32) : Fin 1 → Nat :=
  let c2_i32_3575 : BitVec 32 := 2#32
  let v2694 : BitVec 32 := Scalar.subi v4 c2_i32_3575
  let c14_i32 : BitVec 32 := 14#32
  let v2695 : BitVec 32 := Scalar.subi v2694 c14_i32
  let c32_i32_3576 : BitVec 32 := 32#32
  let c0_i32_3577 : BitVec 32 := 0#32
  let v2696 : BitVec 1 := Scalar.cmpi .eq c32_i32_3576 c0_i32_3577
  let c1_i32_3578 : BitVec 32 := 1#32
  let v2697 : BitVec 32 := Scalar.select v2696 c1_i32_3578 c32_i32_3576
  let v2698 : BitVec 32 := Scalar.remsi v2695 v2697
  let c0_i32_3580 : BitVec 32 := 0#32
  let v2700 : BitVec 1 := Scalar.cmpi .slt v2698 c0_i32_3580
  let c0_i32_3581 : BitVec 32 := 0#32
  let v2701 : BitVec 1 := Scalar.cmpi .slt v2697 c0_i32_3581
  let v2702 : BitVec 1 := Scalar.xori v2700 v2701
  let c0_i32_3579 : BitVec 32 := 0#32
  let v2699 : BitVec 1 := Scalar.cmpi .ne v2698 c0_i32_3579
  let v2703 : BitVec 1 := Scalar.andi v2702 v2699
  let v2704 : BitVec 32 := Scalar.addi v2698 v2697
  let v2705 : BitVec 32 := Scalar.select v2703 v2704 v2698
  let v2706 : Index := Scalar.indexCast v2705
  ![v2706.toNat]
def k0_off65 (v2707 : BitVec 32) : Fin 2 → Nat :=
  let c128_i32_3582 : BitVec 32 := 128#32
  let v2708 : BitVec 32 := Scalar.muli v2707 c128_i32_3582
  let v2709 : Index := Scalar.indexCast v2708
  let c0_3583 : Index := 0#32
  ![v2709.toNat, 0]

def k0_chk34 (v2707 : BitVec 32) : Prop :=
  (∀ a, (k0_off65 v2707) a + S128x128.size a ≤ S4096x128.size a)
theorem k0_off65_inb : ∀ (v2707 : BitVec 32) (k0_hw34 : k0_chk34 v2707), ∀ a, (k0_off65 v2707) a + S128x128.size a ≤ S4096x128.size a := fun v2707 k0_hw34 => k0_hw34

def k0_off66 (v4 : BitVec 32) : Fin 1 → Nat :=
  let c2_i32_3592 : BitVec 32 := 2#32
  let v2722 : BitVec 32 := Scalar.addi v4 c2_i32_3592
  let c14_i32_3593 : BitVec 32 := 14#32
  let v2723 : BitVec 32 := Scalar.addi v2722 c14_i32_3593
  let c32_i32_3594 : BitVec 32 := 32#32
  let c0_i32_3595 : BitVec 32 := 0#32
  let v2724 : BitVec 1 := Scalar.cmpi .eq c32_i32_3594 c0_i32_3595
  let c1_i32_3596 : BitVec 32 := 1#32
  let v2725 : BitVec 32 := Scalar.select v2724 c1_i32_3596 c32_i32_3594
  let v2726 : BitVec 32 := Scalar.remsi v2723 v2725
  let c0_i32_3598 : BitVec 32 := 0#32
  let v2728 : BitVec 1 := Scalar.cmpi .slt v2726 c0_i32_3598
  let c0_i32_3599 : BitVec 32 := 0#32
  let v2729 : BitVec 1 := Scalar.cmpi .slt v2725 c0_i32_3599
  let v2730 : BitVec 1 := Scalar.xori v2728 v2729
  let c0_i32_3597 : BitVec 32 := 0#32
  let v2727 : BitVec 1 := Scalar.cmpi .ne v2726 c0_i32_3597
  let v2731 : BitVec 1 := Scalar.andi v2730 v2727
  let v2732 : BitVec 32 := Scalar.addi v2726 v2725
  let v2733 : BitVec 32 := Scalar.select v2731 v2732 v2726
  let v2734 : Index := Scalar.indexCast v2733
  ![v2734.toNat]
def k0_off67 (v2735 : BitVec 32) : Fin 2 → Nat :=
  let c128_i32_3600 : BitVec 32 := 128#32
  let v2736 : BitVec 32 := Scalar.muli v2735 c128_i32_3600
  let v2737 : Index := Scalar.indexCast v2736
  let c0_3601 : Index := 0#32
  ![v2737.toNat, 0]

def k0_chk35 (v2735 : BitVec 32) : Prop :=
  (∀ a, (k0_off67 v2735) a + S128x128.size a ≤ S4096x128.size a)
theorem k0_off67_inb : ∀ (v2735 : BitVec 32) (k0_hw35 : k0_chk35 v2735), ∀ a, (k0_off67 v2735) a + S128x128.size a ≤ S4096x128.size a := fun v2735 k0_hw35 => k0_hw35

def k0_dev119 (v17 : BitVec 32) : Nat :=
  let c0_i32_3656 : BitVec 32 := 0#32
  let c1_i32_3655 : BitVec 32 := 1#32
  let v2770 : BitVec 32 := Scalar.muli v17 c1_i32_3655
  let v2771 : BitVec 32 := Scalar.addi c0_i32_3656 v2770
  v2771.toNat
def k0_dev120 (v30 : BitVec 32) : Nat :=
  let c0_i32_3663 : BitVec 32 := 0#32
  let c1_i32_3662 : BitVec 32 := 1#32
  let v2780 : BitVec 32 := Scalar.muli v30 c1_i32_3662
  let v2781 : BitVec 32 := Scalar.addi c0_i32_3663 v2780
  v2781.toNat
def k0_dev121 (v30 : BitVec 32) : Nat :=
  let c0_i32_3710 : BitVec 32 := 0#32
  let c1_i32_3709 : BitVec 32 := 1#32
  let v2802 : BitVec 32 := Scalar.muli v30 c1_i32_3709
  let v2803 : BitVec 32 := Scalar.addi c0_i32_3710 v2802
  v2803.toNat
def k0_dev122 (v17 : BitVec 32) : Nat :=
  let c0_i32_3717 : BitVec 32 := 0#32
  let c1_i32_3716 : BitVec 32 := 1#32
  let v2812 : BitVec 32 := Scalar.muli v17 c1_i32_3716
  let v2813 : BitVec 32 := Scalar.addi c0_i32_3717 v2812
  v2813.toNat
def k0_dev123 (v17 : BitVec 32) : Nat :=
  let c0_i32_3764 : BitVec 32 := 0#32
  let c1_i32_3763 : BitVec 32 := 1#32
  let v2834 : BitVec 32 := Scalar.muli v17 c1_i32_3763
  let v2835 : BitVec 32 := Scalar.addi c0_i32_3764 v2834
  v2835.toNat
def k0_dev124 (v30 : BitVec 32) : Nat :=
  let c0_i32_3771 : BitVec 32 := 0#32
  let c1_i32_3770 : BitVec 32 := 1#32
  let v2844 : BitVec 32 := Scalar.muli v30 c1_i32_3770
  let v2845 : BitVec 32 := Scalar.addi c0_i32_3771 v2844
  v2845.toNat
def k0_dev125 (v30 : BitVec 32) : Nat :=
  let c0_i32_3818 : BitVec 32 := 0#32
  let c1_i32_3817 : BitVec 32 := 1#32
  let v2866 : BitVec 32 := Scalar.muli v30 c1_i32_3817
  let v2867 : BitVec 32 := Scalar.addi c0_i32_3818 v2866
  v2867.toNat
def k0_dev126 (v17 : BitVec 32) : Nat :=
  let c0_i32_3825 : BitVec 32 := 0#32
  let c1_i32_3824 : BitVec 32 := 1#32
  let v2876 : BitVec 32 := Scalar.muli v17 c1_i32_3824
  let v2877 : BitVec 32 := Scalar.addi c0_i32_3825 v2876
  v2877.toNat
def k0_off68 (v4 : BitVec 32) : Fin 1 → Nat :=
  let c2_i32_3826 : BitVec 32 := 2#32
  let v2878 : BitVec 32 := Scalar.subi v4 c2_i32_3826
  let c15_i32 : BitVec 32 := 15#32
  let v2879 : BitVec 32 := Scalar.subi v2878 c15_i32
  let c32_i32_3827 : BitVec 32 := 32#32
  let c0_i32_3828 : BitVec 32 := 0#32
  let v2880 : BitVec 1 := Scalar.cmpi .eq c32_i32_3827 c0_i32_3828
  let c1_i32_3829 : BitVec 32 := 1#32
  let v2881 : BitVec 32 := Scalar.select v2880 c1_i32_3829 c32_i32_3827
  let v2882 : BitVec 32 := Scalar.remsi v2879 v2881
  let c0_i32_3831 : BitVec 32 := 0#32
  let v2884 : BitVec 1 := Scalar.cmpi .slt v2882 c0_i32_3831
  let c0_i32_3832 : BitVec 32 := 0#32
  let v2885 : BitVec 1 := Scalar.cmpi .slt v2881 c0_i32_3832
  let v2886 : BitVec 1 := Scalar.xori v2884 v2885
  let c0_i32_3830 : BitVec 32 := 0#32
  let v2883 : BitVec 1 := Scalar.cmpi .ne v2882 c0_i32_3830
  let v2887 : BitVec 1 := Scalar.andi v2886 v2883
  let v2888 : BitVec 32 := Scalar.addi v2882 v2881
  let v2889 : BitVec 32 := Scalar.select v2887 v2888 v2882
  let v2890 : Index := Scalar.indexCast v2889
  ![v2890.toNat]
def k0_off69 (v2891 : BitVec 32) : Fin 2 → Nat :=
  let c128_i32_3833 : BitVec 32 := 128#32
  let v2892 : BitVec 32 := Scalar.muli v2891 c128_i32_3833
  let v2893 : Index := Scalar.indexCast v2892
  let c0_3834 : Index := 0#32
  ![v2893.toNat, 0]

def k0_chk36 (v2891 : BitVec 32) : Prop :=
  (∀ a, (k0_off69 v2891) a + S128x128.size a ≤ S4096x128.size a)
theorem k0_off69_inb : ∀ (v2891 : BitVec 32) (k0_hw36 : k0_chk36 v2891), ∀ a, (k0_off69 v2891) a + S128x128.size a ≤ S4096x128.size a := fun v2891 k0_hw36 => k0_hw36

def k0_off70 (v4 : BitVec 32) : Fin 1 → Nat :=
  let c2_i32_3843 : BitVec 32 := 2#32
  let v2906 : BitVec 32 := Scalar.addi v4 c2_i32_3843
  let c15_i32_3844 : BitVec 32 := 15#32
  let v2907 : BitVec 32 := Scalar.addi v2906 c15_i32_3844
  let c32_i32_3845 : BitVec 32 := 32#32
  let c0_i32_3846 : BitVec 32 := 0#32
  let v2908 : BitVec 1 := Scalar.cmpi .eq c32_i32_3845 c0_i32_3846
  let c1_i32_3847 : BitVec 32 := 1#32
  let v2909 : BitVec 32 := Scalar.select v2908 c1_i32_3847 c32_i32_3845
  let v2910 : BitVec 32 := Scalar.remsi v2907 v2909
  let c0_i32_3849 : BitVec 32 := 0#32
  let v2912 : BitVec 1 := Scalar.cmpi .slt v2910 c0_i32_3849
  let c0_i32_3850 : BitVec 32 := 0#32
  let v2913 : BitVec 1 := Scalar.cmpi .slt v2909 c0_i32_3850
  let v2914 : BitVec 1 := Scalar.xori v2912 v2913
  let c0_i32_3848 : BitVec 32 := 0#32
  let v2911 : BitVec 1 := Scalar.cmpi .ne v2910 c0_i32_3848
  let v2915 : BitVec 1 := Scalar.andi v2914 v2911
  let v2916 : BitVec 32 := Scalar.addi v2910 v2909
  let v2917 : BitVec 32 := Scalar.select v2915 v2916 v2910
  let v2918 : Index := Scalar.indexCast v2917
  ![v2918.toNat]
def k0_off71 (v2919 : BitVec 32) : Fin 2 → Nat :=
  let c128_i32_3851 : BitVec 32 := 128#32
  let v2920 : BitVec 32 := Scalar.muli v2919 c128_i32_3851
  let v2921 : Index := Scalar.indexCast v2920
  let c0_3852 : Index := 0#32
  ![v2921.toNat, 0]

def k0_chk37 (v2919 : BitVec 32) : Prop :=
  (∀ a, (k0_off71 v2919) a + S128x128.size a ≤ S4096x128.size a)
theorem k0_off71_inb : ∀ (v2919 : BitVec 32) (k0_hw37 : k0_chk37 v2919), ∀ a, (k0_off71 v2919) a + S128x128.size a ≤ S4096x128.size a := fun v2919 k0_hw37 => k0_hw37

def k0_dev127 (v17 : BitVec 32) : Nat :=
  let c0_i32_3907 : BitVec 32 := 0#32
  let c1_i32_3906 : BitVec 32 := 1#32
  let v2954 : BitVec 32 := Scalar.muli v17 c1_i32_3906
  let v2955 : BitVec 32 := Scalar.addi c0_i32_3907 v2954
  v2955.toNat
def k0_dev128 (v30 : BitVec 32) : Nat :=
  let c0_i32_3914 : BitVec 32 := 0#32
  let c1_i32_3913 : BitVec 32 := 1#32
  let v2964 : BitVec 32 := Scalar.muli v30 c1_i32_3913
  let v2965 : BitVec 32 := Scalar.addi c0_i32_3914 v2964
  v2965.toNat
def k0_dev129 (v30 : BitVec 32) : Nat :=
  let c0_i32_3961 : BitVec 32 := 0#32
  let c1_i32_3960 : BitVec 32 := 1#32
  let v2986 : BitVec 32 := Scalar.muli v30 c1_i32_3960
  let v2987 : BitVec 32 := Scalar.addi c0_i32_3961 v2986
  v2987.toNat
def k0_dev130 (v17 : BitVec 32) : Nat :=
  let c0_i32_3968 : BitVec 32 := 0#32
  let c1_i32_3967 : BitVec 32 := 1#32
  let v2996 : BitVec 32 := Scalar.muli v17 c1_i32_3967
  let v2997 : BitVec 32 := Scalar.addi c0_i32_3968 v2996
  v2997.toNat
def k0_dev131 (v17 : BitVec 32) : Nat :=
  let c0_i32_4015 : BitVec 32 := 0#32
  let c1_i32_4014 : BitVec 32 := 1#32
  let v3018 : BitVec 32 := Scalar.muli v17 c1_i32_4014
  let v3019 : BitVec 32 := Scalar.addi c0_i32_4015 v3018
  v3019.toNat
def k0_dev132 (v30 : BitVec 32) : Nat :=
  let c0_i32_4022 : BitVec 32 := 0#32
  let c1_i32_4021 : BitVec 32 := 1#32
  let v3028 : BitVec 32 := Scalar.muli v30 c1_i32_4021
  let v3029 : BitVec 32 := Scalar.addi c0_i32_4022 v3028
  v3029.toNat
def k0_dev133 (v30 : BitVec 32) : Nat :=
  let c0_i32_4069 : BitVec 32 := 0#32
  let c1_i32_4068 : BitVec 32 := 1#32
  let v3050 : BitVec 32 := Scalar.muli v30 c1_i32_4068
  let v3051 : BitVec 32 := Scalar.addi c0_i32_4069 v3050
  v3051.toNat
def k0_dev134 (v17 : BitVec 32) : Nat :=
  let c0_i32_4076 : BitVec 32 := 0#32
  let c1_i32_4075 : BitVec 32 := 1#32
  let v3060 : BitVec 32 := Scalar.muli v17 c1_i32_4075
  let v3061 : BitVec 32 := Scalar.addi c0_i32_4076 v3060
  v3061.toNat
def k0_off72 (v4 : BitVec 32) : Fin 1 → Nat :=
  let c2_i32_4077 : BitVec 32 := 2#32
  let v3062 : BitVec 32 := Scalar.subi v4 c2_i32_4077
  let c16_i32 : BitVec 32 := 16#32
  let v3063 : BitVec 32 := Scalar.subi v3062 c16_i32
  let c32_i32_4078 : BitVec 32 := 32#32
  let c0_i32_4079 : BitVec 32 := 0#32
  let v3064 : BitVec 1 := Scalar.cmpi .eq c32_i32_4078 c0_i32_4079
  let c1_i32_4080 : BitVec 32 := 1#32
  let v3065 : BitVec 32 := Scalar.select v3064 c1_i32_4080 c32_i32_4078
  let v3066 : BitVec 32 := Scalar.remsi v3063 v3065
  let c0_i32_4082 : BitVec 32 := 0#32
  let v3068 : BitVec 1 := Scalar.cmpi .slt v3066 c0_i32_4082
  let c0_i32_4083 : BitVec 32 := 0#32
  let v3069 : BitVec 1 := Scalar.cmpi .slt v3065 c0_i32_4083
  let v3070 : BitVec 1 := Scalar.xori v3068 v3069
  let c0_i32_4081 : BitVec 32 := 0#32
  let v3067 : BitVec 1 := Scalar.cmpi .ne v3066 c0_i32_4081
  let v3071 : BitVec 1 := Scalar.andi v3070 v3067
  let v3072 : BitVec 32 := Scalar.addi v3066 v3065
  let v3073 : BitVec 32 := Scalar.select v3071 v3072 v3066
  let v3074 : Index := Scalar.indexCast v3073
  ![v3074.toNat]
def k0_off73 (v3075 : BitVec 32) : Fin 2 → Nat :=
  let c128_i32_4084 : BitVec 32 := 128#32
  let v3076 : BitVec 32 := Scalar.muli v3075 c128_i32_4084
  let v3077 : Index := Scalar.indexCast v3076
  let c0_4085 : Index := 0#32
  ![v3077.toNat, 0]

def k0_chk38 (v3075 : BitVec 32) : Prop :=
  (∀ a, (k0_off73 v3075) a + S128x128.size a ≤ S4096x128.size a)
theorem k0_off73_inb : ∀ (v3075 : BitVec 32) (k0_hw38 : k0_chk38 v3075), ∀ a, (k0_off73 v3075) a + S128x128.size a ≤ S4096x128.size a := fun v3075 k0_hw38 => k0_hw38

def k0_off74 (v4 : BitVec 32) : Fin 1 → Nat :=
  let c2_i32_4094 : BitVec 32 := 2#32
  let v3090 : BitVec 32 := Scalar.addi v4 c2_i32_4094
  let c16_i32_4095 : BitVec 32 := 16#32
  let v3091 : BitVec 32 := Scalar.addi v3090 c16_i32_4095
  let c32_i32_4096 : BitVec 32 := 32#32
  let c0_i32_4097 : BitVec 32 := 0#32
  let v3092 : BitVec 1 := Scalar.cmpi .eq c32_i32_4096 c0_i32_4097
  let c1_i32_4098 : BitVec 32 := 1#32
  let v3093 : BitVec 32 := Scalar.select v3092 c1_i32_4098 c32_i32_4096
  let v3094 : BitVec 32 := Scalar.remsi v3091 v3093
  let c0_i32_4100 : BitVec 32 := 0#32
  let v3096 : BitVec 1 := Scalar.cmpi .slt v3094 c0_i32_4100
  let c0_i32_4101 : BitVec 32 := 0#32
  let v3097 : BitVec 1 := Scalar.cmpi .slt v3093 c0_i32_4101
  let v3098 : BitVec 1 := Scalar.xori v3096 v3097
  let c0_i32_4099 : BitVec 32 := 0#32
  let v3095 : BitVec 1 := Scalar.cmpi .ne v3094 c0_i32_4099
  let v3099 : BitVec 1 := Scalar.andi v3098 v3095
  let v3100 : BitVec 32 := Scalar.addi v3094 v3093
  let v3101 : BitVec 32 := Scalar.select v3099 v3100 v3094
  let v3102 : Index := Scalar.indexCast v3101
  ![v3102.toNat]
def k0_off75 (v3103 : BitVec 32) : Fin 2 → Nat :=
  let c128_i32_4102 : BitVec 32 := 128#32
  let v3104 : BitVec 32 := Scalar.muli v3103 c128_i32_4102
  let v3105 : Index := Scalar.indexCast v3104
  let c0_4103 : Index := 0#32
  ![v3105.toNat, 0]

def k0_chk39 (v3103 : BitVec 32) : Prop :=
  (∀ a, (k0_off75 v3103) a + S128x128.size a ≤ S4096x128.size a)
theorem k0_off75_inb : ∀ (v3103 : BitVec 32) (k0_hw39 : k0_chk39 v3103), ∀ a, (k0_off75 v3103) a + S128x128.size a ≤ S4096x128.size a := fun v3103 k0_hw39 => k0_hw39

def k0_dev135 (v17 : BitVec 32) : Nat :=
  let c0_i32_4158 : BitVec 32 := 0#32
  let c1_i32_4157 : BitVec 32 := 1#32
  let v3138 : BitVec 32 := Scalar.muli v17 c1_i32_4157
  let v3139 : BitVec 32 := Scalar.addi c0_i32_4158 v3138
  v3139.toNat
def k0_dev136 (v30 : BitVec 32) : Nat :=
  let c0_i32_4165 : BitVec 32 := 0#32
  let c1_i32_4164 : BitVec 32 := 1#32
  let v3148 : BitVec 32 := Scalar.muli v30 c1_i32_4164
  let v3149 : BitVec 32 := Scalar.addi c0_i32_4165 v3148
  v3149.toNat
def k0_dev137 (v30 : BitVec 32) : Nat :=
  let c0_i32_4212 : BitVec 32 := 0#32
  let c1_i32_4211 : BitVec 32 := 1#32
  let v3170 : BitVec 32 := Scalar.muli v30 c1_i32_4211
  let v3171 : BitVec 32 := Scalar.addi c0_i32_4212 v3170
  v3171.toNat
def k0_dev138 (v17 : BitVec 32) : Nat :=
  let c0_i32_4219 : BitVec 32 := 0#32
  let c1_i32_4218 : BitVec 32 := 1#32
  let v3180 : BitVec 32 := Scalar.muli v17 c1_i32_4218
  let v3181 : BitVec 32 := Scalar.addi c0_i32_4219 v3180
  v3181.toNat
def k0_dev139 (v17 : BitVec 32) : Nat :=
  let c0_i32_4266 : BitVec 32 := 0#32
  let c1_i32_4265 : BitVec 32 := 1#32
  let v3202 : BitVec 32 := Scalar.muli v17 c1_i32_4265
  let v3203 : BitVec 32 := Scalar.addi c0_i32_4266 v3202
  v3203.toNat
def k0_dev140 (v30 : BitVec 32) : Nat :=
  let c0_i32_4273 : BitVec 32 := 0#32
  let c1_i32_4272 : BitVec 32 := 1#32
  let v3212 : BitVec 32 := Scalar.muli v30 c1_i32_4272
  let v3213 : BitVec 32 := Scalar.addi c0_i32_4273 v3212
  v3213.toNat
def k0_dev141 (v30 : BitVec 32) : Nat :=
  let c0_i32_4320 : BitVec 32 := 0#32
  let c1_i32_4319 : BitVec 32 := 1#32
  let v3234 : BitVec 32 := Scalar.muli v30 c1_i32_4319
  let v3235 : BitVec 32 := Scalar.addi c0_i32_4320 v3234
  v3235.toNat
def k0_dev142 (v17 : BitVec 32) : Nat :=
  let c0_i32_4327 : BitVec 32 := 0#32
  let c1_i32_4326 : BitVec 32 := 1#32
  let v3244 : BitVec 32 := Scalar.muli v17 c1_i32_4326
  let v3245 : BitVec 32 := Scalar.addi c0_i32_4327 v3244
  v3245.toNat
def k0_off76 (v4 : BitVec 32) : Fin 1 → Nat :=
  let c2_i32_4328 : BitVec 32 := 2#32
  let v3246 : BitVec 32 := Scalar.subi v4 c2_i32_4328
  let c17_i32 : BitVec 32 := 17#32
  let v3247 : BitVec 32 := Scalar.subi v3246 c17_i32
  let c32_i32_4329 : BitVec 32 := 32#32
  let c0_i32_4330 : BitVec 32 := 0#32
  let v3248 : BitVec 1 := Scalar.cmpi .eq c32_i32_4329 c0_i32_4330
  let c1_i32_4331 : BitVec 32 := 1#32
  let v3249 : BitVec 32 := Scalar.select v3248 c1_i32_4331 c32_i32_4329
  let v3250 : BitVec 32 := Scalar.remsi v3247 v3249
  let c0_i32_4333 : BitVec 32 := 0#32
  let v3252 : BitVec 1 := Scalar.cmpi .slt v3250 c0_i32_4333
  let c0_i32_4334 : BitVec 32 := 0#32
  let v3253 : BitVec 1 := Scalar.cmpi .slt v3249 c0_i32_4334
  let v3254 : BitVec 1 := Scalar.xori v3252 v3253
  let c0_i32_4332 : BitVec 32 := 0#32
  let v3251 : BitVec 1 := Scalar.cmpi .ne v3250 c0_i32_4332
  let v3255 : BitVec 1 := Scalar.andi v3254 v3251
  let v3256 : BitVec 32 := Scalar.addi v3250 v3249
  let v3257 : BitVec 32 := Scalar.select v3255 v3256 v3250
  let v3258 : Index := Scalar.indexCast v3257
  ![v3258.toNat]
def k0_off77 (v3259 : BitVec 32) : Fin 2 → Nat :=
  let c128_i32_4335 : BitVec 32 := 128#32
  let v3260 : BitVec 32 := Scalar.muli v3259 c128_i32_4335
  let v3261 : Index := Scalar.indexCast v3260
  let c0_4336 : Index := 0#32
  ![v3261.toNat, 0]

def k0_chk40 (v3259 : BitVec 32) : Prop :=
  (∀ a, (k0_off77 v3259) a + S128x128.size a ≤ S4096x128.size a)
theorem k0_off77_inb : ∀ (v3259 : BitVec 32) (k0_hw40 : k0_chk40 v3259), ∀ a, (k0_off77 v3259) a + S128x128.size a ≤ S4096x128.size a := fun v3259 k0_hw40 => k0_hw40

def k0_off78 (v4 : BitVec 32) : Fin 1 → Nat :=
  let c2_i32_4345 : BitVec 32 := 2#32
  let v3274 : BitVec 32 := Scalar.addi v4 c2_i32_4345
  let c17_i32_4346 : BitVec 32 := 17#32
  let v3275 : BitVec 32 := Scalar.addi v3274 c17_i32_4346
  let c32_i32_4347 : BitVec 32 := 32#32
  let c0_i32_4348 : BitVec 32 := 0#32
  let v3276 : BitVec 1 := Scalar.cmpi .eq c32_i32_4347 c0_i32_4348
  let c1_i32_4349 : BitVec 32 := 1#32
  let v3277 : BitVec 32 := Scalar.select v3276 c1_i32_4349 c32_i32_4347
  let v3278 : BitVec 32 := Scalar.remsi v3275 v3277
  let c0_i32_4351 : BitVec 32 := 0#32
  let v3280 : BitVec 1 := Scalar.cmpi .slt v3278 c0_i32_4351
  let c0_i32_4352 : BitVec 32 := 0#32
  let v3281 : BitVec 1 := Scalar.cmpi .slt v3277 c0_i32_4352
  let v3282 : BitVec 1 := Scalar.xori v3280 v3281
  let c0_i32_4350 : BitVec 32 := 0#32
  let v3279 : BitVec 1 := Scalar.cmpi .ne v3278 c0_i32_4350
  let v3283 : BitVec 1 := Scalar.andi v3282 v3279
  let v3284 : BitVec 32 := Scalar.addi v3278 v3277
  let v3285 : BitVec 32 := Scalar.select v3283 v3284 v3278
  let v3286 : Index := Scalar.indexCast v3285
  ![v3286.toNat]
def k0_off79 (v3287 : BitVec 32) : Fin 2 → Nat :=
  let c128_i32_4353 : BitVec 32 := 128#32
  let v3288 : BitVec 32 := Scalar.muli v3287 c128_i32_4353
  let v3289 : Index := Scalar.indexCast v3288
  let c0_4354 : Index := 0#32
  ![v3289.toNat, 0]

def k0_chk41 (v3287 : BitVec 32) : Prop :=
  (∀ a, (k0_off79 v3287) a + S128x128.size a ≤ S4096x128.size a)
theorem k0_off79_inb : ∀ (v3287 : BitVec 32) (k0_hw41 : k0_chk41 v3287), ∀ a, (k0_off79 v3287) a + S128x128.size a ≤ S4096x128.size a := fun v3287 k0_hw41 => k0_hw41

def k0_dev143 (v17 : BitVec 32) : Nat :=
  let c0_i32_4409 : BitVec 32 := 0#32
  let c1_i32_4408 : BitVec 32 := 1#32
  let v3322 : BitVec 32 := Scalar.muli v17 c1_i32_4408
  let v3323 : BitVec 32 := Scalar.addi c0_i32_4409 v3322
  v3323.toNat
def k0_dev144 (v30 : BitVec 32) : Nat :=
  let c0_i32_4416 : BitVec 32 := 0#32
  let c1_i32_4415 : BitVec 32 := 1#32
  let v3332 : BitVec 32 := Scalar.muli v30 c1_i32_4415
  let v3333 : BitVec 32 := Scalar.addi c0_i32_4416 v3332
  v3333.toNat
def k0_dev145 (v30 : BitVec 32) : Nat :=
  let c0_i32_4463 : BitVec 32 := 0#32
  let c1_i32_4462 : BitVec 32 := 1#32
  let v3354 : BitVec 32 := Scalar.muli v30 c1_i32_4462
  let v3355 : BitVec 32 := Scalar.addi c0_i32_4463 v3354
  v3355.toNat
def k0_dev146 (v17 : BitVec 32) : Nat :=
  let c0_i32_4470 : BitVec 32 := 0#32
  let c1_i32_4469 : BitVec 32 := 1#32
  let v3364 : BitVec 32 := Scalar.muli v17 c1_i32_4469
  let v3365 : BitVec 32 := Scalar.addi c0_i32_4470 v3364
  v3365.toNat
def k0_dev147 (v17 : BitVec 32) : Nat :=
  let c0_i32_4517 : BitVec 32 := 0#32
  let c1_i32_4516 : BitVec 32 := 1#32
  let v3386 : BitVec 32 := Scalar.muli v17 c1_i32_4516
  let v3387 : BitVec 32 := Scalar.addi c0_i32_4517 v3386
  v3387.toNat
def k0_dev148 (v30 : BitVec 32) : Nat :=
  let c0_i32_4524 : BitVec 32 := 0#32
  let c1_i32_4523 : BitVec 32 := 1#32
  let v3396 : BitVec 32 := Scalar.muli v30 c1_i32_4523
  let v3397 : BitVec 32 := Scalar.addi c0_i32_4524 v3396
  v3397.toNat
def k0_dev149 (v30 : BitVec 32) : Nat :=
  let c0_i32_4571 : BitVec 32 := 0#32
  let c1_i32_4570 : BitVec 32 := 1#32
  let v3418 : BitVec 32 := Scalar.muli v30 c1_i32_4570
  let v3419 : BitVec 32 := Scalar.addi c0_i32_4571 v3418
  v3419.toNat
def k0_dev150 (v17 : BitVec 32) : Nat :=
  let c0_i32_4578 : BitVec 32 := 0#32
  let c1_i32_4577 : BitVec 32 := 1#32
  let v3428 : BitVec 32 := Scalar.muli v17 c1_i32_4577
  let v3429 : BitVec 32 := Scalar.addi c0_i32_4578 v3428
  v3429.toNat
def k0_off80 (v4 : BitVec 32) : Fin 1 → Nat :=
  let c2_i32_4579 : BitVec 32 := 2#32
  let v3430 : BitVec 32 := Scalar.subi v4 c2_i32_4579
  let c18_i32 : BitVec 32 := 18#32
  let v3431 : BitVec 32 := Scalar.subi v3430 c18_i32
  let c32_i32_4580 : BitVec 32 := 32#32
  let c0_i32_4581 : BitVec 32 := 0#32
  let v3432 : BitVec 1 := Scalar.cmpi .eq c32_i32_4580 c0_i32_4581
  let c1_i32_4582 : BitVec 32 := 1#32
  let v3433 : BitVec 32 := Scalar.select v3432 c1_i32_4582 c32_i32_4580
  let v3434 : BitVec 32 := Scalar.remsi v3431 v3433
  let c0_i32_4584 : BitVec 32 := 0#32
  let v3436 : BitVec 1 := Scalar.cmpi .slt v3434 c0_i32_4584
  let c0_i32_4585 : BitVec 32 := 0#32
  let v3437 : BitVec 1 := Scalar.cmpi .slt v3433 c0_i32_4585
  let v3438 : BitVec 1 := Scalar.xori v3436 v3437
  let c0_i32_4583 : BitVec 32 := 0#32
  let v3435 : BitVec 1 := Scalar.cmpi .ne v3434 c0_i32_4583
  let v3439 : BitVec 1 := Scalar.andi v3438 v3435
  let v3440 : BitVec 32 := Scalar.addi v3434 v3433
  let v3441 : BitVec 32 := Scalar.select v3439 v3440 v3434
  let v3442 : Index := Scalar.indexCast v3441
  ![v3442.toNat]
def k0_off81 (v3443 : BitVec 32) : Fin 2 → Nat :=
  let c128_i32_4586 : BitVec 32 := 128#32
  let v3444 : BitVec 32 := Scalar.muli v3443 c128_i32_4586
  let v3445 : Index := Scalar.indexCast v3444
  let c0_4587 : Index := 0#32
  ![v3445.toNat, 0]

def k0_chk42 (v3443 : BitVec 32) : Prop :=
  (∀ a, (k0_off81 v3443) a + S128x128.size a ≤ S4096x128.size a)
theorem k0_off81_inb : ∀ (v3443 : BitVec 32) (k0_hw42 : k0_chk42 v3443), ∀ a, (k0_off81 v3443) a + S128x128.size a ≤ S4096x128.size a := fun v3443 k0_hw42 => k0_hw42

def k0_off82 (v4 : BitVec 32) : Fin 1 → Nat :=
  let c2_i32_4596 : BitVec 32 := 2#32
  let v3458 : BitVec 32 := Scalar.addi v4 c2_i32_4596
  let c18_i32_4597 : BitVec 32 := 18#32
  let v3459 : BitVec 32 := Scalar.addi v3458 c18_i32_4597
  let c32_i32_4598 : BitVec 32 := 32#32
  let c0_i32_4599 : BitVec 32 := 0#32
  let v3460 : BitVec 1 := Scalar.cmpi .eq c32_i32_4598 c0_i32_4599
  let c1_i32_4600 : BitVec 32 := 1#32
  let v3461 : BitVec 32 := Scalar.select v3460 c1_i32_4600 c32_i32_4598
  let v3462 : BitVec 32 := Scalar.remsi v3459 v3461
  let c0_i32_4602 : BitVec 32 := 0#32
  let v3464 : BitVec 1 := Scalar.cmpi .slt v3462 c0_i32_4602
  let c0_i32_4603 : BitVec 32 := 0#32
  let v3465 : BitVec 1 := Scalar.cmpi .slt v3461 c0_i32_4603
  let v3466 : BitVec 1 := Scalar.xori v3464 v3465
  let c0_i32_4601 : BitVec 32 := 0#32
  let v3463 : BitVec 1 := Scalar.cmpi .ne v3462 c0_i32_4601
  let v3467 : BitVec 1 := Scalar.andi v3466 v3463
  let v3468 : BitVec 32 := Scalar.addi v3462 v3461
  let v3469 : BitVec 32 := Scalar.select v3467 v3468 v3462
  let v3470 : Index := Scalar.indexCast v3469
  ![v3470.toNat]
def k0_off83 (v3471 : BitVec 32) : Fin 2 → Nat :=
  let c128_i32_4604 : BitVec 32 := 128#32
  let v3472 : BitVec 32 := Scalar.muli v3471 c128_i32_4604
  let v3473 : Index := Scalar.indexCast v3472
  let c0_4605 : Index := 0#32
  ![v3473.toNat, 0]

def k0_chk43 (v3471 : BitVec 32) : Prop :=
  (∀ a, (k0_off83 v3471) a + S128x128.size a ≤ S4096x128.size a)
theorem k0_off83_inb : ∀ (v3471 : BitVec 32) (k0_hw43 : k0_chk43 v3471), ∀ a, (k0_off83 v3471) a + S128x128.size a ≤ S4096x128.size a := fun v3471 k0_hw43 => k0_hw43

def k0_dev151 (v17 : BitVec 32) : Nat :=
  let c0_i32_4660 : BitVec 32 := 0#32
  let c1_i32_4659 : BitVec 32 := 1#32
  let v3506 : BitVec 32 := Scalar.muli v17 c1_i32_4659
  let v3507 : BitVec 32 := Scalar.addi c0_i32_4660 v3506
  v3507.toNat
def k0_dev152 (v30 : BitVec 32) : Nat :=
  let c0_i32_4667 : BitVec 32 := 0#32
  let c1_i32_4666 : BitVec 32 := 1#32
  let v3516 : BitVec 32 := Scalar.muli v30 c1_i32_4666
  let v3517 : BitVec 32 := Scalar.addi c0_i32_4667 v3516
  v3517.toNat
def k0_dev153 (v30 : BitVec 32) : Nat :=
  let c0_i32_4714 : BitVec 32 := 0#32
  let c1_i32_4713 : BitVec 32 := 1#32
  let v3538 : BitVec 32 := Scalar.muli v30 c1_i32_4713
  let v3539 : BitVec 32 := Scalar.addi c0_i32_4714 v3538
  v3539.toNat
def k0_dev154 (v17 : BitVec 32) : Nat :=
  let c0_i32_4721 : BitVec 32 := 0#32
  let c1_i32_4720 : BitVec 32 := 1#32
  let v3548 : BitVec 32 := Scalar.muli v17 c1_i32_4720
  let v3549 : BitVec 32 := Scalar.addi c0_i32_4721 v3548
  v3549.toNat
def k0_dev155 (v17 : BitVec 32) : Nat :=
  let c0_i32_4768 : BitVec 32 := 0#32
  let c1_i32_4767 : BitVec 32 := 1#32
  let v3570 : BitVec 32 := Scalar.muli v17 c1_i32_4767
  let v3571 : BitVec 32 := Scalar.addi c0_i32_4768 v3570
  v3571.toNat
def k0_dev156 (v30 : BitVec 32) : Nat :=
  let c0_i32_4775 : BitVec 32 := 0#32
  let c1_i32_4774 : BitVec 32 := 1#32
  let v3580 : BitVec 32 := Scalar.muli v30 c1_i32_4774
  let v3581 : BitVec 32 := Scalar.addi c0_i32_4775 v3580
  v3581.toNat
def k0_dev157 (v30 : BitVec 32) : Nat :=
  let c0_i32_4822 : BitVec 32 := 0#32
  let c1_i32_4821 : BitVec 32 := 1#32
  let v3602 : BitVec 32 := Scalar.muli v30 c1_i32_4821
  let v3603 : BitVec 32 := Scalar.addi c0_i32_4822 v3602
  v3603.toNat
def k0_dev158 (v17 : BitVec 32) : Nat :=
  let c0_i32_4829 : BitVec 32 := 0#32
  let c1_i32_4828 : BitVec 32 := 1#32
  let v3612 : BitVec 32 := Scalar.muli v17 c1_i32_4828
  let v3613 : BitVec 32 := Scalar.addi c0_i32_4829 v3612
  v3613.toNat
def k0_off84 (v4 : BitVec 32) : Fin 1 → Nat :=
  let c2_i32_4830 : BitVec 32 := 2#32
  let v3614 : BitVec 32 := Scalar.subi v4 c2_i32_4830
  let c19_i32 : BitVec 32 := 19#32
  let v3615 : BitVec 32 := Scalar.subi v3614 c19_i32
  let c32_i32_4831 : BitVec 32 := 32#32
  let c0_i32_4832 : BitVec 32 := 0#32
  let v3616 : BitVec 1 := Scalar.cmpi .eq c32_i32_4831 c0_i32_4832
  let c1_i32_4833 : BitVec 32 := 1#32
  let v3617 : BitVec 32 := Scalar.select v3616 c1_i32_4833 c32_i32_4831
  let v3618 : BitVec 32 := Scalar.remsi v3615 v3617
  let c0_i32_4835 : BitVec 32 := 0#32
  let v3620 : BitVec 1 := Scalar.cmpi .slt v3618 c0_i32_4835
  let c0_i32_4836 : BitVec 32 := 0#32
  let v3621 : BitVec 1 := Scalar.cmpi .slt v3617 c0_i32_4836
  let v3622 : BitVec 1 := Scalar.xori v3620 v3621
  let c0_i32_4834 : BitVec 32 := 0#32
  let v3619 : BitVec 1 := Scalar.cmpi .ne v3618 c0_i32_4834
  let v3623 : BitVec 1 := Scalar.andi v3622 v3619
  let v3624 : BitVec 32 := Scalar.addi v3618 v3617
  let v3625 : BitVec 32 := Scalar.select v3623 v3624 v3618
  let v3626 : Index := Scalar.indexCast v3625
  ![v3626.toNat]
def k0_off85 (v3627 : BitVec 32) : Fin 2 → Nat :=
  let c128_i32_4837 : BitVec 32 := 128#32
  let v3628 : BitVec 32 := Scalar.muli v3627 c128_i32_4837
  let v3629 : Index := Scalar.indexCast v3628
  let c0_4838 : Index := 0#32
  ![v3629.toNat, 0]

def k0_chk44 (v3627 : BitVec 32) : Prop :=
  (∀ a, (k0_off85 v3627) a + S128x128.size a ≤ S4096x128.size a)
theorem k0_off85_inb : ∀ (v3627 : BitVec 32) (k0_hw44 : k0_chk44 v3627), ∀ a, (k0_off85 v3627) a + S128x128.size a ≤ S4096x128.size a := fun v3627 k0_hw44 => k0_hw44

def k0_off86 (v4 : BitVec 32) : Fin 1 → Nat :=
  let c2_i32_4847 : BitVec 32 := 2#32
  let v3642 : BitVec 32 := Scalar.addi v4 c2_i32_4847
  let c19_i32_4848 : BitVec 32 := 19#32
  let v3643 : BitVec 32 := Scalar.addi v3642 c19_i32_4848
  let c32_i32_4849 : BitVec 32 := 32#32
  let c0_i32_4850 : BitVec 32 := 0#32
  let v3644 : BitVec 1 := Scalar.cmpi .eq c32_i32_4849 c0_i32_4850
  let c1_i32_4851 : BitVec 32 := 1#32
  let v3645 : BitVec 32 := Scalar.select v3644 c1_i32_4851 c32_i32_4849
  let v3646 : BitVec 32 := Scalar.remsi v3643 v3645
  let c0_i32_4853 : BitVec 32 := 0#32
  let v3648 : BitVec 1 := Scalar.cmpi .slt v3646 c0_i32_4853
  let c0_i32_4854 : BitVec 32 := 0#32
  let v3649 : BitVec 1 := Scalar.cmpi .slt v3645 c0_i32_4854
  let v3650 : BitVec 1 := Scalar.xori v3648 v3649
  let c0_i32_4852 : BitVec 32 := 0#32
  let v3647 : BitVec 1 := Scalar.cmpi .ne v3646 c0_i32_4852
  let v3651 : BitVec 1 := Scalar.andi v3650 v3647
  let v3652 : BitVec 32 := Scalar.addi v3646 v3645
  let v3653 : BitVec 32 := Scalar.select v3651 v3652 v3646
  let v3654 : Index := Scalar.indexCast v3653
  ![v3654.toNat]
def k0_off87 (v3655 : BitVec 32) : Fin 2 → Nat :=
  let c128_i32_4855 : BitVec 32 := 128#32
  let v3656 : BitVec 32 := Scalar.muli v3655 c128_i32_4855
  let v3657 : Index := Scalar.indexCast v3656
  let c0_4856 : Index := 0#32
  ![v3657.toNat, 0]

def k0_chk45 (v3655 : BitVec 32) : Prop :=
  (∀ a, (k0_off87 v3655) a + S128x128.size a ≤ S4096x128.size a)
theorem k0_off87_inb : ∀ (v3655 : BitVec 32) (k0_hw45 : k0_chk45 v3655), ∀ a, (k0_off87 v3655) a + S128x128.size a ≤ S4096x128.size a := fun v3655 k0_hw45 => k0_hw45

def k0_dev159 (v17 : BitVec 32) : Nat :=
  let c0_i32_4911 : BitVec 32 := 0#32
  let c1_i32_4910 : BitVec 32 := 1#32
  let v3690 : BitVec 32 := Scalar.muli v17 c1_i32_4910
  let v3691 : BitVec 32 := Scalar.addi c0_i32_4911 v3690
  v3691.toNat
def k0_dev160 (v30 : BitVec 32) : Nat :=
  let c0_i32_4918 : BitVec 32 := 0#32
  let c1_i32_4917 : BitVec 32 := 1#32
  let v3700 : BitVec 32 := Scalar.muli v30 c1_i32_4917
  let v3701 : BitVec 32 := Scalar.addi c0_i32_4918 v3700
  v3701.toNat
def k0_dev161 (v30 : BitVec 32) : Nat :=
  let c0_i32_4965 : BitVec 32 := 0#32
  let c1_i32_4964 : BitVec 32 := 1#32
  let v3722 : BitVec 32 := Scalar.muli v30 c1_i32_4964
  let v3723 : BitVec 32 := Scalar.addi c0_i32_4965 v3722
  v3723.toNat
def k0_dev162 (v17 : BitVec 32) : Nat :=
  let c0_i32_4972 : BitVec 32 := 0#32
  let c1_i32_4971 : BitVec 32 := 1#32
  let v3732 : BitVec 32 := Scalar.muli v17 c1_i32_4971
  let v3733 : BitVec 32 := Scalar.addi c0_i32_4972 v3732
  v3733.toNat
def k0_dev163 (v17 : BitVec 32) : Nat :=
  let c0_i32_5019 : BitVec 32 := 0#32
  let c1_i32_5018 : BitVec 32 := 1#32
  let v3754 : BitVec 32 := Scalar.muli v17 c1_i32_5018
  let v3755 : BitVec 32 := Scalar.addi c0_i32_5019 v3754
  v3755.toNat
def k0_dev164 (v30 : BitVec 32) : Nat :=
  let c0_i32_5026 : BitVec 32 := 0#32
  let c1_i32_5025 : BitVec 32 := 1#32
  let v3764 : BitVec 32 := Scalar.muli v30 c1_i32_5025
  let v3765 : BitVec 32 := Scalar.addi c0_i32_5026 v3764
  v3765.toNat
def k0_dev165 (v30 : BitVec 32) : Nat :=
  let c0_i32_5073 : BitVec 32 := 0#32
  let c1_i32_5072 : BitVec 32 := 1#32
  let v3786 : BitVec 32 := Scalar.muli v30 c1_i32_5072
  let v3787 : BitVec 32 := Scalar.addi c0_i32_5073 v3786
  v3787.toNat
def k0_dev166 (v17 : BitVec 32) : Nat :=
  let c0_i32_5080 : BitVec 32 := 0#32
  let c1_i32_5079 : BitVec 32 := 1#32
  let v3796 : BitVec 32 := Scalar.muli v17 c1_i32_5079
  let v3797 : BitVec 32 := Scalar.addi c0_i32_5080 v3796
  v3797.toNat
def k0_off88 (v4 : BitVec 32) : Fin 1 → Nat :=
  let c2_i32_5081 : BitVec 32 := 2#32
  let v3798 : BitVec 32 := Scalar.subi v4 c2_i32_5081
  let c20_i32 : BitVec 32 := 20#32
  let v3799 : BitVec 32 := Scalar.subi v3798 c20_i32
  let c32_i32_5082 : BitVec 32 := 32#32
  let c0_i32_5083 : BitVec 32 := 0#32
  let v3800 : BitVec 1 := Scalar.cmpi .eq c32_i32_5082 c0_i32_5083
  let c1_i32_5084 : BitVec 32 := 1#32
  let v3801 : BitVec 32 := Scalar.select v3800 c1_i32_5084 c32_i32_5082
  let v3802 : BitVec 32 := Scalar.remsi v3799 v3801
  let c0_i32_5086 : BitVec 32 := 0#32
  let v3804 : BitVec 1 := Scalar.cmpi .slt v3802 c0_i32_5086
  let c0_i32_5087 : BitVec 32 := 0#32
  let v3805 : BitVec 1 := Scalar.cmpi .slt v3801 c0_i32_5087
  let v3806 : BitVec 1 := Scalar.xori v3804 v3805
  let c0_i32_5085 : BitVec 32 := 0#32
  let v3803 : BitVec 1 := Scalar.cmpi .ne v3802 c0_i32_5085
  let v3807 : BitVec 1 := Scalar.andi v3806 v3803
  let v3808 : BitVec 32 := Scalar.addi v3802 v3801
  let v3809 : BitVec 32 := Scalar.select v3807 v3808 v3802
  let v3810 : Index := Scalar.indexCast v3809
  ![v3810.toNat]
def k0_off89 (v3811 : BitVec 32) : Fin 2 → Nat :=
  let c128_i32_5088 : BitVec 32 := 128#32
  let v3812 : BitVec 32 := Scalar.muli v3811 c128_i32_5088
  let v3813 : Index := Scalar.indexCast v3812
  let c0_5089 : Index := 0#32
  ![v3813.toNat, 0]

def k0_chk46 (v3811 : BitVec 32) : Prop :=
  (∀ a, (k0_off89 v3811) a + S128x128.size a ≤ S4096x128.size a)
theorem k0_off89_inb : ∀ (v3811 : BitVec 32) (k0_hw46 : k0_chk46 v3811), ∀ a, (k0_off89 v3811) a + S128x128.size a ≤ S4096x128.size a := fun v3811 k0_hw46 => k0_hw46

def k0_off90 (v4 : BitVec 32) : Fin 1 → Nat :=
  let c2_i32_5098 : BitVec 32 := 2#32
  let v3826 : BitVec 32 := Scalar.addi v4 c2_i32_5098
  let c20_i32_5099 : BitVec 32 := 20#32
  let v3827 : BitVec 32 := Scalar.addi v3826 c20_i32_5099
  let c32_i32_5100 : BitVec 32 := 32#32
  let c0_i32_5101 : BitVec 32 := 0#32
  let v3828 : BitVec 1 := Scalar.cmpi .eq c32_i32_5100 c0_i32_5101
  let c1_i32_5102 : BitVec 32 := 1#32
  let v3829 : BitVec 32 := Scalar.select v3828 c1_i32_5102 c32_i32_5100
  let v3830 : BitVec 32 := Scalar.remsi v3827 v3829
  let c0_i32_5104 : BitVec 32 := 0#32
  let v3832 : BitVec 1 := Scalar.cmpi .slt v3830 c0_i32_5104
  let c0_i32_5105 : BitVec 32 := 0#32
  let v3833 : BitVec 1 := Scalar.cmpi .slt v3829 c0_i32_5105
  let v3834 : BitVec 1 := Scalar.xori v3832 v3833
  let c0_i32_5103 : BitVec 32 := 0#32
  let v3831 : BitVec 1 := Scalar.cmpi .ne v3830 c0_i32_5103
  let v3835 : BitVec 1 := Scalar.andi v3834 v3831
  let v3836 : BitVec 32 := Scalar.addi v3830 v3829
  let v3837 : BitVec 32 := Scalar.select v3835 v3836 v3830
  let v3838 : Index := Scalar.indexCast v3837
  ![v3838.toNat]
def k0_off91 (v3839 : BitVec 32) : Fin 2 → Nat :=
  let c128_i32_5106 : BitVec 32 := 128#32
  let v3840 : BitVec 32 := Scalar.muli v3839 c128_i32_5106
  let v3841 : Index := Scalar.indexCast v3840
  let c0_5107 : Index := 0#32
  ![v3841.toNat, 0]

def k0_chk47 (v3839 : BitVec 32) : Prop :=
  (∀ a, (k0_off91 v3839) a + S128x128.size a ≤ S4096x128.size a)
theorem k0_off91_inb : ∀ (v3839 : BitVec 32) (k0_hw47 : k0_chk47 v3839), ∀ a, (k0_off91 v3839) a + S128x128.size a ≤ S4096x128.size a := fun v3839 k0_hw47 => k0_hw47

def k0_dev167 (v17 : BitVec 32) : Nat :=
  let c0_i32_5162 : BitVec 32 := 0#32
  let c1_i32_5161 : BitVec 32 := 1#32
  let v3874 : BitVec 32 := Scalar.muli v17 c1_i32_5161
  let v3875 : BitVec 32 := Scalar.addi c0_i32_5162 v3874
  v3875.toNat
def k0_dev168 (v30 : BitVec 32) : Nat :=
  let c0_i32_5169 : BitVec 32 := 0#32
  let c1_i32_5168 : BitVec 32 := 1#32
  let v3884 : BitVec 32 := Scalar.muli v30 c1_i32_5168
  let v3885 : BitVec 32 := Scalar.addi c0_i32_5169 v3884
  v3885.toNat
def k0_dev169 (v30 : BitVec 32) : Nat :=
  let c0_i32_5216 : BitVec 32 := 0#32
  let c1_i32_5215 : BitVec 32 := 1#32
  let v3906 : BitVec 32 := Scalar.muli v30 c1_i32_5215
  let v3907 : BitVec 32 := Scalar.addi c0_i32_5216 v3906
  v3907.toNat
def k0_dev170 (v17 : BitVec 32) : Nat :=
  let c0_i32_5223 : BitVec 32 := 0#32
  let c1_i32_5222 : BitVec 32 := 1#32
  let v3916 : BitVec 32 := Scalar.muli v17 c1_i32_5222
  let v3917 : BitVec 32 := Scalar.addi c0_i32_5223 v3916
  v3917.toNat
def k0_dev171 (v17 : BitVec 32) : Nat :=
  let c0_i32_5270 : BitVec 32 := 0#32
  let c1_i32_5269 : BitVec 32 := 1#32
  let v3938 : BitVec 32 := Scalar.muli v17 c1_i32_5269
  let v3939 : BitVec 32 := Scalar.addi c0_i32_5270 v3938
  v3939.toNat
def k0_dev172 (v30 : BitVec 32) : Nat :=
  let c0_i32_5277 : BitVec 32 := 0#32
  let c1_i32_5276 : BitVec 32 := 1#32
  let v3948 : BitVec 32 := Scalar.muli v30 c1_i32_5276
  let v3949 : BitVec 32 := Scalar.addi c0_i32_5277 v3948
  v3949.toNat
def k0_dev173 (v30 : BitVec 32) : Nat :=
  let c0_i32_5324 : BitVec 32 := 0#32
  let c1_i32_5323 : BitVec 32 := 1#32
  let v3970 : BitVec 32 := Scalar.muli v30 c1_i32_5323
  let v3971 : BitVec 32 := Scalar.addi c0_i32_5324 v3970
  v3971.toNat
def k0_dev174 (v17 : BitVec 32) : Nat :=
  let c0_i32_5331 : BitVec 32 := 0#32
  let c1_i32_5330 : BitVec 32 := 1#32
  let v3980 : BitVec 32 := Scalar.muli v17 c1_i32_5330
  let v3981 : BitVec 32 := Scalar.addi c0_i32_5331 v3980
  v3981.toNat
def k0_off92 (v4 : BitVec 32) : Fin 1 → Nat :=
  let c2_i32_5332 : BitVec 32 := 2#32
  let v3982 : BitVec 32 := Scalar.subi v4 c2_i32_5332
  let c21_i32 : BitVec 32 := 21#32
  let v3983 : BitVec 32 := Scalar.subi v3982 c21_i32
  let c32_i32_5333 : BitVec 32 := 32#32
  let c0_i32_5334 : BitVec 32 := 0#32
  let v3984 : BitVec 1 := Scalar.cmpi .eq c32_i32_5333 c0_i32_5334
  let c1_i32_5335 : BitVec 32 := 1#32
  let v3985 : BitVec 32 := Scalar.select v3984 c1_i32_5335 c32_i32_5333
  let v3986 : BitVec 32 := Scalar.remsi v3983 v3985
  let c0_i32_5337 : BitVec 32 := 0#32
  let v3988 : BitVec 1 := Scalar.cmpi .slt v3986 c0_i32_5337
  let c0_i32_5338 : BitVec 32 := 0#32
  let v3989 : BitVec 1 := Scalar.cmpi .slt v3985 c0_i32_5338
  let v3990 : BitVec 1 := Scalar.xori v3988 v3989
  let c0_i32_5336 : BitVec 32 := 0#32
  let v3987 : BitVec 1 := Scalar.cmpi .ne v3986 c0_i32_5336
  let v3991 : BitVec 1 := Scalar.andi v3990 v3987
  let v3992 : BitVec 32 := Scalar.addi v3986 v3985
  let v3993 : BitVec 32 := Scalar.select v3991 v3992 v3986
  let v3994 : Index := Scalar.indexCast v3993
  ![v3994.toNat]
def k0_off93 (v3995 : BitVec 32) : Fin 2 → Nat :=
  let c128_i32_5339 : BitVec 32 := 128#32
  let v3996 : BitVec 32 := Scalar.muli v3995 c128_i32_5339
  let v3997 : Index := Scalar.indexCast v3996
  let c0_5340 : Index := 0#32
  ![v3997.toNat, 0]

def k0_chk48 (v3995 : BitVec 32) : Prop :=
  (∀ a, (k0_off93 v3995) a + S128x128.size a ≤ S4096x128.size a)
theorem k0_off93_inb : ∀ (v3995 : BitVec 32) (k0_hw48 : k0_chk48 v3995), ∀ a, (k0_off93 v3995) a + S128x128.size a ≤ S4096x128.size a := fun v3995 k0_hw48 => k0_hw48

def k0_off94 (v4 : BitVec 32) : Fin 1 → Nat :=
  let c2_i32_5349 : BitVec 32 := 2#32
  let v4010 : BitVec 32 := Scalar.addi v4 c2_i32_5349
  let c21_i32_5350 : BitVec 32 := 21#32
  let v4011 : BitVec 32 := Scalar.addi v4010 c21_i32_5350
  let c32_i32_5351 : BitVec 32 := 32#32
  let c0_i32_5352 : BitVec 32 := 0#32
  let v4012 : BitVec 1 := Scalar.cmpi .eq c32_i32_5351 c0_i32_5352
  let c1_i32_5353 : BitVec 32 := 1#32
  let v4013 : BitVec 32 := Scalar.select v4012 c1_i32_5353 c32_i32_5351
  let v4014 : BitVec 32 := Scalar.remsi v4011 v4013
  let c0_i32_5355 : BitVec 32 := 0#32
  let v4016 : BitVec 1 := Scalar.cmpi .slt v4014 c0_i32_5355
  let c0_i32_5356 : BitVec 32 := 0#32
  let v4017 : BitVec 1 := Scalar.cmpi .slt v4013 c0_i32_5356
  let v4018 : BitVec 1 := Scalar.xori v4016 v4017
  let c0_i32_5354 : BitVec 32 := 0#32
  let v4015 : BitVec 1 := Scalar.cmpi .ne v4014 c0_i32_5354
  let v4019 : BitVec 1 := Scalar.andi v4018 v4015
  let v4020 : BitVec 32 := Scalar.addi v4014 v4013
  let v4021 : BitVec 32 := Scalar.select v4019 v4020 v4014
  let v4022 : Index := Scalar.indexCast v4021
  ![v4022.toNat]
def k0_off95 (v4023 : BitVec 32) : Fin 2 → Nat :=
  let c128_i32_5357 : BitVec 32 := 128#32
  let v4024 : BitVec 32 := Scalar.muli v4023 c128_i32_5357
  let v4025 : Index := Scalar.indexCast v4024
  let c0_5358 : Index := 0#32
  ![v4025.toNat, 0]

def k0_chk49 (v4023 : BitVec 32) : Prop :=
  (∀ a, (k0_off95 v4023) a + S128x128.size a ≤ S4096x128.size a)
theorem k0_off95_inb : ∀ (v4023 : BitVec 32) (k0_hw49 : k0_chk49 v4023), ∀ a, (k0_off95 v4023) a + S128x128.size a ≤ S4096x128.size a := fun v4023 k0_hw49 => k0_hw49

def k0_dev175 (v17 : BitVec 32) : Nat :=
  let c0_i32_5413 : BitVec 32 := 0#32
  let c1_i32_5412 : BitVec 32 := 1#32
  let v4058 : BitVec 32 := Scalar.muli v17 c1_i32_5412
  let v4059 : BitVec 32 := Scalar.addi c0_i32_5413 v4058
  v4059.toNat
def k0_dev176 (v30 : BitVec 32) : Nat :=
  let c0_i32_5420 : BitVec 32 := 0#32
  let c1_i32_5419 : BitVec 32 := 1#32
  let v4068 : BitVec 32 := Scalar.muli v30 c1_i32_5419
  let v4069 : BitVec 32 := Scalar.addi c0_i32_5420 v4068
  v4069.toNat
def k0_dev177 (v30 : BitVec 32) : Nat :=
  let c0_i32_5467 : BitVec 32 := 0#32
  let c1_i32_5466 : BitVec 32 := 1#32
  let v4090 : BitVec 32 := Scalar.muli v30 c1_i32_5466
  let v4091 : BitVec 32 := Scalar.addi c0_i32_5467 v4090
  v4091.toNat
def k0_dev178 (v17 : BitVec 32) : Nat :=
  let c0_i32_5474 : BitVec 32 := 0#32
  let c1_i32_5473 : BitVec 32 := 1#32
  let v4100 : BitVec 32 := Scalar.muli v17 c1_i32_5473
  let v4101 : BitVec 32 := Scalar.addi c0_i32_5474 v4100
  v4101.toNat
def k0_dev179 (v17 : BitVec 32) : Nat :=
  let c0_i32_5521 : BitVec 32 := 0#32
  let c1_i32_5520 : BitVec 32 := 1#32
  let v4122 : BitVec 32 := Scalar.muli v17 c1_i32_5520
  let v4123 : BitVec 32 := Scalar.addi c0_i32_5521 v4122
  v4123.toNat
def k0_dev180 (v30 : BitVec 32) : Nat :=
  let c0_i32_5528 : BitVec 32 := 0#32
  let c1_i32_5527 : BitVec 32 := 1#32
  let v4132 : BitVec 32 := Scalar.muli v30 c1_i32_5527
  let v4133 : BitVec 32 := Scalar.addi c0_i32_5528 v4132
  v4133.toNat
def k0_dev181 (v30 : BitVec 32) : Nat :=
  let c0_i32_5575 : BitVec 32 := 0#32
  let c1_i32_5574 : BitVec 32 := 1#32
  let v4154 : BitVec 32 := Scalar.muli v30 c1_i32_5574
  let v4155 : BitVec 32 := Scalar.addi c0_i32_5575 v4154
  v4155.toNat
def k0_dev182 (v17 : BitVec 32) : Nat :=
  let c0_i32_5582 : BitVec 32 := 0#32
  let c1_i32_5581 : BitVec 32 := 1#32
  let v4164 : BitVec 32 := Scalar.muli v17 c1_i32_5581
  let v4165 : BitVec 32 := Scalar.addi c0_i32_5582 v4164
  v4165.toNat
def k0_off96 (v4 : BitVec 32) : Fin 1 → Nat :=
  let c2_i32_5583 : BitVec 32 := 2#32
  let v4166 : BitVec 32 := Scalar.subi v4 c2_i32_5583
  let c22_i32 : BitVec 32 := 22#32
  let v4167 : BitVec 32 := Scalar.subi v4166 c22_i32
  let c32_i32_5584 : BitVec 32 := 32#32
  let c0_i32_5585 : BitVec 32 := 0#32
  let v4168 : BitVec 1 := Scalar.cmpi .eq c32_i32_5584 c0_i32_5585
  let c1_i32_5586 : BitVec 32 := 1#32
  let v4169 : BitVec 32 := Scalar.select v4168 c1_i32_5586 c32_i32_5584
  let v4170 : BitVec 32 := Scalar.remsi v4167 v4169
  let c0_i32_5588 : BitVec 32 := 0#32
  let v4172 : BitVec 1 := Scalar.cmpi .slt v4170 c0_i32_5588
  let c0_i32_5589 : BitVec 32 := 0#32
  let v4173 : BitVec 1 := Scalar.cmpi .slt v4169 c0_i32_5589
  let v4174 : BitVec 1 := Scalar.xori v4172 v4173
  let c0_i32_5587 : BitVec 32 := 0#32
  let v4171 : BitVec 1 := Scalar.cmpi .ne v4170 c0_i32_5587
  let v4175 : BitVec 1 := Scalar.andi v4174 v4171
  let v4176 : BitVec 32 := Scalar.addi v4170 v4169
  let v4177 : BitVec 32 := Scalar.select v4175 v4176 v4170
  let v4178 : Index := Scalar.indexCast v4177
  ![v4178.toNat]
def k0_off97 (v4179 : BitVec 32) : Fin 2 → Nat :=
  let c128_i32_5590 : BitVec 32 := 128#32
  let v4180 : BitVec 32 := Scalar.muli v4179 c128_i32_5590
  let v4181 : Index := Scalar.indexCast v4180
  let c0_5591 : Index := 0#32
  ![v4181.toNat, 0]

def k0_chk50 (v4179 : BitVec 32) : Prop :=
  (∀ a, (k0_off97 v4179) a + S128x128.size a ≤ S4096x128.size a)
theorem k0_off97_inb : ∀ (v4179 : BitVec 32) (k0_hw50 : k0_chk50 v4179), ∀ a, (k0_off97 v4179) a + S128x128.size a ≤ S4096x128.size a := fun v4179 k0_hw50 => k0_hw50

def k0_off98 (v4 : BitVec 32) : Fin 1 → Nat :=
  let c2_i32_5600 : BitVec 32 := 2#32
  let v4194 : BitVec 32 := Scalar.addi v4 c2_i32_5600
  let c22_i32_5601 : BitVec 32 := 22#32
  let v4195 : BitVec 32 := Scalar.addi v4194 c22_i32_5601
  let c32_i32_5602 : BitVec 32 := 32#32
  let c0_i32_5603 : BitVec 32 := 0#32
  let v4196 : BitVec 1 := Scalar.cmpi .eq c32_i32_5602 c0_i32_5603
  let c1_i32_5604 : BitVec 32 := 1#32
  let v4197 : BitVec 32 := Scalar.select v4196 c1_i32_5604 c32_i32_5602
  let v4198 : BitVec 32 := Scalar.remsi v4195 v4197
  let c0_i32_5606 : BitVec 32 := 0#32
  let v4200 : BitVec 1 := Scalar.cmpi .slt v4198 c0_i32_5606
  let c0_i32_5607 : BitVec 32 := 0#32
  let v4201 : BitVec 1 := Scalar.cmpi .slt v4197 c0_i32_5607
  let v4202 : BitVec 1 := Scalar.xori v4200 v4201
  let c0_i32_5605 : BitVec 32 := 0#32
  let v4199 : BitVec 1 := Scalar.cmpi .ne v4198 c0_i32_5605
  let v4203 : BitVec 1 := Scalar.andi v4202 v4199
  let v4204 : BitVec 32 := Scalar.addi v4198 v4197
  let v4205 : BitVec 32 := Scalar.select v4203 v4204 v4198
  let v4206 : Index := Scalar.indexCast v4205
  ![v4206.toNat]
def k0_off99 (v4207 : BitVec 32) : Fin 2 → Nat :=
  let c128_i32_5608 : BitVec 32 := 128#32
  let v4208 : BitVec 32 := Scalar.muli v4207 c128_i32_5608
  let v4209 : Index := Scalar.indexCast v4208
  let c0_5609 : Index := 0#32
  ![v4209.toNat, 0]

def k0_chk51 (v4207 : BitVec 32) : Prop :=
  (∀ a, (k0_off99 v4207) a + S128x128.size a ≤ S4096x128.size a)
theorem k0_off99_inb : ∀ (v4207 : BitVec 32) (k0_hw51 : k0_chk51 v4207), ∀ a, (k0_off99 v4207) a + S128x128.size a ≤ S4096x128.size a := fun v4207 k0_hw51 => k0_hw51

def k0_dev183 (v17 : BitVec 32) : Nat :=
  let c0_i32_5664 : BitVec 32 := 0#32
  let c1_i32_5663 : BitVec 32 := 1#32
  let v4242 : BitVec 32 := Scalar.muli v17 c1_i32_5663
  let v4243 : BitVec 32 := Scalar.addi c0_i32_5664 v4242
  v4243.toNat
def k0_dev184 (v30 : BitVec 32) : Nat :=
  let c0_i32_5671 : BitVec 32 := 0#32
  let c1_i32_5670 : BitVec 32 := 1#32
  let v4252 : BitVec 32 := Scalar.muli v30 c1_i32_5670
  let v4253 : BitVec 32 := Scalar.addi c0_i32_5671 v4252
  v4253.toNat
def k0_dev185 (v30 : BitVec 32) : Nat :=
  let c0_i32_5718 : BitVec 32 := 0#32
  let c1_i32_5717 : BitVec 32 := 1#32
  let v4274 : BitVec 32 := Scalar.muli v30 c1_i32_5717
  let v4275 : BitVec 32 := Scalar.addi c0_i32_5718 v4274
  v4275.toNat
def k0_dev186 (v17 : BitVec 32) : Nat :=
  let c0_i32_5725 : BitVec 32 := 0#32
  let c1_i32_5724 : BitVec 32 := 1#32
  let v4284 : BitVec 32 := Scalar.muli v17 c1_i32_5724
  let v4285 : BitVec 32 := Scalar.addi c0_i32_5725 v4284
  v4285.toNat
def k0_dev187 (v17 : BitVec 32) : Nat :=
  let c0_i32_5772 : BitVec 32 := 0#32
  let c1_i32_5771 : BitVec 32 := 1#32
  let v4306 : BitVec 32 := Scalar.muli v17 c1_i32_5771
  let v4307 : BitVec 32 := Scalar.addi c0_i32_5772 v4306
  v4307.toNat
def k0_dev188 (v30 : BitVec 32) : Nat :=
  let c0_i32_5779 : BitVec 32 := 0#32
  let c1_i32_5778 : BitVec 32 := 1#32
  let v4316 : BitVec 32 := Scalar.muli v30 c1_i32_5778
  let v4317 : BitVec 32 := Scalar.addi c0_i32_5779 v4316
  v4317.toNat
def k0_dev189 (v30 : BitVec 32) : Nat :=
  let c0_i32_5826 : BitVec 32 := 0#32
  let c1_i32_5825 : BitVec 32 := 1#32
  let v4338 : BitVec 32 := Scalar.muli v30 c1_i32_5825
  let v4339 : BitVec 32 := Scalar.addi c0_i32_5826 v4338
  v4339.toNat
def k0_dev190 (v17 : BitVec 32) : Nat :=
  let c0_i32_5833 : BitVec 32 := 0#32
  let c1_i32_5832 : BitVec 32 := 1#32
  let v4348 : BitVec 32 := Scalar.muli v17 c1_i32_5832
  let v4349 : BitVec 32 := Scalar.addi c0_i32_5833 v4348
  v4349.toNat
def k0_off100 (v4 : BitVec 32) : Fin 1 → Nat :=
  let c2_i32_5834 : BitVec 32 := 2#32
  let v4350 : BitVec 32 := Scalar.subi v4 c2_i32_5834
  let c23_i32 : BitVec 32 := 23#32
  let v4351 : BitVec 32 := Scalar.subi v4350 c23_i32
  let c32_i32_5835 : BitVec 32 := 32#32
  let c0_i32_5836 : BitVec 32 := 0#32
  let v4352 : BitVec 1 := Scalar.cmpi .eq c32_i32_5835 c0_i32_5836
  let c1_i32_5837 : BitVec 32 := 1#32
  let v4353 : BitVec 32 := Scalar.select v4352 c1_i32_5837 c32_i32_5835
  let v4354 : BitVec 32 := Scalar.remsi v4351 v4353
  let c0_i32_5839 : BitVec 32 := 0#32
  let v4356 : BitVec 1 := Scalar.cmpi .slt v4354 c0_i32_5839
  let c0_i32_5840 : BitVec 32 := 0#32
  let v4357 : BitVec 1 := Scalar.cmpi .slt v4353 c0_i32_5840
  let v4358 : BitVec 1 := Scalar.xori v4356 v4357
  let c0_i32_5838 : BitVec 32 := 0#32
  let v4355 : BitVec 1 := Scalar.cmpi .ne v4354 c0_i32_5838
  let v4359 : BitVec 1 := Scalar.andi v4358 v4355
  let v4360 : BitVec 32 := Scalar.addi v4354 v4353
  let v4361 : BitVec 32 := Scalar.select v4359 v4360 v4354
  let v4362 : Index := Scalar.indexCast v4361
  ![v4362.toNat]
def k0_off101 (v4363 : BitVec 32) : Fin 2 → Nat :=
  let c128_i32_5841 : BitVec 32 := 128#32
  let v4364 : BitVec 32 := Scalar.muli v4363 c128_i32_5841
  let v4365 : Index := Scalar.indexCast v4364
  let c0_5842 : Index := 0#32
  ![v4365.toNat, 0]

def k0_chk52 (v4363 : BitVec 32) : Prop :=
  (∀ a, (k0_off101 v4363) a + S128x128.size a ≤ S4096x128.size a)
theorem k0_off101_inb : ∀ (v4363 : BitVec 32) (k0_hw52 : k0_chk52 v4363), ∀ a, (k0_off101 v4363) a + S128x128.size a ≤ S4096x128.size a := fun v4363 k0_hw52 => k0_hw52

def k0_off102 (v4 : BitVec 32) : Fin 1 → Nat :=
  let c2_i32_5851 : BitVec 32 := 2#32
  let v4378 : BitVec 32 := Scalar.addi v4 c2_i32_5851
  let c23_i32_5852 : BitVec 32 := 23#32
  let v4379 : BitVec 32 := Scalar.addi v4378 c23_i32_5852
  let c32_i32_5853 : BitVec 32 := 32#32
  let c0_i32_5854 : BitVec 32 := 0#32
  let v4380 : BitVec 1 := Scalar.cmpi .eq c32_i32_5853 c0_i32_5854
  let c1_i32_5855 : BitVec 32 := 1#32
  let v4381 : BitVec 32 := Scalar.select v4380 c1_i32_5855 c32_i32_5853
  let v4382 : BitVec 32 := Scalar.remsi v4379 v4381
  let c0_i32_5857 : BitVec 32 := 0#32
  let v4384 : BitVec 1 := Scalar.cmpi .slt v4382 c0_i32_5857
  let c0_i32_5858 : BitVec 32 := 0#32
  let v4385 : BitVec 1 := Scalar.cmpi .slt v4381 c0_i32_5858
  let v4386 : BitVec 1 := Scalar.xori v4384 v4385
  let c0_i32_5856 : BitVec 32 := 0#32
  let v4383 : BitVec 1 := Scalar.cmpi .ne v4382 c0_i32_5856
  let v4387 : BitVec 1 := Scalar.andi v4386 v4383
  let v4388 : BitVec 32 := Scalar.addi v4382 v4381
  let v4389 : BitVec 32 := Scalar.select v4387 v4388 v4382
  let v4390 : Index := Scalar.indexCast v4389
  ![v4390.toNat]
def k0_off103 (v4391 : BitVec 32) : Fin 2 → Nat :=
  let c128_i32_5859 : BitVec 32 := 128#32
  let v4392 : BitVec 32 := Scalar.muli v4391 c128_i32_5859
  let v4393 : Index := Scalar.indexCast v4392
  let c0_5860 : Index := 0#32
  ![v4393.toNat, 0]

def k0_chk53 (v4391 : BitVec 32) : Prop :=
  (∀ a, (k0_off103 v4391) a + S128x128.size a ≤ S4096x128.size a)
theorem k0_off103_inb : ∀ (v4391 : BitVec 32) (k0_hw53 : k0_chk53 v4391), ∀ a, (k0_off103 v4391) a + S128x128.size a ≤ S4096x128.size a := fun v4391 k0_hw53 => k0_hw53

def k0_dev191 (v17 : BitVec 32) : Nat :=
  let c0_i32_5915 : BitVec 32 := 0#32
  let c1_i32_5914 : BitVec 32 := 1#32
  let v4426 : BitVec 32 := Scalar.muli v17 c1_i32_5914
  let v4427 : BitVec 32 := Scalar.addi c0_i32_5915 v4426
  v4427.toNat
def k0_dev192 (v30 : BitVec 32) : Nat :=
  let c0_i32_5922 : BitVec 32 := 0#32
  let c1_i32_5921 : BitVec 32 := 1#32
  let v4436 : BitVec 32 := Scalar.muli v30 c1_i32_5921
  let v4437 : BitVec 32 := Scalar.addi c0_i32_5922 v4436
  v4437.toNat
def k0_dev193 (v30 : BitVec 32) : Nat :=
  let c0_i32_5969 : BitVec 32 := 0#32
  let c1_i32_5968 : BitVec 32 := 1#32
  let v4458 : BitVec 32 := Scalar.muli v30 c1_i32_5968
  let v4459 : BitVec 32 := Scalar.addi c0_i32_5969 v4458
  v4459.toNat
def k0_dev194 (v17 : BitVec 32) : Nat :=
  let c0_i32_5976 : BitVec 32 := 0#32
  let c1_i32_5975 : BitVec 32 := 1#32
  let v4468 : BitVec 32 := Scalar.muli v17 c1_i32_5975
  let v4469 : BitVec 32 := Scalar.addi c0_i32_5976 v4468
  v4469.toNat
def k0_dev195 (v17 : BitVec 32) : Nat :=
  let c0_i32_6023 : BitVec 32 := 0#32
  let c1_i32_6022 : BitVec 32 := 1#32
  let v4490 : BitVec 32 := Scalar.muli v17 c1_i32_6022
  let v4491 : BitVec 32 := Scalar.addi c0_i32_6023 v4490
  v4491.toNat
def k0_dev196 (v30 : BitVec 32) : Nat :=
  let c0_i32_6030 : BitVec 32 := 0#32
  let c1_i32_6029 : BitVec 32 := 1#32
  let v4500 : BitVec 32 := Scalar.muli v30 c1_i32_6029
  let v4501 : BitVec 32 := Scalar.addi c0_i32_6030 v4500
  v4501.toNat
def k0_dev197 (v30 : BitVec 32) : Nat :=
  let c0_i32_6077 : BitVec 32 := 0#32
  let c1_i32_6076 : BitVec 32 := 1#32
  let v4522 : BitVec 32 := Scalar.muli v30 c1_i32_6076
  let v4523 : BitVec 32 := Scalar.addi c0_i32_6077 v4522
  v4523.toNat
def k0_dev198 (v17 : BitVec 32) : Nat :=
  let c0_i32_6084 : BitVec 32 := 0#32
  let c1_i32_6083 : BitVec 32 := 1#32
  let v4532 : BitVec 32 := Scalar.muli v17 c1_i32_6083
  let v4533 : BitVec 32 := Scalar.addi c0_i32_6084 v4532
  v4533.toNat
def k0_off104 (v4 : BitVec 32) : Fin 1 → Nat :=
  let c2_i32_6085 : BitVec 32 := 2#32
  let v4534 : BitVec 32 := Scalar.subi v4 c2_i32_6085
  let c24_i32 : BitVec 32 := 24#32
  let v4535 : BitVec 32 := Scalar.subi v4534 c24_i32
  let c32_i32_6086 : BitVec 32 := 32#32
  let c0_i32_6087 : BitVec 32 := 0#32
  let v4536 : BitVec 1 := Scalar.cmpi .eq c32_i32_6086 c0_i32_6087
  let c1_i32_6088 : BitVec 32 := 1#32
  let v4537 : BitVec 32 := Scalar.select v4536 c1_i32_6088 c32_i32_6086
  let v4538 : BitVec 32 := Scalar.remsi v4535 v4537
  let c0_i32_6090 : BitVec 32 := 0#32
  let v4540 : BitVec 1 := Scalar.cmpi .slt v4538 c0_i32_6090
  let c0_i32_6091 : BitVec 32 := 0#32
  let v4541 : BitVec 1 := Scalar.cmpi .slt v4537 c0_i32_6091
  let v4542 : BitVec 1 := Scalar.xori v4540 v4541
  let c0_i32_6089 : BitVec 32 := 0#32
  let v4539 : BitVec 1 := Scalar.cmpi .ne v4538 c0_i32_6089
  let v4543 : BitVec 1 := Scalar.andi v4542 v4539
  let v4544 : BitVec 32 := Scalar.addi v4538 v4537
  let v4545 : BitVec 32 := Scalar.select v4543 v4544 v4538
  let v4546 : Index := Scalar.indexCast v4545
  ![v4546.toNat]
def k0_off105 (v4547 : BitVec 32) : Fin 2 → Nat :=
  let c128_i32_6092 : BitVec 32 := 128#32
  let v4548 : BitVec 32 := Scalar.muli v4547 c128_i32_6092
  let v4549 : Index := Scalar.indexCast v4548
  let c0_6093 : Index := 0#32
  ![v4549.toNat, 0]

def k0_chk54 (v4547 : BitVec 32) : Prop :=
  (∀ a, (k0_off105 v4547) a + S128x128.size a ≤ S4096x128.size a)
theorem k0_off105_inb : ∀ (v4547 : BitVec 32) (k0_hw54 : k0_chk54 v4547), ∀ a, (k0_off105 v4547) a + S128x128.size a ≤ S4096x128.size a := fun v4547 k0_hw54 => k0_hw54

def k0_off106 (v4 : BitVec 32) : Fin 1 → Nat :=
  let c2_i32_6102 : BitVec 32 := 2#32
  let v4562 : BitVec 32 := Scalar.addi v4 c2_i32_6102
  let c24_i32_6103 : BitVec 32 := 24#32
  let v4563 : BitVec 32 := Scalar.addi v4562 c24_i32_6103
  let c32_i32_6104 : BitVec 32 := 32#32
  let c0_i32_6105 : BitVec 32 := 0#32
  let v4564 : BitVec 1 := Scalar.cmpi .eq c32_i32_6104 c0_i32_6105
  let c1_i32_6106 : BitVec 32 := 1#32
  let v4565 : BitVec 32 := Scalar.select v4564 c1_i32_6106 c32_i32_6104
  let v4566 : BitVec 32 := Scalar.remsi v4563 v4565
  let c0_i32_6108 : BitVec 32 := 0#32
  let v4568 : BitVec 1 := Scalar.cmpi .slt v4566 c0_i32_6108
  let c0_i32_6109 : BitVec 32 := 0#32
  let v4569 : BitVec 1 := Scalar.cmpi .slt v4565 c0_i32_6109
  let v4570 : BitVec 1 := Scalar.xori v4568 v4569
  let c0_i32_6107 : BitVec 32 := 0#32
  let v4567 : BitVec 1 := Scalar.cmpi .ne v4566 c0_i32_6107
  let v4571 : BitVec 1 := Scalar.andi v4570 v4567
  let v4572 : BitVec 32 := Scalar.addi v4566 v4565
  let v4573 : BitVec 32 := Scalar.select v4571 v4572 v4566
  let v4574 : Index := Scalar.indexCast v4573
  ![v4574.toNat]
def k0_off107 (v4575 : BitVec 32) : Fin 2 → Nat :=
  let c128_i32_6110 : BitVec 32 := 128#32
  let v4576 : BitVec 32 := Scalar.muli v4575 c128_i32_6110
  let v4577 : Index := Scalar.indexCast v4576
  let c0_6111 : Index := 0#32
  ![v4577.toNat, 0]

def k0_chk55 (v4575 : BitVec 32) : Prop :=
  (∀ a, (k0_off107 v4575) a + S128x128.size a ≤ S4096x128.size a)
theorem k0_off107_inb : ∀ (v4575 : BitVec 32) (k0_hw55 : k0_chk55 v4575), ∀ a, (k0_off107 v4575) a + S128x128.size a ≤ S4096x128.size a := fun v4575 k0_hw55 => k0_hw55

def k0_dev199 (v17 : BitVec 32) : Nat :=
  let c0_i32_6166 : BitVec 32 := 0#32
  let c1_i32_6165 : BitVec 32 := 1#32
  let v4610 : BitVec 32 := Scalar.muli v17 c1_i32_6165
  let v4611 : BitVec 32 := Scalar.addi c0_i32_6166 v4610
  v4611.toNat
def k0_dev200 (v30 : BitVec 32) : Nat :=
  let c0_i32_6173 : BitVec 32 := 0#32
  let c1_i32_6172 : BitVec 32 := 1#32
  let v4620 : BitVec 32 := Scalar.muli v30 c1_i32_6172
  let v4621 : BitVec 32 := Scalar.addi c0_i32_6173 v4620
  v4621.toNat
def k0_dev201 (v30 : BitVec 32) : Nat :=
  let c0_i32_6220 : BitVec 32 := 0#32
  let c1_i32_6219 : BitVec 32 := 1#32
  let v4642 : BitVec 32 := Scalar.muli v30 c1_i32_6219
  let v4643 : BitVec 32 := Scalar.addi c0_i32_6220 v4642
  v4643.toNat
def k0_dev202 (v17 : BitVec 32) : Nat :=
  let c0_i32_6227 : BitVec 32 := 0#32
  let c1_i32_6226 : BitVec 32 := 1#32
  let v4652 : BitVec 32 := Scalar.muli v17 c1_i32_6226
  let v4653 : BitVec 32 := Scalar.addi c0_i32_6227 v4652
  v4653.toNat
def k0_dev203 (v17 : BitVec 32) : Nat :=
  let c0_i32_6274 : BitVec 32 := 0#32
  let c1_i32_6273 : BitVec 32 := 1#32
  let v4674 : BitVec 32 := Scalar.muli v17 c1_i32_6273
  let v4675 : BitVec 32 := Scalar.addi c0_i32_6274 v4674
  v4675.toNat
def k0_dev204 (v30 : BitVec 32) : Nat :=
  let c0_i32_6281 : BitVec 32 := 0#32
  let c1_i32_6280 : BitVec 32 := 1#32
  let v4684 : BitVec 32 := Scalar.muli v30 c1_i32_6280
  let v4685 : BitVec 32 := Scalar.addi c0_i32_6281 v4684
  v4685.toNat
def k0_dev205 (v30 : BitVec 32) : Nat :=
  let c0_i32_6328 : BitVec 32 := 0#32
  let c1_i32_6327 : BitVec 32 := 1#32
  let v4706 : BitVec 32 := Scalar.muli v30 c1_i32_6327
  let v4707 : BitVec 32 := Scalar.addi c0_i32_6328 v4706
  v4707.toNat
def k0_dev206 (v17 : BitVec 32) : Nat :=
  let c0_i32_6335 : BitVec 32 := 0#32
  let c1_i32_6334 : BitVec 32 := 1#32
  let v4716 : BitVec 32 := Scalar.muli v17 c1_i32_6334
  let v4717 : BitVec 32 := Scalar.addi c0_i32_6335 v4716
  v4717.toNat
def k0_off108 (v4 : BitVec 32) : Fin 1 → Nat :=
  let c2_i32_6336 : BitVec 32 := 2#32
  let v4718 : BitVec 32 := Scalar.subi v4 c2_i32_6336
  let c25_i32 : BitVec 32 := 25#32
  let v4719 : BitVec 32 := Scalar.subi v4718 c25_i32
  let c32_i32_6337 : BitVec 32 := 32#32
  let c0_i32_6338 : BitVec 32 := 0#32
  let v4720 : BitVec 1 := Scalar.cmpi .eq c32_i32_6337 c0_i32_6338
  let c1_i32_6339 : BitVec 32 := 1#32
  let v4721 : BitVec 32 := Scalar.select v4720 c1_i32_6339 c32_i32_6337
  let v4722 : BitVec 32 := Scalar.remsi v4719 v4721
  let c0_i32_6341 : BitVec 32 := 0#32
  let v4724 : BitVec 1 := Scalar.cmpi .slt v4722 c0_i32_6341
  let c0_i32_6342 : BitVec 32 := 0#32
  let v4725 : BitVec 1 := Scalar.cmpi .slt v4721 c0_i32_6342
  let v4726 : BitVec 1 := Scalar.xori v4724 v4725
  let c0_i32_6340 : BitVec 32 := 0#32
  let v4723 : BitVec 1 := Scalar.cmpi .ne v4722 c0_i32_6340
  let v4727 : BitVec 1 := Scalar.andi v4726 v4723
  let v4728 : BitVec 32 := Scalar.addi v4722 v4721
  let v4729 : BitVec 32 := Scalar.select v4727 v4728 v4722
  let v4730 : Index := Scalar.indexCast v4729
  ![v4730.toNat]
def k0_off109 (v4731 : BitVec 32) : Fin 2 → Nat :=
  let c128_i32_6343 : BitVec 32 := 128#32
  let v4732 : BitVec 32 := Scalar.muli v4731 c128_i32_6343
  let v4733 : Index := Scalar.indexCast v4732
  let c0_6344 : Index := 0#32
  ![v4733.toNat, 0]

def k0_chk56 (v4731 : BitVec 32) : Prop :=
  (∀ a, (k0_off109 v4731) a + S128x128.size a ≤ S4096x128.size a)
theorem k0_off109_inb : ∀ (v4731 : BitVec 32) (k0_hw56 : k0_chk56 v4731), ∀ a, (k0_off109 v4731) a + S128x128.size a ≤ S4096x128.size a := fun v4731 k0_hw56 => k0_hw56

def k0_off110 (v4 : BitVec 32) : Fin 1 → Nat :=
  let c2_i32_6353 : BitVec 32 := 2#32
  let v4746 : BitVec 32 := Scalar.addi v4 c2_i32_6353
  let c25_i32_6354 : BitVec 32 := 25#32
  let v4747 : BitVec 32 := Scalar.addi v4746 c25_i32_6354
  let c32_i32_6355 : BitVec 32 := 32#32
  let c0_i32_6356 : BitVec 32 := 0#32
  let v4748 : BitVec 1 := Scalar.cmpi .eq c32_i32_6355 c0_i32_6356
  let c1_i32_6357 : BitVec 32 := 1#32
  let v4749 : BitVec 32 := Scalar.select v4748 c1_i32_6357 c32_i32_6355
  let v4750 : BitVec 32 := Scalar.remsi v4747 v4749
  let c0_i32_6359 : BitVec 32 := 0#32
  let v4752 : BitVec 1 := Scalar.cmpi .slt v4750 c0_i32_6359
  let c0_i32_6360 : BitVec 32 := 0#32
  let v4753 : BitVec 1 := Scalar.cmpi .slt v4749 c0_i32_6360
  let v4754 : BitVec 1 := Scalar.xori v4752 v4753
  let c0_i32_6358 : BitVec 32 := 0#32
  let v4751 : BitVec 1 := Scalar.cmpi .ne v4750 c0_i32_6358
  let v4755 : BitVec 1 := Scalar.andi v4754 v4751
  let v4756 : BitVec 32 := Scalar.addi v4750 v4749
  let v4757 : BitVec 32 := Scalar.select v4755 v4756 v4750
  let v4758 : Index := Scalar.indexCast v4757
  ![v4758.toNat]
def k0_off111 (v4759 : BitVec 32) : Fin 2 → Nat :=
  let c128_i32_6361 : BitVec 32 := 128#32
  let v4760 : BitVec 32 := Scalar.muli v4759 c128_i32_6361
  let v4761 : Index := Scalar.indexCast v4760
  let c0_6362 : Index := 0#32
  ![v4761.toNat, 0]

def k0_chk57 (v4759 : BitVec 32) : Prop :=
  (∀ a, (k0_off111 v4759) a + S128x128.size a ≤ S4096x128.size a)
theorem k0_off111_inb : ∀ (v4759 : BitVec 32) (k0_hw57 : k0_chk57 v4759), ∀ a, (k0_off111 v4759) a + S128x128.size a ≤ S4096x128.size a := fun v4759 k0_hw57 => k0_hw57

def k0_dev207 (v17 : BitVec 32) : Nat :=
  let c0_i32_6417 : BitVec 32 := 0#32
  let c1_i32_6416 : BitVec 32 := 1#32
  let v4794 : BitVec 32 := Scalar.muli v17 c1_i32_6416
  let v4795 : BitVec 32 := Scalar.addi c0_i32_6417 v4794
  v4795.toNat
def k0_dev208 (v30 : BitVec 32) : Nat :=
  let c0_i32_6424 : BitVec 32 := 0#32
  let c1_i32_6423 : BitVec 32 := 1#32
  let v4804 : BitVec 32 := Scalar.muli v30 c1_i32_6423
  let v4805 : BitVec 32 := Scalar.addi c0_i32_6424 v4804
  v4805.toNat
def k0_dev209 (v30 : BitVec 32) : Nat :=
  let c0_i32_6471 : BitVec 32 := 0#32
  let c1_i32_6470 : BitVec 32 := 1#32
  let v4826 : BitVec 32 := Scalar.muli v30 c1_i32_6470
  let v4827 : BitVec 32 := Scalar.addi c0_i32_6471 v4826
  v4827.toNat
def k0_dev210 (v17 : BitVec 32) : Nat :=
  let c0_i32_6478 : BitVec 32 := 0#32
  let c1_i32_6477 : BitVec 32 := 1#32
  let v4836 : BitVec 32 := Scalar.muli v17 c1_i32_6477
  let v4837 : BitVec 32 := Scalar.addi c0_i32_6478 v4836
  v4837.toNat
def k0_dev211 (v17 : BitVec 32) : Nat :=
  let c0_i32_6525 : BitVec 32 := 0#32
  let c1_i32_6524 : BitVec 32 := 1#32
  let v4858 : BitVec 32 := Scalar.muli v17 c1_i32_6524
  let v4859 : BitVec 32 := Scalar.addi c0_i32_6525 v4858
  v4859.toNat
def k0_dev212 (v30 : BitVec 32) : Nat :=
  let c0_i32_6532 : BitVec 32 := 0#32
  let c1_i32_6531 : BitVec 32 := 1#32
  let v4868 : BitVec 32 := Scalar.muli v30 c1_i32_6531
  let v4869 : BitVec 32 := Scalar.addi c0_i32_6532 v4868
  v4869.toNat
def k0_dev213 (v30 : BitVec 32) : Nat :=
  let c0_i32_6579 : BitVec 32 := 0#32
  let c1_i32_6578 : BitVec 32 := 1#32
  let v4890 : BitVec 32 := Scalar.muli v30 c1_i32_6578
  let v4891 : BitVec 32 := Scalar.addi c0_i32_6579 v4890
  v4891.toNat
def k0_dev214 (v17 : BitVec 32) : Nat :=
  let c0_i32_6586 : BitVec 32 := 0#32
  let c1_i32_6585 : BitVec 32 := 1#32
  let v4900 : BitVec 32 := Scalar.muli v17 c1_i32_6585
  let v4901 : BitVec 32 := Scalar.addi c0_i32_6586 v4900
  v4901.toNat
def k0_off112 (v4 : BitVec 32) : Fin 1 → Nat :=
  let c2_i32_6587 : BitVec 32 := 2#32
  let v4902 : BitVec 32 := Scalar.subi v4 c2_i32_6587
  let c26_i32 : BitVec 32 := 26#32
  let v4903 : BitVec 32 := Scalar.subi v4902 c26_i32
  let c32_i32_6588 : BitVec 32 := 32#32
  let c0_i32_6589 : BitVec 32 := 0#32
  let v4904 : BitVec 1 := Scalar.cmpi .eq c32_i32_6588 c0_i32_6589
  let c1_i32_6590 : BitVec 32 := 1#32
  let v4905 : BitVec 32 := Scalar.select v4904 c1_i32_6590 c32_i32_6588
  let v4906 : BitVec 32 := Scalar.remsi v4903 v4905
  let c0_i32_6592 : BitVec 32 := 0#32
  let v4908 : BitVec 1 := Scalar.cmpi .slt v4906 c0_i32_6592
  let c0_i32_6593 : BitVec 32 := 0#32
  let v4909 : BitVec 1 := Scalar.cmpi .slt v4905 c0_i32_6593
  let v4910 : BitVec 1 := Scalar.xori v4908 v4909
  let c0_i32_6591 : BitVec 32 := 0#32
  let v4907 : BitVec 1 := Scalar.cmpi .ne v4906 c0_i32_6591
  let v4911 : BitVec 1 := Scalar.andi v4910 v4907
  let v4912 : BitVec 32 := Scalar.addi v4906 v4905
  let v4913 : BitVec 32 := Scalar.select v4911 v4912 v4906
  let v4914 : Index := Scalar.indexCast v4913
  ![v4914.toNat]
def k0_off113 (v4915 : BitVec 32) : Fin 2 → Nat :=
  let c128_i32_6594 : BitVec 32 := 128#32
  let v4916 : BitVec 32 := Scalar.muli v4915 c128_i32_6594
  let v4917 : Index := Scalar.indexCast v4916
  let c0_6595 : Index := 0#32
  ![v4917.toNat, 0]

def k0_chk58 (v4915 : BitVec 32) : Prop :=
  (∀ a, (k0_off113 v4915) a + S128x128.size a ≤ S4096x128.size a)
theorem k0_off113_inb : ∀ (v4915 : BitVec 32) (k0_hw58 : k0_chk58 v4915), ∀ a, (k0_off113 v4915) a + S128x128.size a ≤ S4096x128.size a := fun v4915 k0_hw58 => k0_hw58

def k0_off114 (v4 : BitVec 32) : Fin 1 → Nat :=
  let c2_i32_6604 : BitVec 32 := 2#32
  let v4930 : BitVec 32 := Scalar.addi v4 c2_i32_6604
  let c26_i32_6605 : BitVec 32 := 26#32
  let v4931 : BitVec 32 := Scalar.addi v4930 c26_i32_6605
  let c32_i32_6606 : BitVec 32 := 32#32
  let c0_i32_6607 : BitVec 32 := 0#32
  let v4932 : BitVec 1 := Scalar.cmpi .eq c32_i32_6606 c0_i32_6607
  let c1_i32_6608 : BitVec 32 := 1#32
  let v4933 : BitVec 32 := Scalar.select v4932 c1_i32_6608 c32_i32_6606
  let v4934 : BitVec 32 := Scalar.remsi v4931 v4933
  let c0_i32_6610 : BitVec 32 := 0#32
  let v4936 : BitVec 1 := Scalar.cmpi .slt v4934 c0_i32_6610
  let c0_i32_6611 : BitVec 32 := 0#32
  let v4937 : BitVec 1 := Scalar.cmpi .slt v4933 c0_i32_6611
  let v4938 : BitVec 1 := Scalar.xori v4936 v4937
  let c0_i32_6609 : BitVec 32 := 0#32
  let v4935 : BitVec 1 := Scalar.cmpi .ne v4934 c0_i32_6609
  let v4939 : BitVec 1 := Scalar.andi v4938 v4935
  let v4940 : BitVec 32 := Scalar.addi v4934 v4933
  let v4941 : BitVec 32 := Scalar.select v4939 v4940 v4934
  let v4942 : Index := Scalar.indexCast v4941
  ![v4942.toNat]
def k0_off115 (v4943 : BitVec 32) : Fin 2 → Nat :=
  let c128_i32_6612 : BitVec 32 := 128#32
  let v4944 : BitVec 32 := Scalar.muli v4943 c128_i32_6612
  let v4945 : Index := Scalar.indexCast v4944
  let c0_6613 : Index := 0#32
  ![v4945.toNat, 0]

def k0_chk59 (v4943 : BitVec 32) : Prop :=
  (∀ a, (k0_off115 v4943) a + S128x128.size a ≤ S4096x128.size a)
theorem k0_off115_inb : ∀ (v4943 : BitVec 32) (k0_hw59 : k0_chk59 v4943), ∀ a, (k0_off115 v4943) a + S128x128.size a ≤ S4096x128.size a := fun v4943 k0_hw59 => k0_hw59

def k0_dev215 (v17 : BitVec 32) : Nat :=
  let c0_i32_6668 : BitVec 32 := 0#32
  let c1_i32_6667 : BitVec 32 := 1#32
  let v4978 : BitVec 32 := Scalar.muli v17 c1_i32_6667
  let v4979 : BitVec 32 := Scalar.addi c0_i32_6668 v4978
  v4979.toNat
def k0_dev216 (v30 : BitVec 32) : Nat :=
  let c0_i32_6675 : BitVec 32 := 0#32
  let c1_i32_6674 : BitVec 32 := 1#32
  let v4988 : BitVec 32 := Scalar.muli v30 c1_i32_6674
  let v4989 : BitVec 32 := Scalar.addi c0_i32_6675 v4988
  v4989.toNat
def k0_dev217 (v30 : BitVec 32) : Nat :=
  let c0_i32_6722 : BitVec 32 := 0#32
  let c1_i32_6721 : BitVec 32 := 1#32
  let v5010 : BitVec 32 := Scalar.muli v30 c1_i32_6721
  let v5011 : BitVec 32 := Scalar.addi c0_i32_6722 v5010
  v5011.toNat
def k0_dev218 (v17 : BitVec 32) : Nat :=
  let c0_i32_6729 : BitVec 32 := 0#32
  let c1_i32_6728 : BitVec 32 := 1#32
  let v5020 : BitVec 32 := Scalar.muli v17 c1_i32_6728
  let v5021 : BitVec 32 := Scalar.addi c0_i32_6729 v5020
  v5021.toNat
def k0_dev219 (v17 : BitVec 32) : Nat :=
  let c0_i32_6776 : BitVec 32 := 0#32
  let c1_i32_6775 : BitVec 32 := 1#32
  let v5042 : BitVec 32 := Scalar.muli v17 c1_i32_6775
  let v5043 : BitVec 32 := Scalar.addi c0_i32_6776 v5042
  v5043.toNat
def k0_dev220 (v30 : BitVec 32) : Nat :=
  let c0_i32_6783 : BitVec 32 := 0#32
  let c1_i32_6782 : BitVec 32 := 1#32
  let v5052 : BitVec 32 := Scalar.muli v30 c1_i32_6782
  let v5053 : BitVec 32 := Scalar.addi c0_i32_6783 v5052
  v5053.toNat
def k0_dev221 (v30 : BitVec 32) : Nat :=
  let c0_i32_6830 : BitVec 32 := 0#32
  let c1_i32_6829 : BitVec 32 := 1#32
  let v5074 : BitVec 32 := Scalar.muli v30 c1_i32_6829
  let v5075 : BitVec 32 := Scalar.addi c0_i32_6830 v5074
  v5075.toNat
def k0_dev222 (v17 : BitVec 32) : Nat :=
  let c0_i32_6837 : BitVec 32 := 0#32
  let c1_i32_6836 : BitVec 32 := 1#32
  let v5084 : BitVec 32 := Scalar.muli v17 c1_i32_6836
  let v5085 : BitVec 32 := Scalar.addi c0_i32_6837 v5084
  v5085.toNat
def k0_off116 (v4 : BitVec 32) : Fin 1 → Nat :=
  let c2_i32_6838 : BitVec 32 := 2#32
  let v5086 : BitVec 32 := Scalar.subi v4 c2_i32_6838
  let c27_i32 : BitVec 32 := 27#32
  let v5087 : BitVec 32 := Scalar.subi v5086 c27_i32
  let c32_i32_6839 : BitVec 32 := 32#32
  let c0_i32_6840 : BitVec 32 := 0#32
  let v5088 : BitVec 1 := Scalar.cmpi .eq c32_i32_6839 c0_i32_6840
  let c1_i32_6841 : BitVec 32 := 1#32
  let v5089 : BitVec 32 := Scalar.select v5088 c1_i32_6841 c32_i32_6839
  let v5090 : BitVec 32 := Scalar.remsi v5087 v5089
  let c0_i32_6843 : BitVec 32 := 0#32
  let v5092 : BitVec 1 := Scalar.cmpi .slt v5090 c0_i32_6843
  let c0_i32_6844 : BitVec 32 := 0#32
  let v5093 : BitVec 1 := Scalar.cmpi .slt v5089 c0_i32_6844
  let v5094 : BitVec 1 := Scalar.xori v5092 v5093
  let c0_i32_6842 : BitVec 32 := 0#32
  let v5091 : BitVec 1 := Scalar.cmpi .ne v5090 c0_i32_6842
  let v5095 : BitVec 1 := Scalar.andi v5094 v5091
  let v5096 : BitVec 32 := Scalar.addi v5090 v5089
  let v5097 : BitVec 32 := Scalar.select v5095 v5096 v5090
  let v5098 : Index := Scalar.indexCast v5097
  ![v5098.toNat]
def k0_off117 (v5099 : BitVec 32) : Fin 2 → Nat :=
  let c128_i32_6845 : BitVec 32 := 128#32
  let v5100 : BitVec 32 := Scalar.muli v5099 c128_i32_6845
  let v5101 : Index := Scalar.indexCast v5100
  let c0_6846 : Index := 0#32
  ![v5101.toNat, 0]

def k0_chk60 (v5099 : BitVec 32) : Prop :=
  (∀ a, (k0_off117 v5099) a + S128x128.size a ≤ S4096x128.size a)
theorem k0_off117_inb : ∀ (v5099 : BitVec 32) (k0_hw60 : k0_chk60 v5099), ∀ a, (k0_off117 v5099) a + S128x128.size a ≤ S4096x128.size a := fun v5099 k0_hw60 => k0_hw60

def k0_off118 (v4 : BitVec 32) : Fin 1 → Nat :=
  let c2_i32_6855 : BitVec 32 := 2#32
  let v5114 : BitVec 32 := Scalar.addi v4 c2_i32_6855
  let c27_i32_6856 : BitVec 32 := 27#32
  let v5115 : BitVec 32 := Scalar.addi v5114 c27_i32_6856
  let c32_i32_6857 : BitVec 32 := 32#32
  let c0_i32_6858 : BitVec 32 := 0#32
  let v5116 : BitVec 1 := Scalar.cmpi .eq c32_i32_6857 c0_i32_6858
  let c1_i32_6859 : BitVec 32 := 1#32
  let v5117 : BitVec 32 := Scalar.select v5116 c1_i32_6859 c32_i32_6857
  let v5118 : BitVec 32 := Scalar.remsi v5115 v5117
  let c0_i32_6861 : BitVec 32 := 0#32
  let v5120 : BitVec 1 := Scalar.cmpi .slt v5118 c0_i32_6861
  let c0_i32_6862 : BitVec 32 := 0#32
  let v5121 : BitVec 1 := Scalar.cmpi .slt v5117 c0_i32_6862
  let v5122 : BitVec 1 := Scalar.xori v5120 v5121
  let c0_i32_6860 : BitVec 32 := 0#32
  let v5119 : BitVec 1 := Scalar.cmpi .ne v5118 c0_i32_6860
  let v5123 : BitVec 1 := Scalar.andi v5122 v5119
  let v5124 : BitVec 32 := Scalar.addi v5118 v5117
  let v5125 : BitVec 32 := Scalar.select v5123 v5124 v5118
  let v5126 : Index := Scalar.indexCast v5125
  ![v5126.toNat]
def k0_off119 (v5127 : BitVec 32) : Fin 2 → Nat :=
  let c128_i32_6863 : BitVec 32 := 128#32
  let v5128 : BitVec 32 := Scalar.muli v5127 c128_i32_6863
  let v5129 : Index := Scalar.indexCast v5128
  let c0_6864 : Index := 0#32
  ![v5129.toNat, 0]

def k0_chk61 (v5127 : BitVec 32) : Prop :=
  (∀ a, (k0_off119 v5127) a + S128x128.size a ≤ S4096x128.size a)
theorem k0_off119_inb : ∀ (v5127 : BitVec 32) (k0_hw61 : k0_chk61 v5127), ∀ a, (k0_off119 v5127) a + S128x128.size a ≤ S4096x128.size a := fun v5127 k0_hw61 => k0_hw61

def k0_dev223 (v17 : BitVec 32) : Nat :=
  let c0_i32_6919 : BitVec 32 := 0#32
  let c1_i32_6918 : BitVec 32 := 1#32
  let v5162 : BitVec 32 := Scalar.muli v17 c1_i32_6918
  let v5163 : BitVec 32 := Scalar.addi c0_i32_6919 v5162
  v5163.toNat
def k0_dev224 (v30 : BitVec 32) : Nat :=
  let c0_i32_6926 : BitVec 32 := 0#32
  let c1_i32_6925 : BitVec 32 := 1#32
  let v5172 : BitVec 32 := Scalar.muli v30 c1_i32_6925
  let v5173 : BitVec 32 := Scalar.addi c0_i32_6926 v5172
  v5173.toNat
def k0_dev225 (v30 : BitVec 32) : Nat :=
  let c0_i32_6973 : BitVec 32 := 0#32
  let c1_i32_6972 : BitVec 32 := 1#32
  let v5194 : BitVec 32 := Scalar.muli v30 c1_i32_6972
  let v5195 : BitVec 32 := Scalar.addi c0_i32_6973 v5194
  v5195.toNat
def k0_dev226 (v17 : BitVec 32) : Nat :=
  let c0_i32_6980 : BitVec 32 := 0#32
  let c1_i32_6979 : BitVec 32 := 1#32
  let v5204 : BitVec 32 := Scalar.muli v17 c1_i32_6979
  let v5205 : BitVec 32 := Scalar.addi c0_i32_6980 v5204
  v5205.toNat
def k0_dev227 (v17 : BitVec 32) : Nat :=
  let c0_i32_7027 : BitVec 32 := 0#32
  let c1_i32_7026 : BitVec 32 := 1#32
  let v5226 : BitVec 32 := Scalar.muli v17 c1_i32_7026
  let v5227 : BitVec 32 := Scalar.addi c0_i32_7027 v5226
  v5227.toNat
def k0_dev228 (v30 : BitVec 32) : Nat :=
  let c0_i32_7034 : BitVec 32 := 0#32
  let c1_i32_7033 : BitVec 32 := 1#32
  let v5236 : BitVec 32 := Scalar.muli v30 c1_i32_7033
  let v5237 : BitVec 32 := Scalar.addi c0_i32_7034 v5236
  v5237.toNat
def k0_dev229 (v30 : BitVec 32) : Nat :=
  let c0_i32_7081 : BitVec 32 := 0#32
  let c1_i32_7080 : BitVec 32 := 1#32
  let v5258 : BitVec 32 := Scalar.muli v30 c1_i32_7080
  let v5259 : BitVec 32 := Scalar.addi c0_i32_7081 v5258
  v5259.toNat
def k0_dev230 (v17 : BitVec 32) : Nat :=
  let c0_i32_7088 : BitVec 32 := 0#32
  let c1_i32_7087 : BitVec 32 := 1#32
  let v5268 : BitVec 32 := Scalar.muli v17 c1_i32_7087
  let v5269 : BitVec 32 := Scalar.addi c0_i32_7088 v5268
  v5269.toNat
def k0_off120 (v4 : BitVec 32) : Fin 1 → Nat :=
  let c2_i32_7089 : BitVec 32 := 2#32
  let v5270 : BitVec 32 := Scalar.subi v4 c2_i32_7089
  let c28_i32 : BitVec 32 := 28#32
  let v5271 : BitVec 32 := Scalar.subi v5270 c28_i32
  let c32_i32_7090 : BitVec 32 := 32#32
  let c0_i32_7091 : BitVec 32 := 0#32
  let v5272 : BitVec 1 := Scalar.cmpi .eq c32_i32_7090 c0_i32_7091
  let c1_i32_7092 : BitVec 32 := 1#32
  let v5273 : BitVec 32 := Scalar.select v5272 c1_i32_7092 c32_i32_7090
  let v5274 : BitVec 32 := Scalar.remsi v5271 v5273
  let c0_i32_7094 : BitVec 32 := 0#32
  let v5276 : BitVec 1 := Scalar.cmpi .slt v5274 c0_i32_7094
  let c0_i32_7095 : BitVec 32 := 0#32
  let v5277 : BitVec 1 := Scalar.cmpi .slt v5273 c0_i32_7095
  let v5278 : BitVec 1 := Scalar.xori v5276 v5277
  let c0_i32_7093 : BitVec 32 := 0#32
  let v5275 : BitVec 1 := Scalar.cmpi .ne v5274 c0_i32_7093
  let v5279 : BitVec 1 := Scalar.andi v5278 v5275
  let v5280 : BitVec 32 := Scalar.addi v5274 v5273
  let v5281 : BitVec 32 := Scalar.select v5279 v5280 v5274
  let v5282 : Index := Scalar.indexCast v5281
  ![v5282.toNat]
def k0_off121 (v5283 : BitVec 32) : Fin 2 → Nat :=
  let c128_i32_7096 : BitVec 32 := 128#32
  let v5284 : BitVec 32 := Scalar.muli v5283 c128_i32_7096
  let v5285 : Index := Scalar.indexCast v5284
  let c0_7097 : Index := 0#32
  ![v5285.toNat, 0]

def k0_chk62 (v5283 : BitVec 32) : Prop :=
  (∀ a, (k0_off121 v5283) a + S128x128.size a ≤ S4096x128.size a)
theorem k0_off121_inb : ∀ (v5283 : BitVec 32) (k0_hw62 : k0_chk62 v5283), ∀ a, (k0_off121 v5283) a + S128x128.size a ≤ S4096x128.size a := fun v5283 k0_hw62 => k0_hw62

def k0_off122 (v4 : BitVec 32) : Fin 1 → Nat :=
  let c2_i32_7106 : BitVec 32 := 2#32
  let v5298 : BitVec 32 := Scalar.addi v4 c2_i32_7106
  let c28_i32_7107 : BitVec 32 := 28#32
  let v5299 : BitVec 32 := Scalar.addi v5298 c28_i32_7107
  let c32_i32_7108 : BitVec 32 := 32#32
  let c0_i32_7109 : BitVec 32 := 0#32
  let v5300 : BitVec 1 := Scalar.cmpi .eq c32_i32_7108 c0_i32_7109
  let c1_i32_7110 : BitVec 32 := 1#32
  let v5301 : BitVec 32 := Scalar.select v5300 c1_i32_7110 c32_i32_7108
  let v5302 : BitVec 32 := Scalar.remsi v5299 v5301
  let c0_i32_7112 : BitVec 32 := 0#32
  let v5304 : BitVec 1 := Scalar.cmpi .slt v5302 c0_i32_7112
  let c0_i32_7113 : BitVec 32 := 0#32
  let v5305 : BitVec 1 := Scalar.cmpi .slt v5301 c0_i32_7113
  let v5306 : BitVec 1 := Scalar.xori v5304 v5305
  let c0_i32_7111 : BitVec 32 := 0#32
  let v5303 : BitVec 1 := Scalar.cmpi .ne v5302 c0_i32_7111
  let v5307 : BitVec 1 := Scalar.andi v5306 v5303
  let v5308 : BitVec 32 := Scalar.addi v5302 v5301
  let v5309 : BitVec 32 := Scalar.select v5307 v5308 v5302
  let v5310 : Index := Scalar.indexCast v5309
  ![v5310.toNat]
def k0_off123 (v5311 : BitVec 32) : Fin 2 → Nat :=
  let c128_i32_7114 : BitVec 32 := 128#32
  let v5312 : BitVec 32 := Scalar.muli v5311 c128_i32_7114
  let v5313 : Index := Scalar.indexCast v5312
  let c0_7115 : Index := 0#32
  ![v5313.toNat, 0]

def k0_chk63 (v5311 : BitVec 32) : Prop :=
  (∀ a, (k0_off123 v5311) a + S128x128.size a ≤ S4096x128.size a)
theorem k0_off123_inb : ∀ (v5311 : BitVec 32) (k0_hw63 : k0_chk63 v5311), ∀ a, (k0_off123 v5311) a + S128x128.size a ≤ S4096x128.size a := fun v5311 k0_hw63 => k0_hw63

def k0_dev231 (v17 : BitVec 32) : Nat :=
  let c0_i32_7170 : BitVec 32 := 0#32
  let c1_i32_7169 : BitVec 32 := 1#32
  let v5346 : BitVec 32 := Scalar.muli v17 c1_i32_7169
  let v5347 : BitVec 32 := Scalar.addi c0_i32_7170 v5346
  v5347.toNat
def k0_dev232 (v30 : BitVec 32) : Nat :=
  let c0_i32_7177 : BitVec 32 := 0#32
  let c1_i32_7176 : BitVec 32 := 1#32
  let v5356 : BitVec 32 := Scalar.muli v30 c1_i32_7176
  let v5357 : BitVec 32 := Scalar.addi c0_i32_7177 v5356
  v5357.toNat
def k0_dev233 (v30 : BitVec 32) : Nat :=
  let c0_i32_7224 : BitVec 32 := 0#32
  let c1_i32_7223 : BitVec 32 := 1#32
  let v5378 : BitVec 32 := Scalar.muli v30 c1_i32_7223
  let v5379 : BitVec 32 := Scalar.addi c0_i32_7224 v5378
  v5379.toNat
def k0_dev234 (v17 : BitVec 32) : Nat :=
  let c0_i32_7231 : BitVec 32 := 0#32
  let c1_i32_7230 : BitVec 32 := 1#32
  let v5388 : BitVec 32 := Scalar.muli v17 c1_i32_7230
  let v5389 : BitVec 32 := Scalar.addi c0_i32_7231 v5388
  v5389.toNat
def k0_dev235 (v17 : BitVec 32) : Nat :=
  let c0_i32_7278 : BitVec 32 := 0#32
  let c1_i32_7277 : BitVec 32 := 1#32
  let v5410 : BitVec 32 := Scalar.muli v17 c1_i32_7277
  let v5411 : BitVec 32 := Scalar.addi c0_i32_7278 v5410
  v5411.toNat
def k0_dev236 (v30 : BitVec 32) : Nat :=
  let c0_i32_7285 : BitVec 32 := 0#32
  let c1_i32_7284 : BitVec 32 := 1#32
  let v5420 : BitVec 32 := Scalar.muli v30 c1_i32_7284
  let v5421 : BitVec 32 := Scalar.addi c0_i32_7285 v5420
  v5421.toNat
def k0_dev237 (v30 : BitVec 32) : Nat :=
  let c0_i32_7332 : BitVec 32 := 0#32
  let c1_i32_7331 : BitVec 32 := 1#32
  let v5442 : BitVec 32 := Scalar.muli v30 c1_i32_7331
  let v5443 : BitVec 32 := Scalar.addi c0_i32_7332 v5442
  v5443.toNat
def k0_dev238 (v17 : BitVec 32) : Nat :=
  let c0_i32_7339 : BitVec 32 := 0#32
  let c1_i32_7338 : BitVec 32 := 1#32
  let v5452 : BitVec 32 := Scalar.muli v17 c1_i32_7338
  let v5453 : BitVec 32 := Scalar.addi c0_i32_7339 v5452
  v5453.toNat
def k0_off124 (v4 : BitVec 32) : Fin 1 → Nat :=
  let c2_i32_7340 : BitVec 32 := 2#32
  let v5454 : BitVec 32 := Scalar.subi v4 c2_i32_7340
  let c29_i32 : BitVec 32 := 29#32
  let v5455 : BitVec 32 := Scalar.subi v5454 c29_i32
  let c32_i32_7341 : BitVec 32 := 32#32
  let c0_i32_7342 : BitVec 32 := 0#32
  let v5456 : BitVec 1 := Scalar.cmpi .eq c32_i32_7341 c0_i32_7342
  let c1_i32_7343 : BitVec 32 := 1#32
  let v5457 : BitVec 32 := Scalar.select v5456 c1_i32_7343 c32_i32_7341
  let v5458 : BitVec 32 := Scalar.remsi v5455 v5457
  let c0_i32_7345 : BitVec 32 := 0#32
  let v5460 : BitVec 1 := Scalar.cmpi .slt v5458 c0_i32_7345
  let c0_i32_7346 : BitVec 32 := 0#32
  let v5461 : BitVec 1 := Scalar.cmpi .slt v5457 c0_i32_7346
  let v5462 : BitVec 1 := Scalar.xori v5460 v5461
  let c0_i32_7344 : BitVec 32 := 0#32
  let v5459 : BitVec 1 := Scalar.cmpi .ne v5458 c0_i32_7344
  let v5463 : BitVec 1 := Scalar.andi v5462 v5459
  let v5464 : BitVec 32 := Scalar.addi v5458 v5457
  let v5465 : BitVec 32 := Scalar.select v5463 v5464 v5458
  let v5466 : Index := Scalar.indexCast v5465
  ![v5466.toNat]
def k0_off125 (v5467 : BitVec 32) : Fin 2 → Nat :=
  let c128_i32_7347 : BitVec 32 := 128#32
  let v5468 : BitVec 32 := Scalar.muli v5467 c128_i32_7347
  let v5469 : Index := Scalar.indexCast v5468
  let c0_7348 : Index := 0#32
  ![v5469.toNat, 0]

def k0_chk64 (v5467 : BitVec 32) : Prop :=
  (∀ a, (k0_off125 v5467) a + S128x128.size a ≤ S4096x128.size a)
theorem k0_off125_inb : ∀ (v5467 : BitVec 32) (k0_hw64 : k0_chk64 v5467), ∀ a, (k0_off125 v5467) a + S128x128.size a ≤ S4096x128.size a := fun v5467 k0_hw64 => k0_hw64

def k0_off126 (v4 : BitVec 32) : Fin 1 → Nat :=
  let c2_i32_7357 : BitVec 32 := 2#32
  let v5482 : BitVec 32 := Scalar.addi v4 c2_i32_7357
  let c29_i32_7358 : BitVec 32 := 29#32
  let v5483 : BitVec 32 := Scalar.addi v5482 c29_i32_7358
  let c32_i32_7359 : BitVec 32 := 32#32
  let c0_i32_7360 : BitVec 32 := 0#32
  let v5484 : BitVec 1 := Scalar.cmpi .eq c32_i32_7359 c0_i32_7360
  let c1_i32_7361 : BitVec 32 := 1#32
  let v5485 : BitVec 32 := Scalar.select v5484 c1_i32_7361 c32_i32_7359
  let v5486 : BitVec 32 := Scalar.remsi v5483 v5485
  let c0_i32_7363 : BitVec 32 := 0#32
  let v5488 : BitVec 1 := Scalar.cmpi .slt v5486 c0_i32_7363
  let c0_i32_7364 : BitVec 32 := 0#32
  let v5489 : BitVec 1 := Scalar.cmpi .slt v5485 c0_i32_7364
  let v5490 : BitVec 1 := Scalar.xori v5488 v5489
  let c0_i32_7362 : BitVec 32 := 0#32
  let v5487 : BitVec 1 := Scalar.cmpi .ne v5486 c0_i32_7362
  let v5491 : BitVec 1 := Scalar.andi v5490 v5487
  let v5492 : BitVec 32 := Scalar.addi v5486 v5485
  let v5493 : BitVec 32 := Scalar.select v5491 v5492 v5486
  let v5494 : Index := Scalar.indexCast v5493
  ![v5494.toNat]
def k0_off127 (v5495 : BitVec 32) : Fin 2 → Nat :=
  let c128_i32_7365 : BitVec 32 := 128#32
  let v5496 : BitVec 32 := Scalar.muli v5495 c128_i32_7365
  let v5497 : Index := Scalar.indexCast v5496
  let c0_7366 : Index := 0#32
  ![v5497.toNat, 0]

def k0_chk65 (v5495 : BitVec 32) : Prop :=
  (∀ a, (k0_off127 v5495) a + S128x128.size a ≤ S4096x128.size a)
theorem k0_off127_inb : ∀ (v5495 : BitVec 32) (k0_hw65 : k0_chk65 v5495), ∀ a, (k0_off127 v5495) a + S128x128.size a ≤ S4096x128.size a := fun v5495 k0_hw65 => k0_hw65

def k0_dev239 (v17 : BitVec 32) : Nat :=
  let c0_i32_7421 : BitVec 32 := 0#32
  let c1_i32_7420 : BitVec 32 := 1#32
  let v5530 : BitVec 32 := Scalar.muli v17 c1_i32_7420
  let v5531 : BitVec 32 := Scalar.addi c0_i32_7421 v5530
  v5531.toNat
def k0_dev240 (v30 : BitVec 32) : Nat :=
  let c0_i32_7472 : BitVec 32 := 0#32
  let c1_i32_7471 : BitVec 32 := 1#32
  let v5560 : BitVec 32 := Scalar.muli v30 c1_i32_7471
  let v5561 : BitVec 32 := Scalar.addi c0_i32_7472 v5560
  v5561.toNat
def k0_dev241 (v17 : BitVec 32) : Nat :=
  let c0_i32_7523 : BitVec 32 := 0#32
  let c1_i32_7522 : BitVec 32 := 1#32
  let v5590 : BitVec 32 := Scalar.muli v17 c1_i32_7522
  let v5591 : BitVec 32 := Scalar.addi c0_i32_7523 v5590
  v5591.toNat

def k0_chk3_0 (v17 : BitVec 32) : Prop :=
  ((k0_dev2 v17) < nD) ∧
  ((k0_dev3 v17) < nD) ∧
  ((k0_dev4 v17) < nD) ∧
  ((k0_dev7 v17) < nD) ∧
  ((k0_dev10 v17) < nD) ∧
  ((k0_dev11 v17) < nD) ∧
  ((k0_dev14 v17) < nD) ∧
  ((k0_dev15 v17) < nD) ∧
  ((k0_dev18 v17) < nD) ∧
  ((k0_dev19 v17) < nD) ∧
  ((k0_dev22 v17) < nD) ∧
  ((k0_dev23 v17) < nD) ∧
  ((k0_dev26 v17) < nD) ∧
  ((k0_dev27 v17) < nD) ∧
  ((k0_dev30 v17) < nD) ∧
  ((k0_dev31 v17) < nD) ∧
  ((k0_dev34 v17) < nD) ∧
  ((k0_dev35 v17) < nD) ∧
  ((k0_dev38 v17) < nD) ∧
  ((k0_dev39 v17) < nD) ∧
  ((k0_dev42 v17) < nD) ∧
  ((k0_dev43 v17) < nD) ∧
  ((k0_dev46 v17) < nD) ∧
  ((k0_dev47 v17) < nD) ∧
  ((k0_dev50 v17) < nD) ∧
  ((k0_dev51 v17) < nD) ∧
  ((k0_dev54 v17) < nD) ∧
  ((k0_dev55 v17) < nD) ∧
  ((k0_dev58 v17) < nD) ∧
  ((k0_dev59 v17) < nD) ∧
  ((k0_dev62 v17) < nD) ∧
  ((k0_dev63 v17) < nD)
def k0_chk3_1 (v17 : BitVec 32) : Prop :=
  ((k0_dev66 v17) < nD) ∧
  ((k0_dev67 v17) < nD) ∧
  ((k0_dev70 v17) < nD) ∧
  ((k0_dev71 v17) < nD) ∧
  ((k0_dev74 v17) < nD) ∧
  ((k0_dev75 v17) < nD) ∧
  ((k0_dev78 v17) < nD) ∧
  ((k0_dev79 v17) < nD) ∧
  ((k0_dev82 v17) < nD) ∧
  ((k0_dev83 v17) < nD) ∧
  ((k0_dev86 v17) < nD) ∧
  ((k0_dev87 v17) < nD) ∧
  ((k0_dev90 v17) < nD) ∧
  ((k0_dev91 v17) < nD) ∧
  ((k0_dev94 v17) < nD) ∧
  ((k0_dev95 v17) < nD) ∧
  ((k0_dev98 v17) < nD) ∧
  ((k0_dev99 v17) < nD) ∧
  ((k0_dev102 v17) < nD) ∧
  ((k0_dev103 v17) < nD) ∧
  ((k0_dev106 v17) < nD) ∧
  ((k0_dev107 v17) < nD) ∧
  ((k0_dev110 v17) < nD) ∧
  ((k0_dev111 v17) < nD) ∧
  ((k0_dev114 v17) < nD) ∧
  ((k0_dev115 v17) < nD) ∧
  ((k0_dev118 v17) < nD) ∧
  ((k0_dev119 v17) < nD) ∧
  ((k0_dev122 v17) < nD) ∧
  ((k0_dev123 v17) < nD) ∧
  ((k0_dev126 v17) < nD) ∧
  ((k0_dev127 v17) < nD)
def k0_chk3_2 (v17 : BitVec 32) : Prop :=
  ((k0_dev130 v17) < nD) ∧
  ((k0_dev131 v17) < nD) ∧
  ((k0_dev134 v17) < nD) ∧
  ((k0_dev135 v17) < nD) ∧
  ((k0_dev138 v17) < nD) ∧
  ((k0_dev139 v17) < nD) ∧
  ((k0_dev142 v17) < nD) ∧
  ((k0_dev143 v17) < nD) ∧
  ((k0_dev146 v17) < nD) ∧
  ((k0_dev147 v17) < nD) ∧
  ((k0_dev150 v17) < nD) ∧
  ((k0_dev151 v17) < nD) ∧
  ((k0_dev154 v17) < nD) ∧
  ((k0_dev155 v17) < nD) ∧
  ((k0_dev158 v17) < nD) ∧
  ((k0_dev159 v17) < nD) ∧
  ((k0_dev162 v17) < nD) ∧
  ((k0_dev163 v17) < nD) ∧
  ((k0_dev166 v17) < nD) ∧
  ((k0_dev167 v17) < nD) ∧
  ((k0_dev170 v17) < nD) ∧
  ((k0_dev171 v17) < nD) ∧
  ((k0_dev174 v17) < nD) ∧
  ((k0_dev175 v17) < nD) ∧
  ((k0_dev178 v17) < nD) ∧
  ((k0_dev179 v17) < nD) ∧
  ((k0_dev182 v17) < nD) ∧
  ((k0_dev183 v17) < nD) ∧
  ((k0_dev186 v17) < nD) ∧
  ((k0_dev187 v17) < nD) ∧
  ((k0_dev190 v17) < nD) ∧
  ((k0_dev191 v17) < nD)
def k0_chk3_3 (v17 : BitVec 32) : Prop :=
  ((k0_dev194 v17) < nD) ∧
  ((k0_dev195 v17) < nD) ∧
  ((k0_dev198 v17) < nD) ∧
  ((k0_dev199 v17) < nD) ∧
  ((k0_dev202 v17) < nD) ∧
  ((k0_dev203 v17) < nD) ∧
  ((k0_dev206 v17) < nD) ∧
  ((k0_dev207 v17) < nD) ∧
  ((k0_dev210 v17) < nD) ∧
  ((k0_dev211 v17) < nD) ∧
  ((k0_dev214 v17) < nD) ∧
  ((k0_dev215 v17) < nD) ∧
  ((k0_dev218 v17) < nD) ∧
  ((k0_dev219 v17) < nD) ∧
  ((k0_dev222 v17) < nD) ∧
  ((k0_dev223 v17) < nD) ∧
  ((k0_dev226 v17) < nD) ∧
  ((k0_dev227 v17) < nD) ∧
  ((k0_dev230 v17) < nD) ∧
  ((k0_dev231 v17) < nD) ∧
  ((k0_dev234 v17) < nD) ∧
  ((k0_dev235 v17) < nD) ∧
  ((k0_dev238 v17) < nD) ∧
  ((k0_dev239 v17) < nD) ∧
  ((k0_dev241 v17) < nD)
def k0_chk3 (v17 : BitVec 32) : Prop :=
  k0_chk3_0 v17 ∧
  k0_chk3_1 v17 ∧
  k0_chk3_2 v17 ∧
  k0_chk3_3 v17
theorem k0_dev2_lt : ∀ (v17 : BitVec 32) (k0_hw3 : k0_chk3 v17), (k0_dev2 v17) < nD := fun v17 k0_hw3 => k0_hw3.1.1
theorem k0_dev3_lt : ∀ (v17 : BitVec 32) (k0_hw3 : k0_chk3 v17), (k0_dev3 v17) < nD := fun v17 k0_hw3 => k0_hw3.1.2.1
theorem k0_dev4_lt : ∀ (v17 : BitVec 32) (k0_hw3 : k0_chk3 v17), (k0_dev4 v17) < nD := fun v17 k0_hw3 => k0_hw3.1.2.2.1
theorem k0_dev7_lt : ∀ (v17 : BitVec 32) (k0_hw3 : k0_chk3 v17), (k0_dev7 v17) < nD := fun v17 k0_hw3 => k0_hw3.1.2.2.2.1
theorem k0_dev10_lt : ∀ (v17 : BitVec 32) (k0_hw3 : k0_chk3 v17), (k0_dev10 v17) < nD := fun v17 k0_hw3 => k0_hw3.1.2.2.2.2.1
theorem k0_dev11_lt : ∀ (v17 : BitVec 32) (k0_hw3 : k0_chk3 v17), (k0_dev11 v17) < nD := fun v17 k0_hw3 => k0_hw3.1.2.2.2.2.2.1
theorem k0_dev14_lt : ∀ (v17 : BitVec 32) (k0_hw3 : k0_chk3 v17), (k0_dev14 v17) < nD := fun v17 k0_hw3 => k0_hw3.1.2.2.2.2.2.2.1
theorem k0_dev15_lt : ∀ (v17 : BitVec 32) (k0_hw3 : k0_chk3 v17), (k0_dev15 v17) < nD := fun v17 k0_hw3 => k0_hw3.1.2.2.2.2.2.2.2.1
theorem k0_dev18_lt : ∀ (v17 : BitVec 32) (k0_hw3 : k0_chk3 v17), (k0_dev18 v17) < nD := fun v17 k0_hw3 => k0_hw3.1.2.2.2.2.2.2.2.2.1
theorem k0_dev19_lt : ∀ (v17 : BitVec 32) (k0_hw3 : k0_chk3 v17), (k0_dev19 v17) < nD := fun v17 k0_hw3 => k0_hw3.1.2.2.2.2.2.2.2.2.2.1
theorem k0_dev22_lt : ∀ (v17 : BitVec 32) (k0_hw3 : k0_chk3 v17), (k0_dev22 v17) < nD := fun v17 k0_hw3 => k0_hw3.1.2.2.2.2.2.2.2.2.2.2.1
theorem k0_dev23_lt : ∀ (v17 : BitVec 32) (k0_hw3 : k0_chk3 v17), (k0_dev23 v17) < nD := fun v17 k0_hw3 => k0_hw3.1.2.2.2.2.2.2.2.2.2.2.2.1
theorem k0_dev26_lt : ∀ (v17 : BitVec 32) (k0_hw3 : k0_chk3 v17), (k0_dev26 v17) < nD := fun v17 k0_hw3 => k0_hw3.1.2.2.2.2.2.2.2.2.2.2.2.2.1
theorem k0_dev27_lt : ∀ (v17 : BitVec 32) (k0_hw3 : k0_chk3 v17), (k0_dev27 v17) < nD := fun v17 k0_hw3 => k0_hw3.1.2.2.2.2.2.2.2.2.2.2.2.2.2.1
theorem k0_dev30_lt : ∀ (v17 : BitVec 32) (k0_hw3 : k0_chk3 v17), (k0_dev30 v17) < nD := fun v17 k0_hw3 => k0_hw3.1.2.2.2.2.2.2.2.2.2.2.2.2.2.2.1
theorem k0_dev31_lt : ∀ (v17 : BitVec 32) (k0_hw3 : k0_chk3 v17), (k0_dev31 v17) < nD := fun v17 k0_hw3 => k0_hw3.1.2.2.2.2.2.2.2.2.2.2.2.2.2.2.2.1
theorem k0_dev34_lt : ∀ (v17 : BitVec 32) (k0_hw3 : k0_chk3 v17), (k0_dev34 v17) < nD := fun v17 k0_hw3 => k0_hw3.1.2.2.2.2.2.2.2.2.2.2.2.2.2.2.2.2.1
theorem k0_dev35_lt : ∀ (v17 : BitVec 32) (k0_hw3 : k0_chk3 v17), (k0_dev35 v17) < nD := fun v17 k0_hw3 => k0_hw3.1.2.2.2.2.2.2.2.2.2.2.2.2.2.2.2.2.2.1
theorem k0_dev38_lt : ∀ (v17 : BitVec 32) (k0_hw3 : k0_chk3 v17), (k0_dev38 v17) < nD := fun v17 k0_hw3 => k0_hw3.1.2.2.2.2.2.2.2.2.2.2.2.2.2.2.2.2.2.2.1
theorem k0_dev39_lt : ∀ (v17 : BitVec 32) (k0_hw3 : k0_chk3 v17), (k0_dev39 v17) < nD := fun v17 k0_hw3 => k0_hw3.1.2.2.2.2.2.2.2.2.2.2.2.2.2.2.2.2.2.2.2.1
theorem k0_dev42_lt : ∀ (v17 : BitVec 32) (k0_hw3 : k0_chk3 v17), (k0_dev42 v17) < nD := fun v17 k0_hw3 => k0_hw3.1.2.2.2.2.2.2.2.2.2.2.2.2.2.2.2.2.2.2.2.2.1
theorem k0_dev43_lt : ∀ (v17 : BitVec 32) (k0_hw3 : k0_chk3 v17), (k0_dev43 v17) < nD := fun v17 k0_hw3 => k0_hw3.1.2.2.2.2.2.2.2.2.2.2.2.2.2.2.2.2.2.2.2.2.2.1
theorem k0_dev46_lt : ∀ (v17 : BitVec 32) (k0_hw3 : k0_chk3 v17), (k0_dev46 v17) < nD := fun v17 k0_hw3 => k0_hw3.1.2.2.2.2.2.2.2.2.2.2.2.2.2.2.2.2.2.2.2.2.2.2.1
theorem k0_dev47_lt : ∀ (v17 : BitVec 32) (k0_hw3 : k0_chk3 v17), (k0_dev47 v17) < nD := fun v17 k0_hw3 => k0_hw3.1.2.2.2.2.2.2.2.2.2.2.2.2.2.2.2.2.2.2.2.2.2.2.2.1
theorem k0_dev50_lt : ∀ (v17 : BitVec 32) (k0_hw3 : k0_chk3 v17), (k0_dev50 v17) < nD := fun v17 k0_hw3 => k0_hw3.1.2.2.2.2.2.2.2.2.2.2.2.2.2.2.2.2.2.2.2.2.2.2.2.2.1
theorem k0_dev51_lt : ∀ (v17 : BitVec 32) (k0_hw3 : k0_chk3 v17), (k0_dev51 v17) < nD := fun v17 k0_hw3 => k0_hw3.1.2.2.2.2.2.2.2.2.2.2.2.2.2.2.2.2.2.2.2.2.2.2.2.2.2.1
theorem k0_dev54_lt : ∀ (v17 : BitVec 32) (k0_hw3 : k0_chk3 v17), (k0_dev54 v17) < nD := fun v17 k0_hw3 => k0_hw3.1.2.2.2.2.2.2.2.2.2.2.2.2.2.2.2.2.2.2.2.2.2.2.2.2.2.2.1
theorem k0_dev55_lt : ∀ (v17 : BitVec 32) (k0_hw3 : k0_chk3 v17), (k0_dev55 v17) < nD := fun v17 k0_hw3 => k0_hw3.1.2.2.2.2.2.2.2.2.2.2.2.2.2.2.2.2.2.2.2.2.2.2.2.2.2.2.2.1
theorem k0_dev58_lt : ∀ (v17 : BitVec 32) (k0_hw3 : k0_chk3 v17), (k0_dev58 v17) < nD := fun v17 k0_hw3 => k0_hw3.1.2.2.2.2.2.2.2.2.2.2.2.2.2.2.2.2.2.2.2.2.2.2.2.2.2.2.2.2.1
theorem k0_dev59_lt : ∀ (v17 : BitVec 32) (k0_hw3 : k0_chk3 v17), (k0_dev59 v17) < nD := fun v17 k0_hw3 => k0_hw3.1.2.2.2.2.2.2.2.2.2.2.2.2.2.2.2.2.2.2.2.2.2.2.2.2.2.2.2.2.2.1
theorem k0_dev62_lt : ∀ (v17 : BitVec 32) (k0_hw3 : k0_chk3 v17), (k0_dev62 v17) < nD := fun v17 k0_hw3 => k0_hw3.1.2.2.2.2.2.2.2.2.2.2.2.2.2.2.2.2.2.2.2.2.2.2.2.2.2.2.2.2.2.2.1
theorem k0_dev63_lt : ∀ (v17 : BitVec 32) (k0_hw3 : k0_chk3 v17), (k0_dev63 v17) < nD := fun v17 k0_hw3 => k0_hw3.1.2.2.2.2.2.2.2.2.2.2.2.2.2.2.2.2.2.2.2.2.2.2.2.2.2.2.2.2.2.2.2
theorem k0_dev66_lt : ∀ (v17 : BitVec 32) (k0_hw3 : k0_chk3 v17), (k0_dev66 v17) < nD := fun v17 k0_hw3 => k0_hw3.2.1.1
theorem k0_dev67_lt : ∀ (v17 : BitVec 32) (k0_hw3 : k0_chk3 v17), (k0_dev67 v17) < nD := fun v17 k0_hw3 => k0_hw3.2.1.2.1
theorem k0_dev70_lt : ∀ (v17 : BitVec 32) (k0_hw3 : k0_chk3 v17), (k0_dev70 v17) < nD := fun v17 k0_hw3 => k0_hw3.2.1.2.2.1
theorem k0_dev71_lt : ∀ (v17 : BitVec 32) (k0_hw3 : k0_chk3 v17), (k0_dev71 v17) < nD := fun v17 k0_hw3 => k0_hw3.2.1.2.2.2.1
theorem k0_dev74_lt : ∀ (v17 : BitVec 32) (k0_hw3 : k0_chk3 v17), (k0_dev74 v17) < nD := fun v17 k0_hw3 => k0_hw3.2.1.2.2.2.2.1
theorem k0_dev75_lt : ∀ (v17 : BitVec 32) (k0_hw3 : k0_chk3 v17), (k0_dev75 v17) < nD := fun v17 k0_hw3 => k0_hw3.2.1.2.2.2.2.2.1
theorem k0_dev78_lt : ∀ (v17 : BitVec 32) (k0_hw3 : k0_chk3 v17), (k0_dev78 v17) < nD := fun v17 k0_hw3 => k0_hw3.2.1.2.2.2.2.2.2.1
theorem k0_dev79_lt : ∀ (v17 : BitVec 32) (k0_hw3 : k0_chk3 v17), (k0_dev79 v17) < nD := fun v17 k0_hw3 => k0_hw3.2.1.2.2.2.2.2.2.2.1
theorem k0_dev82_lt : ∀ (v17 : BitVec 32) (k0_hw3 : k0_chk3 v17), (k0_dev82 v17) < nD := fun v17 k0_hw3 => k0_hw3.2.1.2.2.2.2.2.2.2.2.1
theorem k0_dev83_lt : ∀ (v17 : BitVec 32) (k0_hw3 : k0_chk3 v17), (k0_dev83 v17) < nD := fun v17 k0_hw3 => k0_hw3.2.1.2.2.2.2.2.2.2.2.2.1
theorem k0_dev86_lt : ∀ (v17 : BitVec 32) (k0_hw3 : k0_chk3 v17), (k0_dev86 v17) < nD := fun v17 k0_hw3 => k0_hw3.2.1.2.2.2.2.2.2.2.2.2.2.1
theorem k0_dev87_lt : ∀ (v17 : BitVec 32) (k0_hw3 : k0_chk3 v17), (k0_dev87 v17) < nD := fun v17 k0_hw3 => k0_hw3.2.1.2.2.2.2.2.2.2.2.2.2.2.1
theorem k0_dev90_lt : ∀ (v17 : BitVec 32) (k0_hw3 : k0_chk3 v17), (k0_dev90 v17) < nD := fun v17 k0_hw3 => k0_hw3.2.1.2.2.2.2.2.2.2.2.2.2.2.2.1
theorem k0_dev91_lt : ∀ (v17 : BitVec 32) (k0_hw3 : k0_chk3 v17), (k0_dev91 v17) < nD := fun v17 k0_hw3 => k0_hw3.2.1.2.2.2.2.2.2.2.2.2.2.2.2.2.1
theorem k0_dev94_lt : ∀ (v17 : BitVec 32) (k0_hw3 : k0_chk3 v17), (k0_dev94 v17) < nD := fun v17 k0_hw3 => k0_hw3.2.1.2.2.2.2.2.2.2.2.2.2.2.2.2.2.1
theorem k0_dev95_lt : ∀ (v17 : BitVec 32) (k0_hw3 : k0_chk3 v17), (k0_dev95 v17) < nD := fun v17 k0_hw3 => k0_hw3.2.1.2.2.2.2.2.2.2.2.2.2.2.2.2.2.2.1
theorem k0_dev98_lt : ∀ (v17 : BitVec 32) (k0_hw3 : k0_chk3 v17), (k0_dev98 v17) < nD := fun v17 k0_hw3 => k0_hw3.2.1.2.2.2.2.2.2.2.2.2.2.2.2.2.2.2.2.1
theorem k0_dev99_lt : ∀ (v17 : BitVec 32) (k0_hw3 : k0_chk3 v17), (k0_dev99 v17) < nD := fun v17 k0_hw3 => k0_hw3.2.1.2.2.2.2.2.2.2.2.2.2.2.2.2.2.2.2.2.1
theorem k0_dev102_lt : ∀ (v17 : BitVec 32) (k0_hw3 : k0_chk3 v17), (k0_dev102 v17) < nD := fun v17 k0_hw3 => k0_hw3.2.1.2.2.2.2.2.2.2.2.2.2.2.2.2.2.2.2.2.2.1
theorem k0_dev103_lt : ∀ (v17 : BitVec 32) (k0_hw3 : k0_chk3 v17), (k0_dev103 v17) < nD := fun v17 k0_hw3 => k0_hw3.2.1.2.2.2.2.2.2.2.2.2.2.2.2.2.2.2.2.2.2.2.1
theorem k0_dev106_lt : ∀ (v17 : BitVec 32) (k0_hw3 : k0_chk3 v17), (k0_dev106 v17) < nD := fun v17 k0_hw3 => k0_hw3.2.1.2.2.2.2.2.2.2.2.2.2.2.2.2.2.2.2.2.2.2.2.1
theorem k0_dev107_lt : ∀ (v17 : BitVec 32) (k0_hw3 : k0_chk3 v17), (k0_dev107 v17) < nD := fun v17 k0_hw3 => k0_hw3.2.1.2.2.2.2.2.2.2.2.2.2.2.2.2.2.2.2.2.2.2.2.2.1
theorem k0_dev110_lt : ∀ (v17 : BitVec 32) (k0_hw3 : k0_chk3 v17), (k0_dev110 v17) < nD := fun v17 k0_hw3 => k0_hw3.2.1.2.2.2.2.2.2.2.2.2.2.2.2.2.2.2.2.2.2.2.2.2.2.1
theorem k0_dev111_lt : ∀ (v17 : BitVec 32) (k0_hw3 : k0_chk3 v17), (k0_dev111 v17) < nD := fun v17 k0_hw3 => k0_hw3.2.1.2.2.2.2.2.2.2.2.2.2.2.2.2.2.2.2.2.2.2.2.2.2.2.1
theorem k0_dev114_lt : ∀ (v17 : BitVec 32) (k0_hw3 : k0_chk3 v17), (k0_dev114 v17) < nD := fun v17 k0_hw3 => k0_hw3.2.1.2.2.2.2.2.2.2.2.2.2.2.2.2.2.2.2.2.2.2.2.2.2.2.2.1
theorem k0_dev115_lt : ∀ (v17 : BitVec 32) (k0_hw3 : k0_chk3 v17), (k0_dev115 v17) < nD := fun v17 k0_hw3 => k0_hw3.2.1.2.2.2.2.2.2.2.2.2.2.2.2.2.2.2.2.2.2.2.2.2.2.2.2.2.1
theorem k0_dev118_lt : ∀ (v17 : BitVec 32) (k0_hw3 : k0_chk3 v17), (k0_dev118 v17) < nD := fun v17 k0_hw3 => k0_hw3.2.1.2.2.2.2.2.2.2.2.2.2.2.2.2.2.2.2.2.2.2.2.2.2.2.2.2.2.1
theorem k0_dev119_lt : ∀ (v17 : BitVec 32) (k0_hw3 : k0_chk3 v17), (k0_dev119 v17) < nD := fun v17 k0_hw3 => k0_hw3.2.1.2.2.2.2.2.2.2.2.2.2.2.2.2.2.2.2.2.2.2.2.2.2.2.2.2.2.2.1
theorem k0_dev122_lt : ∀ (v17 : BitVec 32) (k0_hw3 : k0_chk3 v17), (k0_dev122 v17) < nD := fun v17 k0_hw3 => k0_hw3.2.1.2.2.2.2.2.2.2.2.2.2.2.2.2.2.2.2.2.2.2.2.2.2.2.2.2.2.2.2.1
theorem k0_dev123_lt : ∀ (v17 : BitVec 32) (k0_hw3 : k0_chk3 v17), (k0_dev123 v17) < nD := fun v17 k0_hw3 => k0_hw3.2.1.2.2.2.2.2.2.2.2.2.2.2.2.2.2.2.2.2.2.2.2.2.2.2.2.2.2.2.2.2.1
theorem k0_dev126_lt : ∀ (v17 : BitVec 32) (k0_hw3 : k0_chk3 v17), (k0_dev126 v17) < nD := fun v17 k0_hw3 => k0_hw3.2.1.2.2.2.2.2.2.2.2.2.2.2.2.2.2.2.2.2.2.2.2.2.2.2.2.2.2.2.2.2.2.1
theorem k0_dev127_lt : ∀ (v17 : BitVec 32) (k0_hw3 : k0_chk3 v17), (k0_dev127 v17) < nD := fun v17 k0_hw3 => k0_hw3.2.1.2.2.2.2.2.2.2.2.2.2.2.2.2.2.2.2.2.2.2.2.2.2.2.2.2.2.2.2.2.2.2
theorem k0_dev130_lt : ∀ (v17 : BitVec 32) (k0_hw3 : k0_chk3 v17), (k0_dev130 v17) < nD := fun v17 k0_hw3 => k0_hw3.2.2.1.1
theorem k0_dev131_lt : ∀ (v17 : BitVec 32) (k0_hw3 : k0_chk3 v17), (k0_dev131 v17) < nD := fun v17 k0_hw3 => k0_hw3.2.2.1.2.1
theorem k0_dev134_lt : ∀ (v17 : BitVec 32) (k0_hw3 : k0_chk3 v17), (k0_dev134 v17) < nD := fun v17 k0_hw3 => k0_hw3.2.2.1.2.2.1
theorem k0_dev135_lt : ∀ (v17 : BitVec 32) (k0_hw3 : k0_chk3 v17), (k0_dev135 v17) < nD := fun v17 k0_hw3 => k0_hw3.2.2.1.2.2.2.1
theorem k0_dev138_lt : ∀ (v17 : BitVec 32) (k0_hw3 : k0_chk3 v17), (k0_dev138 v17) < nD := fun v17 k0_hw3 => k0_hw3.2.2.1.2.2.2.2.1
theorem k0_dev139_lt : ∀ (v17 : BitVec 32) (k0_hw3 : k0_chk3 v17), (k0_dev139 v17) < nD := fun v17 k0_hw3 => k0_hw3.2.2.1.2.2.2.2.2.1
theorem k0_dev142_lt : ∀ (v17 : BitVec 32) (k0_hw3 : k0_chk3 v17), (k0_dev142 v17) < nD := fun v17 k0_hw3 => k0_hw3.2.2.1.2.2.2.2.2.2.1
theorem k0_dev143_lt : ∀ (v17 : BitVec 32) (k0_hw3 : k0_chk3 v17), (k0_dev143 v17) < nD := fun v17 k0_hw3 => k0_hw3.2.2.1.2.2.2.2.2.2.2.1
theorem k0_dev146_lt : ∀ (v17 : BitVec 32) (k0_hw3 : k0_chk3 v17), (k0_dev146 v17) < nD := fun v17 k0_hw3 => k0_hw3.2.2.1.2.2.2.2.2.2.2.2.1
theorem k0_dev147_lt : ∀ (v17 : BitVec 32) (k0_hw3 : k0_chk3 v17), (k0_dev147 v17) < nD := fun v17 k0_hw3 => k0_hw3.2.2.1.2.2.2.2.2.2.2.2.2.1
theorem k0_dev150_lt : ∀ (v17 : BitVec 32) (k0_hw3 : k0_chk3 v17), (k0_dev150 v17) < nD := fun v17 k0_hw3 => k0_hw3.2.2.1.2.2.2.2.2.2.2.2.2.2.1
theorem k0_dev151_lt : ∀ (v17 : BitVec 32) (k0_hw3 : k0_chk3 v17), (k0_dev151 v17) < nD := fun v17 k0_hw3 => k0_hw3.2.2.1.2.2.2.2.2.2.2.2.2.2.2.1
theorem k0_dev154_lt : ∀ (v17 : BitVec 32) (k0_hw3 : k0_chk3 v17), (k0_dev154 v17) < nD := fun v17 k0_hw3 => k0_hw3.2.2.1.2.2.2.2.2.2.2.2.2.2.2.2.1
theorem k0_dev155_lt : ∀ (v17 : BitVec 32) (k0_hw3 : k0_chk3 v17), (k0_dev155 v17) < nD := fun v17 k0_hw3 => k0_hw3.2.2.1.2.2.2.2.2.2.2.2.2.2.2.2.2.1
theorem k0_dev158_lt : ∀ (v17 : BitVec 32) (k0_hw3 : k0_chk3 v17), (k0_dev158 v17) < nD := fun v17 k0_hw3 => k0_hw3.2.2.1.2.2.2.2.2.2.2.2.2.2.2.2.2.2.1
theorem k0_dev159_lt : ∀ (v17 : BitVec 32) (k0_hw3 : k0_chk3 v17), (k0_dev159 v17) < nD := fun v17 k0_hw3 => k0_hw3.2.2.1.2.2.2.2.2.2.2.2.2.2.2.2.2.2.2.1
theorem k0_dev162_lt : ∀ (v17 : BitVec 32) (k0_hw3 : k0_chk3 v17), (k0_dev162 v17) < nD := fun v17 k0_hw3 => k0_hw3.2.2.1.2.2.2.2.2.2.2.2.2.2.2.2.2.2.2.2.1
theorem k0_dev163_lt : ∀ (v17 : BitVec 32) (k0_hw3 : k0_chk3 v17), (k0_dev163 v17) < nD := fun v17 k0_hw3 => k0_hw3.2.2.1.2.2.2.2.2.2.2.2.2.2.2.2.2.2.2.2.2.1
theorem k0_dev166_lt : ∀ (v17 : BitVec 32) (k0_hw3 : k0_chk3 v17), (k0_dev166 v17) < nD := fun v17 k0_hw3 => k0_hw3.2.2.1.2.2.2.2.2.2.2.2.2.2.2.2.2.2.2.2.2.2.1
theorem k0_dev167_lt : ∀ (v17 : BitVec 32) (k0_hw3 : k0_chk3 v17), (k0_dev167 v17) < nD := fun v17 k0_hw3 => k0_hw3.2.2.1.2.2.2.2.2.2.2.2.2.2.2.2.2.2.2.2.2.2.2.1
theorem k0_dev170_lt : ∀ (v17 : BitVec 32) (k0_hw3 : k0_chk3 v17), (k0_dev170 v17) < nD := fun v17 k0_hw3 => k0_hw3.2.2.1.2.2.2.2.2.2.2.2.2.2.2.2.2.2.2.2.2.2.2.2.1
theorem k0_dev171_lt : ∀ (v17 : BitVec 32) (k0_hw3 : k0_chk3 v17), (k0_dev171 v17) < nD := fun v17 k0_hw3 => k0_hw3.2.2.1.2.2.2.2.2.2.2.2.2.2.2.2.2.2.2.2.2.2.2.2.2.1
theorem k0_dev174_lt : ∀ (v17 : BitVec 32) (k0_hw3 : k0_chk3 v17), (k0_dev174 v17) < nD := fun v17 k0_hw3 => k0_hw3.2.2.1.2.2.2.2.2.2.2.2.2.2.2.2.2.2.2.2.2.2.2.2.2.2.1
theorem k0_dev175_lt : ∀ (v17 : BitVec 32) (k0_hw3 : k0_chk3 v17), (k0_dev175 v17) < nD := fun v17 k0_hw3 => k0_hw3.2.2.1.2.2.2.2.2.2.2.2.2.2.2.2.2.2.2.2.2.2.2.2.2.2.2.1
theorem k0_dev178_lt : ∀ (v17 : BitVec 32) (k0_hw3 : k0_chk3 v17), (k0_dev178 v17) < nD := fun v17 k0_hw3 => k0_hw3.2.2.1.2.2.2.2.2.2.2.2.2.2.2.2.2.2.2.2.2.2.2.2.2.2.2.2.1
theorem k0_dev179_lt : ∀ (v17 : BitVec 32) (k0_hw3 : k0_chk3 v17), (k0_dev179 v17) < nD := fun v17 k0_hw3 => k0_hw3.2.2.1.2.2.2.2.2.2.2.2.2.2.2.2.2.2.2.2.2.2.2.2.2.2.2.2.2.1
theorem k0_dev182_lt : ∀ (v17 : BitVec 32) (k0_hw3 : k0_chk3 v17), (k0_dev182 v17) < nD := fun v17 k0_hw3 => k0_hw3.2.2.1.2.2.2.2.2.2.2.2.2.2.2.2.2.2.2.2.2.2.2.2.2.2.2.2.2.2.1
theorem k0_dev183_lt : ∀ (v17 : BitVec 32) (k0_hw3 : k0_chk3 v17), (k0_dev183 v17) < nD := fun v17 k0_hw3 => k0_hw3.2.2.1.2.2.2.2.2.2.2.2.2.2.2.2.2.2.2.2.2.2.2.2.2.2.2.2.2.2.2.1
theorem k0_dev186_lt : ∀ (v17 : BitVec 32) (k0_hw3 : k0_chk3 v17), (k0_dev186 v17) < nD := fun v17 k0_hw3 => k0_hw3.2.2.1.2.2.2.2.2.2.2.2.2.2.2.2.2.2.2.2.2.2.2.2.2.2.2.2.2.2.2.2.1
theorem k0_dev187_lt : ∀ (v17 : BitVec 32) (k0_hw3 : k0_chk3 v17), (k0_dev187 v17) < nD := fun v17 k0_hw3 => k0_hw3.2.2.1.2.2.2.2.2.2.2.2.2.2.2.2.2.2.2.2.2.2.2.2.2.2.2.2.2.2.2.2.2.1
theorem k0_dev190_lt : ∀ (v17 : BitVec 32) (k0_hw3 : k0_chk3 v17), (k0_dev190 v17) < nD := fun v17 k0_hw3 => k0_hw3.2.2.1.2.2.2.2.2.2.2.2.2.2.2.2.2.2.2.2.2.2.2.2.2.2.2.2.2.2.2.2.2.2.1
theorem k0_dev191_lt : ∀ (v17 : BitVec 32) (k0_hw3 : k0_chk3 v17), (k0_dev191 v17) < nD := fun v17 k0_hw3 => k0_hw3.2.2.1.2.2.2.2.2.2.2.2.2.2.2.2.2.2.2.2.2.2.2.2.2.2.2.2.2.2.2.2.2.2.2
theorem k0_dev194_lt : ∀ (v17 : BitVec 32) (k0_hw3 : k0_chk3 v17), (k0_dev194 v17) < nD := fun v17 k0_hw3 => k0_hw3.2.2.2.1
theorem k0_dev195_lt : ∀ (v17 : BitVec 32) (k0_hw3 : k0_chk3 v17), (k0_dev195 v17) < nD := fun v17 k0_hw3 => k0_hw3.2.2.2.2.1
theorem k0_dev198_lt : ∀ (v17 : BitVec 32) (k0_hw3 : k0_chk3 v17), (k0_dev198 v17) < nD := fun v17 k0_hw3 => k0_hw3.2.2.2.2.2.1
theorem k0_dev199_lt : ∀ (v17 : BitVec 32) (k0_hw3 : k0_chk3 v17), (k0_dev199 v17) < nD := fun v17 k0_hw3 => k0_hw3.2.2.2.2.2.2.1
theorem k0_dev202_lt : ∀ (v17 : BitVec 32) (k0_hw3 : k0_chk3 v17), (k0_dev202 v17) < nD := fun v17 k0_hw3 => k0_hw3.2.2.2.2.2.2.2.1
theorem k0_dev203_lt : ∀ (v17 : BitVec 32) (k0_hw3 : k0_chk3 v17), (k0_dev203 v17) < nD := fun v17 k0_hw3 => k0_hw3.2.2.2.2.2.2.2.2.1
theorem k0_dev206_lt : ∀ (v17 : BitVec 32) (k0_hw3 : k0_chk3 v17), (k0_dev206 v17) < nD := fun v17 k0_hw3 => k0_hw3.2.2.2.2.2.2.2.2.2.1
theorem k0_dev207_lt : ∀ (v17 : BitVec 32) (k0_hw3 : k0_chk3 v17), (k0_dev207 v17) < nD := fun v17 k0_hw3 => k0_hw3.2.2.2.2.2.2.2.2.2.2.1
theorem k0_dev210_lt : ∀ (v17 : BitVec 32) (k0_hw3 : k0_chk3 v17), (k0_dev210 v17) < nD := fun v17 k0_hw3 => k0_hw3.2.2.2.2.2.2.2.2.2.2.2.1
theorem k0_dev211_lt : ∀ (v17 : BitVec 32) (k0_hw3 : k0_chk3 v17), (k0_dev211 v17) < nD := fun v17 k0_hw3 => k0_hw3.2.2.2.2.2.2.2.2.2.2.2.2.1
theorem k0_dev214_lt : ∀ (v17 : BitVec 32) (k0_hw3 : k0_chk3 v17), (k0_dev214 v17) < nD := fun v17 k0_hw3 => k0_hw3.2.2.2.2.2.2.2.2.2.2.2.2.2.1
theorem k0_dev215_lt : ∀ (v17 : BitVec 32) (k0_hw3 : k0_chk3 v17), (k0_dev215 v17) < nD := fun v17 k0_hw3 => k0_hw3.2.2.2.2.2.2.2.2.2.2.2.2.2.2.1
theorem k0_dev218_lt : ∀ (v17 : BitVec 32) (k0_hw3 : k0_chk3 v17), (k0_dev218 v17) < nD := fun v17 k0_hw3 => k0_hw3.2.2.2.2.2.2.2.2.2.2.2.2.2.2.2.1
theorem k0_dev219_lt : ∀ (v17 : BitVec 32) (k0_hw3 : k0_chk3 v17), (k0_dev219 v17) < nD := fun v17 k0_hw3 => k0_hw3.2.2.2.2.2.2.2.2.2.2.2.2.2.2.2.2.1
theorem k0_dev222_lt : ∀ (v17 : BitVec 32) (k0_hw3 : k0_chk3 v17), (k0_dev222 v17) < nD := fun v17 k0_hw3 => k0_hw3.2.2.2.2.2.2.2.2.2.2.2.2.2.2.2.2.2.1
theorem k0_dev223_lt : ∀ (v17 : BitVec 32) (k0_hw3 : k0_chk3 v17), (k0_dev223 v17) < nD := fun v17 k0_hw3 => k0_hw3.2.2.2.2.2.2.2.2.2.2.2.2.2.2.2.2.2.2.1
theorem k0_dev226_lt : ∀ (v17 : BitVec 32) (k0_hw3 : k0_chk3 v17), (k0_dev226 v17) < nD := fun v17 k0_hw3 => k0_hw3.2.2.2.2.2.2.2.2.2.2.2.2.2.2.2.2.2.2.2.1
theorem k0_dev227_lt : ∀ (v17 : BitVec 32) (k0_hw3 : k0_chk3 v17), (k0_dev227 v17) < nD := fun v17 k0_hw3 => k0_hw3.2.2.2.2.2.2.2.2.2.2.2.2.2.2.2.2.2.2.2.2.1
theorem k0_dev230_lt : ∀ (v17 : BitVec 32) (k0_hw3 : k0_chk3 v17), (k0_dev230 v17) < nD := fun v17 k0_hw3 => k0_hw3.2.2.2.2.2.2.2.2.2.2.2.2.2.2.2.2.2.2.2.2.2.1
theorem k0_dev231_lt : ∀ (v17 : BitVec 32) (k0_hw3 : k0_chk3 v17), (k0_dev231 v17) < nD := fun v17 k0_hw3 => k0_hw3.2.2.2.2.2.2.2.2.2.2.2.2.2.2.2.2.2.2.2.2.2.2.1
theorem k0_dev234_lt : ∀ (v17 : BitVec 32) (k0_hw3 : k0_chk3 v17), (k0_dev234 v17) < nD := fun v17 k0_hw3 => k0_hw3.2.2.2.2.2.2.2.2.2.2.2.2.2.2.2.2.2.2.2.2.2.2.2.1
theorem k0_dev235_lt : ∀ (v17 : BitVec 32) (k0_hw3 : k0_chk3 v17), (k0_dev235 v17) < nD := fun v17 k0_hw3 => k0_hw3.2.2.2.2.2.2.2.2.2.2.2.2.2.2.2.2.2.2.2.2.2.2.2.2.1
theorem k0_dev238_lt : ∀ (v17 : BitVec 32) (k0_hw3 : k0_chk3 v17), (k0_dev238 v17) < nD := fun v17 k0_hw3 => k0_hw3.2.2.2.2.2.2.2.2.2.2.2.2.2.2.2.2.2.2.2.2.2.2.2.2.2.1
theorem k0_dev239_lt : ∀ (v17 : BitVec 32) (k0_hw3 : k0_chk3 v17), (k0_dev239 v17) < nD := fun v17 k0_hw3 => k0_hw3.2.2.2.2.2.2.2.2.2.2.2.2.2.2.2.2.2.2.2.2.2.2.2.2.2.2.1
theorem k0_dev241_lt : ∀ (v17 : BitVec 32) (k0_hw3 : k0_chk3 v17), (k0_dev241 v17) < nD := fun v17 k0_hw3 => k0_hw3.2.2.2.2.2.2.2.2.2.2.2.2.2.2.2.2.2.2.2.2.2.2.2.2.2.2.2

def k0_dev242 (v30 : BitVec 32) : Nat :=
  let c0_i32_7574 : BitVec 32 := 0#32
  let c1_i32_7573 : BitVec 32 := 1#32
  let v5620 : BitVec 32 := Scalar.muli v30 c1_i32_7573
  let v5621 : BitVec 32 := Scalar.addi c0_i32_7574 v5620
  v5621.toNat

def k0_chk2_0 (v30 : BitVec 32) : Prop :=
  ((k0_dev1 v30) < nD) ∧
  ((k0_dev5 v30) < nD) ∧
  ((k0_dev6 v30) < nD) ∧
  ((k0_dev8 v30) < nD) ∧
  ((k0_dev9 v30) < nD) ∧
  ((k0_dev12 v30) < nD) ∧
  ((k0_dev13 v30) < nD) ∧
  ((k0_dev16 v30) < nD) ∧
  ((k0_dev17 v30) < nD) ∧
  ((k0_dev20 v30) < nD) ∧
  ((k0_dev21 v30) < nD) ∧
  ((k0_dev24 v30) < nD) ∧
  ((k0_dev25 v30) < nD) ∧
  ((k0_dev28 v30) < nD) ∧
  ((k0_dev29 v30) < nD) ∧
  ((k0_dev32 v30) < nD) ∧
  ((k0_dev33 v30) < nD) ∧
  ((k0_dev36 v30) < nD) ∧
  ((k0_dev37 v30) < nD) ∧
  ((k0_dev40 v30) < nD) ∧
  ((k0_dev41 v30) < nD) ∧
  ((k0_dev44 v30) < nD) ∧
  ((k0_dev45 v30) < nD) ∧
  ((k0_dev48 v30) < nD) ∧
  ((k0_dev49 v30) < nD) ∧
  ((k0_dev52 v30) < nD) ∧
  ((k0_dev53 v30) < nD) ∧
  ((k0_dev56 v30) < nD) ∧
  ((k0_dev57 v30) < nD) ∧
  ((k0_dev60 v30) < nD) ∧
  ((k0_dev61 v30) < nD) ∧
  ((k0_dev64 v30) < nD)
def k0_chk2_1 (v30 : BitVec 32) : Prop :=
  ((k0_dev65 v30) < nD) ∧
  ((k0_dev68 v30) < nD) ∧
  ((k0_dev69 v30) < nD) ∧
  ((k0_dev72 v30) < nD) ∧
  ((k0_dev73 v30) < nD) ∧
  ((k0_dev76 v30) < nD) ∧
  ((k0_dev77 v30) < nD) ∧
  ((k0_dev80 v30) < nD) ∧
  ((k0_dev81 v30) < nD) ∧
  ((k0_dev84 v30) < nD) ∧
  ((k0_dev85 v30) < nD) ∧
  ((k0_dev88 v30) < nD) ∧
  ((k0_dev89 v30) < nD) ∧
  ((k0_dev92 v30) < nD) ∧
  ((k0_dev93 v30) < nD) ∧
  ((k0_dev96 v30) < nD) ∧
  ((k0_dev97 v30) < nD) ∧
  ((k0_dev100 v30) < nD) ∧
  ((k0_dev101 v30) < nD) ∧
  ((k0_dev104 v30) < nD) ∧
  ((k0_dev105 v30) < nD) ∧
  ((k0_dev108 v30) < nD) ∧
  ((k0_dev109 v30) < nD) ∧
  ((k0_dev112 v30) < nD) ∧
  ((k0_dev113 v30) < nD) ∧
  ((k0_dev116 v30) < nD) ∧
  ((k0_dev117 v30) < nD) ∧
  ((k0_dev120 v30) < nD) ∧
  ((k0_dev121 v30) < nD) ∧
  ((k0_dev124 v30) < nD) ∧
  ((k0_dev125 v30) < nD) ∧
  ((k0_dev128 v30) < nD)
def k0_chk2_2 (v30 : BitVec 32) : Prop :=
  ((k0_dev129 v30) < nD) ∧
  ((k0_dev132 v30) < nD) ∧
  ((k0_dev133 v30) < nD) ∧
  ((k0_dev136 v30) < nD) ∧
  ((k0_dev137 v30) < nD) ∧
  ((k0_dev140 v30) < nD) ∧
  ((k0_dev141 v30) < nD) ∧
  ((k0_dev144 v30) < nD) ∧
  ((k0_dev145 v30) < nD) ∧
  ((k0_dev148 v30) < nD) ∧
  ((k0_dev149 v30) < nD) ∧
  ((k0_dev152 v30) < nD) ∧
  ((k0_dev153 v30) < nD) ∧
  ((k0_dev156 v30) < nD) ∧
  ((k0_dev157 v30) < nD) ∧
  ((k0_dev160 v30) < nD) ∧
  ((k0_dev161 v30) < nD) ∧
  ((k0_dev164 v30) < nD) ∧
  ((k0_dev165 v30) < nD) ∧
  ((k0_dev168 v30) < nD) ∧
  ((k0_dev169 v30) < nD) ∧
  ((k0_dev172 v30) < nD) ∧
  ((k0_dev173 v30) < nD) ∧
  ((k0_dev176 v30) < nD) ∧
  ((k0_dev177 v30) < nD) ∧
  ((k0_dev180 v30) < nD) ∧
  ((k0_dev181 v30) < nD) ∧
  ((k0_dev184 v30) < nD) ∧
  ((k0_dev185 v30) < nD) ∧
  ((k0_dev188 v30) < nD) ∧
  ((k0_dev189 v30) < nD) ∧
  ((k0_dev192 v30) < nD)
def k0_chk2_3 (v30 : BitVec 32) : Prop :=
  ((k0_dev193 v30) < nD) ∧
  ((k0_dev196 v30) < nD) ∧
  ((k0_dev197 v30) < nD) ∧
  ((k0_dev200 v30) < nD) ∧
  ((k0_dev201 v30) < nD) ∧
  ((k0_dev204 v30) < nD) ∧
  ((k0_dev205 v30) < nD) ∧
  ((k0_dev208 v30) < nD) ∧
  ((k0_dev209 v30) < nD) ∧
  ((k0_dev212 v30) < nD) ∧
  ((k0_dev213 v30) < nD) ∧
  ((k0_dev216 v30) < nD) ∧
  ((k0_dev217 v30) < nD) ∧
  ((k0_dev220 v30) < nD) ∧
  ((k0_dev221 v30) < nD) ∧
  ((k0_dev224 v30) < nD) ∧
  ((k0_dev225 v30) < nD) ∧
  ((k0_dev228 v30) < nD) ∧
  ((k0_dev229 v30) < nD) ∧
  ((k0_dev232 v30) < nD) ∧
  ((k0_dev233 v30) < nD) ∧
  ((k0_dev236 v30) < nD) ∧
  ((k0_dev237 v30) < nD) ∧
  ((k0_dev240 v30) < nD) ∧
  ((k0_dev242 v30) < nD)
def k0_chk2 (v30 : BitVec 32) : Prop :=
  k0_chk2_0 v30 ∧
  k0_chk2_1 v30 ∧
  k0_chk2_2 v30 ∧
  k0_chk2_3 v30
theorem k0_dev1_lt : ∀ (v30 : BitVec 32) (k0_hw2 : k0_chk2 v30), (k0_dev1 v30) < nD := fun v30 k0_hw2 => k0_hw2.1.1
theorem k0_dev5_lt : ∀ (v30 : BitVec 32) (k0_hw2 : k0_chk2 v30), (k0_dev5 v30) < nD := fun v30 k0_hw2 => k0_hw2.1.2.1
theorem k0_dev6_lt : ∀ (v30 : BitVec 32) (k0_hw2 : k0_chk2 v30), (k0_dev6 v30) < nD := fun v30 k0_hw2 => k0_hw2.1.2.2.1
theorem k0_dev8_lt : ∀ (v30 : BitVec 32) (k0_hw2 : k0_chk2 v30), (k0_dev8 v30) < nD := fun v30 k0_hw2 => k0_hw2.1.2.2.2.1
theorem k0_dev9_lt : ∀ (v30 : BitVec 32) (k0_hw2 : k0_chk2 v30), (k0_dev9 v30) < nD := fun v30 k0_hw2 => k0_hw2.1.2.2.2.2.1
theorem k0_dev12_lt : ∀ (v30 : BitVec 32) (k0_hw2 : k0_chk2 v30), (k0_dev12 v30) < nD := fun v30 k0_hw2 => k0_hw2.1.2.2.2.2.2.1
theorem k0_dev13_lt : ∀ (v30 : BitVec 32) (k0_hw2 : k0_chk2 v30), (k0_dev13 v30) < nD := fun v30 k0_hw2 => k0_hw2.1.2.2.2.2.2.2.1
theorem k0_dev16_lt : ∀ (v30 : BitVec 32) (k0_hw2 : k0_chk2 v30), (k0_dev16 v30) < nD := fun v30 k0_hw2 => k0_hw2.1.2.2.2.2.2.2.2.1
theorem k0_dev17_lt : ∀ (v30 : BitVec 32) (k0_hw2 : k0_chk2 v30), (k0_dev17 v30) < nD := fun v30 k0_hw2 => k0_hw2.1.2.2.2.2.2.2.2.2.1
theorem k0_dev20_lt : ∀ (v30 : BitVec 32) (k0_hw2 : k0_chk2 v30), (k0_dev20 v30) < nD := fun v30 k0_hw2 => k0_hw2.1.2.2.2.2.2.2.2.2.2.1
theorem k0_dev21_lt : ∀ (v30 : BitVec 32) (k0_hw2 : k0_chk2 v30), (k0_dev21 v30) < nD := fun v30 k0_hw2 => k0_hw2.1.2.2.2.2.2.2.2.2.2.2.1
theorem k0_dev24_lt : ∀ (v30 : BitVec 32) (k0_hw2 : k0_chk2 v30), (k0_dev24 v30) < nD := fun v30 k0_hw2 => k0_hw2.1.2.2.2.2.2.2.2.2.2.2.2.1
theorem k0_dev25_lt : ∀ (v30 : BitVec 32) (k0_hw2 : k0_chk2 v30), (k0_dev25 v30) < nD := fun v30 k0_hw2 => k0_hw2.1.2.2.2.2.2.2.2.2.2.2.2.2.1
theorem k0_dev28_lt : ∀ (v30 : BitVec 32) (k0_hw2 : k0_chk2 v30), (k0_dev28 v30) < nD := fun v30 k0_hw2 => k0_hw2.1.2.2.2.2.2.2.2.2.2.2.2.2.2.1
theorem k0_dev29_lt : ∀ (v30 : BitVec 32) (k0_hw2 : k0_chk2 v30), (k0_dev29 v30) < nD := fun v30 k0_hw2 => k0_hw2.1.2.2.2.2.2.2.2.2.2.2.2.2.2.2.1
theorem k0_dev32_lt : ∀ (v30 : BitVec 32) (k0_hw2 : k0_chk2 v30), (k0_dev32 v30) < nD := fun v30 k0_hw2 => k0_hw2.1.2.2.2.2.2.2.2.2.2.2.2.2.2.2.2.1
theorem k0_dev33_lt : ∀ (v30 : BitVec 32) (k0_hw2 : k0_chk2 v30), (k0_dev33 v30) < nD := fun v30 k0_hw2 => k0_hw2.1.2.2.2.2.2.2.2.2.2.2.2.2.2.2.2.2.1
theorem k0_dev36_lt : ∀ (v30 : BitVec 32) (k0_hw2 : k0_chk2 v30), (k0_dev36 v30) < nD := fun v30 k0_hw2 => k0_hw2.1.2.2.2.2.2.2.2.2.2.2.2.2.2.2.2.2.2.1
theorem k0_dev37_lt : ∀ (v30 : BitVec 32) (k0_hw2 : k0_chk2 v30), (k0_dev37 v30) < nD := fun v30 k0_hw2 => k0_hw2.1.2.2.2.2.2.2.2.2.2.2.2.2.2.2.2.2.2.2.1
theorem k0_dev40_lt : ∀ (v30 : BitVec 32) (k0_hw2 : k0_chk2 v30), (k0_dev40 v30) < nD := fun v30 k0_hw2 => k0_hw2.1.2.2.2.2.2.2.2.2.2.2.2.2.2.2.2.2.2.2.2.1
theorem k0_dev41_lt : ∀ (v30 : BitVec 32) (k0_hw2 : k0_chk2 v30), (k0_dev41 v30) < nD := fun v30 k0_hw2 => k0_hw2.1.2.2.2.2.2.2.2.2.2.2.2.2.2.2.2.2.2.2.2.2.1
theorem k0_dev44_lt : ∀ (v30 : BitVec 32) (k0_hw2 : k0_chk2 v30), (k0_dev44 v30) < nD := fun v30 k0_hw2 => k0_hw2.1.2.2.2.2.2.2.2.2.2.2.2.2.2.2.2.2.2.2.2.2.2.1
theorem k0_dev45_lt : ∀ (v30 : BitVec 32) (k0_hw2 : k0_chk2 v30), (k0_dev45 v30) < nD := fun v30 k0_hw2 => k0_hw2.1.2.2.2.2.2.2.2.2.2.2.2.2.2.2.2.2.2.2.2.2.2.2.1
theorem k0_dev48_lt : ∀ (v30 : BitVec 32) (k0_hw2 : k0_chk2 v30), (k0_dev48 v30) < nD := fun v30 k0_hw2 => k0_hw2.1.2.2.2.2.2.2.2.2.2.2.2.2.2.2.2.2.2.2.2.2.2.2.2.1
theorem k0_dev49_lt : ∀ (v30 : BitVec 32) (k0_hw2 : k0_chk2 v30), (k0_dev49 v30) < nD := fun v30 k0_hw2 => k0_hw2.1.2.2.2.2.2.2.2.2.2.2.2.2.2.2.2.2.2.2.2.2.2.2.2.2.1
theorem k0_dev52_lt : ∀ (v30 : BitVec 32) (k0_hw2 : k0_chk2 v30), (k0_dev52 v30) < nD := fun v30 k0_hw2 => k0_hw2.1.2.2.2.2.2.2.2.2.2.2.2.2.2.2.2.2.2.2.2.2.2.2.2.2.2.1
theorem k0_dev53_lt : ∀ (v30 : BitVec 32) (k0_hw2 : k0_chk2 v30), (k0_dev53 v30) < nD := fun v30 k0_hw2 => k0_hw2.1.2.2.2.2.2.2.2.2.2.2.2.2.2.2.2.2.2.2.2.2.2.2.2.2.2.2.1
theorem k0_dev56_lt : ∀ (v30 : BitVec 32) (k0_hw2 : k0_chk2 v30), (k0_dev56 v30) < nD := fun v30 k0_hw2 => k0_hw2.1.2.2.2.2.2.2.2.2.2.2.2.2.2.2.2.2.2.2.2.2.2.2.2.2.2.2.2.1
theorem k0_dev57_lt : ∀ (v30 : BitVec 32) (k0_hw2 : k0_chk2 v30), (k0_dev57 v30) < nD := fun v30 k0_hw2 => k0_hw2.1.2.2.2.2.2.2.2.2.2.2.2.2.2.2.2.2.2.2.2.2.2.2.2.2.2.2.2.2.1
theorem k0_dev60_lt : ∀ (v30 : BitVec 32) (k0_hw2 : k0_chk2 v30), (k0_dev60 v30) < nD := fun v30 k0_hw2 => k0_hw2.1.2.2.2.2.2.2.2.2.2.2.2.2.2.2.2.2.2.2.2.2.2.2.2.2.2.2.2.2.2.1
theorem k0_dev61_lt : ∀ (v30 : BitVec 32) (k0_hw2 : k0_chk2 v30), (k0_dev61 v30) < nD := fun v30 k0_hw2 => k0_hw2.1.2.2.2.2.2.2.2.2.2.2.2.2.2.2.2.2.2.2.2.2.2.2.2.2.2.2.2.2.2.2.1
theorem k0_dev64_lt : ∀ (v30 : BitVec 32) (k0_hw2 : k0_chk2 v30), (k0_dev64 v30) < nD := fun v30 k0_hw2 => k0_hw2.1.2.2.2.2.2.2.2.2.2.2.2.2.2.2.2.2.2.2.2.2.2.2.2.2.2.2.2.2.2.2.2
theorem k0_dev65_lt : ∀ (v30 : BitVec 32) (k0_hw2 : k0_chk2 v30), (k0_dev65 v30) < nD := fun v30 k0_hw2 => k0_hw2.2.1.1
theorem k0_dev68_lt : ∀ (v30 : BitVec 32) (k0_hw2 : k0_chk2 v30), (k0_dev68 v30) < nD := fun v30 k0_hw2 => k0_hw2.2.1.2.1
theorem k0_dev69_lt : ∀ (v30 : BitVec 32) (k0_hw2 : k0_chk2 v30), (k0_dev69 v30) < nD := fun v30 k0_hw2 => k0_hw2.2.1.2.2.1
theorem k0_dev72_lt : ∀ (v30 : BitVec 32) (k0_hw2 : k0_chk2 v30), (k0_dev72 v30) < nD := fun v30 k0_hw2 => k0_hw2.2.1.2.2.2.1
theorem k0_dev73_lt : ∀ (v30 : BitVec 32) (k0_hw2 : k0_chk2 v30), (k0_dev73 v30) < nD := fun v30 k0_hw2 => k0_hw2.2.1.2.2.2.2.1
theorem k0_dev76_lt : ∀ (v30 : BitVec 32) (k0_hw2 : k0_chk2 v30), (k0_dev76 v30) < nD := fun v30 k0_hw2 => k0_hw2.2.1.2.2.2.2.2.1
theorem k0_dev77_lt : ∀ (v30 : BitVec 32) (k0_hw2 : k0_chk2 v30), (k0_dev77 v30) < nD := fun v30 k0_hw2 => k0_hw2.2.1.2.2.2.2.2.2.1
theorem k0_dev80_lt : ∀ (v30 : BitVec 32) (k0_hw2 : k0_chk2 v30), (k0_dev80 v30) < nD := fun v30 k0_hw2 => k0_hw2.2.1.2.2.2.2.2.2.2.1
theorem k0_dev81_lt : ∀ (v30 : BitVec 32) (k0_hw2 : k0_chk2 v30), (k0_dev81 v30) < nD := fun v30 k0_hw2 => k0_hw2.2.1.2.2.2.2.2.2.2.2.1
theorem k0_dev84_lt : ∀ (v30 : BitVec 32) (k0_hw2 : k0_chk2 v30), (k0_dev84 v30) < nD := fun v30 k0_hw2 => k0_hw2.2.1.2.2.2.2.2.2.2.2.2.1
theorem k0_dev85_lt : ∀ (v30 : BitVec 32) (k0_hw2 : k0_chk2 v30), (k0_dev85 v30) < nD := fun v30 k0_hw2 => k0_hw2.2.1.2.2.2.2.2.2.2.2.2.2.1
theorem k0_dev88_lt : ∀ (v30 : BitVec 32) (k0_hw2 : k0_chk2 v30), (k0_dev88 v30) < nD := fun v30 k0_hw2 => k0_hw2.2.1.2.2.2.2.2.2.2.2.2.2.2.1
theorem k0_dev89_lt : ∀ (v30 : BitVec 32) (k0_hw2 : k0_chk2 v30), (k0_dev89 v30) < nD := fun v30 k0_hw2 => k0_hw2.2.1.2.2.2.2.2.2.2.2.2.2.2.2.1
theorem k0_dev92_lt : ∀ (v30 : BitVec 32) (k0_hw2 : k0_chk2 v30), (k0_dev92 v30) < nD := fun v30 k0_hw2 => k0_hw2.2.1.2.2.2.2.2.2.2.2.2.2.2.2.2.1
theorem k0_dev93_lt : ∀ (v30 : BitVec 32) (k0_hw2 : k0_chk2 v30), (k0_dev93 v30) < nD := fun v30 k0_hw2 => k0_hw2.2.1.2.2.2.2.2.2.2.2.2.2.2.2.2.2.1
theorem k0_dev96_lt : ∀ (v30 : BitVec 32) (k0_hw2 : k0_chk2 v30), (k0_dev96 v30) < nD := fun v30 k0_hw2 => k0_hw2.2.1.2.2.2.2.2.2.2.2.2.2.2.2.2.2.2.1
theorem k0_dev97_lt : ∀ (v30 : BitVec 32) (k0_hw2 : k0_chk2 v30), (k0_dev97 v30) < nD := fun v30 k0_hw2 => k0_hw2.2.1.2.2.2.2.2.2.2.2.2.2.2.2.2.2.2.2.1
theorem k0_dev100_lt : ∀ (v30 : BitVec 32) (k0_hw2 : k0_chk2 v30), (k0_dev100 v30) < nD := fun v30 k0_hw2 => k0_hw2.2.1.2.2.2.2.2.2.2.2.2.2.2.2.2.2.2.2.2.1
theorem k0_dev101_lt : ∀ (v30 : BitVec 32) (k0_hw2 : k0_chk2 v30), (k0_dev101 v30) < nD := fun v30 k0_hw2 => k0_hw2.2.1.2.2.2.2.2.2.2.2.2.2.2.2.2.2.2.2.2.2.1
theorem k0_dev104_lt : ∀ (v30 : BitVec 32) (k0_hw2 : k0_chk2 v30), (k0_dev104 v30) < nD := fun v30 k0_hw2 => k0_hw2.2.1.2.2.2.2.2.2.2.2.2.2.2.2.2.2.2.2.2.2.2.1
theorem k0_dev105_lt : ∀ (v30 : BitVec 32) (k0_hw2 : k0_chk2 v30), (k0_dev105 v30) < nD := fun v30 k0_hw2 => k0_hw2.2.1.2.2.2.2.2.2.2.2.2.2.2.2.2.2.2.2.2.2.2.2.1
theorem k0_dev108_lt : ∀ (v30 : BitVec 32) (k0_hw2 : k0_chk2 v30), (k0_dev108 v30) < nD := fun v30 k0_hw2 => k0_hw2.2.1.2.2.2.2.2.2.2.2.2.2.2.2.2.2.2.2.2.2.2.2.2.1
theorem k0_dev109_lt : ∀ (v30 : BitVec 32) (k0_hw2 : k0_chk2 v30), (k0_dev109 v30) < nD := fun v30 k0_hw2 => k0_hw2.2.1.2.2.2.2.2.2.2.2.2.2.2.2.2.2.2.2.2.2.2.2.2.2.1
theorem k0_dev112_lt : ∀ (v30 : BitVec 32) (k0_hw2 : k0_chk2 v30), (k0_dev112 v30) < nD := fun v30 k0_hw2 => k0_hw2.2.1.2.2.2.2.2.2.2.2.2.2.2.2.2.2.2.2.2.2.2.2.2.2.2.1
theorem k0_dev113_lt : ∀ (v30 : BitVec 32) (k0_hw2 : k0_chk2 v30), (k0_dev113 v30) < nD := fun v30 k0_hw2 => k0_hw2.2.1.2.2.2.2.2.2.2.2.2.2.2.2.2.2.2.2.2.2.2.2.2.2.2.2.1
theorem k0_dev116_lt : ∀ (v30 : BitVec 32) (k0_hw2 : k0_chk2 v30), (k0_dev116 v30) < nD := fun v30 k0_hw2 => k0_hw2.2.1.2.2.2.2.2.2.2.2.2.2.2.2.2.2.2.2.2.2.2.2.2.2.2.2.2.1
theorem k0_dev117_lt : ∀ (v30 : BitVec 32) (k0_hw2 : k0_chk2 v30), (k0_dev117 v30) < nD := fun v30 k0_hw2 => k0_hw2.2.1.2.2.2.2.2.2.2.2.2.2.2.2.2.2.2.2.2.2.2.2.2.2.2.2.2.2.1
theorem k0_dev120_lt : ∀ (v30 : BitVec 32) (k0_hw2 : k0_chk2 v30), (k0_dev120 v30) < nD := fun v30 k0_hw2 => k0_hw2.2.1.2.2.2.2.2.2.2.2.2.2.2.2.2.2.2.2.2.2.2.2.2.2.2.2.2.2.2.1
theorem k0_dev121_lt : ∀ (v30 : BitVec 32) (k0_hw2 : k0_chk2 v30), (k0_dev121 v30) < nD := fun v30 k0_hw2 => k0_hw2.2.1.2.2.2.2.2.2.2.2.2.2.2.2.2.2.2.2.2.2.2.2.2.2.2.2.2.2.2.2.1
theorem k0_dev124_lt : ∀ (v30 : BitVec 32) (k0_hw2 : k0_chk2 v30), (k0_dev124 v30) < nD := fun v30 k0_hw2 => k0_hw2.2.1.2.2.2.2.2.2.2.2.2.2.2.2.2.2.2.2.2.2.2.2.2.2.2.2.2.2.2.2.2.1
theorem k0_dev125_lt : ∀ (v30 : BitVec 32) (k0_hw2 : k0_chk2 v30), (k0_dev125 v30) < nD := fun v30 k0_hw2 => k0_hw2.2.1.2.2.2.2.2.2.2.2.2.2.2.2.2.2.2.2.2.2.2.2.2.2.2.2.2.2.2.2.2.2.1
theorem k0_dev128_lt : ∀ (v30 : BitVec 32) (k0_hw2 : k0_chk2 v30), (k0_dev128 v30) < nD := fun v30 k0_hw2 => k0_hw2.2.1.2.2.2.2.2.2.2.2.2.2.2.2.2.2.2.2.2.2.2.2.2.2.2.2.2.2.2.2.2.2.2
theorem k0_dev129_lt : ∀ (v30 : BitVec 32) (k0_hw2 : k0_chk2 v30), (k0_dev129 v30) < nD := fun v30 k0_hw2 => k0_hw2.2.2.1.1
theorem k0_dev132_lt : ∀ (v30 : BitVec 32) (k0_hw2 : k0_chk2 v30), (k0_dev132 v30) < nD := fun v30 k0_hw2 => k0_hw2.2.2.1.2.1
theorem k0_dev133_lt : ∀ (v30 : BitVec 32) (k0_hw2 : k0_chk2 v30), (k0_dev133 v30) < nD := fun v30 k0_hw2 => k0_hw2.2.2.1.2.2.1
theorem k0_dev136_lt : ∀ (v30 : BitVec 32) (k0_hw2 : k0_chk2 v30), (k0_dev136 v30) < nD := fun v30 k0_hw2 => k0_hw2.2.2.1.2.2.2.1
theorem k0_dev137_lt : ∀ (v30 : BitVec 32) (k0_hw2 : k0_chk2 v30), (k0_dev137 v30) < nD := fun v30 k0_hw2 => k0_hw2.2.2.1.2.2.2.2.1
theorem k0_dev140_lt : ∀ (v30 : BitVec 32) (k0_hw2 : k0_chk2 v30), (k0_dev140 v30) < nD := fun v30 k0_hw2 => k0_hw2.2.2.1.2.2.2.2.2.1
theorem k0_dev141_lt : ∀ (v30 : BitVec 32) (k0_hw2 : k0_chk2 v30), (k0_dev141 v30) < nD := fun v30 k0_hw2 => k0_hw2.2.2.1.2.2.2.2.2.2.1
theorem k0_dev144_lt : ∀ (v30 : BitVec 32) (k0_hw2 : k0_chk2 v30), (k0_dev144 v30) < nD := fun v30 k0_hw2 => k0_hw2.2.2.1.2.2.2.2.2.2.2.1
theorem k0_dev145_lt : ∀ (v30 : BitVec 32) (k0_hw2 : k0_chk2 v30), (k0_dev145 v30) < nD := fun v30 k0_hw2 => k0_hw2.2.2.1.2.2.2.2.2.2.2.2.1
theorem k0_dev148_lt : ∀ (v30 : BitVec 32) (k0_hw2 : k0_chk2 v30), (k0_dev148 v30) < nD := fun v30 k0_hw2 => k0_hw2.2.2.1.2.2.2.2.2.2.2.2.2.1
theorem k0_dev149_lt : ∀ (v30 : BitVec 32) (k0_hw2 : k0_chk2 v30), (k0_dev149 v30) < nD := fun v30 k0_hw2 => k0_hw2.2.2.1.2.2.2.2.2.2.2.2.2.2.1
theorem k0_dev152_lt : ∀ (v30 : BitVec 32) (k0_hw2 : k0_chk2 v30), (k0_dev152 v30) < nD := fun v30 k0_hw2 => k0_hw2.2.2.1.2.2.2.2.2.2.2.2.2.2.2.1
theorem k0_dev153_lt : ∀ (v30 : BitVec 32) (k0_hw2 : k0_chk2 v30), (k0_dev153 v30) < nD := fun v30 k0_hw2 => k0_hw2.2.2.1.2.2.2.2.2.2.2.2.2.2.2.2.1
theorem k0_dev156_lt : ∀ (v30 : BitVec 32) (k0_hw2 : k0_chk2 v30), (k0_dev156 v30) < nD := fun v30 k0_hw2 => k0_hw2.2.2.1.2.2.2.2.2.2.2.2.2.2.2.2.2.1
theorem k0_dev157_lt : ∀ (v30 : BitVec 32) (k0_hw2 : k0_chk2 v30), (k0_dev157 v30) < nD := fun v30 k0_hw2 => k0_hw2.2.2.1.2.2.2.2.2.2.2.2.2.2.2.2.2.2.1
theorem k0_dev160_lt : ∀ (v30 : BitVec 32) (k0_hw2 : k0_chk2 v30), (k0_dev160 v30) < nD := fun v30 k0_hw2 => k0_hw2.2.2.1.2.2.2.2.2.2.2.2.2.2.2.2.2.2.2.1
theorem k0_dev161_lt : ∀ (v30 : BitVec 32) (k0_hw2 : k0_chk2 v30), (k0_dev161 v30) < nD := fun v30 k0_hw2 => k0_hw2.2.2.1.2.2.2.2.2.2.2.2.2.2.2.2.2.2.2.2.1
theorem k0_dev164_lt : ∀ (v30 : BitVec 32) (k0_hw2 : k0_chk2 v30), (k0_dev164 v30) < nD := fun v30 k0_hw2 => k0_hw2.2.2.1.2.2.2.2.2.2.2.2.2.2.2.2.2.2.2.2.2.1
theorem k0_dev165_lt : ∀ (v30 : BitVec 32) (k0_hw2 : k0_chk2 v30), (k0_dev165 v30) < nD := fun v30 k0_hw2 => k0_hw2.2.2.1.2.2.2.2.2.2.2.2.2.2.2.2.2.2.2.2.2.2.1
theorem k0_dev168_lt : ∀ (v30 : BitVec 32) (k0_hw2 : k0_chk2 v30), (k0_dev168 v30) < nD := fun v30 k0_hw2 => k0_hw2.2.2.1.2.2.2.2.2.2.2.2.2.2.2.2.2.2.2.2.2.2.2.1
theorem k0_dev169_lt : ∀ (v30 : BitVec 32) (k0_hw2 : k0_chk2 v30), (k0_dev169 v30) < nD := fun v30 k0_hw2 => k0_hw2.2.2.1.2.2.2.2.2.2.2.2.2.2.2.2.2.2.2.2.2.2.2.2.1
theorem k0_dev172_lt : ∀ (v30 : BitVec 32) (k0_hw2 : k0_chk2 v30), (k0_dev172 v30) < nD := fun v30 k0_hw2 => k0_hw2.2.2.1.2.2.2.2.2.2.2.2.2.2.2.2.2.2.2.2.2.2.2.2.2.1
theorem k0_dev173_lt : ∀ (v30 : BitVec 32) (k0_hw2 : k0_chk2 v30), (k0_dev173 v30) < nD := fun v30 k0_hw2 => k0_hw2.2.2.1.2.2.2.2.2.2.2.2.2.2.2.2.2.2.2.2.2.2.2.2.2.2.1
theorem k0_dev176_lt : ∀ (v30 : BitVec 32) (k0_hw2 : k0_chk2 v30), (k0_dev176 v30) < nD := fun v30 k0_hw2 => k0_hw2.2.2.1.2.2.2.2.2.2.2.2.2.2.2.2.2.2.2.2.2.2.2.2.2.2.2.1
theorem k0_dev177_lt : ∀ (v30 : BitVec 32) (k0_hw2 : k0_chk2 v30), (k0_dev177 v30) < nD := fun v30 k0_hw2 => k0_hw2.2.2.1.2.2.2.2.2.2.2.2.2.2.2.2.2.2.2.2.2.2.2.2.2.2.2.2.1
theorem k0_dev180_lt : ∀ (v30 : BitVec 32) (k0_hw2 : k0_chk2 v30), (k0_dev180 v30) < nD := fun v30 k0_hw2 => k0_hw2.2.2.1.2.2.2.2.2.2.2.2.2.2.2.2.2.2.2.2.2.2.2.2.2.2.2.2.2.1
theorem k0_dev181_lt : ∀ (v30 : BitVec 32) (k0_hw2 : k0_chk2 v30), (k0_dev181 v30) < nD := fun v30 k0_hw2 => k0_hw2.2.2.1.2.2.2.2.2.2.2.2.2.2.2.2.2.2.2.2.2.2.2.2.2.2.2.2.2.2.1
theorem k0_dev184_lt : ∀ (v30 : BitVec 32) (k0_hw2 : k0_chk2 v30), (k0_dev184 v30) < nD := fun v30 k0_hw2 => k0_hw2.2.2.1.2.2.2.2.2.2.2.2.2.2.2.2.2.2.2.2.2.2.2.2.2.2.2.2.2.2.2.1
theorem k0_dev185_lt : ∀ (v30 : BitVec 32) (k0_hw2 : k0_chk2 v30), (k0_dev185 v30) < nD := fun v30 k0_hw2 => k0_hw2.2.2.1.2.2.2.2.2.2.2.2.2.2.2.2.2.2.2.2.2.2.2.2.2.2.2.2.2.2.2.2.1
theorem k0_dev188_lt : ∀ (v30 : BitVec 32) (k0_hw2 : k0_chk2 v30), (k0_dev188 v30) < nD := fun v30 k0_hw2 => k0_hw2.2.2.1.2.2.2.2.2.2.2.2.2.2.2.2.2.2.2.2.2.2.2.2.2.2.2.2.2.2.2.2.2.1
theorem k0_dev189_lt : ∀ (v30 : BitVec 32) (k0_hw2 : k0_chk2 v30), (k0_dev189 v30) < nD := fun v30 k0_hw2 => k0_hw2.2.2.1.2.2.2.2.2.2.2.2.2.2.2.2.2.2.2.2.2.2.2.2.2.2.2.2.2.2.2.2.2.2.1
theorem k0_dev192_lt : ∀ (v30 : BitVec 32) (k0_hw2 : k0_chk2 v30), (k0_dev192 v30) < nD := fun v30 k0_hw2 => k0_hw2.2.2.1.2.2.2.2.2.2.2.2.2.2.2.2.2.2.2.2.2.2.2.2.2.2.2.2.2.2.2.2.2.2.2
theorem k0_dev193_lt : ∀ (v30 : BitVec 32) (k0_hw2 : k0_chk2 v30), (k0_dev193 v30) < nD := fun v30 k0_hw2 => k0_hw2.2.2.2.1
theorem k0_dev196_lt : ∀ (v30 : BitVec 32) (k0_hw2 : k0_chk2 v30), (k0_dev196 v30) < nD := fun v30 k0_hw2 => k0_hw2.2.2.2.2.1
theorem k0_dev197_lt : ∀ (v30 : BitVec 32) (k0_hw2 : k0_chk2 v30), (k0_dev197 v30) < nD := fun v30 k0_hw2 => k0_hw2.2.2.2.2.2.1
theorem k0_dev200_lt : ∀ (v30 : BitVec 32) (k0_hw2 : k0_chk2 v30), (k0_dev200 v30) < nD := fun v30 k0_hw2 => k0_hw2.2.2.2.2.2.2.1
theorem k0_dev201_lt : ∀ (v30 : BitVec 32) (k0_hw2 : k0_chk2 v30), (k0_dev201 v30) < nD := fun v30 k0_hw2 => k0_hw2.2.2.2.2.2.2.2.1
theorem k0_dev204_lt : ∀ (v30 : BitVec 32) (k0_hw2 : k0_chk2 v30), (k0_dev204 v30) < nD := fun v30 k0_hw2 => k0_hw2.2.2.2.2.2.2.2.2.1
theorem k0_dev205_lt : ∀ (v30 : BitVec 32) (k0_hw2 : k0_chk2 v30), (k0_dev205 v30) < nD := fun v30 k0_hw2 => k0_hw2.2.2.2.2.2.2.2.2.2.1
theorem k0_dev208_lt : ∀ (v30 : BitVec 32) (k0_hw2 : k0_chk2 v30), (k0_dev208 v30) < nD := fun v30 k0_hw2 => k0_hw2.2.2.2.2.2.2.2.2.2.2.1
theorem k0_dev209_lt : ∀ (v30 : BitVec 32) (k0_hw2 : k0_chk2 v30), (k0_dev209 v30) < nD := fun v30 k0_hw2 => k0_hw2.2.2.2.2.2.2.2.2.2.2.2.1
theorem k0_dev212_lt : ∀ (v30 : BitVec 32) (k0_hw2 : k0_chk2 v30), (k0_dev212 v30) < nD := fun v30 k0_hw2 => k0_hw2.2.2.2.2.2.2.2.2.2.2.2.2.1
theorem k0_dev213_lt : ∀ (v30 : BitVec 32) (k0_hw2 : k0_chk2 v30), (k0_dev213 v30) < nD := fun v30 k0_hw2 => k0_hw2.2.2.2.2.2.2.2.2.2.2.2.2.2.1
theorem k0_dev216_lt : ∀ (v30 : BitVec 32) (k0_hw2 : k0_chk2 v30), (k0_dev216 v30) < nD := fun v30 k0_hw2 => k0_hw2.2.2.2.2.2.2.2.2.2.2.2.2.2.2.1
theorem k0_dev217_lt : ∀ (v30 : BitVec 32) (k0_hw2 : k0_chk2 v30), (k0_dev217 v30) < nD := fun v30 k0_hw2 => k0_hw2.2.2.2.2.2.2.2.2.2.2.2.2.2.2.2.1
theorem k0_dev220_lt : ∀ (v30 : BitVec 32) (k0_hw2 : k0_chk2 v30), (k0_dev220 v30) < nD := fun v30 k0_hw2 => k0_hw2.2.2.2.2.2.2.2.2.2.2.2.2.2.2.2.2.1
theorem k0_dev221_lt : ∀ (v30 : BitVec 32) (k0_hw2 : k0_chk2 v30), (k0_dev221 v30) < nD := fun v30 k0_hw2 => k0_hw2.2.2.2.2.2.2.2.2.2.2.2.2.2.2.2.2.2.1
theorem k0_dev224_lt : ∀ (v30 : BitVec 32) (k0_hw2 : k0_chk2 v30), (k0_dev224 v30) < nD := fun v30 k0_hw2 => k0_hw2.2.2.2.2.2.2.2.2.2.2.2.2.2.2.2.2.2.2.1
theorem k0_dev225_lt : ∀ (v30 : BitVec 32) (k0_hw2 : k0_chk2 v30), (k0_dev225 v30) < nD := fun v30 k0_hw2 => k0_hw2.2.2.2.2.2.2.2.2.2.2.2.2.2.2.2.2.2.2.2.1
theorem k0_dev228_lt : ∀ (v30 : BitVec 32) (k0_hw2 : k0_chk2 v30), (k0_dev228 v30) < nD := fun v30 k0_hw2 => k0_hw2.2.2.2.2.2.2.2.2.2.2.2.2.2.2.2.2.2.2.2.2.1
theorem k0_dev229_lt : ∀ (v30 : BitVec 32) (k0_hw2 : k0_chk2 v30), (k0_dev229 v30) < nD := fun v30 k0_hw2 => k0_hw2.2.2.2.2.2.2.2.2.2.2.2.2.2.2.2.2.2.2.2.2.2.1
theorem k0_dev232_lt : ∀ (v30 : BitVec 32) (k0_hw2 : k0_chk2 v30), (k0_dev232 v30) < nD := fun v30 k0_hw2 => k0_hw2.2.2.2.2.2.2.2.2.2.2.2.2.2.2.2.2.2.2.2.2.2.2.1
theorem k0_dev233_lt : ∀ (v30 : BitVec 32) (k0_hw2 : k0_chk2 v30), (k0_dev233 v30) < nD := fun v30 k0_hw2 => k0_hw2.2.2.2.2.2.2.2.2.2.2.2.2.2.2.2.2.2.2.2.2.2.2.2.1
theorem k0_dev236_lt : ∀ (v30 : BitVec 32) (k0_hw2 : k0_chk2 v30), (k0_dev236 v30) < nD := fun v30 k0_hw2 => k0_hw2.2.2.2.2.2.2.2.2.2.2.2.2.2.2.2.2.2.2.2.2.2.2.2.2.1
theorem k0_dev237_lt : ∀ (v30 : BitVec 32) (k0_hw2 : k0_chk2 v30), (k0_dev237 v30) < nD := fun v30 k0_hw2 => k0_hw2.2.2.2.2.2.2.2.2.2.2.2.2.2.2.2.2.2.2.2.2.2.2.2.2.2.1
theorem k0_dev240_lt : ∀ (v30 : BitVec 32) (k0_hw2 : k0_chk2 v30), (k0_dev240 v30) < nD := fun v30 k0_hw2 => k0_hw2.2.2.2.2.2.2.2.2.2.2.2.2.2.2.2.2.2.2.2.2.2.2.2.2.2.2.1
theorem k0_dev242_lt : ∀ (v30 : BitVec 32) (k0_hw2 : k0_chk2 v30), (k0_dev242 v30) < nD := fun v30 k0_hw2 => k0_hw2.2.2.2.2.2.2.2.2.2.2.2.2.2.2.2.2.2.2.2.2.2.2.2.2.2.2.2

def k0_off128 (v4 : BitVec 32) : Fin 1 → Nat :=
  let c2_i32_7579 : BitVec 32 := 2#32
  let v5630 : BitVec 32 := Scalar.subi v4 c2_i32_7579
  let c30_i32 : BitVec 32 := 30#32
  let v5631 : BitVec 32 := Scalar.subi v5630 c30_i32
  let c32_i32_7580 : BitVec 32 := 32#32
  let c0_i32_7581 : BitVec 32 := 0#32
  let v5632 : BitVec 1 := Scalar.cmpi .eq c32_i32_7580 c0_i32_7581
  let c1_i32_7582 : BitVec 32 := 1#32
  let v5633 : BitVec 32 := Scalar.select v5632 c1_i32_7582 c32_i32_7580
  let v5634 : BitVec 32 := Scalar.remsi v5631 v5633
  let c0_i32_7584 : BitVec 32 := 0#32
  let v5636 : BitVec 1 := Scalar.cmpi .slt v5634 c0_i32_7584
  let c0_i32_7585 : BitVec 32 := 0#32
  let v5637 : BitVec 1 := Scalar.cmpi .slt v5633 c0_i32_7585
  let v5638 : BitVec 1 := Scalar.xori v5636 v5637
  let c0_i32_7583 : BitVec 32 := 0#32
  let v5635 : BitVec 1 := Scalar.cmpi .ne v5634 c0_i32_7583
  let v5639 : BitVec 1 := Scalar.andi v5638 v5635
  let v5640 : BitVec 32 := Scalar.addi v5634 v5633
  let v5641 : BitVec 32 := Scalar.select v5639 v5640 v5634
  let v5642 : Index := Scalar.indexCast v5641
  ![v5642.toNat]
def k0_off129 (v5643 : BitVec 32) : Fin 2 → Nat :=
  let c128_i32_7586 : BitVec 32 := 128#32
  let v5644 : BitVec 32 := Scalar.muli v5643 c128_i32_7586
  let v5645 : Index := Scalar.indexCast v5644
  let c0_7587 : Index := 0#32
  ![v5645.toNat, 0]

def k0_chk66 (v5643 : BitVec 32) : Prop :=
  (∀ a, (k0_off129 v5643) a + S128x128.size a ≤ S4096x128.size a)
theorem k0_off129_inb : ∀ (v5643 : BitVec 32) (k0_hw66 : k0_chk66 v5643), ∀ a, (k0_off129 v5643) a + S128x128.size a ≤ S4096x128.size a := fun v5643 k0_hw66 => k0_hw66

def k0_off130 (v4 : BitVec 32) : Fin 1 → Nat :=
  let c2_i32_7596 : BitVec 32 := 2#32
  let v5658 : BitVec 32 := Scalar.addi v4 c2_i32_7596
  let c30_i32_7597 : BitVec 32 := 30#32
  let v5659 : BitVec 32 := Scalar.addi v5658 c30_i32_7597
  let c32_i32_7598 : BitVec 32 := 32#32
  let c0_i32_7599 : BitVec 32 := 0#32
  let v5660 : BitVec 1 := Scalar.cmpi .eq c32_i32_7598 c0_i32_7599
  let c1_i32_7600 : BitVec 32 := 1#32
  let v5661 : BitVec 32 := Scalar.select v5660 c1_i32_7600 c32_i32_7598
  let v5662 : BitVec 32 := Scalar.remsi v5659 v5661
  let c0_i32_7602 : BitVec 32 := 0#32
  let v5664 : BitVec 1 := Scalar.cmpi .slt v5662 c0_i32_7602
  let c0_i32_7603 : BitVec 32 := 0#32
  let v5665 : BitVec 1 := Scalar.cmpi .slt v5661 c0_i32_7603
  let v5666 : BitVec 1 := Scalar.xori v5664 v5665
  let c0_i32_7601 : BitVec 32 := 0#32
  let v5663 : BitVec 1 := Scalar.cmpi .ne v5662 c0_i32_7601
  let v5667 : BitVec 1 := Scalar.andi v5666 v5663
  let v5668 : BitVec 32 := Scalar.addi v5662 v5661
  let v5669 : BitVec 32 := Scalar.select v5667 v5668 v5662
  let v5670 : Index := Scalar.indexCast v5669
  ![v5670.toNat]

def k0_chk1_0 (v4 : BitVec 32) : Prop :=
  (∀ a, (k0_off2 v4) a + S1.size a ≤ S32.size a) ∧
  (∀ a, (k0_off3 v4) a + S1.size a ≤ S32.size a) ∧
  (∀ a, (k0_off4 v4) a + S1.size a ≤ S32.size a) ∧
  (∀ a, (k0_off6 v4) a + S1.size a ≤ S32.size a) ∧
  (∀ a, (k0_off8 v4) a + S1.size a ≤ S32.size a) ∧
  (∀ a, (k0_off10 v4) a + S1.size a ≤ S32.size a) ∧
  (∀ a, (k0_off12 v4) a + S1.size a ≤ S32.size a) ∧
  (∀ a, (k0_off14 v4) a + S1.size a ≤ S32.size a) ∧
  (∀ a, (k0_off16 v4) a + S1.size a ≤ S32.size a) ∧
  (∀ a, (k0_off18 v4) a + S1.size a ≤ S32.size a) ∧
  (∀ a, (k0_off20 v4) a + S1.size a ≤ S32.size a) ∧
  (∀ a, (k0_off22 v4) a + S1.size a ≤ S32.size a) ∧
  (∀ a, (k0_off24 v4) a + S1.size a ≤ S32.size a) ∧
  (∀ a, (k0_off26 v4) a + S1.size a ≤ S32.size a) ∧
  (∀ a, (k0_off28 v4) a + S1.size a ≤ S32.size a) ∧
  (∀ a, (k0_off30 v4) a + S1.size a ≤ S32.size a) ∧
  (∀ a, (k0_off32 v4) a + S1.size a ≤ S32.size a) ∧
  (∀ a, (k0_off34 v4) a + S1.size a ≤ S32.size a) ∧
  (∀ a, (k0_off36 v4) a + S1.size a ≤ S32.size a) ∧
  (∀ a, (k0_off38 v4) a + S1.size a ≤ S32.size a) ∧
  (∀ a, (k0_off40 v4) a + S1.size a ≤ S32.size a) ∧
  (∀ a, (k0_off42 v4) a + S1.size a ≤ S32.size a) ∧
  (∀ a, (k0_off44 v4) a + S1.size a ≤ S32.size a) ∧
  (∀ a, (k0_off46 v4) a + S1.size a ≤ S32.size a) ∧
  (∀ a, (k0_off48 v4) a + S1.size a ≤ S32.size a) ∧
  (∀ a, (k0_off50 v4) a + S1.size a ≤ S32.size a) ∧
  (∀ a, (k0_off52 v4) a + S1.size a ≤ S32.size a) ∧
  (∀ a, (k0_off54 v4) a + S1.size a ≤ S32.size a) ∧
  (∀ a, (k0_off56 v4) a + S1.size a ≤ S32.size a) ∧
  (∀ a, (k0_off58 v4) a + S1.size a ≤ S32.size a) ∧
  (∀ a, (k0_off60 v4) a + S1.size a ≤ S32.size a) ∧
  (∀ a, (k0_off62 v4) a + S1.size a ≤ S32.size a)
def k0_chk1_1 (v4 : BitVec 32) : Prop :=
  (∀ a, (k0_off64 v4) a + S1.size a ≤ S32.size a) ∧
  (∀ a, (k0_off66 v4) a + S1.size a ≤ S32.size a) ∧
  (∀ a, (k0_off68 v4) a + S1.size a ≤ S32.size a) ∧
  (∀ a, (k0_off70 v4) a + S1.size a ≤ S32.size a) ∧
  (∀ a, (k0_off72 v4) a + S1.size a ≤ S32.size a) ∧
  (∀ a, (k0_off74 v4) a + S1.size a ≤ S32.size a) ∧
  (∀ a, (k0_off76 v4) a + S1.size a ≤ S32.size a) ∧
  (∀ a, (k0_off78 v4) a + S1.size a ≤ S32.size a) ∧
  (∀ a, (k0_off80 v4) a + S1.size a ≤ S32.size a) ∧
  (∀ a, (k0_off82 v4) a + S1.size a ≤ S32.size a) ∧
  (∀ a, (k0_off84 v4) a + S1.size a ≤ S32.size a) ∧
  (∀ a, (k0_off86 v4) a + S1.size a ≤ S32.size a) ∧
  (∀ a, (k0_off88 v4) a + S1.size a ≤ S32.size a) ∧
  (∀ a, (k0_off90 v4) a + S1.size a ≤ S32.size a) ∧
  (∀ a, (k0_off92 v4) a + S1.size a ≤ S32.size a) ∧
  (∀ a, (k0_off94 v4) a + S1.size a ≤ S32.size a) ∧
  (∀ a, (k0_off96 v4) a + S1.size a ≤ S32.size a) ∧
  (∀ a, (k0_off98 v4) a + S1.size a ≤ S32.size a) ∧
  (∀ a, (k0_off100 v4) a + S1.size a ≤ S32.size a) ∧
  (∀ a, (k0_off102 v4) a + S1.size a ≤ S32.size a) ∧
  (∀ a, (k0_off104 v4) a + S1.size a ≤ S32.size a) ∧
  (∀ a, (k0_off106 v4) a + S1.size a ≤ S32.size a) ∧
  (∀ a, (k0_off108 v4) a + S1.size a ≤ S32.size a) ∧
  (∀ a, (k0_off110 v4) a + S1.size a ≤ S32.size a) ∧
  (∀ a, (k0_off112 v4) a + S1.size a ≤ S32.size a) ∧
  (∀ a, (k0_off114 v4) a + S1.size a ≤ S32.size a) ∧
  (∀ a, (k0_off116 v4) a + S1.size a ≤ S32.size a) ∧
  (∀ a, (k0_off118 v4) a + S1.size a ≤ S32.size a) ∧
  (∀ a, (k0_off120 v4) a + S1.size a ≤ S32.size a) ∧
  (∀ a, (k0_off122 v4) a + S1.size a ≤ S32.size a) ∧
  (∀ a, (k0_off124 v4) a + S1.size a ≤ S32.size a) ∧
  (∀ a, (k0_off126 v4) a + S1.size a ≤ S32.size a)
def k0_chk1_2 (v4 : BitVec 32) : Prop :=
  (∀ a, (k0_off128 v4) a + S1.size a ≤ S32.size a) ∧
  (∀ a, (k0_off130 v4) a + S1.size a ≤ S32.size a)
def k0_chk1 (v4 : BitVec 32) : Prop :=
  k0_chk1_0 v4 ∧
  k0_chk1_1 v4 ∧
  k0_chk1_2 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off4_inb : ∀ (v4 : BitVec 32) (k0_hw1 : k0_chk1 v4), ∀ a, (k0_off4 v4) a + S1.size a ≤ S32.size a := fun v4 k0_hw1 => k0_hw1.1.2.2.1
theorem k0_off6_inb : ∀ (v4 : BitVec 32) (k0_hw1 : k0_chk1 v4), ∀ a, (k0_off6 v4) a + S1.size a ≤ S32.size a := fun v4 k0_hw1 => k0_hw1.1.2.2.2.1
theorem k0_off8_inb : ∀ (v4 : BitVec 32) (k0_hw1 : k0_chk1 v4), ∀ a, (k0_off8 v4) a + S1.size a ≤ S32.size a := fun v4 k0_hw1 => k0_hw1.1.2.2.2.2.1
theorem k0_off10_inb : ∀ (v4 : BitVec 32) (k0_hw1 : k0_chk1 v4), ∀ a, (k0_off10 v4) a + S1.size a ≤ S32.size a := fun v4 k0_hw1 => k0_hw1.1.2.2.2.2.2.1
theorem k0_off12_inb : ∀ (v4 : BitVec 32) (k0_hw1 : k0_chk1 v4), ∀ a, (k0_off12 v4) a + S1.size a ≤ S32.size a := fun v4 k0_hw1 => k0_hw1.1.2.2.2.2.2.2.1
theorem k0_off14_inb : ∀ (v4 : BitVec 32) (k0_hw1 : k0_chk1 v4), ∀ a, (k0_off14 v4) a + S1.size a ≤ S32.size a := fun v4 k0_hw1 => k0_hw1.1.2.2.2.2.2.2.2.1
theorem k0_off16_inb : ∀ (v4 : BitVec 32) (k0_hw1 : k0_chk1 v4), ∀ a, (k0_off16 v4) a + S1.size a ≤ S32.size a := fun v4 k0_hw1 => k0_hw1.1.2.2.2.2.2.2.2.2.1
theorem k0_off18_inb : ∀ (v4 : BitVec 32) (k0_hw1 : k0_chk1 v4), ∀ a, (k0_off18 v4) a + S1.size a ≤ S32.size a := fun v4 k0_hw1 => k0_hw1.1.2.2.2.2.2.2.2.2.2.1
theorem k0_off20_inb : ∀ (v4 : BitVec 32) (k0_hw1 : k0_chk1 v4), ∀ a, (k0_off20 v4) a + S1.size a ≤ S32.size a := fun v4 k0_hw1 => k0_hw1.1.2.2.2.2.2.2.2.2.2.2.1
theorem k0_off22_inb : ∀ (v4 : BitVec 32) (k0_hw1 : k0_chk1 v4), ∀ a, (k0_off22 v4) a + S1.size a ≤ S32.size a := fun v4 k0_hw1 => k0_hw1.1.2.2.2.2.2.2.2.2.2.2.2.1
theorem k0_off24_inb : ∀ (v4 : BitVec 32) (k0_hw1 : k0_chk1 v4), ∀ a, (k0_off24 v4) a + S1.size a ≤ S32.size a := fun v4 k0_hw1 => k0_hw1.1.2.2.2.2.2.2.2.2.2.2.2.2.1
theorem k0_off26_inb : ∀ (v4 : BitVec 32) (k0_hw1 : k0_chk1 v4), ∀ a, (k0_off26 v4) a + S1.size a ≤ S32.size a := fun v4 k0_hw1 => k0_hw1.1.2.2.2.2.2.2.2.2.2.2.2.2.2.1
theorem k0_off28_inb : ∀ (v4 : BitVec 32) (k0_hw1 : k0_chk1 v4), ∀ a, (k0_off28 v4) a + S1.size a ≤ S32.size a := fun v4 k0_hw1 => k0_hw1.1.2.2.2.2.2.2.2.2.2.2.2.2.2.2.1
theorem k0_off30_inb : ∀ (v4 : BitVec 32) (k0_hw1 : k0_chk1 v4), ∀ a, (k0_off30 v4) a + S1.size a ≤ S32.size a := fun v4 k0_hw1 => k0_hw1.1.2.2.2.2.2.2.2.2.2.2.2.2.2.2.2.1
theorem k0_off32_inb : ∀ (v4 : BitVec 32) (k0_hw1 : k0_chk1 v4), ∀ a, (k0_off32 v4) a + S1.size a ≤ S32.size a := fun v4 k0_hw1 => k0_hw1.1.2.2.2.2.2.2.2.2.2.2.2.2.2.2.2.2.1
theorem k0_off34_inb : ∀ (v4 : BitVec 32) (k0_hw1 : k0_chk1 v4), ∀ a, (k0_off34 v4) a + S1.size a ≤ S32.size a := fun v4 k0_hw1 => k0_hw1.1.2.2.2.2.2.2.2.2.2.2.2.2.2.2.2.2.2.1
theorem k0_off36_inb : ∀ (v4 : BitVec 32) (k0_hw1 : k0_chk1 v4), ∀ a, (k0_off36 v4) a + S1.size a ≤ S32.size a := fun v4 k0_hw1 => k0_hw1.1.2.2.2.2.2.2.2.2.2.2.2.2.2.2.2.2.2.2.1
theorem k0_off38_inb : ∀ (v4 : BitVec 32) (k0_hw1 : k0_chk1 v4), ∀ a, (k0_off38 v4) a + S1.size a ≤ S32.size a := fun v4 k0_hw1 => k0_hw1.1.2.2.2.2.2.2.2.2.2.2.2.2.2.2.2.2.2.2.2.1
theorem k0_off40_inb : ∀ (v4 : BitVec 32) (k0_hw1 : k0_chk1 v4), ∀ a, (k0_off40 v4) a + S1.size a ≤ S32.size a := fun v4 k0_hw1 => k0_hw1.1.2.2.2.2.2.2.2.2.2.2.2.2.2.2.2.2.2.2.2.2.1
theorem k0_off42_inb : ∀ (v4 : BitVec 32) (k0_hw1 : k0_chk1 v4), ∀ a, (k0_off42 v4) a + S1.size a ≤ S32.size a := fun v4 k0_hw1 => k0_hw1.1.2.2.2.2.2.2.2.2.2.2.2.2.2.2.2.2.2.2.2.2.2.1
theorem k0_off44_inb : ∀ (v4 : BitVec 32) (k0_hw1 : k0_chk1 v4), ∀ a, (k0_off44 v4) a + S1.size a ≤ S32.size a := fun v4 k0_hw1 => k0_hw1.1.2.2.2.2.2.2.2.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.1.2.2.2.2.2.2.2.2.2.2.2.2.2.2.2.2.2.2.2.2.2.2.2.1
theorem k0_off48_inb : ∀ (v4 : BitVec 32) (k0_hw1 : k0_chk1 v4), ∀ a, (k0_off48 v4) a + S1.size a ≤ S32.size a := fun v4 k0_hw1 => k0_hw1.1.2.2.2.2.2.2.2.2.2.2.2.2.2.2.2.2.2.2.2.2.2.2.2.2.1
theorem k0_off50_inb : ∀ (v4 : BitVec 32) (k0_hw1 : k0_chk1 v4), ∀ a, (k0_off50 v4) a + S1.size a ≤ S32.size a := fun v4 k0_hw1 => k0_hw1.1.2.2.2.2.2.2.2.2.2.2.2.2.2.2.2.2.2.2.2.2.2.2.2.2.2.1
theorem k0_off52_inb : ∀ (v4 : BitVec 32) (k0_hw1 : k0_chk1 v4), ∀ a, (k0_off52 v4) a + S1.size a ≤ S32.size a := fun v4 k0_hw1 => k0_hw1.1.2.2.2.2.2.2.2.2.2.2.2.2.2.2.2.2.2.2.2.2.2.2.2.2.2.2.1
theorem k0_off54_inb : ∀ (v4 : BitVec 32) (k0_hw1 : k0_chk1 v4), ∀ a, (k0_off54 v4) a + S1.size a ≤ S32.size a := fun v4 k0_hw1 => k0_hw1.1.2.2.2.2.2.2.2.2.2.2.2.2.2.2.2.2.2.2.2.2.2.2.2.2.2.2.2.1
theorem k0_off56_inb : ∀ (v4 : BitVec 32) (k0_hw1 : k0_chk1 v4), ∀ a, (k0_off56 v4) a + S1.size a ≤ S32.size a := fun v4 k0_hw1 => k0_hw1.1.2.2.2.2.2.2.2.2.2.2.2.2.2.2.2.2.2.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.1.2.2.2.2.2.2.2.2.2.2.2.2.2.2.2.2.2.2.2.2.2.2.2.2.2.2.2.2.2.1
theorem k0_off60_inb : ∀ (v4 : BitVec 32) (k0_hw1 : k0_chk1 v4), ∀ a, (k0_off60 v4) a + S1.size a ≤ S32.size a := fun v4 k0_hw1 => k0_hw1.1.2.2.2.2.2.2.2.2.2.2.2.2.2.2.2.2.2.2.2.2.2.2.2.2.2.2.2.2.2.2.1
theorem k0_off62_inb : ∀ (v4 : BitVec 32) (k0_hw1 : k0_chk1 v4), ∀ a, (k0_off62 v4) a + S1.size a ≤ S32.size a := fun v4 k0_hw1 => k0_hw1.1.2.2.2.2.2.2.2.2.2.2.2.2.2.2.2.2.2.2.2.2.2.2.2.2.2.2.2.2.2.2.2
theorem k0_off64_inb : ∀ (v4 : BitVec 32) (k0_hw1 : k0_chk1 v4), ∀ a, (k0_off64 v4) a + S1.size a ≤ S32.size a := fun v4 k0_hw1 => k0_hw1.2.1.1
theorem k0_off66_inb : ∀ (v4 : BitVec 32) (k0_hw1 : k0_chk1 v4), ∀ a, (k0_off66 v4) a + S1.size a ≤ S32.size a := fun v4 k0_hw1 => k0_hw1.2.1.2.1
theorem k0_off68_inb : ∀ (v4 : BitVec 32) (k0_hw1 : k0_chk1 v4), ∀ a, (k0_off68 v4) a + S1.size a ≤ S32.size a := fun v4 k0_hw1 => k0_hw1.2.1.2.2.1
theorem k0_off70_inb : ∀ (v4 : BitVec 32) (k0_hw1 : k0_chk1 v4), ∀ a, (k0_off70 v4) a + S1.size a ≤ S32.size a := fun v4 k0_hw1 => k0_hw1.2.1.2.2.2.1
theorem k0_off72_inb : ∀ (v4 : BitVec 32) (k0_hw1 : k0_chk1 v4), ∀ a, (k0_off72 v4) a + S1.size a ≤ S32.size a := fun v4 k0_hw1 => k0_hw1.2.1.2.2.2.2.1
theorem k0_off74_inb : ∀ (v4 : BitVec 32) (k0_hw1 : k0_chk1 v4), ∀ a, (k0_off74 v4) a + S1.size a ≤ S32.size a := fun v4 k0_hw1 => k0_hw1.2.1.2.2.2.2.2.1
theorem k0_off76_inb : ∀ (v4 : BitVec 32) (k0_hw1 : k0_chk1 v4), ∀ a, (k0_off76 v4) a + S1.size a ≤ S32.size a := fun v4 k0_hw1 => k0_hw1.2.1.2.2.2.2.2.2.1
theorem k0_off78_inb : ∀ (v4 : BitVec 32) (k0_hw1 : k0_chk1 v4), ∀ a, (k0_off78 v4) a + S1.size a ≤ S32.size a := fun v4 k0_hw1 => k0_hw1.2.1.2.2.2.2.2.2.2.1
theorem k0_off80_inb : ∀ (v4 : BitVec 32) (k0_hw1 : k0_chk1 v4), ∀ a, (k0_off80 v4) a + S1.size a ≤ S32.size a := fun v4 k0_hw1 => k0_hw1.2.1.2.2.2.2.2.2.2.2.1
theorem k0_off82_inb : ∀ (v4 : BitVec 32) (k0_hw1 : k0_chk1 v4), ∀ a, (k0_off82 v4) a + S1.size a ≤ S32.size a := fun v4 k0_hw1 => k0_hw1.2.1.2.2.2.2.2.2.2.2.2.1
theorem k0_off84_inb : ∀ (v4 : BitVec 32) (k0_hw1 : k0_chk1 v4), ∀ a, (k0_off84 v4) a + S1.size a ≤ S32.size a := fun v4 k0_hw1 => k0_hw1.2.1.2.2.2.2.2.2.2.2.2.2.1
theorem k0_off86_inb : ∀ (v4 : BitVec 32) (k0_hw1 : k0_chk1 v4), ∀ a, (k0_off86 v4) a + S1.size a ≤ S32.size a := fun v4 k0_hw1 => k0_hw1.2.1.2.2.2.2.2.2.2.2.2.2.2.1
theorem k0_off88_inb : ∀ (v4 : BitVec 32) (k0_hw1 : k0_chk1 v4), ∀ a, (k0_off88 v4) a + S1.size a ≤ S32.size a := fun v4 k0_hw1 => k0_hw1.2.1.2.2.2.2.2.2.2.2.2.2.2.2.1
theorem k0_off90_inb : ∀ (v4 : BitVec 32) (k0_hw1 : k0_chk1 v4), ∀ a, (k0_off90 v4) a + S1.size a ≤ S32.size a := fun v4 k0_hw1 => k0_hw1.2.1.2.2.2.2.2.2.2.2.2.2.2.2.2.1
theorem k0_off92_inb : ∀ (v4 : BitVec 32) (k0_hw1 : k0_chk1 v4), ∀ a, (k0_off92 v4) a + S1.size a ≤ S32.size a := fun v4 k0_hw1 => k0_hw1.2.1.2.2.2.2.2.2.2.2.2.2.2.2.2.2.1
theorem k0_off94_inb : ∀ (v4 : BitVec 32) (k0_hw1 : k0_chk1 v4), ∀ a, (k0_off94 v4) a + S1.size a ≤ S32.size a := fun v4 k0_hw1 => k0_hw1.2.1.2.2.2.2.2.2.2.2.2.2.2.2.2.2.2.1
theorem k0_off96_inb : ∀ (v4 : BitVec 32) (k0_hw1 : k0_chk1 v4), ∀ a, (k0_off96 v4) a + S1.size a ≤ S32.size a := fun v4 k0_hw1 => k0_hw1.2.1.2.2.2.2.2.2.2.2.2.2.2.2.2.2.2.2.1
theorem k0_off98_inb : ∀ (v4 : BitVec 32) (k0_hw1 : k0_chk1 v4), ∀ a, (k0_off98 v4) a + S1.size a ≤ S32.size a := fun v4 k0_hw1 => k0_hw1.2.1.2.2.2.2.2.2.2.2.2.2.2.2.2.2.2.2.2.1
theorem k0_off100_inb : ∀ (v4 : BitVec 32) (k0_hw1 : k0_chk1 v4), ∀ a, (k0_off100 v4) a + S1.size a ≤ S32.size a := fun v4 k0_hw1 => k0_hw1.2.1.2.2.2.2.2.2.2.2.2.2.2.2.2.2.2.2.2.2.1
theorem k0_off102_inb : ∀ (v4 : BitVec 32) (k0_hw1 : k0_chk1 v4), ∀ a, (k0_off102 v4) a + S1.size a ≤ S32.size a := fun v4 k0_hw1 => k0_hw1.2.1.2.2.2.2.2.2.2.2.2.2.2.2.2.2.2.2.2.2.2.1
theorem k0_off104_inb : ∀ (v4 : BitVec 32) (k0_hw1 : k0_chk1 v4), ∀ a, (k0_off104 v4) a + S1.size a ≤ S32.size a := fun v4 k0_hw1 => k0_hw1.2.1.2.2.2.2.2.2.2.2.2.2.2.2.2.2.2.2.2.2.2.2.1
theorem k0_off106_inb : ∀ (v4 : BitVec 32) (k0_hw1 : k0_chk1 v4), ∀ a, (k0_off106 v4) a + S1.size a ≤ S32.size a := fun v4 k0_hw1 => k0_hw1.2.1.2.2.2.2.2.2.2.2.2.2.2.2.2.2.2.2.2.2.2.2.2.1
theorem k0_off108_inb : ∀ (v4 : BitVec 32) (k0_hw1 : k0_chk1 v4), ∀ a, (k0_off108 v4) a + S1.size a ≤ S32.size a := fun v4 k0_hw1 => k0_hw1.2.1.2.2.2.2.2.2.2.2.2.2.2.2.2.2.2.2.2.2.2.2.2.2.1
theorem k0_off110_inb : ∀ (v4 : BitVec 32) (k0_hw1 : k0_chk1 v4), ∀ a, (k0_off110 v4) a + S1.size a ≤ S32.size a := fun v4 k0_hw1 => k0_hw1.2.1.2.2.2.2.2.2.2.2.2.2.2.2.2.2.2.2.2.2.2.2.2.2.2.1
theorem k0_off112_inb : ∀ (v4 : BitVec 32) (k0_hw1 : k0_chk1 v4), ∀ a, (k0_off112 v4) a + S1.size a ≤ S32.size a := fun v4 k0_hw1 => k0_hw1.2.1.2.2.2.2.2.2.2.2.2.2.2.2.2.2.2.2.2.2.2.2.2.2.2.2.1
theorem k0_off114_inb : ∀ (v4 : BitVec 32) (k0_hw1 : k0_chk1 v4), ∀ a, (k0_off114 v4) a + S1.size a ≤ S32.size a := fun v4 k0_hw1 => k0_hw1.2.1.2.2.2.2.2.2.2.2.2.2.2.2.2.2.2.2.2.2.2.2.2.2.2.2.2.1
theorem k0_off116_inb : ∀ (v4 : BitVec 32) (k0_hw1 : k0_chk1 v4), ∀ a, (k0_off116 v4) a + S1.size a ≤ S32.size a := fun v4 k0_hw1 => k0_hw1.2.1.2.2.2.2.2.2.2.2.2.2.2.2.2.2.2.2.2.2.2.2.2.2.2.2.2.2.1
theorem k0_off118_inb : ∀ (v4 : BitVec 32) (k0_hw1 : k0_chk1 v4), ∀ a, (k0_off118 v4) a + S1.size a ≤ S32.size a := fun v4 k0_hw1 => k0_hw1.2.1.2.2.2.2.2.2.2.2.2.2.2.2.2.2.2.2.2.2.2.2.2.2.2.2.2.2.2.1
theorem k0_off120_inb : ∀ (v4 : BitVec 32) (k0_hw1 : k0_chk1 v4), ∀ a, (k0_off120 v4) a + S1.size a ≤ S32.size a := fun v4 k0_hw1 => k0_hw1.2.1.2.2.2.2.2.2.2.2.2.2.2.2.2.2.2.2.2.2.2.2.2.2.2.2.2.2.2.2.1
theorem k0_off122_inb : ∀ (v4 : BitVec 32) (k0_hw1 : k0_chk1 v4), ∀ a, (k0_off122 v4) a + S1.size a ≤ S32.size a := fun v4 k0_hw1 => k0_hw1.2.1.2.2.2.2.2.2.2.2.2.2.2.2.2.2.2.2.2.2.2.2.2.2.2.2.2.2.2.2.2.1
theorem k0_off124_inb : ∀ (v4 : BitVec 32) (k0_hw1 : k0_chk1 v4), ∀ a, (k0_off124 v4) a + S1.size a ≤ S32.size a := fun v4 k0_hw1 => k0_hw1.2.1.2.2.2.2.2.2.2.2.2.2.2.2.2.2.2.2.2.2.2.2.2.2.2.2.2.2.2.2.2.2.1
theorem k0_off126_inb : ∀ (v4 : BitVec 32) (k0_hw1 : k0_chk1 v4), ∀ a, (k0_off126 v4) a + S1.size a ≤ S32.size a := fun v4 k0_hw1 => k0_hw1.2.1.2.2.2.2.2.2.2.2.2.2.2.2.2.2.2.2.2.2.2.2.2.2.2.2.2.2.2.2.2.2.2
theorem k0_off128_inb : ∀ (v4 : BitVec 32) (k0_hw1 : k0_chk1 v4), ∀ a, (k0_off128 v4) a + S1.size a ≤ S32.size a := fun v4 k0_hw1 => k0_hw1.2.2.1
theorem k0_off130_inb : ∀ (v4 : BitVec 32) (k0_hw1 : k0_chk1 v4), ∀ a, (k0_off130 v4) a + S1.size a ≤ S32.size a := fun v4 k0_hw1 => k0_hw1.2.2.2

def k0_off131 (v5671 : BitVec 32) : Fin 2 → Nat :=
  let c128_i32_7604 : BitVec 32 := 128#32
  let v5672 : BitVec 32 := Scalar.muli v5671 c128_i32_7604
  let v5673 : Index := Scalar.indexCast v5672
  let c0_7605 : Index := 0#32
  ![v5673.toNat, 0]

def k0_chk67 (v5671 : BitVec 32) : Prop :=
  (∀ a, (k0_off131 v5671) a + S128x128.size a ≤ S4096x128.size a)
theorem k0_off131_inb : ∀ (v5671 : BitVec 32) (k0_hw67 : k0_chk67 v5671), ∀ a, (k0_off131 v5671) a + S128x128.size a ≤ S4096x128.size a := fun v5671 k0_hw67 => k0_hw67

def k0_off132 (d0 : Dev nD) : Fin 2 → Nat :=
  let c0_7798 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5805 : Index := Scalar.indexCast v2
  ![0, v5805.toNat]
def k0_dev243 (v5806 : BitVec 32) : Nat :=
  let c0_i32_7807 : BitVec 32 := 0#32
  let c1_i32_7806 : BitVec 32 := 1#32
  let v5811 : BitVec 32 := Scalar.muli v5806 c1_i32_7806
  let v5812 : BitVec 32 := Scalar.addi c0_i32_7807 v5811
  v5812.toNat

def k0_chk68 (v5806 : BitVec 32) : Prop :=
  ((k0_dev243 v5806) < nD)
theorem k0_dev243_lt : ∀ (v5806 : BitVec 32) (k0_hw68 : k0_chk68 v5806), (k0_dev243 v5806) < nD := fun v5806 k0_hw68 => k0_hw68

def k0_off133 (d0 : Dev nD) : Fin 2 → Nat :=
  let c1_7835 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5842 : Index := Scalar.indexCast v2
  ![1, v5842.toNat]
def k0_dev244 (v5843 : BitVec 32) : Nat :=
  let c0_i32_7844 : BitVec 32 := 0#32
  let c1_i32_7843 : BitVec 32 := 1#32
  let v5848 : BitVec 32 := Scalar.muli v5843 c1_i32_7843
  let v5849 : BitVec 32 := Scalar.addi c0_i32_7844 v5848
  v5849.toNat

def k0_chk69 (v5843 : BitVec 32) : Prop :=
  ((k0_dev244 v5843) < nD)
theorem k0_dev244_lt : ∀ (v5843 : BitVec 32) (k0_hw69 : k0_chk69 v5843), (k0_dev244 v5843) < nD := fun v5843 k0_hw69 => k0_hw69

def k0_off134 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5879 : Index := Scalar.indexCast v2
  ![2, v5879.toNat]
def k0_dev245 (v5880 : BitVec 32) : Nat :=
  let c0_i32_7880 : BitVec 32 := 0#32
  let c1_i32_7879 : BitVec 32 := 1#32
  let v5885 : BitVec 32 := Scalar.muli v5880 c1_i32_7879
  let v5886 : BitVec 32 := Scalar.addi c0_i32_7880 v5885
  v5886.toNat

def k0_chk70 (v5880 : BitVec 32) : Prop :=
  ((k0_dev245 v5880) < nD)
theorem k0_dev245_lt : ∀ (v5880 : BitVec 32) (k0_hw70 : k0_chk70 v5880), (k0_dev245 v5880) < nD := fun v5880 k0_hw70 => k0_hw70

def k0_off135 (d0 : Dev nD) : Fin 2 → Nat :=
  let c3 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5916 : Index := Scalar.indexCast v2
  ![3, v5916.toNat]
def k0_dev246 (v5917 : BitVec 32) : Nat :=
  let c0_i32_7916 : BitVec 32 := 0#32
  let c1_i32_7915 : BitVec 32 := 1#32
  let v5922 : BitVec 32 := Scalar.muli v5917 c1_i32_7915
  let v5923 : BitVec 32 := Scalar.addi c0_i32_7916 v5922
  v5923.toNat

def k0_chk71 (v5917 : BitVec 32) : Prop :=
  ((k0_dev246 v5917) < nD)
theorem k0_dev246_lt : ∀ (v5917 : BitVec 32) (k0_hw71 : k0_chk71 v5917), (k0_dev246 v5917) < nD := fun v5917 k0_hw71 => k0_hw71

def k0_off136 (d0 : Dev nD) : Fin 2 → Nat :=
  let c4 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5953 : Index := Scalar.indexCast v2
  ![4, v5953.toNat]
def k0_dev247 (v5954 : BitVec 32) : Nat :=
  let c0_i32_7952 : BitVec 32 := 0#32
  let c1_i32_7951 : BitVec 32 := 1#32
  let v5959 : BitVec 32 := Scalar.muli v5954 c1_i32_7951
  let v5960 : BitVec 32 := Scalar.addi c0_i32_7952 v5959
  v5960.toNat

def k0_chk72 (v5954 : BitVec 32) : Prop :=
  ((k0_dev247 v5954) < nD)
theorem k0_dev247_lt : ∀ (v5954 : BitVec 32) (k0_hw72 : k0_chk72 v5954), (k0_dev247 v5954) < nD := fun v5954 k0_hw72 => k0_hw72

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S5x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Rolled.lean ====
/- The kernel function of `proofs.«01_k».proof.KernelIdeal` written as a short program: one definition per
   repeated piece (a chunk's product, one hop of one half ring, one ring step, one exchange round of the
   maximum), each in continuation-passing style over the step number. -/
module

public import proofs.«01_k».proof.Proof.Gen.KernelIdeal

@[expose] public section

set_option maxRecDepth 16384

noncomputable section

namespace Cert.KernelIdeal.RS

open Idealize.ShloMosaic Idealize.SL.Sem
open Cert.KernelIdeal Cert.KernelIdeal.Facts₀ Cert.KernelIdeal.Facts

variable {F : FTy → Type} [FloatOps F]

/-- Programs of one device's kernel. -/
abbrev PG (F : FTy → Type) : Type 1 := Prog (TpuEff nD τ sig (Elt F) Λ₀ .tc) PUnit

/-! ## Addresses -/

/-- The residue modulo 32 of a signed word, in `[0, 32)`, as the kernel computes it. -/
def pmod (x : BitVec 32) : BitVec 32 :=
  let w : BitVec 32 := Scalar.select (Scalar.cmpi .eq 32#32 0#32) 1#32 32#32
  let r : BitVec 32 := Scalar.remsi x w
  Scalar.select (Scalar.andi (Scalar.xori (Scalar.cmpi .slt r 0#32) (Scalar.cmpi .slt w 0#32)) (Scalar.cmpi .ne r 0#32)) (Scalar.addi r w) r

/-- The computed residue is below 32 for every word. -/
theorem pmod_lt (x : BitVec 32) : (pmod x).toNat < 32 := by
  have hr : Scalar.remsi x (32#32) = x.srem 32#32 := by
    show IntOp.remsi .scalar x 32#32 = _
    unfold IntOp.remsi; rw [if_neg]; unfold IntOp.SDivCorner; rintro (h | ⟨_, h⟩) <;> exact absurd h (by decide)
  have ht : (x.srem 32#32).toInt = x.toInt.tmod 32 := BitVec.toInt_srem _ _
  have h32 : Scalar.select (Scalar.cmpi .eq 32#32 0#32) (1#32 : BitVec 32) 32#32 = 32#32 := by decide
  unfold pmod
  simp only [h32, hr]
  generalize hq : x.srem 32#32 = r at ht ⊢
  have hb : r.toInt < 32 ∧ -32 < r.toInt := by
    rw [ht]; constructor
    · exact Int.tmod_lt_of_pos _ (by decide)
    · have := Int.lt_tmod_of_pos x.toInt (b := 32) (by decide); omega
  by_cases h : r.toInt < 0
  · have h1 : Scalar.select (Scalar.andi (Scalar.xori (Scalar.cmpi .slt r 0#32) (Scalar.cmpi .slt 32#32 0#32)) (Scalar.cmpi .ne r 0#32)) (Scalar.addi r 32#32) r = r + 32#32 := by
      simp [Scalar.select, Scalar.andi, Scalar.xori, Scalar.cmpi, Scalar.addi, IntOp.cmpi, IntOp.xori, IntOp.andi, IntOp.addi, BitVec.slt, h]
      have hne : (r != 0#32) = true := by rw [bne_iff_ne]; rintro rfl; simp at h
      rw [hne]; rfl
    rw [h1]
    have := BitVec.toInt_eq_toNat_cond r
    have h2 := r.isLt
    rw [BitVec.toNat_add]; simp only [BitVec.toNat_ofNat]
    split at this <;> omega
  · have h1 : Scalar.select (Scalar.andi (Scalar.xori (Scalar.cmpi .slt r 0#32) (Scalar.cmpi .slt 32#32 0#32)) (Scalar.cmpi .ne r 0#32)) (Scalar.addi r 32#32) r = r := by
      simp [Scalar.select, Scalar.andi, Scalar.xori, Scalar.cmpi, Scalar.addi, IntOp.cmpi, IntOp.xori, IntOp.andi, IntOp.addi, BitVec.slt, h]
    rw [h1]
    have := BitVec.toInt_eq_toNat_cond r
    have h2 := r.isLt
    split at this <;> omega

/-- The place in a table of 32 words that a ring position names. -/
def tabOff (x : BitVec 32) : Fin 1 → Nat := ![(Scalar.indexCast (pmod x)).toNat]

theorem tabOff_inb (x : BitVec 32) : ∀ a, tabOff x a + S1.size a ≤ S32.size a := by
  intro a
  have h := pmod_lt x
  fin_cases a
  show (pmod x).toNat + 1 ≤ 32
  omega

/-- The first row of chunk `v` of the left factor. -/
def chunkOff (v : BitVec 32) : Fin 2 → Nat := ![(Scalar.indexCast (Scalar.muli v 128#32)).toNat, 0]
def chunkOk (v : BitVec 32) : Prop := ∀ a, chunkOff v a + S128x128.size a ≤ S4096x128.size a
instance chunkOk.dec (v : BitVec 32) : Decidable (chunkOk v) := decidable_of_iff' (∀ a, chunkOff v a + S128x128.size a ≤ S4096x128.size a) (Iff.of_eq rfl)

/-- The device a word names. -/
def devN (v : BitVec 32) : Nat := (Scalar.addi 0#32 (Scalar.muli v 1#32)).toNat
instance devN.dec (v : BitVec 32) : Decidable (devN v < nD) := decidable_of_iff' (devN v < nD) (Iff.of_eq rfl)

def colOff (d sub : Fin 2) : Fin 2 → Nat := ![0, 1024 * d.val + 512 * sub.val]
theorem colOff_inb : ∀ d sub : Fin 2, ∀ a, colOff d sub a + S128x512.size a ≤ S128x2048.size a := by decide
def slotOff (sub slot : Fin 2) : Fin 4 → Nat := ![sub.val, slot.val, 0, 0]
theorem slotOff_inb : ∀ sub slot : Fin 2, ∀ a, slotOff sub slot a + S1x1x128x512.size a ≤ S2x2x128x512.size a := by decide
def semOff (sub slot : Fin 2) : Fin 2 → Nat := ![sub.val, slot.val]
theorem semOff_inb : ∀ sub slot : Fin 2, ∀ a, semOff sub slot a + S1x1.size a ≤ S2x2.size a := by decide
def exOff (r : Fin 5) : Fin 3 → Nat := ![r.val, 0, 0]
theorem exOff_inb : ∀ r : Fin 5, ∀ a, exOff r a + S1x8x128.size a ≤ S5x8x128.size a := by decide
def exSemOff (r : Fin 5) : Fin 1 → Nat := ![r.val]
theorem exSemOff_inb : ∀ r : Fin 5, ∀ a, exSemOff r a + S1.size a ≤ S5.size a := by decide
def exTabOff (r : Fin 5) (c : Dev nD) : Fin 2 → Nat := ![r.val, (Scalar.indexCast (Scalar.remsi (Scalar.divsi (Dev.word c) 1#32) 32#32)).toNat]
theorem exTabOff_inb : ∀ r : Fin 5, ∀ c : Dev nD, ∀ a, exTabOff r c a + S1x1.size a ≤ S5x32.size a := by decide +kernel

/-- The parity of a step: the slot it receives from. -/
def par (s : Nat) : Fin 2 := ⟨s % 2, Nat.mod_lt _ (by decide)⟩

/-! ## Buffers and semaphores, by direction (0: to the right, 1: to the left) -/

abbrev sigmaM : Memref sig .tc .smem S32 .i32 := Memref.whole cc0_stg0_0
abbrev invM : Memref sig .tc .smem S32 .i32 := Memref.whole cc0_stg1_0
abbrev pbitM : Memref sig .tc .smem S5x32 .i32 := Memref.whole cc0_stg2_0
abbrev xM : Memref sig .tc .vmem S4096x128 .f32 := Memref.whole cc0_stg3_0
abbrev wM : Memref sig .tc .vmem S128x2048 .f32 := Memref.whole cc0_stg4_0
abbrev oM : Memref sig .tc .vmem S128x2048 .f32 := Memref.whole cc0_stg5_0
abbrev asM : Memref sig .tc .vmem S5x8x128 .f32 := Memref.whole cc0_scratch12
abbrev arM : Memref sig .tc .vmem S5x8x128 .f32 := Memref.whole cc0_scratch13

/-- The send buffer of a direction. -/
def sM : Fin 2 → Memref sig .tc .vmem S2x2x128x512 .f32 := fun | 0 => Memref.whole cc0_scratch0 | 1 => Memref.whole cc0_scratch2
/-- The receive buffer of a direction. -/
def rM : Fin 2 → Memref sig .tc .vmem S2x2x128x512 .f32 := fun | 0 => Memref.whole cc0_scratch1 | 1 => Memref.whole cc0_scratch3
def sSems : Fin 2 → DmaSems sig S2x2 := fun | 0 => cc0_scratch4 | 1 => cc0_scratch6
def rSems : Fin 2 → DmaSems sig S2x2 := fun | 0 => cc0_scratch5 | 1 => cc0_scratch7
def cSems : Fin 2 → Fin 2 → Sems sig S_ := fun
  | 0, 0 => cc0_scratch8 | 0, 1 => cc0_scratch9 | 1, 0 => cc0_scratch10 | 1, 1 => cc0_scratch11

/-- The barrier semaphore. -/
def barS : Sems sig S_ := SemArray.scalar (sig.barrier 0 rfl)
def slotM (m : Memref sig .tc .vmem S2x2x128x512 .f32) (sub slot : Fin 2) : Memref sig .tc .vmem S128x512 .f32 :=
  (m.slice (Rect.unit (s := S2x2x128x512) (slotOff sub slot) S1x1x128x512.size (slotOff_inb sub slot)) (fun _ => rfl)).squeeze S128x512 squeezes_S1x1x128x512_S128x512
def semAt (a : DmaSems sig S2x2) (sub slot : Fin 2) : DmaSem sig :=
  ((a.slice (Rect.unit (s := S2x2) (semOff sub slot) S1x1.size (semOff_inb sub slot))).squeeze S_ squeezes_S1x1_S_).sem
def exM (m : Memref sig .tc .vmem S5x8x128 .f32) (r : Fin 5) : Memref sig .tc .vmem S8x128 .f32 :=
  (m.slice (Rect.unit (s := S5x8x128) (exOff r) S1x8x128.size (exOff_inb r)) (fun _ => rfl)).squeeze S8x128 squeezes_S1x8x128_S8x128
def exSem (a : DmaSems sig S5) (r : Fin 5) : DmaSem sig :=
  ((a.slice (Rect.unit (s := S5) (exSemOff r) S1.size (exSemOff_inb r))).squeeze S_ squeezes_S1_S_).sem

/-! ## The pieces -/

/-- Read the chunk at a ring position, checked to be a chunk of the left factor. -/
def tabK (x : BitVec 32) (k : (v : BitVec 32) → chunkOk v → PG F) : PG F :=
  smemLoadElt sigmaM (Rect.unit (s := S32) (tabOff x) S1.size (tabOff_inb x)) (View.loads_smem_one rfl numel1_S1) (Shape.Idx.first (numel1_S1.symm ▸ Nat.one_pos))
    fun v => .op (TpuEff.assume (chunkOk v) (chunkOk.dec v)) fun h => k v h.down

/-- The product of a chunk and a column block. -/
def prod (x : FVec F S128x128 .f32) (w : FVec F S128x512 .f32) : FVec F S128x512 .f32 :=
  matmul dot_S128x128_S128x512_S128x512_1_0_0_1_n_n none (shapeCast S128x128 x shapeCasts_S128x128_S128x128) (shapeCast S128x512 w shapeCasts_S128x512_S128x512)
    (constant S128x512 .f32 0x00000000#32)

def dotK (v : BitVec 32) (hv : chunkOk v) (d sub : Fin 2) (k : FVec F S128x512 .f32 → PG F) : PG F :=
  .op (.load (e := .f32) xM (Rect.unit (s := S4096x128) (chunkOff v) S128x128.size hv).toLoadRect (View.loadsAt_vmem h_S128x128)) fun (x : FVec F S128x128 .f32) =>
  .op (.load (e := .f32) wM (Rect.unit (s := S128x2048) (colOff d sub) S128x512.size (colOff_inb d sub)).toLoadRect (View.loadsAt_vmem h_S128x512)) fun (w : FVec F S128x512 .f32) =>
  k (prod x w)

/-- Fill a send slot. -/
def putK (d sub slot : Fin 2) (p : FVec F S128x512 .f32) (k : PG F) : PG F :=
  .op (.load (e := .f32) (sM d) (Rect.unit (s := S2x2x128x512) (slotOff sub slot) S1x1x128x512.size (slotOff_inb sub slot)).toLoadRect (View.loadsAt_vmem h_S1x1x128x512)) fun _ =>
  .op (.store (sM d) (Rect.unit (s := S2x2x128x512) (slotOff sub slot) S1x1x128x512.size (slotOff_inb sub slot))
    (shapeCast S1x1x128x512 p shapeCasts_S128x512_S1x1x128x512) Finset.univ (View.stores_vmem_bits_univ h_S1x1x128x512 rfl) (.inl rfl)) fun _ => k

/-- Start the copy of a send slot into the receive slot of the device `v` names. -/
def startK (d sub slot : Fin 2) (v : BitVec 32) (hv : devN v < nD) (k : PG F) : PG F :=
  .op (.enqueueDma (slotM (sM d) sub slot) (.remote (Dev.tc (⟨devN v, hv⟩ : Dev nD)) (slotM (rM d) sub slot) (.dma (semAt (sSems d) sub slot)))
    (.dma (semAt (rSems d) sub slot)) ((View.wordExact_bits rfl).reshape _ _) ((View.wordExact_bits rfl).reshape _ _) ⟨⟨rfl, Or.inl rfl⟩, trivial⟩) fun _ => k

def waitRecvK (d sub slot : Fin 2) (k : PG F) : PG F :=
  .op (.waitDma2 (semAt (rSems d) sub slot) (slotM (sM d) sub slot) (slotM (rM d) sub slot) ((View.wordExact_bits rfl).reshape _ _) ((View.wordExact_bits rfl).reshape _ _))
    fun _ => k
def waitSendK (d sub slot : Fin 2) (k : PG F) : PG F :=
  .op (.waitDma2 (semAt (sSems d) sub slot) (slotM (rM d) sub slot) (slotM (sM d) sub slot) ((View.wordExact_bits rfl).reshape _ _) ((View.wordExact_bits rfl).reshape _ _))
    fun _ => k

/-- What arrived in a receive slot plus this device's product. -/
def accK (d sub slot : Fin 2) (p : FVec F S128x512 .f32) (k : FVec F S128x512 .f32 → PG F) : PG F :=
  waitRecvK d sub slot <|
  .op (.load (e := .f32) (rM d) (Rect.unit (s := S2x2x128x512) (slotOff sub slot) S1x1x128x512.size (slotOff_inb sub slot)).toLoadRect (View.loadsAt_vmem h_S1x1x128x512)) fun (q : FVec F S1x1x128x512 .f32) =>
  k (addf (shapeCast S128x512 q shapeCasts_S1x1x128x512_S128x512) p)

/-- One hop of one half ring at step `s`: what arrived, plus this device's product, goes on. -/
def hopK (s : Nat) (d sub : Fin 2) (p : FVec F S128x512 .f32) (vo : BitVec 32) (ho : devN vo < nD) (vi : BitVec 32) (hi : devN vi < nD) (k : PG F) : PG F :=
  accK d sub (par s) p fun a =>
  let go : PG F := startK d sub (par (s + 1)) vo ho
    (bif Nat.ble s 28 then .op (.semSignal (⟨devN vi, hi⟩, .tc) (cSems d sub).sem (1#32).toInt) fun _ => k else k)
  bif Nat.ble 1 s then
    waitSendK d sub (par (s + 1)) <| putK d sub (par (s + 1)) a <| .op (.semWait (cSems d sub).sem (1#32).toInt) fun _ => go
  else putK d sub (par (s + 1)) a go

/-- The four products of a step. -/
def dotsK (s : Nat) (v4 : BitVec 32) (k : (FVec F S128x512 .f32) → (FVec F S128x512 .f32) → (FVec F S128x512 .f32) → (FVec F S128x512 .f32) → PG F) : PG F :=
  tabK (Scalar.subi (Scalar.subi v4 2#32) (BitVec.ofNat 32 s)) fun vr hr =>
  dotK vr hr 0 0 fun p00 => dotK vr hr 0 1 fun p01 =>
  tabK (Scalar.addi (Scalar.addi v4 2#32) (BitVec.ofNat 32 s)) fun vl hl =>
  dotK vl hl 1 0 fun p10 => dotK vl hl 1 1 fun p11 => k p00 p01 p10 p11

/-- One step of both rings that sends on. -/
def stepK (s : Nat) (v4 : BitVec 32) (vr : BitVec 32) (hr : devN vr < nD) (vl : BitVec 32) (hl : devN vl < nD) (k : PG F) : PG F :=
  dotsK s v4 fun p00 p01 p10 p11 =>
  hopK s 0 0 p00 vr hr vl hl <| hopK s 1 0 p10 vl hl vr hr <| hopK s 0 1 p01 vr hr vl hl <| hopK s 1 1 p11 vl hl vr hr k

/-- `n` steps from step `s`. -/
def stepsK (v4 : BitVec 32) (vr : BitVec 32) (hr : devN vr < nD) (vl : BitVec 32) (hl : devN vl < nD) (k : PG F) : Nat → Nat → PG F
  | 0, _ => k
  | n + 1, s => stepK s v4 vr hr vl hl (stepsK v4 vr hr vl hl k n (s + 1))

/-- The last arrival of one half ring: the finished block, clipped at zero. -/
def lastK (d sub : Fin 2) (p : FVec F S128x512 .f32) (k : FVec F S128x512 .f32 → PG F) : PG F :=
  accK d sub 0 p fun a => k (maximumf a (broadcast S128x512 (Scalar.ofBits .f32 0x00000000#32)))

/-- The last step: the four finished blocks. -/
def finK (v4 : BitVec 32) (k : FVec F S128x512 .f32 → FVec F S128x512 .f32 → FVec F S128x512 .f32 → FVec F S128x512 .f32 → PG F) : PG F :=
  dotsK 30 v4 fun p00 p01 p10 p11 =>
  lastK 0 0 p00 fun y00 => lastK 1 0 p10 fun y10 => lastK 0 1 p01 fun y01 => lastK 1 1 p11 fun y11 => k y00 y01 y10 y11

/-- The sends still in flight are waited for. -/
def drainK (k : PG F) : PG F :=
  waitSendK 0 0 0 <| waitSendK 0 1 0 <| waitSendK 1 0 0 <| waitSendK 1 1 0 <|
  waitSendK 0 0 1 <| waitSendK 1 0 1 <| waitSendK 0 1 1 <| waitSendK 1 1 1 k

/-- The largest element of a block. -/
def blockMax (y : FVec F S128x512 .f32) : F .f32 :=
  extractAt ![0, 0, 0] (shapeCast S1x1x1 (multiReduction .maximumf [1, 2] S1 (shapeCast S1x128x512 y shapeCasts_S128x512_S1x128x512) 0xFF800000#32
    reduces_S1x128x512_S1 (.inl rfl) rfl) shapeCasts_S1_S1x1x1) inpos_S1x1x1_p0_0_0
def tileMax (v : FVec F S1x8x128 .f32) : F .f32 :=
  extractAt ![0, 0, 0] (shapeCast S1x1x1 (multiReduction .maximumf [1, 2] S1 (shapeCast S1x8x128 (shapeCast S8x128 v shapeCasts_S1x8x128_S8x128) shapeCasts_S8x128_S1x8x128)
    0xFF800000#32 reduces_S1x8x128_S1 (.inl rfl) rfl) shapeCasts_S1_S1x1x1) inpos_S1x1x1_p0_0_0
def localMax (y00 y01 y10 y11 : FVec F S128x512 .f32) : F .f32 :=
  Scalar.maximumf (Scalar.maximumf (blockMax y00) (blockMax y01)) (Scalar.maximumf (blockMax y10) (blockMax y11))

/-- One exchange round of the maximum. -/
def exK (c : Dev nD) (r : Fin 5) (a : F .f32) (k : F .f32 → PG F) : PG F :=
  smemLoadElt pbitM (Rect.unit (s := S5x32) (exTabOff r c) S1x1.size (exTabOff_inb r c)) (View.loads_smem_one rfl numel1_S1x1) (Shape.Idx.first (numel1_S1x1.symm ▸ Nat.one_pos))
    fun v => .op (TpuEff.assume (devN v < nD) (devN.dec v)) fun h =>
  .op (.load (e := .f32) asM (Rect.unit (s := S5x8x128) (exOff r) S1x8x128.size (exOff_inb r)).toLoadRect (View.loadsAt_vmem h_S1x8x128)) fun _ =>
  .op (.store asM (Rect.unit (s := S5x8x128) (exOff r) S1x8x128.size (exOff_inb r))
    (shapeCast S1x8x128 (broadcast S8x128 a) shapeCasts_S8x128_S1x8x128) Finset.univ (View.stores_vmem_bits_univ h_S1x8x128 rfl) (.inl rfl)) fun _ =>
  .op (.enqueueDma (exM asM r) (.remote (Dev.tc (⟨devN v, h.down⟩ : Dev nD)) (exM arM r) (.dma (exSem cc0_scratch14 r)))
    (.dma (exSem cc0_scratch15 r)) ((View.wordExact_bits rfl).reshape _ _) ((View.wordExact_bits rfl).reshape _ _) ⟨⟨rfl, Or.inl rfl⟩, trivial⟩) fun _ =>
  .op (.waitDma2 (exSem cc0_scratch14 r) (exM arM r) (exM asM r) ((View.wordExact_bits rfl).reshape _ _) ((View.wordExact_bits rfl).reshape _ _)) fun _ =>
  .op (.waitDma2 (exSem cc0_scratch15 r) (exM asM r) (exM arM r) ((View.wordExact_bits rfl).reshape _ _) ((View.wordExact_bits rfl).reshape _ _)) fun _ =>
  .op (.load (e := .f32) arM (Rect.unit (s := S5x8x128) (exOff r) S1x8x128.size (exOff_inb r)).toLoadRect (View.loadsAt_vmem h_S1x8x128)) fun (q : FVec F S1x8x128 .f32) =>
  k (Scalar.maximumf a (tileMax q))

/-- A block quantised at the maximum `a`. -/
def quant (a : F .f32) (y : FVec F S128x512 .f32) : FVec F S128x512 .f32 :=
  mulf (minimumf (broadcast S128x512 (Scalar.ofBits .f32 0x42FE0000#32)) (maximumf (broadcast S128x512 (Scalar.ofBits .f32 0x00000000#32))
    (roundeven (mulf y (broadcast S128x512 (Scalar.divf (Scalar.ofBits .f32 0x42FE0000#32) a))))))
    (broadcast S128x512 (Scalar.divf a (Scalar.ofBits .f32 0x42FE0000#32)))

def outK (d sub : Fin 2) (z : FVec F S128x512 .f32) (k : PG F) : PG F :=
  .op (.load (e := .f32) oM (Rect.unit (s := S128x2048) (colOff d sub) S128x512.size (colOff_inb d sub)).toLoadRect (View.loadsAt_vmem h_S128x512)) fun _ =>
  .op (.store oM (Rect.unit (s := S128x2048) (colOff d sub) S128x512.size (colOff_inb d sub)) z Finset.univ (View.stores_vmem_bits_univ h_S128x512 rfl) (.inl rfl)) fun _ => k

/-- Everything after the last step. -/
def tailK (c : Dev nD) (y00 y01 y10 y11 : FVec F S128x512 .f32) : PG F :=
  drainK <|
  exK c 0 (localMax y00 y01 y10 y11) fun a => exK c 1 a fun a => exK c 2 a fun a => exK c 3 a fun a => exK c 4 a fun a =>
  outK 0 0 (quant a y00) <| outK 1 0 (quant a y10) <| outK 0 1 (quant a y01) <| outK 1 1 (quant a y11) (.ret ⟨⟩)

/-- The first sends: each half ring's first product, into slot 0. -/
def firstK (v4 : BitVec 32) (vr : BitVec 32) (hr : devN vr < nD) (vl : BitVec 32) (hl : devN vl < nD) (k : PG F) : PG F :=
  tabK (Scalar.subi v4 1#32) fun v hv =>
  dotK v hv 0 0 fun p00 => putK 0 0 0 p00 <| dotK v hv 0 1 fun p01 => putK 0 1 0 p01 <|
  tabK (Scalar.addi v4 1#32) fun v hv =>
  dotK v hv 1 0 fun p10 => putK 1 0 0 p10 <| dotK v hv 1 1 fun p11 => putK 1 1 0 p11 <|
  startK 0 0 0 vr hr <| startK 0 1 0 vr hr <| startK 1 0 0 vl hl <| startK 1 1 0 vl hl k

/-- The kernel function on its buffers. -/
def body : PG F :=
  .op .deviceId fun c =>
  smemLoadElt invM (Rect.unit (s := S32) (k0_off1 c) S1.size (k0_off1_inb c)) (View.loads_smem_one rfl numel1_S1) (Shape.Idx.first (numel1_S1.symm ▸ Nat.one_pos)) fun v4 =>
  .op (TpuEff.assume (k0_chk1 v4) (k0_chk1.dec v4)) fun _ =>
  smemLoadElt sigmaM (Rect.unit (s := S32) (tabOff (Scalar.addi v4 1#32)) S1.size (tabOff_inb _)) (View.loads_smem_one rfl numel1_S1) (Shape.Idx.first (numel1_S1.symm ▸ Nat.one_pos)) fun vr =>
  .op (TpuEff.assume (k0_chk3 vr) (k0_chk3.dec vr)) fun hr =>
  smemLoadElt sigmaM (Rect.unit (s := S32) (tabOff (Scalar.subi v4 1#32)) S1.size (tabOff_inb _)) (View.loads_smem_one rfl numel1_S1) (Shape.Idx.first (numel1_S1.symm ▸ Nat.one_pos)) fun vl =>
  .op (TpuEff.assume (k0_chk2 vl) (k0_chk2.dec vl)) fun hl =>
  .op (.semSignal (⟨devN vl, k0_dev1_lt vl hl.down⟩, .tc) barS.sem (1#32).toInt) fun _ =>
  .op (.semSignal (⟨devN vr, k0_dev2_lt vr hr.down⟩, .tc) barS.sem (1#32).toInt) fun _ =>
  .op (.semWait barS.sem (2#32).toInt) fun _ =>
  firstK v4 vr (k0_dev2_lt vr hr.down) vl (k0_dev1_lt vl hl.down) <|
  stepsK v4 vr (k0_dev2_lt vr hr.down) vl (k0_dev1_lt vl hl.down) (finK v4 (tailK c)) 30 0

/-- The kernel function as the certificate calls it. -/
abbrev printed : PG F :=
  cc0_body sigmaM (Memref.isWhole_whole _) invM (Memref.isWhole_whole _) pbitM (Memref.isWhole_whole _) xM (Memref.isWhole_whole _) wM (Memref.isWhole_whole _)
    oM (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11
    asM (Memref.isWhole_whole _) arM (Memref.isWhole_whole _) cc0_scratch14 cc0_scratch15

end Cert.KernelIdeal.RS

end
-- ==== Proof.Tables.lean ====
module
public import proofs.«01_k».proof.Proof.Rolled
@[expose] public section
set_option maxRecDepth 16384
noncomputable section
namespace Cert.KernelIdeal.RS
open Idealize.ShloMosaic Idealize.SL.Sem
open Cert.KernelIdeal Cert.KernelIdeal.Facts₀ Cert.KernelIdeal.Facts

theorem lit0_lt : ∀ i : Fin 32, (lit0 i).toNat < nD := by decide +kernel
/-- The device at a ring position, positions read modulo 32. -/
def sg (k : ℕ) : Dev nD := ⟨(lit0 ⟨k % 32, Nat.mod_lt _ (by decide)⟩).toNat, lit0_lt _⟩
/-- The ring position of a device. -/
def rhoW (c : Dev nD) : BitVec 32 := lit1 c
def rho (c : Dev nD) : ℕ := (rhoW c).toNat
/-- The device that a direction sends to. -/
def out (d : Fin 2) (c : Dev nD) : Dev nD := if d = 0 then sg (rho c + 1) else sg (rho c + 31)
/-- The device that a direction receives from. -/
def inn (d : Fin 2) (c : Dev nD) : Dev nD := if d = 0 then sg (rho c + 31) else sg (rho c + 1)
/-- The chunk that message `t` of a device is about. -/
def mch (d : Fin 2) (t : ℕ) (c : Dev nD) : Dev nD := if d = 0 then sg (rho c + 63 - t) else sg (rho c + 1 + t)
theorem lit2_lt : ∀ i : Fin 160, (lit2 i).toNat < nD := by decide +kernel
/-- The partner of a device in exchange round `r`. -/
def prt (r : Fin 5) (c : Dev nD) : Dev nD := ⟨(lit2 ⟨32 * r.val + c.val, by have := r.isLt; have : c.val < 32 := c.isLt; omega⟩).toNat, lit2_lt _⟩

theorem out_inn : ∀ (d : Fin 2) (c : Dev nD), out d (inn d c) = c := by decide +kernel
theorem inn_out : ∀ (d : Fin 2) (c : Dev nD), inn d (out d c) = c := by decide +kernel
theorem prt_prt : ∀ (r : Fin 5) (c : Dev nD), prt r (prt r c) = c := by decide +kernel
theorem mch_inn : ∀ (d : Fin 2) (t : Fin 31) (c : Dev nD), mch d t (inn d c) = mch d (t + 1) c := by decide +kernel
theorem mch_last : ∀ (d : Fin 2) (c : Dev nD), mch d 31 c = c := by decide +kernel

/-- The word of the first table at a ring position word. -/
def tabW (x : BitVec 32) : BitVec 32 := lit0 ⟨(pmod x).toNat, pmod_lt x⟩
def devW (c : Dev nD) : BitVec 32 := BitVec.ofNat 32 c.val

theorem devN_devW : ∀ c : Dev nD, devN (devW c) = c.val := by decide +kernel
theorem chunkOk_devW : ∀ c : Dev nD, chunkOk (devW c) := by decide +kernel
theorem chunkOff_devW : ∀ c : Dev nD, chunkOff (devW c) = ![128 * c.val, 0] := by decide +kernel
theorem tabW_right : ∀ c : Dev nD, tabW (Scalar.addi (rhoW c) 1#32) = devW (out 0 c) := by decide +kernel
theorem tabW_left : ∀ c : Dev nD, tabW (Scalar.subi (rhoW c) 1#32) = devW (out 1 c) := by decide +kernel
theorem tabW_first0 : ∀ c : Dev nD, tabW (Scalar.subi (rhoW c) 1#32) = devW (mch 0 0 c) := by decide +kernel
theorem tabW_first1 : ∀ c : Dev nD, tabW (Scalar.addi (rhoW c) 1#32) = devW (mch 1 0 c) := by decide +kernel
theorem tabW_step0 : ∀ (s : Fin 31) (c : Dev nD), tabW (Scalar.subi (Scalar.subi (rhoW c) 2#32) (BitVec.ofNat 32 s)) = devW (mch 0 (s + 1) c) := by decide +kernel
theorem tabW_step1 : ∀ (s : Fin 31) (c : Dev nD), tabW (Scalar.addi (Scalar.addi (rhoW c) 2#32) (BitVec.ofNat 32 s)) = devW (mch 1 (s + 1) c) := by decide +kernel
theorem chk1_rhoW : ∀ c : Dev nD, k0_chk1 (rhoW c) := by decide +kernel
theorem chk2_devW : ∀ c : Dev nD, k0_chk2 (devW c) := by decide +kernel
theorem chk3_devW : ∀ c : Dev nD, k0_chk3 (devW c) := by decide +kernel
variable {F : FTy → Type} [FloatOps F]
theorem read_sigma (x : BitVec 32) : (sigmaM.access (Rect.unit (s := S32) (tabOff x) S1.size (tabOff_inb x))).read (Elt F)
    (fun i => lit0 (S32.rowMajor i)) (Shape.Idx.first (numel1_S1.symm ▸ Nat.one_pos)) = tabW x := by
  have h : ∀ v : Fin 32, (S32.rowMajor (fun a => ⟨(![v.val] : Fin 1 → ℕ) a + 1 * 0, by fin_cases a; exact v.isLt⟩)).val = v.val := by decide +kernel
  exact congrArg lit0 (Fin.ext (h ⟨(pmod x).toNat, pmod_lt x⟩))
theorem read_inv : ∀ (c : Dev nD), (invM.access (Rect.unit (s := S32) (k0_off1 c) S1.size (k0_off1_inb c))).read (Elt F)
    (fun i => lit1 (S32.rowMajor i)) (Shape.Idx.first (numel1_S1.symm ▸ Nat.one_pos)) = rhoW c := by
  intro c
  show lit1 _ = lit1 _
  refine congrArg lit1 (Fin.ext ?_)
  revert c; decide +kernel
theorem read_pbit : ∀ (r : Fin 5) (c : Dev nD), (pbitM.access (Rect.unit (s := S5x32) (exTabOff r c) S1x1.size (exTabOff_inb r c))).read (Elt F)
    (fun i => lit2 (S5x32.rowMajor i)) (Shape.Idx.first (numel1_S1x1.symm ▸ Nat.one_pos)) = devW (prt r c) := by
  intro r c
  show lit2 _ = _
  revert r c; decide +kernel
end Cert.KernelIdeal.RS
end
-- ==== Proof.Sched.lean ====
/- The protocol of the kernel: who owes which units on which semaphore, and what those units hand over.

   Each of the four half rings (direction `d`, column half `s`) moves messages `0 … 30`; message `t` of a device goes
   into receive slot `t % 2` of the next device. A reader that has emptied a slot releases it and tells the sender by a
   unit on the sender's credit semaphore. The largest element travels by five pairwise exchanges, each into a slot of
   its own that is released at entry. What a device released at entry (`ent`) is learned by its two neighbours from the
   barrier and by everyone else from the messages of the rings. -/
module

public import proofs.«01_k».proof.Proof.Tables
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.Release
public import Idealize.ShloMosaic.Lib.Pipeline.RegionTalk

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

/-! ## Values: what the messages hold -/

/-- A chunk of a device's left block. -/
def xch (X : FVec F S4096x128 .f32) (v : Dev nD) : FVec F S128x128 .f32 :=
  xM.view.readAt (Elt F) (Rect.unit (s := S4096x128) (chunkOff (devW v)) S128x128.size (chunkOk_devW v)).toLoadRect X
/-- A column block of a device's right block. -/
def wcol (W : FVec F S128x2048 .f32) (d s : Fin 2) : FVec F S128x512 .f32 :=
  wM.view.readAt (Elt F) (Rect.unit (s := S128x2048) (colOff d s) S128x512.size (colOff_inb d s)).toLoadRect W

variable (X : Dev nD → FVec F S4096x128 .f32) (Wt : Dev nD → FVec F S128x2048 .f32)

/-- Device `c`'s product for the chunk of message `t`. -/
def term (d s : Fin 2) (t : ℕ) (c : Dev nD) : FVec F S128x512 .f32 := prod (xch (X c) (mch d t c)) (wcol (Wt c) d s)
/-- Message `t` of device `c`: the sum of `t + 1` devices' products. -/
def part (d s : Fin 2) : ℕ → Dev nD → FVec F S128x512 .f32
  | 0, c => term X Wt d s 0 c
  | t + 1, c => addf (part d s t (inn d c)) (term X Wt d s (t + 1) c)
/-- The finished block of device `c`, clipped at zero. -/
def yv (d s : Fin 2) (c : Dev nD) : FVec F S128x512 .f32 :=
  maximumf (part X Wt d s 31 c) (broadcast S128x512 (Scalar.ofBits .f32 0x00000000#32))
/-- A tile filled with one value. -/
def tile (a : F .f32) : FVec F S8x128 .f32 := broadcast S8x128 a
/-- The largest element of a tile. -/
def tmax (v : FVec F S8x128 .f32) : F .f32 :=
  extractAt ![0, 0, 0] (shapeCast S1x1x1 (multiReduction .maximumf [1, 2] S1 (shapeCast S1x8x128 v shapeCasts_S8x128_S1x8x128)
    0xFF800000#32 reduces_S1x8x128_S1 (.inl rfl) rfl) shapeCasts_S1_S1x1x1) inpos_S1x1x1_p0_0_0
def prtN (r : ℕ) (c : Dev nD) : Dev nD := prt ⟨r % 5, Nat.mod_lt _ (by decide)⟩ c
/-- The maximum device `c` holds before exchange round `r`. -/
def exv : ℕ → Dev nD → F .f32
  | 0, c => localMax (yv X Wt 0 0 c) (yv X Wt 0 1 c) (yv X Wt 1 0 c) (yv X Wt 1 1 c)
  | r + 1, c => Scalar.maximumf (exv r c) (tmax (tile (exv r (prtN r c))))

/-- The devices whose entry a device knows about when it sends message `t`: those whose products the message sums. -/
def kn (d : Fin 2) : ℕ → Dev nD → Finset (Dev nD)
  | 0, c => {c}
  | t + 1, c => insert c (kn d t (inn d c))
theorem kn_all : ∀ c : Dev nD, kn 0 31 c = Finset.univ := by decide +kernel

/-! ## Cells -/

/-- What a semaphore of the kernel is for. -/
inductive CellK where
  | bar | cr (d s : Fin 2) | snd (d s b : Fin 2) | rcv (d s b : Fin 2) | exs (r : Fin 5) | exr (r : Fin 5) | oth
  deriving DecidableEq

def bitF (n k : ℕ) : Fin 2 := ⟨n / 2 ^ k % 2, Nat.mod_lt _ (by decide)⟩
def fiv (n : ℕ) : Fin 5 := ⟨n % 5, Nat.mod_lt _ (by decide)⟩

def cls : SemLoc sig → CellK
  | .reg i => if i.val < 4 then .cr (bitF i.val 1) (bitF i.val 0) else .bar
  | .dma i =>
    if i.val < 6 then .oth
    else if i.val < 22 then
      (if bitF (i.val - 6) 2 = 0 then .snd (bitF (i.val - 6) 3) (bitF (i.val - 6) 1) (bitF (i.val - 6) 0)
       else .rcv (bitF (i.val - 6) 3) (bitF (i.val - 6) 1) (bitF (i.val - 6) 0))
    else if i.val < 27 then .exs (fiv (i.val - 22)) else .exr (fiv (i.val - 27))

abbrev barL : SemLoc sig := .reg barS.sem
abbrev crL (d s : Fin 2) : SemLoc sig := .reg (cSems d s).sem
abbrev sndL (d s b : Fin 2) : SemLoc sig := .dma (semAt (sSems d) s b)
abbrev rcvL (d s b : Fin 2) : SemLoc sig := .dma (semAt (rSems d) s b)
abbrev exsL (r : Fin 5) : SemLoc sig := .dma (exSem cc0_scratch14 r)
abbrev exrL (r : Fin 5) : SemLoc sig := .dma (exSem cc0_scratch15 r)

theorem cls_bar : cls barL = .bar := by decide +kernel
theorem cls_cr : ∀ d s, cls (crL d s) = .cr d s := by decide +kernel
theorem cls_snd : ∀ d s b, cls (sndL d s b) = .snd d s b := by decide +kernel
theorem cls_rcv : ∀ d s b, cls (rcvL d s b) = .rcv d s b := by decide +kernel
theorem cls_exs : ∀ r, cls (exsL r) = .exs r := by decide +kernel
theorem cls_exr : ∀ r, cls (exrL r) = .exr r := by decide +kernel

abbrev barC (c : Dev nD) : GSem nD τ sig := ((c : Thread nD τ), barL)
abbrev crC (c : Dev nD) (d s : Fin 2) : GSem nD τ sig := ((c : Thread nD τ), crL d s)
abbrev sndC (c : Dev nD) (d s b : Fin 2) : GSem nD τ sig := ((c : Thread nD τ), sndL d s b)
abbrev rcvC (c : Dev nD) (d s b : Fin 2) : GSem nD τ sig := ((c : Thread nD τ), rcvL d s b)
abbrev exsC (c : Dev nD) (r : Fin 5) : GSem nD τ sig := ((c : Thread nD τ), exsL r)
abbrev exrC (c : Dev nD) (r : Fin 5) : GSem nD τ sig := ((c : Thread nD τ), exrL r)

/-! ## The resource algebra -/

/-- The receive slots of the rings and of the exchange, over all devices. -/
abbrev Key : Type := (Dev nD × Fin 2 × Fin 2 × Fin 2) ⊕ (Dev nD × Fin 5)

abbrev URd : Type := URounds (GSem nD τ sig) ℕ
abbrev UPipe : Type := URounds (GSem nD τ sig) Unit
abbrev U2 : Type := URd × Release.USlots Key
abbrev UU : Type := UPipe × U2

local notation "𝕄" => MT nD τ sig ℕ (Elt F) ℕ UU ℕ

abbrev EP : Emb (UPipe) (MT nD τ sig ℕ (Elt F) ℕ UU ℕ) := embL
abbrev E2 : Emb U2 (MT nD τ sig ℕ (Elt F) ℕ UU ℕ) := embR
abbrev ER : Emb URd (MT nD τ sig ℕ (Elt F) ℕ UU ℕ) := (Emb.inl : Emb URd U2).trans E2
abbrev ES : Emb (Release.USlots Key) (MT nD τ sig ℕ (Elt F) ℕ UU ℕ) := (Emb.inr : Emb (Release.USlots Key) U2).trans E2

instance ER_landsIn : (ER : Emb URd 𝕄).LandsIn (upEmb : UEmb _ 𝕄) := by unfold ER; infer_instance
instance ES_landsIn : (ES : Emb (Release.USlots Key) 𝕄).LandsIn (upEmb : UEmb _ 𝕄) := by unfold ES; infer_instance

/-! ## The schedule -/

/-- Units of one message; of one exchanged tile. -/
def NB : ℕ := (slotM (rM 0) 0 0).view.dmaCredit
def NX : ℕ := (exM arM 0).view.dmaCredit

/-- A slot at some contents, and at contents that read `v`. -/
abbrev slotAt (m : Memref sig .tc .vmem S128x512 .f32) (c : Dev nD) : sProp 𝕄 := Release.slot (m.view.loc (c : Thread nD τ)) m.view.set
abbrev exAt (m : Memref sig .tc .vmem S8x128 .f32) (c : Dev nD) : sProp 𝕄 := Release.slot (m.view.loc (c : Thread nD τ)) m.view.set
def slotVal (m : Memref sig .tc .vmem S128x512 .f32) (c : Dev nD) (v : FVec F S128x512 .f32) : sProp 𝕄 :=
  iprop(∃ f, ⌜m.view.read (Elt F) f = v⌝ ∗ (m.view.loc (c : Thread nD τ) ↦[m.view.set]{fullShare} f))
def exVal (m : Memref sig .tc .vmem S8x128 .f32) (c : Dev nD) (v : FVec F S8x128 .f32) : sProp 𝕄 :=
  iprop(∃ f, ⌜m.view.read (Elt F) f = v⌝ ∗ (m.view.loc (c : Thread nD τ) ↦[m.view.set]{fullShare} f))

/-- Receive slot `(d, s, b)` of device `q` has been released `n` times, and its semaphore is at round `n - 1`. -/
def rel (q : Dev nD) (d s b : Fin 2) (n : ℕ) : sProp 𝕄 :=
  iprop(Release.released ES (Sum.inl (q, d, s, b)) n ∗ reached ER (rcvC q d s b) (n - 1))
def relX (q : Dev nD) (r : Fin 5) : sProp 𝕄 :=
  iprop(Release.released ES (Sum.inr (q, r)) 1 ∗ reached ER (exrC q r) 0)
/-- What device `q` has done at entry. -/
def ent (q : Dev nD) : sProp 𝕄 :=
  iprop((bigSep Finset.univ fun x : Fin 2 × Fin 2 => reached ER (crC q x.1 x.2) 0)
    ∗ (bigSep Finset.univ fun x : Fin 2 × Fin 2 × Fin 2 => rel q x.1 x.2.1 x.2.2 1)
    ∗ (bigSep Finset.univ fun r : Fin 5 => relX q r))
/-- How often a slot has been released once step `n - 1` is done. -/
def cnt (b : Fin 2) (n : ℕ) : ℕ := 1 + (n + 1 - b.val) / 2
/-- The releases of a half ring of device `q` before step `n`. -/
def rels (q : Dev nD) (d s : Fin 2) (n : ℕ) : sProp 𝕄 := iprop(rel q d s 0 (cnt 0 n) ∗ rel q d s 1 (cnt 1 n))

def duties (g : GSem nD τ sig) (r : ℕ) : Finset ℕ :=
  match cls g.2 with
  | .bar => if r = 0 then {0, 1} else ∅
  | .cr _ _ => if r = 0 then Finset.range 29 else ∅
  | .snd _ _ b => if 2 * r + b.val < 31 then {0} else ∅
  | .rcv _ _ b => if 2 * r + b.val < 31 then {0} else ∅
  | .exs _ => if r = 0 then {0} else ∅
  | .exr _ => if r = 0 then {0} else ∅
  | .oth => ∅
def amountOfK : CellK → ℕ
  | .snd _ _ _ => NB | .rcv _ _ _ => NB | .exs _ => NX | .exr _ => NX | _ => 1
def dirOf (n : ℕ) : Fin 2 := bitF n 0
def payload (g : GSem nD τ sig) (r n : ℕ) : sProp 𝕄 :=
  match cls g.2 with
  | .bar => ent (inn (dirOf n) g.1.1)
  | .cr d s => rels (out d g.1.1) d s (n + 1)
  | .snd d s b => slotAt (slotM (sM d) s b) g.1.1
  | .rcv d s b => iprop(slotVal (slotM (rM d) s b) g.1.1 (part X Wt d s (2 * r + b.val) (inn d g.1.1))
      ∗ bigSep (kn d (2 * r + b.val) (inn d g.1.1)) ent)
  | .exs r' => exAt (exM asM r') g.1.1
  | .exr r' => exVal (exM arM r') g.1.1 (tile (exv X Wt r'.val (prt r' g.1.1)))
  | .oth => iprop(emp)

theorem credit_s : ∀ d s b : Fin 2, (slotM (sM d) s b).view.dmaCredit = NB := by decide +kernel
theorem credit_r : ∀ d s b : Fin 2, (slotM (rM d) s b).view.dmaCredit = NB := by decide +kernel
theorem creditX_s : ∀ r : Fin 5, (exM asM r).view.dmaCredit = NX := by decide +kernel
theorem creditX_r : ∀ r : Fin 5, (exM arM r).view.dmaCredit = NX := by decide +kernel
theorem NB_pos : 0 < NB := View.dmaCredit_pos _ (by decide)
theorem NX_pos : 0 < NX := View.dmaCredit_pos _ (by decide)
attribute [irreducible] NB NX

def Rd : Rounds.Schedule (GSem nD τ sig) ℕ 𝕄 where
  duties := duties
  amount g _ _ := amountOfK (cls g.2)
  payload := payload X Wt
  amount_pos g _ _ _ := by
    generalize cls g.2 = k
    cases k <;> first | exact NB_pos | exact NX_pos | exact Nat.one_pos

instance rel_storable (q : Dev nD) (d s b : Fin 2) (n : ℕ) : BI.Storable (upEmb : UEmb _ 𝕄) (rel (F := F) q d s b n) := by
  unfold rel; infer_instance
instance relX_storable (q : Dev nD) (r : Fin 5) : BI.Storable (upEmb : UEmb _ 𝕄) (relX (F := F) q r) := by
  unfold relX; infer_instance
instance ent_storable (q : Dev nD) : BI.Storable (upEmb : UEmb _ 𝕄) (ent (F := F) q) := by
  unfold ent; infer_instance
instance rels_storable (q : Dev nD) (d s : Fin 2) (n : ℕ) : BI.Storable (upEmb : UEmb _ 𝕄) (rels (F := F) q d s n) := by
  unfold rels; infer_instance
instance slotVal_storable (m : Memref sig .tc .vmem S128x512 .f32) (c : Dev nD) (v : FVec F S128x512 .f32) :
    BI.Storable (upEmb : UEmb _ 𝕄) (slotVal m c v) := by
  unfold slotVal; infer_instance
instance exVal_storable (m : Memref sig .tc .vmem S8x128 .f32) (c : Dev nD) (v : FVec F S8x128 .f32) :
    BI.Storable (upEmb : UEmb _ 𝕄) (exVal m c v) := by
  unfold exVal; infer_instance
instance rel_persistent (q : Dev nD) (d s b : Fin 2) (n : ℕ) : BI.Persistent (rel (F := F) q d s b n) := by
  unfold rel; infer_instance
instance relX_persistent (q : Dev nD) (r : Fin 5) : BI.Persistent (relX (F := F) q r) := by
  unfold relX; infer_instance
instance ent_persistent (q : Dev nD) : BI.Persistent (ent (F := F) q) := by
  unfold ent; infer_instance
instance rels_persistent (q : Dev nD) (d s : Fin 2) (n : ℕ) : BI.Persistent (rels (F := F) q d s n) := by
  unfold rels; infer_instance

instance payload_storable (g : GSem nD τ sig) (r n : ℕ) : BI.Storable (upEmb : UEmb _ 𝕄) ((Rd X Wt).payload g r n) := by
  show BI.Storable (upEmb : UEmb _ 𝕄) (payload X Wt g r n)
  unfold payload
  generalize cls g.2 = k
  cases k <;> dsimp only <;> infer_instance

/-! ### The schedule cell by cell -/

section Cells
variable (c : Dev nD)

theorem duties_bar : (Rd X Wt).duties (barC c) 0 = {0, 1} := by show duties (barC c) 0 = _; unfold duties; rw [cls_bar]; rfl
theorem duties_cr (d s : Fin 2) : (Rd X Wt).duties (crC c d s) 0 = Finset.range 29 := by show duties _ _ = _; unfold duties; rw [cls_cr]; rfl
theorem duties_snd (d s b : Fin 2) {r : ℕ} (h : 2 * r + b.val < 31) : (Rd X Wt).duties (sndC c d s b) r = {0} := by
  show duties _ _ = _; unfold duties; rw [cls_snd]; exact if_pos h
theorem duties_rcv (d s b : Fin 2) {r : ℕ} (h : 2 * r + b.val < 31) : (Rd X Wt).duties (rcvC c d s b) r = {0} := by
  show duties _ _ = _; unfold duties; rw [cls_rcv]; exact if_pos h
theorem duties_exs (r : Fin 5) : (Rd X Wt).duties (exsC c r) 0 = {0} := by show duties _ _ = _; unfold duties; rw [cls_exs]; rfl
theorem duties_exr (r : Fin 5) : (Rd X Wt).duties (exrC c r) 0 = {0} := by show duties _ _ = _; unfold duties; rw [cls_exr]; rfl
/-- No cell has duties from round 16 on. -/
theorem duties_later (g : GSem nD τ sig) (r : ℕ) (h : 16 ≤ r) : (Rd X Wt).duties g r = ∅ := by
  show duties g r = ∅; unfold duties
  cases cls g.2 <;> dsimp only <;> first | rfl | exact if_neg (by omega)

theorem amount_bar (r n : ℕ) : (Rd X Wt).amount (barC c) r n = 1 := by show amountOfK (cls barL) = _; rw [cls_bar]; rfl
theorem amount_cr (d s : Fin 2) (r n : ℕ) : (Rd X Wt).amount (crC c d s) r n = 1 := by show amountOfK _ = _; rw [cls_cr]; rfl
theorem amount_snd (d s b : Fin 2) (r n : ℕ) : (Rd X Wt).amount (sndC c d s b) r n = NB := by show amountOfK _ = _; rw [cls_snd]; rfl
theorem amount_rcv (d s b : Fin 2) (r n : ℕ) : (Rd X Wt).amount (rcvC c d s b) r n = NB := by show amountOfK _ = _; rw [cls_rcv]; rfl
theorem amount_exs (k : Fin 5) (r n : ℕ) : (Rd X Wt).amount (exsC c k) r n = NX := by show amountOfK _ = _; rw [cls_exs]; rfl
theorem amount_exr (k : Fin 5) (r n : ℕ) : (Rd X Wt).amount (exrC c k) r n = NX := by show amountOfK _ = _; rw [cls_exr]; rfl

theorem expect_bar : (Rd X Wt).expect (barC c) 0 = 2 := by
  unfold Schedule.expect Schedule.amountOf; rw [duties_bar]; simp only [amount_bar]; rfl
theorem expect_cr (d s : Fin 2) : (Rd X Wt).expect (crC c d s) 0 = 29 := by
  unfold Schedule.expect Schedule.amountOf; rw [duties_cr]; simp only [amount_cr]; rfl
theorem expect_snd (d s b : Fin 2) {r : ℕ} (h : 2 * r + b.val < 31) : (Rd X Wt).expect (sndC c d s b) r = NB := by
  unfold Schedule.expect Schedule.amountOf; rw [duties_snd X Wt c d s b h, Finset.sum_singleton, amount_snd]
theorem expect_rcv (d s b : Fin 2) {r : ℕ} (h : 2 * r + b.val < 31) : (Rd X Wt).expect (rcvC c d s b) r = NB := by
  unfold Schedule.expect Schedule.amountOf; rw [duties_rcv X Wt c d s b h, Finset.sum_singleton, amount_rcv]
theorem expect_exs (r : Fin 5) : (Rd X Wt).expect (exsC c r) 0 = NX := by
  unfold Schedule.expect Schedule.amountOf; rw [duties_exs, Finset.sum_singleton, amount_exs]
theorem expect_exr (r : Fin 5) : (Rd X Wt).expect (exrC c r) 0 = NX := by
  unfold Schedule.expect Schedule.amountOf; rw [duties_exr, Finset.sum_singleton, amount_exr]

theorem payload_bar (r n : ℕ) : (Rd X Wt).payload (barC c) r n = ent (inn (dirOf n) c) := by
  show payload X Wt (barC c) r n = _; unfold payload; rw [cls_bar]
theorem payload_cr (d s : Fin 2) (r n : ℕ) : (Rd X Wt).payload (crC c d s) r n = rels (out d c) d s (n + 1) := by
  show payload X Wt _ _ _ = _; unfold payload; rw [cls_cr]
theorem payload_snd (d s b : Fin 2) (r n : ℕ) : (Rd X Wt).payload (sndC c d s b) r n = slotAt (slotM (sM d) s b) c := by
  show payload X Wt _ _ _ = _; unfold payload; rw [cls_snd]
theorem payload_rcv (d s b : Fin 2) (r n : ℕ) : (Rd X Wt).payload (rcvC c d s b) r n
    = iprop(slotVal (slotM (rM d) s b) c (part X Wt d s (2 * r + b.val) (inn d c)) ∗ bigSep (kn d (2 * r + b.val) (inn d c)) ent) := by
  show payload X Wt _ _ _ = _; unfold payload; rw [cls_rcv]
theorem payload_exs (k : Fin 5) (r n : ℕ) : (Rd X Wt).payload (exsC c k) r n = exAt (exM asM k) c := by
  show payload X Wt _ _ _ = _; unfold payload; rw [cls_exs]
theorem payload_exr (k : Fin 5) (r n : ℕ) : (Rd X Wt).payload (exrC c k) r n = exVal (exM arM k) c (tile (exv X Wt k.val (prt k c))) := by
  show payload X Wt _ _ _ = _; unfold payload; rw [cls_exr]

end Cells

/-! ## Levels -/

def L (g : GSem nD τ sig) : Finset ℕ := if g.1.2 = .tc then Finset.range 32 else ∅
/-- The level of a unit: the barrier first, then message `t` of a ring at `2t + 2`, credit `k` at `2k + 3`, the exchange
    rounds last; what a device waits for on its own account at 0. -/
def lvK : CellK → ℕ → ℕ
  | .bar, _ => 1 | .cr _ _, k => 2 * k + 3 | .rcv _ _ _, t => 2 * t + 2 | .exr r, _ => 100 + r.val | _, _ => 0
def lv (g : GSem nD τ sig) (i : ℕ) : ℕ := lvK (cls g.2) i

theorem L_of_ne (g : GSem nD τ sig) (h : g.1.2 ≠ .tc) : L g = ∅ := if_neg h
theorem L_tc (c : Dev nD) (sm : SemLoc sig) : L ((c : Thread nD τ), sm) = Finset.range 32 := if_pos rfl

/-- Everything owed sits at level `b` or above, at indices that have levels. -/
def Above (b : ℕ) (O : CellTallies nD τ sig ℕ) : Prop := ∀ (g : GSem nD τ sig) (i : ℕ), 0 < O g i → i ∈ L g ∧ b ≤ lv g i

theorem Above.zero (b : ℕ) : Above b 0 := fun g i h => absurd h (Nat.lt_irrefl 0)
theorem Above.add {b : ℕ} {O P : CellTallies nD τ sig ℕ} (h : Above b O) (k : Above b P) : Above b (O + P) := fun g i hp =>
  (Pipeline.add_pos_cases hp).elim (h g i) (k g i)
theorem Above.mono {b b' : ℕ} {O : CellTallies nD τ sig ℕ} (h : Above b O) (hb : b' ≤ b) : Above b' O := fun g i hp =>
  ⟨(h g i hp).1, hb.trans (h g i hp).2⟩
theorem Above.sum {α : Type} {b : ℕ} {S : Finset α} {D : α → CellTallies nD τ sig ℕ} (h : ∀ x ∈ S, Above b (D x)) : Above b (∑ x ∈ S, D x) := fun g i hp => by
  obtain ⟨x, hx, hp⟩ := Pipeline.sum_pos_exists hp
  exact h x hx g i hp
theorem Above.tally {b : ℕ} {c : Dev nD} {sm : SemLoc sig} {i n : ℕ} (hi : i < 32) (hb : b ≤ lvK (cls sm) i) :
    Above b (tallyAt ((c : Thread nD τ), sm) i n) := fun g j hp => by
  obtain ⟨rfl, rfl⟩ := Pipeline.tallyAt_pos hp
  exact ⟨by rw [L_tc]; exact Finset.mem_range.mpr hi, hb⟩
theorem mayWait {b : ℕ} {c : Dev nD} {sm : SemLoc sig} {i : ℕ} {O : CellTallies nD τ sig ℕ} (hi : i < 32) (hb : lvK (cls sm) i < b) (h : Above b O) :
    (levAts L lv : sProp 𝕄) ⊢ MayWait (c : Thread nD τ) sm i O :=
  Pipeline.mayWait_of_levAts (by rw [L_tc]; exact Finset.mem_range.mpr hi) fun g j hp => ⟨(h g j hp).1, lt_of_lt_of_le hb (h g j hp).2⟩

end Cert.KernelIdeal.RS

end
-- ==== Proof.Ops.lean ====
/- The kernel's operations one at a time: what each of its loads, stores, copies, waits and signals does to what a device holds. -/
module

public import proofs.«01_k».proof.Proof.Sched
public import Idealize.ShloMosaic.Lib.Pipeline.Value

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (X : Dev nD → FVec F S4096x128 .f32) (Wt : Dev nD → FVec F S128x2048 .f32)

abbrev 𝒱₀ : Variants := Variants.none

/-- What it takes for device `c` to run `p` to `Q`. -/
abbrev WP (c : Dev nD) (p : PG F) (Q : PUnit → sProp 𝕄) : sProp 𝕄 :=
  wp frame (wpE (defs₀ (F := F)) 𝒱₀ (c : Thread nD τ) none) Set.univ p Q

/-- What device `c` owes, whatever it has recorded. -/
def ow (c : Dev nD) (O : CellTallies nD τ sig ℕ) : sProp 𝕄 := iprop(∃ W, owes (c : Thread nD τ) O W)

/-! ## Big separating conjunctions, in the form the proofs use -/

theorem sepUnion {I : Type} [DecidableEq I] {s t : Finset I} (h : Disjoint s t) {Φ : I → sProp 𝕄} : bigSep (s ∪ t) Φ = iprop(bigSep s Φ ∗ bigSep t Φ) :=
  BI.bigSep_union h
theorem sepElim {I : Type} [DecidableEq I] {s : Finset I} {i : I} (h : i ∈ s) {Φ : I → sProp 𝕄} : (bigSep s Φ : sProp 𝕄) ⊢ Φ i := BI.bigSep_elim h
theorem sepInsert {I : Type} [DecidableEq I] {i : I} {s : Finset I} (h : i ∉ s) {Φ : I → sProp 𝕄} : bigSep (insert i s) Φ = iprop(Φ i ∗ bigSep s Φ) :=
  BI.bigSep_insert h

/-! ## The invariants -/

/-- The semaphores the kernel opens at entry. -/
def osem (i : Fin 30) : SemLoc sig := if h : i.val < 4 then .reg ⟨i.val, by have : sig.nSem = 5 := rfl; omega⟩ else .dma ⟨i.val + 2, by have : sig.nDmaSem = 32 := rfl; omega⟩
@[irreducible] def scells : Finset (GSem nD τ sig) := (Finset.univ : Finset (Dev nD × Fin 30)).image fun x => ((x.1 : Thread nD τ), osem x.2)
@[irreducible] def bcells : Finset (GSem nD τ sig) := (Finset.univ : Finset (Dev nD)).image fun c => barC c

/-- The assertion a receive slot holds while nobody uses it. -/
def Sl : Key → sProp 𝕄
  | .inl x => slotAt (slotM (rM x.2.1) x.2.2.1 x.2.2.2) x.1
  | .inr x => exAt (exM arM x.2) x.1

instance Sl_storable (k : Key) : BI.Storable (upEmb : UEmb _ 𝕄) (Sl (F := F) k) := by
  unfold Sl; cases k <;> infer_instance

/-- All invariants and levels: every device knows them. -/
def ctx (K : GSem nD τ sig → ℕ) (κ : Key → ℕ) : sProp 𝕄 :=
  iprop(levAts L lv ∗ (bigSep (bcells ∪ scells) fun g => cellInv ER (Rd X Wt) (K g) g)
    ∗ bigSep Finset.univ fun k : Key => Release.slotInv ES (κ k) k (Sl k))

variable (K : GSem nD τ sig → ℕ) (κ : Key → ℕ)

instance ctx_persistent : BI.Persistent (ctx X Wt K κ) := by unfold ctx; infer_instance

theorem ctx_lev : ctx X Wt K κ ⊢ levAts L lv := by unfold ctx; iintro ⟨H, -⟩; iexact H
theorem ctx_cell {g : GSem nD τ sig} (h : g ∈ bcells ∪ scells) : ctx X Wt K κ ⊢ cellInv ER (Rd X Wt) (K g) g := by
  unfold ctx
  have h' : (bigSep (bcells ∪ scells) fun g => (cellInv ER (Rd X Wt) (K g) g : sProp 𝕄)) ⊢ cellInv ER (Rd X Wt) (K g) g := bigSep_elim h
  iintro ⟨-, H, -⟩
  iapply h' $$ H
theorem ctx_slot (k : Key) : ctx X Wt K κ ⊢ Release.slotInv ES (κ k) k (Sl k) := by
  unfold ctx
  have h' : (bigSep Finset.univ fun k : Key => (Release.slotInv ES (κ k) k (Sl k) : sProp 𝕄)) ⊢ Release.slotInv ES (κ k) k (Sl k) := bigSep_elim (Finset.mem_univ k)
  iintro ⟨-, -, H⟩
  iapply h' $$ H

theorem bar_mem (c : Dev nD) : barC c ∈ bcells ∪ scells := by
  unfold bcells; exact Finset.mem_union_left _ (Finset.mem_image_of_mem _ (Finset.mem_univ c))
theorem scell_mem {c : Dev nD} {sm : SemLoc sig} (i : Fin 30) (h : osem i = sm) : ((c : Thread nD τ), sm) ∈ bcells ∪ scells :=
  by unfold scells; exact Finset.mem_union_right _ (Finset.mem_image.mpr ⟨(c, i), Finset.mem_univ _, by rw [h]⟩)
def icr (d s : Fin 2) : Fin 30 := ⟨2 * d.val + s.val, by omega⟩
def isnd (d s b : Fin 2) : Fin 30 := ⟨4 + 8 * d.val + 2 * s.val + b.val, by omega⟩
def ircv (d s b : Fin 2) : Fin 30 := ⟨8 + 8 * d.val + 2 * s.val + b.val, by omega⟩
def iexs (r : Fin 5) : Fin 30 := ⟨20 + r.val, by omega⟩
def iexr (r : Fin 5) : Fin 30 := ⟨25 + r.val, by omega⟩
theorem osem_cr : ∀ d s, osem (icr d s) = crL d s := by decide +kernel
theorem osem_snd : ∀ d s b, osem (isnd d s b) = sndL d s b := by decide +kernel
theorem osem_rcv : ∀ d s b, osem (ircv d s b) = rcvL d s b := by decide +kernel
theorem osem_exs : ∀ r, osem (iexs r) = exsL r := by decide +kernel
theorem osem_exr : ∀ r, osem (iexr r) = exrL r := by decide +kernel
theorem ctx_bar (c : Dev nD) : ctx X Wt K κ ⊢ cellInv ER (Rd X Wt) (K (barC c)) (barC c) := ctx_cell X Wt K κ (bar_mem c)
theorem ctx_cr (c : Dev nD) (d s : Fin 2) : ctx X Wt K κ ⊢ cellInv ER (Rd X Wt) (K (crC c d s)) (crC c d s) :=
  ctx_cell X Wt K κ (scell_mem _ (osem_cr d s))
theorem ctx_snd (c : Dev nD) (d s b : Fin 2) : ctx X Wt K κ ⊢ cellInv ER (Rd X Wt) (K (sndC c d s b)) (sndC c d s b) :=
  ctx_cell X Wt K κ (scell_mem _ (osem_snd d s b))
theorem ctx_rcv (c : Dev nD) (d s b : Fin 2) : ctx X Wt K κ ⊢ cellInv ER (Rd X Wt) (K (rcvC c d s b)) (rcvC c d s b) :=
  ctx_cell X Wt K κ (scell_mem _ (osem_rcv d s b))
theorem ctx_exs (c : Dev nD) (r : Fin 5) : ctx X Wt K κ ⊢ cellInv ER (Rd X Wt) (K (exsC c r)) (exsC c r) :=
  ctx_cell X Wt K κ (scell_mem _ (osem_exs r))
theorem ctx_exr (c : Dev nD) (r : Fin 5) : ctx X Wt K κ ⊢ cellInv ER (Rd X Wt) (K (exrC c r)) (exrC c r) :=
  ctx_cell X Wt K κ (scell_mem _ (osem_exr r))

/-! ## Slots -/

theorem slot_load_sub (m : Memref sig .tc .vmem S2x2x128x512 .f32) (s b : Fin 2) :
    m.view.setOn (Rect.unit (s := S2x2x128x512) (slotOff s b) S1x1x128x512.size (slotOff_inb s b)).toLoadRect.set ⊆ (slotM m s b).view.set := by
  rw [show (slotM m s b).view.set = ((m.view.slice (Rect.unit (s := S2x2x128x512) (slotOff s b) S1x1x128x512.size (slotOff_inb s b))).reshape _ _).set from rfl,
    View.set_reshape, View.set_slice]
  exact subset_of_eq rfl
theorem slot_store_sub (m : Memref sig .tc .vmem S2x2x128x512 .f32) (s b : Fin 2) :
    (m.access (Rect.unit (s := S2x2x128x512) (slotOff s b) S1x1x128x512.size (slotOff_inb s b))).setOn Finset.univ ⊆ (slotM m s b).view.set := by
  rw [show (slotM m s b).view.set = ((m.view.slice (Rect.unit (s := S2x2x128x512) (slotOff s b) S1x1x128x512.size (slotOff_inb s b))).reshape _ _).set from rfl,
    View.set_reshape, View.setOn_univ]
theorem slot_read (m : Memref sig .tc .vmem S2x2x128x512 .f32) (s b : Fin 2) (f : m.view.ty.Contents (Elt F)) :
    (slotM m s b).view.read (Elt F) f
      = shapeCast S128x512 (m.view.readAt (Elt F) (Rect.unit (s := S2x2x128x512) (slotOff s b) S1x1x128x512.size (slotOff_inb s b)).toLoadRect f) shapeCasts_S1x1x128x512_S128x512 := rfl
theorem slot_write (m : Memref sig .tc .vmem S2x2x128x512 .f32) (s b : Fin 2) (f : m.view.ty.Contents (Elt F)) (p : FVec F S128x512 .f32) :
    (slotM m s b).view.read (Elt F) ((m.access (Rect.unit (s := S2x2x128x512) (slotOff s b) S1x1x128x512.size (slotOff_inb s b))).write (Elt F) f
      (shapeCast S1x1x128x512 p shapeCasts_S128x512_S1x1x128x512) Finset.univ) = p := by
  rw [slot_read, View.readAt_rect]
  erw [View.read_write_univ]
  exact shapeCast_shapeCast p _ _
theorem ex_load_sub (m : Memref sig .tc .vmem S5x8x128 .f32) (r : Fin 5) :
    m.view.setOn (Rect.unit (s := S5x8x128) (exOff r) S1x8x128.size (exOff_inb r)).toLoadRect.set ⊆ (exM m r).view.set := by
  rw [show (exM m r).view.set = ((m.view.slice (Rect.unit (s := S5x8x128) (exOff r) S1x8x128.size (exOff_inb r))).reshape _ _).set from rfl,
    View.set_reshape, View.set_slice]
  exact subset_of_eq rfl
theorem ex_store_sub (m : Memref sig .tc .vmem S5x8x128 .f32) (r : Fin 5) :
    (m.access (Rect.unit (s := S5x8x128) (exOff r) S1x8x128.size (exOff_inb r))).setOn Finset.univ ⊆ (exM m r).view.set := by
  rw [show (exM m r).view.set = ((m.view.slice (Rect.unit (s := S5x8x128) (exOff r) S1x8x128.size (exOff_inb r))).reshape _ _).set from rfl,
    View.set_reshape, View.setOn_univ]
theorem ex_read (m : Memref sig .tc .vmem S5x8x128 .f32) (r : Fin 5) (f : m.view.ty.Contents (Elt F)) :
    (exM m r).view.read (Elt F) f
      = shapeCast S8x128 (m.view.readAt (Elt F) (Rect.unit (s := S5x8x128) (exOff r) S1x8x128.size (exOff_inb r)).toLoadRect f) shapeCasts_S1x8x128_S8x128 := rfl
theorem ex_write (m : Memref sig .tc .vmem S5x8x128 .f32) (r : Fin 5) (f : m.view.ty.Contents (Elt F)) (p : FVec F S8x128 .f32) :
    (exM m r).view.read (Elt F) ((m.access (Rect.unit (s := S5x8x128) (exOff r) S1x8x128.size (exOff_inb r))).write (Elt F) f
      (shapeCast S1x8x128 p shapeCasts_S8x128_S1x8x128) Finset.univ) = p := by
  rw [ex_read, View.readAt_rect]
  erw [View.read_write_univ]
  exact shapeCast_shapeCast p _ _

/-! ## Loads and stores -/

abbrev xPt (c : Dev nD) : sProp 𝕄 := iprop(xM.view.loc (c : Thread nD τ) ↦{fullShare} (X c : Buf (Elt F) (xM.view.loc (c : Thread nD τ))))
abbrev wPt (c : Dev nD) : sProp 𝕄 := iprop(wM.view.loc (c : Thread nD τ) ↦{fullShare} (Wt c : Buf (Elt F) (wM.view.loc (c : Thread nD τ))))
/-- The tables in scalar memory. -/
abbrev sigPt (c : Dev nD) : sProp 𝕄 := iprop(sigmaM.view.loc (c : Thread nD τ) ↦{fullShare} (fun i => lit0 (S32.rowMajor i) : Buf (Elt F) (sigmaM.view.loc (c : Thread nD τ))))
abbrev invPt (c : Dev nD) : sProp 𝕄 := iprop(invM.view.loc (c : Thread nD τ) ↦{fullShare} (fun i => lit1 (S32.rowMajor i) : Buf (Elt F) (invM.view.loc (c : Thread nD τ))))
abbrev pbitPt (c : Dev nD) : sProp 𝕄 := iprop(pbitM.view.loc (c : Thread nD τ) ↦{fullShare} (fun i => lit2 (S5x32.rowMajor i) : Buf (Elt F) (pbitM.view.loc (c : Thread nD τ))))

variable (c : Dev nD)

theorem wp_tab (Q : PUnit → sProp 𝕄) (x : BitVec 32) (w : Dev nD) (h : tabW x = devW w) (k : (v : BitVec 32) → chunkOk v → PG F) :
    iprop(sigPt c ∗ (sigPt c -∗ WP c (k (devW w) (chunkOk_devW w)) Q)) ⊢ WP c (tabK x k) Q := by
  iintro ⟨H, Hk⟩
  unfold tabK
  iapply (wp_smemLoadElt 𝒱₀ (c : Thread nD τ) none Set.univ (m := sigmaM) (r := Rect.unit (s := S32) (tabOff x) S1.size (tabOff_inb x)) (S := Finset.univ) (Finset.subset_univ _)) $$ H
  iintro H
  rw [show (sigmaM.access (Rect.unit (s := S32) (tabOff x) S1.size (tabOff_inb x))).read (Elt F)
    (fun i => lit0 (S32.rowMajor i)) (Shape.Idx.first (numel1_S1.symm ▸ Nat.one_pos)) = devW w from (read_sigma x).trans h]
  iapply (wp_assume 𝒱₀ (c : Thread nD τ) none Set.univ (chunkOk_devW w))
  iapply Hk $$ H

theorem wp_dot (Q : PUnit → sProp 𝕄) (w : Dev nD) (d s : Fin 2) (k : FVec F S128x512 .f32 → PG F) :
    iprop(xPt X c ∗ wPt Wt c ∗ ((xPt X c ∗ wPt Wt c) -∗ WP c (k (prod (xch (X c) w) (wcol (Wt c) d s))) Q))
      ⊢ WP c (dotK (devW w) (chunkOk_devW w) d s k) Q := by
  iintro ⟨Hx, Hw, Hk⟩
  unfold dotK
  iapply (wp_load 𝒱₀ (c : Thread nD τ) none Set.univ (m := xM) (S := Finset.univ) (Finset.subset_univ _)) $$ Hx
  iintro Hx
  iapply (wp_load 𝒱₀ (c : Thread nD τ) none Set.univ (m := wM) (S := Finset.univ) (Finset.subset_univ _)) $$ Hw
  iintro Hw
  iapply Hk
  isplitl [Hx]; · iexact Hx
  iexact Hw

theorem wp_load_slot (Q : PUnit → sProp 𝕄) (m : Memref sig .tc .vmem S2x2x128x512 .f32) (s b : Fin 2) (f : Buf (Elt F) ((slotM m s b).view.loc (c : Thread nD τ)))
    {hl} {k : FVec F S1x1x128x512 .f32 → PG F} :
    ((slotM m s b).view.loc (c : Thread nD τ) ↦[(slotM m s b).view.set]{fullShare} f : sProp 𝕄)
      ⊢ iprop((((slotM m s b).view.loc (c : Thread nD τ) ↦[(slotM m s b).view.set]{fullShare} f)
          -∗ WP c (k (m.view.readAt (Elt F) (Rect.unit (s := S2x2x128x512) (slotOff s b) S1x1x128x512.size (slotOff_inb s b)).toLoadRect f)) Q)
        -∗ WP c (.op (.load (e := .f32) m (Rect.unit (s := S2x2x128x512) (slotOff s b) S1x1x128x512.size (slotOff_inb s b)).toLoadRect hl) k) Q) :=
  wp_load 𝒱₀ (c : Thread nD τ) none Set.univ (m := m) (q := fullShare) (f := f) (slot_load_sub m s b)
theorem wp_store_slot (Q : PUnit → sProp 𝕄) (m : Memref sig .tc .vmem S2x2x128x512 .f32) (s b : Fin 2) (f : Buf (Elt F) ((slotM m s b).view.loc (c : Thread nD τ)))
    {w : FVec F S1x1x128x512 .f32} {hx hm} {k : PUnit → PG F} :
    ((slotM m s b).view.loc (c : Thread nD τ) ↦[(slotM m s b).view.set]{fullShare} f : sProp 𝕄)
      ⊢ iprop((((slotM m s b).view.loc (c : Thread nD τ) ↦[(slotM m s b).view.set]{fullShare}
            (m.access (Rect.unit (s := S2x2x128x512) (slotOff s b) S1x1x128x512.size (slotOff_inb s b))).write (Elt F) f w Finset.univ)
          -∗ WP c (k ⟨⟩) Q)
        -∗ WP c (.op (.store m (Rect.unit (s := S2x2x128x512) (slotOff s b) S1x1x128x512.size (slotOff_inb s b)) w Finset.univ hx hm) k) Q) :=
  wp_store 𝒱₀ (c : Thread nD τ) none Set.univ (m := m) (f := f) (slot_store_sub m s b)
theorem wp_load_ex (Q : PUnit → sProp 𝕄) (m : Memref sig .tc .vmem S5x8x128 .f32) (r : Fin 5) (f : Buf (Elt F) ((exM m r).view.loc (c : Thread nD τ)))
    {hl} {k : FVec F S1x8x128 .f32 → PG F} :
    ((exM m r).view.loc (c : Thread nD τ) ↦[(exM m r).view.set]{fullShare} f : sProp 𝕄)
      ⊢ iprop((((exM m r).view.loc (c : Thread nD τ) ↦[(exM m r).view.set]{fullShare} f)
          -∗ WP c (k (m.view.readAt (Elt F) (Rect.unit (s := S5x8x128) (exOff r) S1x8x128.size (exOff_inb r)).toLoadRect f)) Q)
        -∗ WP c (.op (.load (e := .f32) m (Rect.unit (s := S5x8x128) (exOff r) S1x8x128.size (exOff_inb r)).toLoadRect hl) k) Q) :=
  wp_load 𝒱₀ (c : Thread nD τ) none Set.univ (m := m) (q := fullShare) (f := f) (ex_load_sub m r)
theorem wp_store_ex (Q : PUnit → sProp 𝕄) (m : Memref sig .tc .vmem S5x8x128 .f32) (r : Fin 5) (f : Buf (Elt F) ((exM m r).view.loc (c : Thread nD τ)))
    {w : FVec F S1x8x128 .f32} {hx hm} {k : PUnit → PG F} :
    ((exM m r).view.loc (c : Thread nD τ) ↦[(exM m r).view.set]{fullShare} f : sProp 𝕄)
      ⊢ iprop((((exM m r).view.loc (c : Thread nD τ) ↦[(exM m r).view.set]{fullShare}
            (m.access (Rect.unit (s := S5x8x128) (exOff r) S1x8x128.size (exOff_inb r))).write (Elt F) f w Finset.univ)
          -∗ WP c (k ⟨⟩) Q)
        -∗ WP c (.op (.store m (Rect.unit (s := S5x8x128) (exOff r) S1x8x128.size (exOff_inb r)) w Finset.univ hx hm) k) Q) :=
  wp_store 𝒱₀ (c : Thread nD τ) none Set.univ (m := m) (f := f) (ex_store_sub m r)

theorem wp_put (Q : PUnit → sProp 𝕄) (d s b : Fin 2) (p : FVec F S128x512 .f32) (k : PG F) :
    iprop(slotAt (slotM (sM d) s b) c ∗ (slotVal (slotM (sM d) s b) c p -∗ WP c k Q)) ⊢ WP c (putK d s b p k) Q := by
  unfold slotAt Release.slot
  iintro ⟨⟨%f, H⟩, Hk⟩
  unfold putK
  iapply (wp_load_slot c Q (sM d) s b f) $$ H
  iintro H
  iapply (wp_store_slot c Q (sM d) s b f) $$ H
  iintro H
  iapply Hk
  unfold slotVal
  iexists _
  isplitr
  rotate_left
  · iexact H
  · ipureintro; exact slot_write (sM d) s b f p

/-! ## Waits -/

theorem rest_rcv (d s b : Fin 2) {r : ℕ} (h : 2 * r + b.val < 31) :
    (bigSep ((Rd X Wt).duties (rcvC c d s b) r \ ∅) fun n => (Rd X Wt).payload (rcvC c d s b) r n)
      = iprop(slotVal (slotM (rM d) s b) c (part X Wt d s (2 * r + b.val) (inn d c)) ∗ bigSep (kn d (2 * r + b.val) (inn d c)) ent) := by
  rw [duties_rcv X Wt c d s b h, Finset.sdiff_empty, bigSep_singleton, payload_rcv]
theorem rest_snd (d s b : Fin 2) {r : ℕ} (h : 2 * r + b.val < 31) :
    (bigSep ((Rd X Wt).duties (sndC c d s b) r \ ∅) fun n => (Rd X Wt).payload (sndC c d s b) r n) = slotAt (slotM (sM d) s b) c := by
  rw [duties_snd X Wt c d s b h, Finset.sdiff_empty, bigSep_singleton, payload_snd]

theorem par_half (t : ℕ) : 2 * (t / 2) + (par t).val = t := Nat.div_add_mod t 2

theorem wp_waitRecv (Q : PUnit → sProp 𝕄) (d s : Fin 2) (t : ℕ) (ht : t < 31) (O : CellTallies nD τ sig ℕ) (hO : Above (2 * t + 3) O) (k : PG F) :
    iprop(ctx X Wt K κ ∗ cred (tallyAt (rcvC c d s (par t)) t NB) ∗ ow c O ∗ atPos ER (rcvC c d s (par t)) (t / 2) ∅ 0
        ∗ ((ow c O ∗ atPos ER (rcvC c d s (par t)) (t / 2 + 1) ∅ 0 ∗ reached ER (rcvC c d s (par t)) (t / 2 + 1)
          ∗ slotVal (slotM (rM d) s (par t)) c (part X Wt d s t (inn d c)) ∗ bigSep (kn d t (inn d c)) ent) -∗ WP c k Q))
      ⊢ WP c (waitRecvK d s (par t) k) Q := by
  unfold ow
  iintro ⟨#Hctx, Hcr, ⟨%W, HO⟩, Hat, Hk⟩
  unfold waitRecvK
  have hlt : 2 * (t / 2) + (par t).val < 31 := by rw [par_half]; exact ht
  iapply (Rounds.wp_wait_rest_token 𝒱₀ ER (Rd X Wt) (c : Thread nD τ) none (κ := K (rcvC c d s (par t)))
      (k' := NB) (fun _ => (wpE_waitDma2_eq (src := slotM (sM d) s (par t)) (dst := slotM (rM d) s (par t)) (hsrc := (View.wordExact_bits rfl).reshape _ _) (hdst := (View.wordExact_bits rfl).reshape _ _) 𝒱₀ (c : Thread nD τ) none Set.univ _).trans (by rw [credit_r])) (Set.mem_univ _) t (O := O) (W := W) (R := t / 2) (m := 0) (T := ∅)
      ((Nat.zero_add _).trans (expect_rcv X Wt c d s (par t) hlt).symm)) $$ [Hcr HO Hat]
  · isplitr; · iapply (ctx_rcv X Wt K κ c d s (par t)) $$ Hctx
    isplitl [Hcr]; · iexact Hcr
    isplitl [HO]; · iexact HO
    isplitr
    · iapply (mayWait (b := 2 * t + 3) (by omega) (by rw [cls_rcv]; exact Nat.lt_succ_self _) hO); iapply (ctx_lev X Wt K κ) $$ Hctx
    iexact Hat
  iintro ⟨HO, Hat, Hr, Hpay⟩
  iapply Hk
  isplitl [HO]; · iexists _; iexact HO
  isplitl [Hat]; · iexact Hat
  isplitl [Hr]; · iexact Hr
  ihave Hp := (Entails.of_eq (rest_rcv X Wt c d s (par t) hlt)) $$ Hpay
  rw [par_half]
  iexact Hp

theorem wp_waitSend (Q : PUnit → sProp 𝕄) (d s : Fin 2) (t : ℕ) (ht : t < 31) (O : CellTallies nD τ sig ℕ) (hO : Above 1 O) (k : PG F) :
    iprop(ctx X Wt K κ ∗ cred (tallyAt (sndC c d s (par t)) 0 NB) ∗ ow c O ∗ atPos ER (sndC c d s (par t)) (t / 2) ∅ 0
        ∗ ((ow c O ∗ atPos ER (sndC c d s (par t)) (t / 2 + 1) ∅ 0 ∗ reached ER (sndC c d s (par t)) (t / 2 + 1)
          ∗ slotAt (slotM (sM d) s (par t)) c) -∗ WP c k Q))
      ⊢ WP c (waitSendK d s (par t) k) Q := by
  unfold ow
  iintro ⟨#Hctx, Hcr, ⟨%W, HO⟩, Hat, Hk⟩
  unfold waitSendK
  have hlt : 2 * (t / 2) + (par t).val < 31 := by rw [par_half]; exact ht
  iapply (Rounds.wp_wait_rest_token 𝒱₀ ER (Rd X Wt) (c : Thread nD τ) none (κ := K (sndC c d s (par t)))
      (k' := NB) (fun _ => (wpE_waitDma2_eq (src := slotM (rM d) s (par t)) (dst := slotM (sM d) s (par t)) (hsrc := (View.wordExact_bits rfl).reshape _ _) (hdst := (View.wordExact_bits rfl).reshape _ _) 𝒱₀ (c : Thread nD τ) none Set.univ _).trans (by rw [credit_s])) (Set.mem_univ _) 0 (O := O) (W := W) (R := t / 2) (m := 0) (T := ∅)
      ((Nat.zero_add _).trans (expect_snd X Wt c d s (par t) hlt).symm)) $$ [Hcr HO Hat]
  · isplitr; · iapply (ctx_snd X Wt K κ c d s (par t)) $$ Hctx
    isplitl [Hcr]; · iexact Hcr
    isplitl [HO]; · iexact HO
    isplitr
    · iapply (mayWait (b := 1) (by omega) (by rw [cls_snd]; exact Nat.one_pos) hO); iapply (ctx_lev X Wt K κ) $$ Hctx
    iexact Hat
  iintro ⟨HO, Hat, Hr, Hpay⟩
  iapply Hk
  isplitl [HO]; · iexists _; iexact HO
  isplitl [Hat]; · iexact Hat
  isplitl [Hr]; · iexact Hr
  ihave Hp := (Entails.of_eq (rest_snd X Wt c d s (par t) hlt)) $$ Hpay
  iexact Hp

/-! ## Releases, credits and sends -/

theorem slotSet_ne (m : Memref sig .tc .vmem S2x2x128x512 .f32) (s b : Fin 2) : ((slotM m s b).view.set).Nonempty :=
  ⟨_, View.emb_mem_set _ (fun a => ⟨0, by fin_cases a <;> decide⟩)⟩
theorem exSet_ne (m : Memref sig .tc .vmem S5x8x128 .f32) (r : Fin 5) : ((exM m r).view.set).Nonempty :=
  ⟨_, View.emb_mem_set _ (fun a => ⟨0, by fin_cases a <;> decide⟩)⟩
theorem Sl_inl (c : Dev nD) (d s b : Fin 2) : (Sl (Sum.inl (c, d, s, b)) : sProp 𝕄) = slotAt (slotM (rM d) s b) c := rfl
theorem Sl_inr (c : Dev nD) (r : Fin 5) : (Sl (Sum.inr (c, r)) : sProp 𝕄) = exAt (exM arM r) c := rfl
theorem Sl_excl (k : Key) : iprop(Sl k ∗ Sl k) ⊢ (False : sProp 𝕄) := by
  cases k with
  | inl x => exact Release.slot_slot_false (slotSet_ne _ _ _)
  | inr x => exact Release.slot_slot_false (exSet_ne _ _)

theorem rel_mono (q : Dev nD) (d s b : Fin 2) {n n' : ℕ} (h : n' ≤ n) : rel (F := F) q d s b n ⊢ rel q d s b n' := by
  unfold rel
  iintro ⟨H1, H2⟩
  isplitl [H1]
  · iapply (Release.released_mono (h := h)) $$ H1
  · iapply (Rounds.reached_mono (h := Nat.sub_le_sub_right h 1)) $$ H2

theorem slotVal_any (m : Memref sig .tc .vmem S128x512 .f32) (v : FVec F S128x512 .f32) : slotVal m c v ⊢ slotAt m c := by
  unfold slotVal slotAt Release.slot
  iintro ⟨%f, -, H⟩
  iexists f; iexact H

/-- A receive slot that is empty goes back to its senders. -/
theorem release (d s b : Fin 2) (n : ℕ) :
    iprop(ctx X Wt K κ ∗ Release.readerAt ES (Sum.inl (c, d, s, b)) n ∗ slotAt (slotM (rM d) s b) c)
      ⊢ (|={Set.univ}=> (Release.readerAt ES (Sum.inl (c, d, s, b)) (n + 1) ∗ Release.released ES (Sum.inl (c, d, s, b)) (n + 1)) : sProp 𝕄) := by
  iintro ⟨#Hctx, Hr, Hs⟩
  iapply (Release.slot_release ES (ι := κ (Sum.inl (c, d, s, b))) (k := Sum.inl (c, d, s, b)) (S := Sl (Sum.inl (c, d, s, b))) (Set.mem_univ _) (Sl_excl _) n)
  isplitr; · iapply (ctx_slot X Wt K κ _) $$ Hctx
  isplitl [Hr]; · iexact Hr
  rw [Sl_inl]; iexact Hs

/-- The copy of a send slot into the receive slot of device `q`. -/
def startAt (d sub slot : Fin 2) (q : Dev nD) (k : PG F) : PG F :=
  .op (.enqueueDma (slotM (sM d) sub slot) (.remote (Dev.tc q) (slotM (rM d) sub slot) (.dma (semAt (sSems d) sub slot)))
    (.dma (semAt (rSems d) sub slot)) ((View.wordExact_bits rfl).reshape _ _) ((View.wordExact_bits rfl).reshape _ _) ⟨⟨rfl, Or.inl rfl⟩, trivial⟩) fun _ => k

theorem wp_start (Q : PUnit → sProp 𝕄) (d s : Fin 2) (t : ℕ) (ht : t < 31) (n : ℕ) (hn : t / 2 + 1 ≤ n) (v : BitVec 32) (hv : devN v < nD)
    (hvo : (⟨devN v, hv⟩ : Dev nD) = out d c) (O : CellTallies nD τ sig ℕ) (k : PG F) :
    iprop(ctx X Wt K κ ∗ slotVal (slotM (sM d) s (par t)) c (part X Wt d s t c) ∗ rel (out d c) d s (par t) n ∗ bigSep (kn d t c) ent
        ∗ reached ER (sndC c d s (par t)) (t / 2) ∗ dutyTok ER (sndC c d s (par t)) (t / 2) 0 ∗ dutyTok ER (rcvC (out d c) d s (par t)) (t / 2) 0
        ∗ Release.writeTok ES (Sum.inl (out d c, d, s, par t)) (t / 2 + 1) ∗ ow c (O + tallyAt (rcvC (out d c) d s (par t)) t NB)
        ∗ ((cred (tallyAt (sndC c d s (par t)) 0 NB) ∗ ow c O) -∗ WP c k Q))
      ⊢ WP c (startK d s (par t) v hv k) Q := by
  rw [show startK d s (par t) v hv k = startAt d s (par t) (out d c) k from
    (show startK d s (par t) v hv k = startAt d s (par t) ⟨devN v, hv⟩ k from rfl).trans (by rw [hvo])]
  unfold startAt
  have hlt : 2 * (t / 2) + (par t).val < 31 := by rw [par_half]; exact ht
  unfold ow
  iintro ⟨#Hctx, Hs, Hrel, Hkn, Hrs, Hd1, Hd2, Hw, ⟨%W, HO⟩, Hk⟩
  ihave Hrel := (rel_mono (out d c) d s (par t) hn) $$ Hrel
  unfold rel
  icases Hrel with ⟨Hrl, #Hrr⟩
  imod (Release.slot_take ES (ι := κ (Sum.inl (out d c, d, s, par t))) (k := Sum.inl (out d c, d, s, par t)) (S := Sl (Sum.inl (out d c, d, s, par t))) (Set.mem_univ _) (t / 2 + 1))
    $$ [Hrl Hw] with Hdst
  · isplitr; · iapply (ctx_slot X Wt K κ _) $$ Hctx
    isplitl [Hrl]; · iexact Hrl
    iexact Hw
  unfold Sl slotVal slotAt Release.slot
  icases Hdst with ⟨%fd, Hdst⟩
  icases Hs with ⟨%fs, %hfs, Hs⟩
  iapply (Rounds.wp_send_pointsTo_with 𝒱₀ ER (Rd X Wt) (c : Thread nD τ) none (c' := (out d c : Thread nD τ)) (src := slotM (sM d) s (par t)) (dst := slotM (rM d) s (par t))
      (sS := sndL d s (par t)) (sem := rcvL d s (par t)) (q := fullShare) (fs := fs) (fd := fd) (F := bigSep (kn d t c) ent)
      (κ₁ := K (sndC c d s (par t))) (κ₂ := K (rcvC (out d c) d s (par t))) (r₁ := t / 2) (r₂ := t / 2) (d₁ := 0) (d₂ := 0)
      (by rw [duties_snd X Wt c d s (par t) hlt]; exact Finset.mem_singleton_self _)
      (by rw [duties_rcv X Wt (out d c) d s (par t) hlt]; exact Finset.mem_singleton_self _)
      t 0 NB (credit_r d s (par t)) (amount_snd X Wt c d s (par t) _ _) (amount_rcv X Wt (out d c) d s (par t) _ _) O rfl (W := W)
      (by rw [payload_snd]; unfold slotAt Release.slot; iintro H; iexists fs; iexact H)
      (by
        rw [payload_rcv, par_half, inn_out]; unfold slotVal
        iintro ⟨H, Hk⟩
        isplitl [H]
        · iexists _
          isplitr
          rotate_left
          · iexact H
          · ipureintro; exact (View.read_write_univ _ _).trans hfs
        · iexact Hk)) $$ [Hs Hdst Hkn HO Hd1 Hrs Hd2]
  · isplitr; · iapply (ctx_snd X Wt K κ c d s (par t)) $$ Hctx
    isplitr; · iapply (ctx_rcv X Wt K κ (out d c) d s (par t)) $$ Hctx
    isplitl [Hs]; · iexact Hs
    isplitl [Hdst Hkn]
    · isplitl [Hdst]; · iexact Hdst
      iexact Hkn
    isplitl [HO]; · iexact HO
    isplitl [Hd1]; · iexact Hd1
    isplitl [Hrs]; · iexact Hrs
    isplitl [Hd2]; · iexact Hd2
    iexact Hrr
  iintro ⟨Hcr, HO⟩
  iapply Hk
  isplitl [Hcr]; · iexact Hcr
  iexists _; iexact HO

/-- The credit for step `j`, to the device that sends to this one. -/
theorem wp_credit (Q : PUnit → sProp 𝕄) (d s : Fin 2) (j : ℕ) (hj : j < 29) (v : BitVec 32) (hv : devN v < nD)
    (hvo : (⟨devN v, hv⟩ : Dev nD) = inn d c) (O : CellTallies nD τ sig ℕ) (k : PG F) :
    iprop(ctx X Wt K κ ∗ rels c d s (j + 1) ∗ reached ER (crC (inn d c) d s) 0 ∗ dutyTok ER (crC (inn d c) d s) 0 j
        ∗ ow c (O + tallyAt (crC (inn d c) d s) j 1) ∗ (ow c O -∗ WP c k Q))
      ⊢ WP c (.op (.semSignal (⟨devN v, hv⟩, .tc) (cSems d s).sem (1#32).toInt) fun _ => k) Q := by
  generalize hq : (⟨devN v, hv⟩ : Dev nD) = q
  obtain rfl : inn d c = q := hvo.symm.trans hq
  unfold ow
  iintro ⟨#Hctx, Hrel, Hr, Hd, ⟨%W, HO⟩, Hk⟩
  iapply (Rounds.wp_signal 𝒱₀ ER (Rd X Wt) (c : Thread nD τ) none (dst := (inn d c : Thread nD τ)) (sem := (cSems d s).sem) (r := 0) (d := j) (κ := K (crC (inn d c) d s))
      (by rw [duties_cr]; exact Finset.mem_range.mpr hj) (amount_cr X Wt (inn d c) d s 0 j) j O rfl)
    $$ [HO Hd Hrel Hr]
  · isplitr; · iapply (ctx_cr X Wt K κ (inn d c) d s) $$ Hctx
    isplitl [HO]; · iexact HO
    isplitl [Hd]; · iexact Hd
    isplitl [Hrel]
    · rw [payload_cr, out_inn]; iexact Hrel
    · iexact Hr
  iintro HO
  iapply Hk
  iexists _; iexact HO

theorem rels_pick (q : Dev nD) (d s : Fin 2) {k j : ℕ} (hkj : k ≤ j) : (rels q d s (j + 1) : sProp 𝕄) ⊢ rel q d s (par (k + 2)) ((k + 2) / 2 + 1) := by
  unfold rels
  rcases Nat.mod_two_eq_zero_or_one k with h | h
  · rw [show par (k + 2) = 0 from Fin.ext (by show (k + 2) % 2 = 0; omega)]
    have e : rel (F := F) q d s 0 (cnt 0 (j + 1)) ⊢ rel q d s 0 ((k + 2) / 2 + 1) := rel_mono q d s 0 (by show _ ≤ 1 + (j + 1 + 1 - 0) / 2; omega)
    iintro ⟨H, -⟩
    iapply e $$ H
  · rw [show par (k + 2) = 1 from Fin.ext (by show (k + 2) % 2 = 1; omega)]
    have e : rel (F := F) q d s 1 (cnt 1 (j + 1)) ⊢ rel q d s 1 ((k + 2) / 2 + 1) := rel_mono q d s 1 (by show _ ≤ 1 + (j + 1 + 1 - 1) / 2; omega)
    iintro ⟨-, H⟩
    iapply e $$ H

/-- The `k`-th credit: the peer's receive slot for message `k + 2` is free, whichever of its units came. -/
theorem wp_credWait (Q : PUnit → sProp 𝕄) (d s : Fin 2) (k : ℕ) (hk : k < 29) (T : Finset ℕ) (O : CellTallies nD τ sig ℕ) (hO : Above (2 * k + 4) O) (p : PG F) :
    iprop(ctx X Wt K κ ∗ cred (tallyAt (crC c d s) k 1) ∗ ow c O ∗ atPos ER (crC c d s) 0 T k ∗ bigSep T (fun j => rels (out d c) d s (j + 1))
        ∗ (∀ S : Finset ℕ, (ow c O ∗ atPos ER (crC c d s) 0 S (k + 1) ∗ bigSep S (fun j => rels (out d c) d s (j + 1))
            ∗ rel (out d c) d s (par (k + 2)) ((k + 2) / 2 + 1)) -∗ WP c p Q))
      ⊢ WP c (.op (.semWait (cSems d s).sem (1#32).toInt) fun _ => p) Q := by
  unfold ow
  iintro ⟨#Hctx, Hcr, ⟨%W, HO⟩, Hat, #HT, Hk⟩
  iapply (Rounds.wp_wait 𝒱₀ ER (Rd X Wt) (c : Thread nD τ) none (sm := crL d s) (k' := 1) (κ := K (crC c d s))
      (wpE_semWait_eq 𝒱₀ (c : Thread nD τ) none Set.univ) (Set.mem_univ _) (cr := Finsupp.single k 1) (O := O) (W := W) {(crL d s, k)} (R := 0) (m := k) (T := T)
      (Util.total_single _ _) (image_single_subset (crL d s) k 1)) $$ [Hcr HO Hat]
  · isplitr; · iapply (ctx_cr X Wt K κ c d s) $$ Hctx
    isplitl [Hcr]; · iexact Hcr
    isplitl [HO]; · iexact HO
    isplitr
    · iapply (mayWait (b := 2 * k + 4) (by omega) (by rw [cls_cr]; exact Nat.lt_succ_self _) hO); iapply (ctx_lev X Wt K κ) $$ Hctx
    iexact Hat
  iintro %S ⟨%hS, HO, Hat, Hpay⟩
  obtain ⟨hTS, hSd, hcard⟩ := hS
  rw [duties_cr, expect_cr] at hcard
  rw [duties_cr] at hSd
  have hp : bigSep (S \ T) (fun j => (Rd X Wt).payload (crC c d s) 0 j) ⊢ bigSep (S \ T) (fun j => (rels (out d c) d s (j + 1) : sProp 𝕄)) :=
    Entails.of_eq (BI.bigSep_congr fun j _ => payload_cr X Wt c d s 0 j)
  ihave Hp := hp $$ Hpay
  icases Hp with #Hp
  have hj : ∃ j ∈ S, k ≤ j := by
    by_contra hno
    push Not at hno
    have h1 : S.card ≤ k := by
      simpa using Finset.card_le_card (fun j hj => Finset.mem_range.mpr (hno j hj) : S ⊆ Finset.range k)
    have h2 := Finset.card_sdiff_of_subset hSd
    have h3 := Finset.card_le_card hSd
    rw [Finset.card_range] at h2 h3
    omega
  obtain ⟨j, hjS, hkj⟩ := hj
  have hall : iprop(bigSep (S \ T) (fun j => (rels (out d c) d s (j + 1) : sProp 𝕄)) ∗ bigSep T (fun j => (rels (out d c) d s (j + 1) : sProp 𝕄)))
      ⊢ bigSep S (fun j => (rels (out d c) d s (j + 1) : sProp 𝕄)) :=
    Entails.of_eq (by
      conv_rhs => rw [← Finset.sdiff_union_of_subset hTS]
      rw [sepUnion Finset.sdiff_disjoint])
  have hone : bigSep S (fun j => (rels (out d c) d s (j + 1) : sProp 𝕄)) ⊢ rel (out d c) d s (par (k + 2)) ((k + 2) / 2 + 1) :=
    (sepElim hjS).trans (rels_pick (out d c) d s hkj)
  ihave HS := hall $$ []
  · isplitr; · iexact Hp
    iexact HT
  icases HS with #HS
  iapply Hk $$ %S
  isplitl [HO]; · iexists _; iexact HO
  isplitl [Hat]; · iexact Hat
  isplitr; · iexact HS
  iapply hone $$ HS

/-- The last credit: the round of the credit semaphore is over. -/
theorem wp_credLast (Q : PUnit → sProp 𝕄) (d s : Fin 2) (T : Finset ℕ) (O : CellTallies nD τ sig ℕ) (hO : Above 60 O) (p : PG F) :
    iprop(ctx X Wt K κ ∗ cred (tallyAt (crC c d s) 28 1) ∗ ow c O ∗ atPos ER (crC c d s) 0 T 28 ∗ bigSep T (fun j => rels (out d c) d s (j + 1))
        ∗ ((ow c O ∗ atPos ER (crC c d s) 1 ∅ 0 ∗ rel (out d c) d s (par 30) 16) -∗ WP c p Q))
      ⊢ WP c (.op (.semWait (cSems d s).sem (1#32).toInt) fun _ => p) Q := by
  unfold ow
  iintro ⟨#Hctx, Hcr, ⟨%W, HO⟩, Hat, HT, Hk⟩
  iapply (Rounds.wp_wait_rest_token 𝒱₀ ER (Rd X Wt) (c : Thread nD τ) none (sm := crL d s) (k' := 1) (κ := K (crC c d s))
      (wpE_semWait_eq 𝒱₀ (c : Thread nD τ) none Set.univ) (Set.mem_univ _) 28 (O := O) (W := W) (R := 0) (m := 28) (T := T)
      (expect_cr X Wt c d s).symm) $$ [Hcr HO Hat]
  · isplitr; · iapply (ctx_cr X Wt K κ c d s) $$ Hctx
    isplitl [Hcr]; · iexact Hcr
    isplitl [HO]; · iexact HO
    isplitr
    · iapply (mayWait (b := 60) (by omega) (by rw [cls_cr]; show 2 * 28 + 3 < 60; omega) hO); iapply (ctx_lev X Wt K κ) $$ Hctx
    iexact Hat
  iintro ⟨HO, Hat, -, Hpay⟩
  have hp : bigSep ((Rd X Wt).duties (crC c d s) 0 \ T) (fun j => (Rd X Wt).payload (crC c d s) 0 j)
      ⊢ bigSep (Finset.range 29 \ T) (fun j => (rels (out d c) d s (j + 1) : sProp 𝕄)) :=
    Entails.of_eq (by rw [duties_cr]; exact BI.bigSep_congr fun j _ => payload_cr X Wt c d s 0 j)
  ihave Hp := hp $$ Hpay
  iapply Hk
  isplitl [HO]; · iexists _; iexact HO
  isplitl [Hat]; · iexact Hat
  by_cases h : 28 ∈ T
  · have e : bigSep T (fun j => (rels (out d c) d s (j + 1) : sProp 𝕄)) ⊢ rel (out d c) d s (par 30) 16 :=
      (sepElim h).trans (rels_pick (out d c) d s (k := 28) (j := 28) le_rfl)
    iapply e $$ HT
  · have e : bigSep (Finset.range 29 \ T) (fun j => (rels (out d c) d s (j + 1) : sProp 𝕄)) ⊢ rel (out d c) d s (par 30) 16 :=
      (sepElim (Finset.mem_sdiff.mpr ⟨Finset.mem_range.mpr (by omega), h⟩)).trans (rels_pick (out d c) d s (k := 28) (j := 28) le_rfl)
    iapply e $$ Hp

/-! ## The barrier -/

theorem bar_duty : ∀ d : Fin 2, d.val ∈ ({0, 1} : Finset ℕ) := by decide
theorem dirOf_val : ∀ d : Fin 2, dirOf d.val = d := by decide
theorem wp_barSignal (Q : PUnit → sProp 𝕄) (d : Fin 2) (v : BitVec 32) (hv : devN v < nD)
    (hvo : (⟨devN v, hv⟩ : Dev nD) = out d c) (O : CellTallies nD τ sig ℕ) (k : PG F) :
    iprop(ctx X Wt K κ ∗ ent c ∗ reached ER (barC (out d c)) 0 ∗ dutyTok ER (barC (out d c)) 0 d.val
        ∗ ow c (O + tallyAt (barC (out d c)) 0 1) ∗ (ow c O -∗ WP c k Q))
      ⊢ WP c (.op (.semSignal (⟨devN v, hv⟩, .tc) barS.sem (1#32).toInt) fun _ => k) Q := by
  generalize hq : (⟨devN v, hv⟩ : Dev nD) = q
  obtain rfl : out d c = q := hvo.symm.trans hq
  unfold ow
  iintro ⟨#Hctx, Hrel, Hr, Hd, ⟨%W, HO⟩, Hk⟩
  iapply (Rounds.wp_signal 𝒱₀ ER (Rd X Wt) (c : Thread nD τ) none (dst := (out d c : Thread nD τ)) (sem := barS.sem) (r := 0) (d := d.val) (κ := K (barC (out d c)))
      (by rw [duties_bar]; exact bar_duty d) (amount_bar X Wt (out d c) 0 d.val) 0 O rfl)
    $$ [HO Hd Hrel Hr]
  · isplitr; · iapply (ctx_bar X Wt K κ (out d c)) $$ Hctx
    isplitl [HO]; · iexact HO
    isplitl [Hd]; · iexact Hd
    isplitl [Hrel]
    · rw [payload_bar, dirOf_val d, inn_out]; iexact Hrel
    · iexact Hr
  iintro HO
  iapply Hk
  iexists _; iexact HO

theorem rest_bar : (bigSep ((Rd X Wt).duties (barC c) 0 \ ∅) fun n => (Rd X Wt).payload (barC c) 0 n) = iprop(ent (inn 0 c) ∗ ent (inn 1 c)) := by
  rw [duties_bar, Finset.sdiff_empty, sepInsert (by decide), bigSep_singleton, payload_bar, payload_bar]
  rfl

theorem wp_barWait (Q : PUnit → sProp 𝕄) (O : CellTallies nD τ sig ℕ) (hO : Above 2 O) (k : PG F) :
    iprop(ctx X Wt K κ ∗ cred (tallyAt (barC c) 0 2) ∗ ow c O ∗ atPos ER (barC c) 0 ∅ 0
        ∗ ((ow c O ∗ atPos ER (barC c) 1 ∅ 0 ∗ ent (inn 0 c) ∗ ent (inn 1 c)) -∗ WP c k Q))
      ⊢ WP c (.op (.semWait barS.sem (2#32).toInt) fun _ => k) Q := by
  unfold ow
  iintro ⟨#Hctx, Hcr, ⟨%W, HO⟩, Hat, Hk⟩
  iapply (Rounds.wp_wait_rest_token 𝒱₀ ER (Rd X Wt) (c : Thread nD τ) none (sm := barL) (k' := 2) (κ := K (barC c))
      (wpE_semWait_eq 𝒱₀ (c : Thread nD τ) none Set.univ) (Set.mem_univ _) 0 (O := O) (W := W) (R := 0) (m := 0) (T := ∅)
      (expect_bar X Wt c).symm) $$ [Hcr HO Hat]
  · isplitr; · iapply (ctx_bar X Wt K κ c) $$ Hctx
    isplitl [Hcr]; · iexact Hcr
    isplitl [HO]; · iexact HO
    isplitr
    · iapply (mayWait (b := 2) (by omega) (by rw [cls_bar]; show 1 < 2; omega) hO); iapply (ctx_lev X Wt K κ) $$ Hctx
    iexact Hat
  iintro ⟨HO, Hat, -, Hpay⟩
  iapply Hk
  isplitl [HO]; · iexists _; iexact HO
  isplitl [Hat]; · iexact Hat
  ihave Hp := (Entails.of_eq (rest_bar X Wt c)) $$ Hpay
  iexact Hp

/-! ## The exchange of the maximum and the result -/

theorem rest_exs (r : Fin 5) : (bigSep ((Rd X Wt).duties (exsC c r) 0 \ ∅) fun n => (Rd X Wt).payload (exsC c r) 0 n) = exAt (exM asM r) c := by
  rw [duties_exs, Finset.sdiff_empty, bigSep_singleton, payload_exs]
theorem rest_exr (r : Fin 5) : (bigSep ((Rd X Wt).duties (exrC c r) 0 \ ∅) fun n => (Rd X Wt).payload (exrC c r) 0 n)
    = exVal (exM arM r) c (tile (exv X Wt r.val (prt r c))) := by
  rw [duties_exr, Finset.sdiff_empty, bigSep_singleton, payload_exr]
theorem tileMax_eq (q : FVec F S1x8x128 .f32) : tileMax q = tmax (shapeCast S8x128 q shapeCasts_S1x8x128_S8x128) := rfl
theorem prtN_eq (r : Fin 5) (c : Dev nD) : prtN r.val c = prt r c := by
  unfold prtN; congr 1; exact Fin.ext (Nat.mod_eq_of_lt r.isLt)

/-- The copy of the tile of round `r` to device `q`. -/
def exStartAt (r : Fin 5) (q : Dev nD) (k : PG F) : PG F :=
  .op (.enqueueDma (exM asM r) (.remote (Dev.tc q) (exM arM r) (.dma (exSem cc0_scratch14 r)))
    (.dma (exSem cc0_scratch15 r)) ((View.wordExact_bits rfl).reshape _ _) ((View.wordExact_bits rfl).reshape _ _) ⟨⟨rfl, Or.inl rfl⟩, trivial⟩) fun _ => k

theorem wp_exStart (Q : PUnit → sProp 𝕄) (r : Fin 5) (O : CellTallies nD τ sig ℕ) (k : PG F) :
    iprop(ctx X Wt K κ ∗ exVal (exM asM r) c (tile (exv X Wt r.val c)) ∗ relX (prt r c) r
        ∗ reached ER (exsC c r) 0 ∗ dutyTok ER (exsC c r) 0 0 ∗ dutyTok ER (exrC (prt r c) r) 0 0
        ∗ Release.writeTok ES (Sum.inr (prt r c, r)) 1 ∗ ow c (O + tallyAt (exrC (prt r c) r) 0 NX)
        ∗ ((cred (tallyAt (exsC c r) 0 NX) ∗ ow c O) -∗ WP c k Q))
      ⊢ WP c (exStartAt r (prt r c) k) Q := by
  unfold exStartAt ow relX
  iintro ⟨#Hctx, Hs, ⟨Hrl, #Hrr⟩, Hrs, Hd1, Hd2, Hw, ⟨%W, HO⟩, Hk⟩
  imod (Release.slot_take ES (ι := κ (Sum.inr (prt r c, r))) (k := Sum.inr (prt r c, r)) (S := Sl (Sum.inr (prt r c, r))) (Set.mem_univ _) 1)
    $$ [Hrl Hw] with Hdst
  · isplitr; · iapply (ctx_slot X Wt K κ _) $$ Hctx
    isplitl [Hrl]; · iexact Hrl
    iexact Hw
  unfold Sl exVal exAt Release.slot
  icases Hdst with ⟨%fd, Hdst⟩
  icases Hs with ⟨%fs, %hfs, Hs⟩
  iapply (Rounds.wp_send_pointsTo 𝒱₀ ER (Rd X Wt) (c : Thread nD τ) none (c' := (prt r c : Thread nD τ)) (src := exM asM r) (dst := exM arM r)
      (sS := exsL r) (sem := exrL r) (q := fullShare) (fs := fs) (fd := fd)
      (κ₁ := K (exsC c r)) (κ₂ := K (exrC (prt r c) r)) (r₁ := 0) (r₂ := 0) (d₁ := 0) (d₂ := 0)
      (by rw [duties_exs]; exact Finset.mem_singleton_self _)
      (by rw [duties_exr]; exact Finset.mem_singleton_self _)
      0 0 NX (creditX_r r) (amount_exs X Wt c r _ _) (amount_exr X Wt (prt r c) r _ _) O rfl (W := W)
      (by rw [payload_exs]; unfold exAt Release.slot; iintro H; iexists fs; iexact H)
      (by
        rw [payload_exr, prt_prt]; unfold exVal
        iintro H
        iexists _
        isplitr
        rotate_left
        · iexact H
        · ipureintro; exact (View.read_write_univ _ _).trans hfs)) $$ [Hs Hdst HO Hd1 Hrs Hd2]
  · isplitr; · iapply (ctx_exs X Wt K κ c r) $$ Hctx
    isplitr; · iapply (ctx_exr X Wt K κ (prt r c) r) $$ Hctx
    isplitl [Hs]; · iexact Hs
    isplitl [Hdst]; · iexact Hdst
    isplitl [HO]; · iexact HO
    isplitl [Hd1]; · iexact Hd1
    isplitl [Hrs]; · iexact Hrs
    isplitl [Hd2]; · iexact Hd2
    iexact Hrr
  iintro ⟨Hcr, HO⟩
  iapply Hk
  isplitl [Hcr]; · iexact Hcr
  iexists _; iexact HO

/-- The rest of a round: the two waits and the maximum with what came. -/
def exEndK (r : Fin 5) (a : F .f32) (k : F .f32 → PG F) : PG F :=
  .op (.waitDma2 (exSem cc0_scratch14 r) (exM arM r) (exM asM r) ((View.wordExact_bits rfl).reshape _ _) ((View.wordExact_bits rfl).reshape _ _)) fun _ =>
  .op (.waitDma2 (exSem cc0_scratch15 r) (exM asM r) (exM arM r) ((View.wordExact_bits rfl).reshape _ _) ((View.wordExact_bits rfl).reshape _ _)) fun _ =>
  .op (.load (e := .f32) arM (Rect.unit (s := S5x8x128) (exOff r) S1x8x128.size (exOff_inb r)).toLoadRect (View.loadsAt_vmem h_S1x8x128)) fun (q : FVec F S1x8x128 .f32) =>
  k (Scalar.maximumf a (tileMax q))

/-- One exchange round, cut at the start of its copy. -/
def exCutK (r : Fin 5) (a : F .f32) (k : F .f32 → PG F) : PG F :=
  smemLoadElt pbitM (Rect.unit (s := S5x32) (exTabOff r c) S1x1.size (exTabOff_inb r c)) (View.loads_smem_one rfl numel1_S1x1) (Shape.Idx.first (numel1_S1x1.symm ▸ Nat.one_pos))
    fun v => .op (TpuEff.assume (devN v < nD) (devN.dec v)) fun h =>
  .op (.load (e := .f32) asM (Rect.unit (s := S5x8x128) (exOff r) S1x8x128.size (exOff_inb r)).toLoadRect (View.loadsAt_vmem h_S1x8x128)) fun _ =>
  .op (.store asM (Rect.unit (s := S5x8x128) (exOff r) S1x8x128.size (exOff_inb r))
    (shapeCast S1x8x128 (tile a : FVec F S8x128 .f32) shapeCasts_S8x128_S1x8x128) Finset.univ (View.stores_vmem_bits_univ h_S1x8x128 rfl) (.inl rfl)) fun _ =>
  exStartAt r ⟨devN v, h.down⟩ (exEndK r a k)

theorem exK_eq (r : Fin 5) (a : F .f32) (k : F .f32 → PG F) : exK c r a k = exCutK c r a k := rfl

theorem wp_exEnd (Q : PUnit → sProp 𝕄) (r : Fin 5) (O : CellTallies nD τ sig ℕ) (hO : Above (101 + r.val) O) (k : F .f32 → PG F) :
    iprop(ctx X Wt K κ ∗ cred (tallyAt (exsC c r) 0 NX) ∗ cred (tallyAt (exrC c r) 0 NX) ∗ atPos ER (exsC c r) 0 ∅ 0 ∗ atPos ER (exrC c r) 0 ∅ 0 ∗ ow c O
        ∗ ((exAt (exM asM r) c ∗ exAt (exM arM r) c ∗ atPos ER (exsC c r) 1 ∅ 0 ∗ atPos ER (exrC c r) 1 ∅ 0 ∗ ow c O) -∗ WP c (k (exv X Wt (r.val + 1) c)) Q))
      ⊢ WP c (exEndK r (exv X Wt r.val c) k) Q := by
  unfold ow
  iintro ⟨#Hctx, Hc1, Hc2, Hat1, Hat2, ⟨%W, HO⟩, Hk⟩
  unfold exEndK
  iapply (Rounds.wp_wait_rest_token 𝒱₀ ER (Rd X Wt) (c : Thread nD τ) none (κ := K (exsC c r))
      (k' := NX) (fun _ => (wpE_waitDma2_eq (src := exM arM r) (dst := exM asM r) (hsrc := (View.wordExact_bits rfl).reshape _ _) (hdst := (View.wordExact_bits rfl).reshape _ _) 𝒱₀ (c : Thread nD τ) none Set.univ _).trans (by rw [creditX_s]))
      (Set.mem_univ _) 0 (O := O) (W := W) (R := 0) (m := 0) (T := ∅)
      ((Nat.zero_add _).trans (expect_exs X Wt c r).symm)) $$ [Hc1 HO Hat1]
  · isplitr; · iapply (ctx_exs X Wt K κ c r) $$ Hctx
    isplitl [Hc1]; · iexact Hc1
    isplitl [HO]; · iexact HO
    isplitr
    · iapply (mayWait (b := 101 + r.val) (by omega) (by rw [cls_exs]; show 0 < _; omega) hO); iapply (ctx_lev X Wt K κ) $$ Hctx
    iexact Hat1
  iintro ⟨HO, Hat1, -, Hp1⟩
  ihave Hp1 := (Entails.of_eq (rest_exs X Wt c r)) $$ Hp1
  iapply (Rounds.wp_wait_rest_token 𝒱₀ ER (Rd X Wt) (c : Thread nD τ) none (κ := K (exrC c r))
      (k' := NX) (fun _ => (wpE_waitDma2_eq (src := exM asM r) (dst := exM arM r) (hsrc := (View.wordExact_bits rfl).reshape _ _) (hdst := (View.wordExact_bits rfl).reshape _ _) 𝒱₀ (c : Thread nD τ) none Set.univ _).trans (by rw [creditX_r]))
      (Set.mem_univ _) 0 (O := O) (R := 0) (m := 0) (T := ∅)
      ((Nat.zero_add _).trans (expect_exr X Wt c r).symm)) $$ [Hc2 HO Hat2]
  · isplitr; · iapply (ctx_exr X Wt K κ c r) $$ Hctx
    isplitl [Hc2]; · iexact Hc2
    isplitl [HO]; · iexact HO
    isplitr
    · iapply (mayWait (b := 101 + r.val) (by omega) (by rw [cls_exr]; show 100 + r.val < _; omega) hO); iapply (ctx_lev X Wt K κ) $$ Hctx
    iexact Hat2
  iintro ⟨HO, Hat2, -, Hp2⟩
  ihave Hp2 := (Entails.of_eq (rest_exr X Wt c r)) $$ Hp2
  unfold exVal
  icases Hp2 with ⟨%f, %hf, Hp2⟩
  iapply (wp_load_ex c Q arM r f) $$ Hp2
  iintro Hp2
  rw [show Scalar.maximumf (exv X Wt r.val c) (tileMax (arM.view.readAt (Elt F) (Rect.unit (s := S5x8x128) (exOff r) S1x8x128.size (exOff_inb r)).toLoadRect f))
      = exv X Wt (r.val + 1) c from by rw [← prtN_eq] at hf; exact congrArg (fun z => Scalar.maximumf (exv X Wt r.val c) (tmax z)) hf]
  iapply Hk
  isplitl [Hp1]; · iexact Hp1
  isplitl [Hp2]; · unfold exAt Release.slot; iexists f; iexact Hp2
  isplitl [Hat1]; · iexact Hat1
  isplitl [Hat2]; · iexact Hat2
  iexists _; iexact HO

/-- What a device holds for exchange round `r` before it, and after it. -/
def exPre (r : Fin 5) : sProp 𝕄 :=
  iprop(exAt (exM asM r) c ∗ relX (prt r c) r ∗ reached ER (exsC c r) 0 ∗ dutyTok ER (exsC c r) 0 0 ∗ dutyTok ER (exrC (prt r c) r) 0 0
    ∗ Release.writeTok ES (Sum.inr (prt r c, r)) 1 ∗ atPos ER (exsC c r) 0 ∅ 0 ∗ atPos ER (exrC c r) 0 ∅ 0 ∗ cred (tallyAt (exrC c r) 0 NX))
def exPost (r : Fin 5) : sProp 𝕄 :=
  iprop(exAt (exM asM r) c ∗ exAt (exM arM r) c ∗ atPos ER (exsC c r) 1 ∅ 0 ∗ atPos ER (exrC c r) 1 ∅ 0)

theorem wp_ex (Q : PUnit → sProp 𝕄) (r : Fin 5) (O : CellTallies nD τ sig ℕ) (hO : Above (101 + r.val) O) (k : F .f32 → PG F) :
    iprop(ctx X Wt K κ ∗ pbitPt c ∗ exPre c r ∗ ow c (O + tallyAt (exrC (prt r c) r) 0 NX)
        ∗ ((pbitPt c ∗ exPost c r ∗ ow c O) -∗ WP c (k (exv X Wt (r.val + 1) c)) Q))
      ⊢ WP c (exK c r (exv X Wt r.val c) k) Q := by
  unfold exPre
  iintro ⟨#Hctx, Hp, ⟨Hs, Hrel, Hrs, Hd1, Hd2, Hw, Hat1, Hat2, Hcr⟩, HO, Hk⟩
  rw [exK_eq]
  unfold exCutK
  iapply (wp_smemLoadElt 𝒱₀ (c : Thread nD τ) none Set.univ (m := pbitM) (r := Rect.unit (s := S5x32) (exTabOff r c) S1x1.size (exTabOff_inb r c)) (S := Finset.univ) (Finset.subset_univ _)) $$ Hp
  iintro Hp
  rw [show (pbitM.access (Rect.unit (s := S5x32) (exTabOff r c) S1x1.size (exTabOff_inb r c))).read (Elt F)
    (fun i => lit2 (S5x32.rowMajor i)) (Shape.Idx.first (numel1_S1x1.symm ▸ Nat.one_pos)) = devW (prt r c) from read_pbit r c]
  have hlt : devN (devW (prt r c)) < nD := by rw [devN_devW]; exact (prt r c).isLt
  iapply (wp_assume 𝒱₀ (c : Thread nD τ) none Set.univ hlt)
  unfold exAt Release.slot
  icases Hs with ⟨%f, Hs⟩
  iapply (wp_load_ex c Q asM r f) $$ Hs
  iintro Hs
  iapply (wp_store_ex c Q asM r f) $$ Hs
  iintro Hs
  have hq : (⟨devN (devW (prt r c)), hlt⟩ : Dev nD) = prt r c := Fin.ext (devN_devW _)
  rw [hq]
  iapply (wp_exStart X Wt K κ c Q r O _)
  isplitr; · iexact Hctx
  isplitl [Hs]
  · unfold exVal
    iexists _
    isplitr
    rotate_left
    · iexact Hs
    · ipureintro; exact ex_write asM r f _
  isplitl [Hrel]; · iexact Hrel
  isplitl [Hrs]; · iexact Hrs
  isplitl [Hd1]; · iexact Hd1
  isplitl [Hd2]; · iexact Hd2
  isplitl [Hw]; · iexact Hw
  isplitl [HO]; · iexact HO
  iintro ⟨Hc1, HO⟩
  iapply (wp_exEnd X Wt K κ c Q r O hO k)
  isplitr; · iexact Hctx
  isplitl [Hc1]; · iexact Hc1
  isplitl [Hcr]; · iexact Hcr
  isplitl [Hat1]; · iexact Hat1
  isplitl [Hat2]; · iexact Hat2
  isplitl [HO]; · iexact HO
  iintro ⟨Ha, Hb, Hat1, Hat2, HO⟩
  iapply Hk
  isplitl [Hp]; · iexact Hp
  isplitr [HO]
  · unfold exPost
    isplitl [Ha]; · iexact Ha
    isplitl [Hb]; · iexact Hb
    isplitl [Hat1]; · iexact Hat1
    iexact Hat2
  · iexact HO

theorem wp_out (Q : PUnit → sProp 𝕄) (d s : Fin 2) (z : FVec F S128x512 .f32) (f : Buf (Elt F) (oM.view.loc (c : Thread nD τ))) (k : PG F) :
    iprop((oM.view.loc (c : Thread nD τ) ↦{fullShare} f)
        ∗ ((oM.view.loc (c : Thread nD τ) ↦{fullShare}
            ((oM.access (Rect.unit (s := S128x2048) (colOff d s) S128x512.size (colOff_inb d s))).write (Elt F) f z Finset.univ : Buf (Elt F) (oM.view.loc (c : Thread nD τ)))) -∗ WP c k Q))
      ⊢ WP c (outK d s z k) Q := by
  iintro ⟨H, Hk⟩
  unfold outK
  iapply (wp_load 𝒱₀ (c : Thread nD τ) none Set.univ (m := oM) (S := Finset.univ) (f := f) (Finset.subset_univ _)) $$ H
  iintro H
  iapply (wp_store 𝒱₀ (c : Thread nD τ) none Set.univ (m := oM) (S := Finset.univ) (f := f) (r := Rect.unit (s := S128x2048) (colOff d s) S128x512.size (colOff_inb d s)) (Finset.subset_univ _)) $$ H
  iintro H
  iapply Hk
  iexact H

end Cert.KernelIdeal.RS

end
-- ==== Proof.Ring.lean ====
/- The half rings: what a device holds of each between two steps, and what a hop, a step and the whole run of a ring do to it. -/
module

public import proofs.«01_k».proof.Proof.Ops

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (X : Dev nD → FVec F S4096x128 .f32) (Wt : Dev nD → FVec F S128x2048 .f32)
variable (K : GSem nD τ sig → ℕ) (κ : Key → ℕ)

/-! ## What a device holds of a half ring -/

/-- Send slot of message `n`, in flight. -/
def busy (d s : Fin 2) (n : ℕ) (c : Dev nD) : sProp 𝕄 :=
  iprop(atPos ER (sndC c d s (par n)) (n / 2) ∅ 0 ∗ cred (tallyAt (sndC c d s (par n)) 0 NB))
/-- Send slot of message `n`, free for it. -/
def free (d s : Fin 2) (n : ℕ) (c : Dev nD) : sProp 𝕄 :=
  iprop(slotAt (slotM (sM d) s (par n)) c ∗ atPos ER (sndC c d s (par n)) (n / 2) ∅ 0 ∗ reached ER (sndC c d s (par n)) (n / 2))
/-- Receive slot of message `n`, released for it; the slots of the last two messages stay with the device. -/
def hold (d s : Fin 2) (n : ℕ) (c : Dev nD) : sProp 𝕄 :=
  if n ≤ 30 then Release.readerAt ES (Sum.inl (c, d, s, par n)) (n / 2 + 1) else slotAt (slotM (rM d) s (par n)) c
/-- The receiving end of message `n`. -/
def rk (d s : Fin 2) (n : ℕ) (c : Dev nD) : sProp 𝕄 := iprop(atPos ER (rcvC c d s (par n)) (n / 2) ∅ 0 ∗ hold d s n c)
/-- The rights to send message `n`. -/
def tk (d s : Fin 2) (n : ℕ) (c : Dev nD) : sProp 𝕄 :=
  iprop(dutyTok ER (sndC c d s (par n)) (n / 2) 0 ∗ dutyTok ER (rcvC (out d c) d s (par n)) (n / 2) 0 ∗ Release.writeTok ES (Sum.inl (out d c, d, s, par n)) (n / 2 + 1))
/-- The credits a device has yet to collect before step `n`. -/
def crd (d s : Fin 2) (n : ℕ) (c : Dev nD) : sProp 𝕄 :=
  if n ≤ 29 then iprop(∃ T, atPos ER (crC c d s) 0 T (n - 1) ∗ bigSep T (fun j => rels (out d c) d s (j + 1)) ∗ bigSep (Finset.Ico (n - 1) 29) (fun k => cred (tallyAt (crC c d s) k 1)))
  else atPos ER (crC c d s) 1 ∅ 0
/-- The arrivals still to come from message `n` on; the rights to send and to give credit from message `n` on. -/
def arr (d s : Fin 2) (n : ℕ) (c : Dev nD) : sProp 𝕄 := bigSep (Finset.Ico n 31) fun t => cred (tallyAt (rcvC c d s (par t)) t NB)
def tks (d s : Fin 2) (n : ℕ) (c : Dev nD) : sProp 𝕄 := bigSep (Finset.Ico n 31) fun t => tk d s t c
def gvs (d s : Fin 2) (n : ℕ) (c : Dev nD) : sProp 𝕄 := bigSep (Finset.Ico n 29) fun j => dutyTok ER (crC (inn d c) d s) 0 j
/-- The other send slot before step `n`. -/
def sp (d s : Fin 2) (n : ℕ) (c : Dev nD) : sProp 𝕄 := if n = 0 then free d s 1 c else busy d s (n - 1) c

/-- A half ring before step `n`, message `n` sent. -/
def St (d s : Fin 2) (n : ℕ) (c : Dev nD) : sProp 𝕄 :=
  iprop(rk d s n c ∗ rk d s (n + 1) c ∗ arr d s n c ∗ rels c d s (min n 29) ∗ busy d s n c ∗ sp d s n c ∗ tks d s (n + 1) c ∗ gvs d s n c ∗ crd d s n c)
/-- A half ring before the first send. -/
def In (d s : Fin 2) (c : Dev nD) : sProp 𝕄 :=
  iprop(rk d s 0 c ∗ rk d s 1 c ∗ arr d s 0 c ∗ rels c d s 0 ∗ free d s 0 c ∗ free d s 1 c ∗ tks d s 0 c ∗ gvs d s 0 c ∗ crd d s 0 c)
/-- What a device owes on a half ring with messages from `a` and credits from `b` to go. -/
def stO (d s : Fin 2) (a b : ℕ) (c : Dev nD) : CellTallies nD τ sig ℕ :=
  ∑ t ∈ Finset.Ico a 31, tallyAt (rcvC (out d c) d s (par t)) t NB + ∑ j ∈ Finset.Ico b 29, tallyAt (crC (inn d c) d s) j 1

theorem par_add_two (n : ℕ) : par (n + 2) = par n := Fin.ext (Nat.add_mod_right n 2)
theorem sepIco {a b : ℕ} (h : a < b) {Φ : ℕ → sProp 𝕄} : bigSep (Finset.Ico a b) Φ = iprop(Φ a ∗ bigSep (Finset.Ico (a + 1) b) Φ) := by
  have e : Finset.Ico a b = insert a (Finset.Ico (a + 1) b) := by ext x; simp only [Finset.mem_Ico, Finset.mem_insert]; omega
  rw [e, sepInsert (by simp)]
theorem sumIco {a b : ℕ} (h : a < b) {f : ℕ → CellTallies nD τ sig ℕ} : ∑ t ∈ Finset.Ico a b, f t = f a + ∑ t ∈ Finset.Ico (a + 1) b, f t := by
  have e : Finset.Ico a b = insert a (Finset.Ico (a + 1) b) := by ext x; simp only [Finset.mem_Ico, Finset.mem_insert]; omega
  rw [e, Finset.sum_insert (by simp)]

theorem above_stO (d s : Fin 2) (a b l : ℕ) (ha : l ≤ 2 * a + 2) (hb : l ≤ 2 * b + 3) (c : Dev nD) : Above l (stO d s a b c) :=
  (Above.sum fun t ht => by
    have h := Finset.mem_Ico.mp ht
    exact Above.tally (by omega) (by rw [cls_rcv]; show l ≤ 2 * t + 2; omega)).add
  (Above.sum fun t ht => by
    have h := Finset.mem_Ico.mp ht
    exact Above.tally (by omega) (by rw [cls_cr]; show l ≤ 2 * t + 3; omega))

theorem ent_insert (c : Dev nD) (S : Finset (Dev nD)) : iprop(ent c ∗ bigSep S ent) ⊢ (bigSep (insert c S) ent : sProp 𝕄) := by
  by_cases h : c ∈ S
  · rw [Finset.insert_eq_of_mem h]; iintro ⟨-, H⟩; iexact H
  · rw [sepInsert h]
theorem ent_cr (q : Dev nD) (d s : Fin 2) : (ent q : sProp 𝕄) ⊢ reached ER (crC q d s) 0 := by
  unfold ent
  have e : (bigSep Finset.univ fun x : Fin 2 × Fin 2 => (reached ER (crC q x.1 x.2) 0 : sProp 𝕄)) ⊢ reached ER (crC q d s) 0 := sepElim (i := (d, s)) (Finset.mem_univ _)
  iintro ⟨H, -⟩; iapply e $$ H
theorem ent_rel (q : Dev nD) (d s b : Fin 2) : (ent q : sProp 𝕄) ⊢ rel q d s b 1 := by
  unfold ent
  have e : (bigSep Finset.univ fun x : Fin 2 × Fin 2 × Fin 2 => (rel q x.1 x.2.1 x.2.2 1 : sProp 𝕄)) ⊢ rel q d s b 1 := sepElim (i := (d, s, b)) (Finset.mem_univ _)
  iintro ⟨-, H, -⟩; iapply e $$ H
theorem ent_relX (q : Dev nD) (r : Fin 5) : (ent q : sProp 𝕄) ⊢ relX q r := by
  unfold ent
  have e : (bigSep Finset.univ fun r : Fin 5 => (relX q r : sProp 𝕄)) ⊢ relX q r := sepElim (i := r) (Finset.mem_univ _)
  iintro ⟨-, -, H⟩; iapply e $$ H

variable (c : Dev nD)

theorem hold_le (d s : Fin 2) (n : ℕ) (h : n ≤ 30) : hold (F := F) d s n c = Release.readerAt ES (Sum.inl (c, d, s, par n)) (n / 2 + 1) := if_pos h
theorem hold_gt (d s : Fin 2) (n : ℕ) (h : 30 < n) : hold (F := F) d s n c = slotAt (slotM (rM d) s (par n)) c := if_neg (by omega)
theorem sp_succ (d s : Fin 2) (n : ℕ) (h : n ≠ 0) : sp (F := F) d s n c = busy d s (n - 1) c := if_neg h
theorem sp_zero (d s : Fin 2) : sp (F := F) d s 0 c = free d s 1 c := if_pos rfl
theorem crd_le (d s : Fin 2) (n : ℕ) (h : n ≤ 29) : crd (F := F) d s n c = iprop(∃ T, atPos ER (crC c d s) 0 T (n - 1) ∗ bigSep T (fun j => rels (out d c) d s (j + 1)) ∗ bigSep (Finset.Ico (n - 1) 29) (fun k => cred (tallyAt (crC c d s) k 1))) := if_pos h
theorem crd_gt (d s : Fin 2) (n : ℕ) (h : 29 < n) : crd (F := F) d s n c = atPos ER (crC c d s) 1 ∅ 0 := if_neg (by omega)

/-! ## One hop -/

theorem wp_acc (Q : PUnit → sProp 𝕄) (d s : Fin 2) (n : ℕ) (hn : n < 31) (O : CellTallies nD τ sig ℕ) (hO : Above (2 * n + 3) O) (k : FVec F S128x512 .f32 → PG F) :
    iprop(ctx X Wt K κ ∗ cred (tallyAt (rcvC c d s (par n)) n NB) ∗ ow c O ∗ atPos ER (rcvC c d s (par n)) (n / 2) ∅ 0
        ∗ ((ow c O ∗ atPos ER (rcvC c d s (par n)) (n / 2 + 1) ∅ 0 ∗ reached ER (rcvC c d s (par n)) (n / 2 + 1)
          ∗ slotAt (slotM (rM d) s (par n)) c ∗ bigSep (kn d n (inn d c)) ent) -∗ WP c (k (part X Wt d s (n + 1) c)) Q))
      ⊢ WP c (accK d s (par n) (term X Wt d s (n + 1) c) k) Q := by
  iintro ⟨#Hctx, Hcr, HO, Hat, Hk⟩
  unfold accK
  iapply (wp_waitRecv X Wt K κ c Q d s n hn O hO _)
  isplitr; · iexact Hctx
  isplitl [Hcr]; · iexact Hcr
  isplitl [HO]; · iexact HO
  isplitl [Hat]; · iexact Hat
  iintro ⟨HO, Hat, Hr, Hs, Hkn⟩
  unfold slotVal
  icases Hs with ⟨%f, %hf, Hs⟩
  iapply (wp_load_slot c Q (rM d) s (par n) f) $$ Hs
  iintro Hs
  rw [show addf (shapeCast S128x512 ((rM d).view.readAt (Elt F) (Rect.unit (s := S2x2x128x512) (slotOff s (par n)) S1x1x128x512.size (slotOff_inb s (par n))).toLoadRect f) shapeCasts_S1x1x128x512_S128x512)
      (term X Wt d s (n + 1) c) = part X Wt d s (n + 1) c from congrArg (fun z => addf z (term X Wt d s (n + 1) c)) hf]
  iapply Hk
  isplitl [HO]; · iexact HO
  isplitl [Hat]; · iexact Hat
  isplitl [Hr]; · iexact Hr
  isplitl [Hs]; · unfold slotAt Release.slot; iexists f; iexact Hs
  iexact Hkn

theorem rels_next (d s : Fin 2) (n : ℕ) (hn : n ≤ 28) :
    iprop(rels c d s n ∗ Release.released ES (Sum.inl (c, d, s, par n)) (n / 2 + 2) ∗ reached ER (rcvC c d s (par n)) (n / 2 + 1)) ⊢ (rels c d s (n + 1) : sProp 𝕄) := by
  unfold rels
  rcases Nat.mod_two_eq_zero_or_one n with h | h
  · rw [show par n = 0 from Fin.ext h]
    have e0 : cnt 0 (n + 1) = n / 2 + 2 := by unfold cnt; show 1 + (n + 1 + 1 - 0) / 2 = _; omega
    have e1 : cnt 1 (n + 1) = cnt 1 n := by unfold cnt; show 1 + (n + 1 + 1 - 1) / 2 = 1 + (n + 1 - 1) / 2; omega
    rw [e0, e1]
    iintro ⟨⟨-, H1⟩, H2, H3⟩
    isplitr [H1]
    · unfold rel
      isplitl [H2]; · iexact H2
      · iexact H3
    · iexact H1
  · rw [show par n = 1 from Fin.ext h]
    have e0 : cnt 1 (n + 1) = n / 2 + 2 := by unfold cnt; show 1 + (n + 1 + 1 - 1) / 2 = _; omega
    have e1 : cnt 0 (n + 1) = cnt 0 n := by unfold cnt; show 1 + (n + 1 + 1 - 0) / 2 = 1 + (n + 1 - 0) / 2; omega
    rw [e0, e1]
    iintro ⟨⟨H1, -⟩, H2, H3⟩
    isplitl [H1]; · iexact H1
    unfold rel
    isplitl [H2]; · iexact H2
    · iexact H3

/-- The end of a hop: the copy is started, and the emptied receive slot goes back with a unit of credit. -/
theorem wp_go (Q : PUnit → sProp 𝕄) (d s : Fin 2) (n : ℕ) (hn : n ≤ 29) (m : ℕ) (hm : (n + 1) / 2 + 1 ≤ m) (vo : BitVec 32) (ho : devN vo < nD)
    (hvo : (⟨devN vo, ho⟩ : Dev nD) = out d c) (vi : BitVec 32) (hi : devN vi < nD) (hvi : (⟨devN vi, hi⟩ : Dev nD) = inn d c)
    (R : CellTallies nD τ sig ℕ) (k : PG F) :
    iprop((ctx X Wt K κ ∗ ent c ∗ ent (inn d c)) ∗ slotVal (slotM (sM d) s (par (n + 1))) c (part X Wt d s (n + 1) c)
        ∗ atPos ER (sndC c d s (par (n + 1))) ((n + 1) / 2) ∅ 0 ∗ reached ER (sndC c d s (par (n + 1))) ((n + 1) / 2)
        ∗ rel (out d c) d s (par (n + 1)) m ∗ bigSep (kn d n (inn d c)) ent ∗ tk d s (n + 1) c
        ∗ slotAt (slotM (rM d) s (par n)) c ∗ hold d s n c ∗ reached ER (rcvC c d s (par n)) (n / 2 + 1) ∗ rels c d s (min n 29)
        ∗ gvs d s n c ∗ ow c (stO d s (n + 1) n c + R)
        ∗ ((busy d s (n + 1) c ∗ hold d s (n + 2) c ∗ rels c d s (min (n + 1) 29) ∗ gvs d s (n + 1) c ∗ ow c (stO d s (n + 2) (n + 1) c + R)) -∗ WP c k Q))
      ⊢ WP c (startK d s (par (n + 1)) vo ho
          (bif Nat.ble n 28 then .op (.semSignal (⟨devN vi, hi⟩, .tc) (cSems d s).sem (1#32).toInt) fun _ => k else k)) Q := by
  iintro ⟨⟨#Hctx, #Hec, #Hei⟩, Hs, Hat, Hrs, Hrel, Hkn, Htk, Hrv, Hho, #Hrr, #Hrels, Hg, HO, Hk⟩
  unfold tk
  icases Htk with ⟨Hd1, Hd2, Hw⟩
  have eO : stO d s (n + 1) n c + R = (stO d s (n + 2) n c + R) + tallyAt (rcvC (out d c) d s (par (n + 1))) (n + 1) NB := by
    unfold stO; rw [sumIco (a := n + 1) (by omega), show n + 1 + 1 = n + 2 from rfl]; ac_rfl
  rw [eO]
  iapply (wp_start X Wt K κ c Q d s (n + 1) (by omega) m hm vo ho hvo _ _)
  isplitr; · iexact Hctx
  isplitl [Hs]; · iexact Hs
  isplitl [Hrel]; · iexact Hrel
  isplitl [Hkn]
  · iapply (ent_insert c (kn d n (inn d c)))
    isplitr; · iexact Hec
    iexact Hkn
  isplitl [Hrs]; · iexact Hrs
  isplitl [Hd1]; · iexact Hd1
  isplitl [Hd2]; · iexact Hd2
  isplitl [Hw]; · iexact Hw
  isplitl [HO]; · iexact HO
  iintro ⟨Hcs, HO⟩
  by_cases h : n ≤ 28
  · rw [show Nat.ble n 28 = true from Nat.ble_eq_true_of_le h, cond_true]
    ihave Hho := (Entails.of_eq (hold_le c d s n (by omega))) $$ Hho
    imod (release X Wt K κ c d s (par n) (n / 2 + 1)) $$ [Hrv Hho] with Hrd
    · isplitr; · iexact Hctx
      isplitl [Hho]; · iexact Hho
      iexact Hrv
    icases Hrd with ⟨Hho, #Hrl⟩
    have eG : gvs (F := F) d s n c = iprop(dutyTok ER (crC (inn d c) d s) 0 n ∗ gvs d s (n + 1) c) := sepIco (by omega)
    ihave Hg := (Entails.of_eq eG) $$ Hg
    icases Hg with ⟨Hgn, Hg⟩
    have eO : stO d s (n + 2) n c + R = (stO d s (n + 2) (n + 1) c + R) + tallyAt (crC (inn d c) d s) n 1 := by
      unfold stO; rw [sumIco (a := n) (by omega)]; ac_rfl
    rw [eO]
    have e1 : min n 29 = n := by omega
    have e2 : min (n + 1) 29 = n + 1 := by omega
    ihave Hnew := (rels_next c d s n h) $$ []
    · isplitr; · iapply (Entails.of_eq (congrArg (rels (F := F) c d s) e1)) $$ Hrels
      isplitr; · iexact Hrl
      iexact Hrr
    icases Hnew with #Hnew
    iapply (wp_credit X Wt K κ c Q d s n (by omega) vi hi hvi _ _)
    isplitr; · iexact Hctx
    isplitr; · iexact Hnew
    isplitr; · iapply (ent_cr (inn d c) d s) $$ Hei
    isplitl [Hgn]; · iexact Hgn
    isplitl [HO]; · iexact HO
    iintro HO
    iapply Hk
    isplitl [Hat Hcs]
    · unfold busy
      isplitl [Hat]; · iexact Hat
      iexact Hcs
    isplitl [Hho]
    · rw [hold_le c d s (n + 2) (by omega), par_add_two, show (n + 2) / 2 + 1 = n / 2 + 1 + 1 from by omega]; iexact Hho
    isplitr; · rw [e2]; iexact Hnew
    isplitl [Hg]; · iexact Hg
    iexact HO
  · obtain rfl : n = 29 := by omega
    rw [show Nat.ble 29 28 = false from rfl, cond_false]
    iapply Hk
    isplitl [Hat Hcs]
    · unfold busy
      isplitl [Hat]; · iexact Hat
      iexact Hcs
    isplitl [Hrv]
    · rw [hold_gt c d s 31 (by omega)]; iexact Hrv
    isplitr; · iexact Hrels
    isplitl [Hg]
    · iexact Hg
    · iexact HO

theorem free_put (Q : PUnit → sProp 𝕄) (d s : Fin 2) (n : ℕ) (p : FVec F S128x512 .f32) (k : PG F) :
    iprop(free d s n c ∗ ((slotVal (slotM (sM d) s (par n)) c p ∗ atPos ER (sndC c d s (par n)) (n / 2) ∅ 0 ∗ reached ER (sndC c d s (par n)) (n / 2)) -∗ WP c k Q))
      ⊢ WP c (putK d s (par n) p k) Q := by
  unfold free
  iintro ⟨⟨H, Ha, Hr⟩, Hk⟩
  iapply (wp_put c Q d s (par n) p k)
  isplitl [H]; · iexact H
  iintro H
  iapply Hk
  isplitl [H]; · iexact H
  isplitl [Ha]; · iexact Ha
  iexact Hr

theorem busy_wait (Q : PUnit → sProp 𝕄) (d s : Fin 2) (n : ℕ) (hn : n < 31) (O : CellTallies nD τ sig ℕ) (hO : Above 1 O) (k : PG F) :
    iprop(ctx X Wt K κ ∗ busy d s n c ∗ ow c O ∗ ((ow c O ∗ free d s (n + 2) c) -∗ WP c k Q)) ⊢ WP c (waitSendK d s (par n) k) Q := by
  unfold busy free
  iintro ⟨#Hctx, ⟨Ha, Hc⟩, HO, Hk⟩
  iapply (wp_waitSend X Wt K κ c Q d s n hn O hO k)
  isplitr; · iexact Hctx
  isplitl [Hc]; · iexact Hc
  isplitl [HO]; · iexact HO
  isplitl [Ha]; · iexact Ha
  iintro ⟨HO, Ha, Hr, Hs⟩
  iapply Hk
  isplitl [HO]; · iexact HO
  rw [par_add_two, show (n + 2) / 2 = n / 2 + 1 from by omega]
  isplitl [Hs]; · iexact Hs
  isplitl [Ha]; · iexact Ha
  iexact Hr

theorem wp_hop (Q : PUnit → sProp 𝕄) (d s : Fin 2) (n : ℕ) (hn : n ≤ 29) (vo : BitVec 32) (ho : devN vo < nD)
    (hvo : (⟨devN vo, ho⟩ : Dev nD) = out d c) (vi : BitVec 32) (hi : devN vi < nD) (hvi : (⟨devN vi, hi⟩ : Dev nD) = inn d c)
    (R : CellTallies nD τ sig ℕ) (hR : Above (2 * n + 3) R) (k : PG F) :
    iprop((ctx X Wt K κ ∗ ent c ∗ ent (inn d c) ∗ ent (out d c)) ∗ St d s n c ∗ ow c (stO d s (n + 1) n c + R)
        ∗ ((St d s (n + 1) c ∗ ow c (stO d s (n + 2) (n + 1) c + R)) -∗ WP c k Q))
      ⊢ WP c (hopK n d s (term X Wt d s (n + 1) c) vo ho vi hi k) Q := by
  have hA : Above (2 * n + 3) (stO d s (n + 1) n c + R) := (above_stO d s (n + 1) n _ (by omega) (by omega) c).add hR
  unfold St
  have eA : arr (F := F) d s n c = iprop(cred (tallyAt (rcvC c d s (par n)) n NB) ∗ arr d s (n + 1) c) := sepIco (by omega)
  have eT : tks (F := F) d s (n + 1) c = iprop(tk d s (n + 1) c ∗ tks d s (n + 2) c) := sepIco (by omega)
  rw [eA, eT]
  have eR : rk (F := F) d s n c = iprop(atPos ER (rcvC c d s (par n)) (n / 2) ∅ 0 ∗ hold d s n c) := rfl
  have eR2 : rk (F := F) d s (n + 2) c = iprop(atPos ER (rcvC c d s (par n)) (n / 2 + 1) ∅ 0 ∗ hold d s (n + 2) c) := by
    unfold rk; rw [par_add_two, show (n + 2) / 2 = n / 2 + 1 from by omega]
  rw [show n + 1 + 1 = n + 2 from rfl, eR, eR2]
  iintro ⟨⟨#Hctx, #Hec, #Hei, #Heo⟩, ⟨Hrk, Hrk1, Har, Hrels, Hbusy, Hsp, Htk, Hg, Hcrd⟩, HO, Hk⟩
  unfold hopK
  icases Har with ⟨Hcr, Har⟩
  icases Htk with ⟨Htn, Htk⟩
  icases Hrk with ⟨Hat, Hho⟩
  iapply (wp_acc X Wt K κ c Q d s n (by omega) _ hA _)
  isplitr; · iexact Hctx
  isplitl [Hcr]; · iexact Hcr
  isplitl [HO]; · iexact HO
  isplitl [Hat]; · iexact Hat
  iintro ⟨HO, Hat, Hrr, Hrv, Hkn⟩
  by_cases h0 : n = 0
  · subst h0
    rw [show Nat.ble 1 0 = false from rfl, cond_false]
    ihave Hsp := (Entails.of_eq (sp_zero c d s)) $$ Hsp
    iapply (free_put c Q d s 1 _ _)
    isplitl [Hsp]; · iexact Hsp
    iintro ⟨Hs, Ha, Hr⟩
    iapply (wp_go X Wt K κ c Q d s 0 hn 1 (by decide) vo ho hvo vi hi hvi R k)
    isplitr
    · isplitr; · iexact Hctx
      isplitr; · iexact Hec
      iexact Hei
    isplitl [Hs]; · iexact Hs
    isplitl [Ha]; · iexact Ha
    isplitl [Hr]; · iexact Hr
    isplitr; · iapply (ent_rel (out d c) d s (par 1)) $$ Heo
    isplitl [Hkn]; · iexact Hkn
    isplitl [Htn]; · iexact Htn
    isplitl [Hrv]; · iexact Hrv
    isplitl [Hho]; · iexact Hho
    isplitl [Hrr]; · iexact Hrr
    isplitl [Hrels]; · iexact Hrels
    isplitl [Hg]; · iexact Hg
    isplitl [HO]; · iexact HO
    iintro ⟨Hb, Hho, Hrels, Hg, HO⟩
    iapply Hk
    isplitr [HO]
    · isplitl [Hrk1]; · iexact Hrk1
      isplitl [Hat Hho]
      · isplitl [Hat]; · iexact Hat
        iexact Hho
      isplitl [Har]; · iexact Har
      isplitl [Hrels]; · iexact Hrels
      isplitl [Hb]; · iexact Hb
      isplitl [Hbusy]; · rw [sp_succ c d s (0 + 1) (by omega)]; iexact Hbusy
      isplitl [Htk]; · iexact Htk
      isplitl [Hg]; · iexact Hg
      iexact Hcrd
    · iexact HO
  · rw [show Nat.ble 1 n = true from Nat.ble_eq_true_of_le (by omega), cond_true]
    ihave Hsp := (Entails.of_eq (sp_succ c d s n h0)) $$ Hsp
    rw [show par (n + 1) = par (n - 1) from by rw [← par_add_two (n - 1)]; congr 1; omega]
    iapply (busy_wait X Wt K κ c Q d s (n - 1) (by omega) _ (hA.mono (by omega)) _)
    isplitr; · iexact Hctx
    isplitl [Hsp]; · iexact Hsp
    isplitl [HO]; · iexact HO
    iintro ⟨HO, Hfr⟩
    rw [show n - 1 + 2 = n + 1 from by omega, show par (n - 1) = par (n + 1) from by rw [← par_add_two (n - 1)]; congr 1; omega]
    iapply (free_put c Q d s (n + 1) _ _)
    isplitl [Hfr]; · iexact Hfr
    iintro ⟨Hs, Ha, Hr⟩
    have hfin : ∀ m : ℕ, (n + 1) / 2 + 1 ≤ m →
      iprop(ow c (stO d s (n + 1) n c + R) ∗ (ctx X Wt K κ ∗ ent c ∗ ent (inn d c)) ∗ slotVal (slotM (sM d) s (par (n + 1))) c (part X Wt d s (n + 1) c)
        ∗ atPos ER (sndC c d s (par (n + 1))) ((n + 1) / 2) ∅ 0 ∗ reached ER (sndC c d s (par (n + 1))) ((n + 1) / 2)
        ∗ rel (out d c) d s (par (n + 1)) m ∗ bigSep (kn d n (inn d c)) ent ∗ tk d s (n + 1) c
        ∗ slotAt (slotM (rM d) s (par n)) c ∗ hold d s n c ∗ reached ER (rcvC c d s (par n)) (n / 2 + 1) ∗ rels c d s (min n 29)
        ∗ gvs d s n c ∗ rk d s (n + 1) c ∗ atPos ER (rcvC c d s (par n)) (n / 2 + 1) ∅ 0 ∗ arr d s (n + 1) c ∗ busy d s n c ∗ tks d s (n + 2) c ∗ crd d s (n + 1) c
        ∗ (((rk d s (n + 1) c ∗ (atPos ER (rcvC c d s (par n)) (n / 2 + 1) ∅ 0 ∗ hold d s (n + 2) c) ∗ arr d s (n + 1) c ∗ rels c d s (min (n + 1) 29) ∗ busy d s (n + 1) c
            ∗ sp d s (n + 1) c ∗ tks d s (n + 2) c ∗ gvs d s (n + 1) c ∗ crd d s (n + 1) c) ∗ ow c (stO d s (n + 2) (n + 1) c + R)) -∗ WP c k Q))
      ⊢ WP c (startK d s (par (n + 1)) vo ho
          (bif Nat.ble n 28 then .op (.semSignal (⟨devN vi, hi⟩, .tc) (cSems d s).sem (1#32).toInt) fun _ => k else k)) Q := by
      intro m hm
      iintro ⟨HO, Hpp, Hs, Ha, Hr, Hrel, Hkn, Htn, Hrv, Hho, Hrr, Hrels, Hg, Hrk1, Hat, Har, Hbusy, Htk, Hcrd, Hk⟩
      iapply (wp_go X Wt K κ c Q d s n hn m hm vo ho hvo vi hi hvi R k)
      isplitl [Hpp]; · iexact Hpp
      isplitl [Hs]; · iexact Hs
      isplitl [Ha]; · iexact Ha
      isplitl [Hr]; · iexact Hr
      isplitl [Hrel]; · iexact Hrel
      isplitl [Hkn]; · iexact Hkn
      isplitl [Htn]; · iexact Htn
      isplitl [Hrv]; · iexact Hrv
      isplitl [Hho]; · iexact Hho
      isplitl [Hrr]; · iexact Hrr
      isplitl [Hrels]; · iexact Hrels
      isplitl [Hg]; · iexact Hg
      isplitl [HO]; · iexact HO
      iintro ⟨Hb, Hho, Hrels, Hg, HO⟩
      iapply Hk
      isplitr [HO]
      · isplitl [Hrk1]; · iexact Hrk1
        isplitl [Hat Hho]
        · isplitl [Hat]; · iexact Hat
          iexact Hho
        isplitl [Har]; · iexact Har
        isplitl [Hrels]; · iexact Hrels
        isplitl [Hb]; · iexact Hb
        isplitl [Hbusy]; · rw [sp_succ c d s (n + 1) (by omega)]; iexact Hbusy
        isplitl [Htk]; · iexact Htk
        isplitl [Hg]; · iexact Hg
        iexact Hcrd
      · iexact HO
    ihave Hcrd := (Entails.of_eq (crd_le c d s n hn)) $$ Hcrd
    icases Hcrd with ⟨%T, Hca, HT, Hcs⟩
    by_cases h29 : n = 29
    · subst h29
      have eC : bigSep (Finset.Ico (29 - 1) 29) (fun k => (cred (tallyAt (crC c d s) k 1) : sProp 𝕄)) ⊢ cred (tallyAt (crC c d s) 28 1) :=
        sepElim (i := 28) (by decide)
      ihave Hc1 := eC $$ Hcs
      iapply (wp_credLast X Wt K κ c Q d s T _ (hA.mono (by omega)) _)
      isplitr; · iexact Hctx
      isplitl [Hc1]; · iexact Hc1
      isplitl [HO]; · iexact HO
      isplitl [Hca]; · iexact Hca
      isplitl [HT]; · iexact HT
      iintro ⟨HO, Hca, Hrel⟩
      iapply (hfin 16 (by omega))
      isplitl [HO]; · iexact HO
      isplitr
      · isplitr; · iexact Hctx
        isplitr; · iexact Hec
        iexact Hei
      isplitl [Hs]; · iexact Hs
      isplitl [Ha]; · iexact Ha
      isplitl [Hr]; · iexact Hr
      isplitl [Hrel]; · iexact Hrel
      isplitl [Hkn]; · iexact Hkn
      isplitl [Htn]; · iexact Htn
      isplitl [Hrv]; · iexact Hrv
      isplitl [Hho]; · iexact Hho
      isplitl [Hrr]; · iexact Hrr
      isplitl [Hrels]; · iexact Hrels
      isplitl [Hg]; · iexact Hg
      isplitl [Hrk1]; · iexact Hrk1
      isplitl [Hat]; · iexact Hat
      isplitl [Har]; · iexact Har
      isplitl [Hbusy]; · iexact Hbusy
      isplitl [Htk]; · iexact Htk
      isplitl [Hca]; · rw [crd_gt c d s _ (by omega)]; iexact Hca
      iexact Hk
    · ihave Hcs := (Entails.of_eq (sepIco (by omega : n - 1 < 29))) $$ Hcs
      icases Hcs with ⟨Hc1, Hcs⟩
      iapply (wp_credWait X Wt K κ c Q d s (n - 1) (by omega) T _ (hA.mono (by omega)) _)
      isplitr; · iexact Hctx
      isplitl [Hc1]; · iexact Hc1
      isplitl [HO]; · iexact HO
      isplitl [Hca]; · iexact Hca
      isplitl [HT]; · iexact HT
      iintro %S ⟨HO, Hca, HS, Hrel⟩
      rw [show n - 1 + 2 = n + 1 from by omega, show n - 1 + 1 = n from by omega]
      iapply (hfin _ le_rfl)
      isplitl [HO]; · iexact HO
      isplitr
      · isplitr; · iexact Hctx
        isplitr; · iexact Hec
        iexact Hei
      isplitl [Hs]; · iexact Hs
      isplitl [Ha]; · iexact Ha
      isplitl [Hr]; · iexact Hr
      isplitl [Hrel]; · iexact Hrel
      isplitl [Hkn]; · iexact Hkn
      isplitl [Htn]; · iexact Htn
      isplitl [Hrv]; · iexact Hrv
      isplitl [Hho]; · iexact Hho
      isplitl [Hrr]; · iexact Hrr
      isplitl [Hrels]; · iexact Hrels
      isplitl [Hg]; · iexact Hg
      isplitl [Hrk1]; · iexact Hrk1
      isplitl [Hat]; · iexact Hat
      isplitl [Har]; · iexact Har
      isplitl [Hbusy]; · iexact Hbusy
      isplitl [Htk]; · iexact Htk
      isplitl [Hca HS Hcs]
      · rw [crd_le c d s (n + 1) (by omega), show n + 1 - 1 = n from rfl]
        iexists S
        isplitl [Hca]; · iexact Hca
        isplitl [HS]; · iexact HS
        iexact Hcs
      iexact Hk

end Cert.KernelIdeal.RS

end
-- ==== Proof.Body.lean ====
/- The whole kernel on one device: the steps of the four half rings one after the other, then the maximum and the result. -/
module

public import proofs.«01_k».proof.Proof.Ring

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (X : Dev nD → FVec F S4096x128 .f32) (Wt : Dev nD → FVec F S128x2048 .f32)
variable (K : GSem nD τ sig → ℕ) (κ : Key → ℕ)

variable (c : Dev nD)

/-! ## A step of both rings -/

theorem inn0 : inn 0 c = out 1 c := rfl
theorem inn1 : inn 1 c = out 0 c := rfl

/-- What the products read. -/
def mem : sProp 𝕄 := iprop(sigPt c ∗ xPt X c ∗ wPt Wt c)
/-- What a device knows. -/
def know : sProp 𝕄 := iprop(ctx X Wt K κ ∗ ent c ∗ ent (out 1 c) ∗ ent (out 0 c))
instance know_persistent : BI.Persistent (know X Wt K κ c) := by unfold know; infer_instance

theorem know_at (d : Fin 2) : know X Wt K κ c ⊢ iprop(ctx X Wt K κ ∗ ent c ∗ ent (inn d c) ∗ ent (out d c)) := by
  unfold know
  fin_cases d
  · iintro ⟨H1, H2, H3, H4⟩
    isplitl [H1]; · iexact H1
    isplitl [H2]; · iexact H2
    isplitl [H3]; · iexact H3
    iexact H4
  · iintro ⟨H1, H2, H3, H4⟩
    isplitl [H1]; · iexact H1
    isplitl [H2]; · iexact H2
    isplitl [H4]; · iexact H4
    iexact H3
theorem know_ctx : know X Wt K κ c ⊢ ctx X Wt K κ := by unfold know; iintro ⟨H, -⟩; iexact H

theorem wp_dotMem (Q : PUnit → sProp 𝕄) (w : Dev nD) (d s : Fin 2) (k : FVec F S128x512 .f32 → PG F) :
    iprop(mem X Wt c ∗ (mem X Wt c -∗ WP c (k (prod (xch (X c) w) (wcol (Wt c) d s))) Q)) ⊢ WP c (dotK (devW w) (chunkOk_devW w) d s k) Q := by
  unfold mem
  iintro ⟨⟨Hs, Hx, Hw⟩, Hk⟩
  iapply (wp_dot X Wt c Q w d s k)
  isplitl [Hx]; · iexact Hx
  isplitl [Hw]; · iexact Hw
  iintro ⟨Hx, Hw⟩
  iapply Hk
  isplitl [Hs]; · iexact Hs
  isplitl [Hx]; · iexact Hx
  iexact Hw
theorem wp_tabMem (Q : PUnit → sProp 𝕄) (x : BitVec 32) (w : Dev nD) (h : tabW x = devW w) (k : (v : BitVec 32) → chunkOk v → PG F) :
    iprop(mem X Wt c ∗ (mem X Wt c -∗ WP c (k (devW w) (chunkOk_devW w)) Q)) ⊢ WP c (tabK x k) Q := by
  unfold mem
  iintro ⟨⟨Hs, Hx, Hw⟩, Hk⟩
  iapply (wp_tab c Q x w h k)
  isplitl [Hs]; · iexact Hs
  iintro Hs
  iapply Hk
  isplitl [Hs]; · iexact Hs
  isplitl [Hx]; · iexact Hx
  iexact Hw

theorem wp_dots (Q : PUnit → sProp 𝕄) (n : ℕ) (hn : n ≤ 30)
    (k : FVec F S128x512 .f32 → FVec F S128x512 .f32 → FVec F S128x512 .f32 → FVec F S128x512 .f32 → PG F) :
    iprop(mem X Wt c ∗ (mem X Wt c -∗ WP c (k (term X Wt 0 0 (n + 1) c) (term X Wt 0 1 (n + 1) c) (term X Wt 1 0 (n + 1) c) (term X Wt 1 1 (n + 1) c)) Q))
      ⊢ WP c (dotsK n (rhoW c) k) Q := by
  iintro ⟨H, Hk⟩
  unfold dotsK
  iapply (wp_tabMem X Wt c Q _ (mch 0 (n + 1) c) (tabW_step0 ⟨n, by omega⟩ c) _)
  isplitl [H]; · iexact H
  iintro H
  iapply (wp_dotMem X Wt c Q _ 0 0 _)
  isplitl [H]; · iexact H
  iintro H
  iapply (wp_dotMem X Wt c Q _ 0 1 _)
  isplitl [H]; · iexact H
  iintro H
  iapply (wp_tabMem X Wt c Q _ (mch 1 (n + 1) c) (tabW_step1 ⟨n, by omega⟩ c) _)
  isplitl [H]; · iexact H
  iintro H
  iapply (wp_dotMem X Wt c Q _ 1 0 _)
  isplitl [H]; · iexact H
  iintro H
  iapply (wp_dotMem X Wt c Q _ 1 1 _)
  isplitl [H]; · iexact H
  iintro H
  iapply Hk
  iexact H

/-- The four half rings before step `n`, and what is owed on them. -/
def St4 (n : ℕ) : sProp 𝕄 := iprop(St 0 0 n c ∗ St 1 0 n c ∗ St 0 1 n c ∗ St 1 1 n c)
def ringO (a b : ℕ) : CellTallies nD τ sig ℕ := stO 0 0 a b c + stO 1 0 a b c + stO 0 1 a b c + stO 1 1 a b c

variable (vr : BitVec 32) (hr : devN vr < nD) (hvr : (⟨devN vr, hr⟩ : Dev nD) = out 0 c)
variable (vl : BitVec 32) (hl : devN vl < nD) (hvl : (⟨devN vl, hl⟩ : Dev nD) = out 1 c)

include hvr hvl in
theorem wp_step (Q : PUnit → sProp 𝕄) (n : ℕ) (hn : n ≤ 29) (R : CellTallies nD τ sig ℕ) (hR : Above 63 R) (k : PG F) :
    iprop(know X Wt K κ c ∗ mem X Wt c ∗ St4 c n ∗ ow c (ringO c (n + 1) n + R)
        ∗ ((mem X Wt c ∗ St4 c (n + 1) ∗ ow c (ringO c (n + 2) (n + 1) + R)) -∗ WP c k Q))
      ⊢ WP c (stepK n (rhoW c) vr hr vl hl k) Q := by
  unfold St4
  iintro ⟨#Hkn, Hm, ⟨H00, H10, H01, H11⟩, HO, Hk⟩
  unfold stepK
  iapply (wp_dots X Wt c Q n (by omega) _)
  isplitl [Hm]; · iexact Hm
  iintro Hm
  have h1 : ∀ d s : Fin 2, Above (2 * n + 3) (stO d s (n + 1) n c) := fun d s => above_stO d s (n + 1) n _ (by omega) (by omega) c
  have h2 : ∀ d s : Fin 2, Above (2 * n + 3) (stO d s (n + 2) (n + 1) c) := fun d s => above_stO d s (n + 2) (n + 1) _ (by omega) (by omega) c
  have hR' : Above (2 * n + 3) R := hR.mono (by omega)
  have e0 : ringO c (n + 1) n + R = stO 0 0 (n + 1) n c + (stO 1 0 (n + 1) n c + stO 0 1 (n + 1) n c + stO 1 1 (n + 1) n c + R) := by unfold ringO; ac_rfl
  rw [e0]
  iapply (wp_hop X Wt K κ c Q 0 0 n hn vr hr hvr vl hl hvl _ ((((h1 1 0).add (h1 0 1)).add (h1 1 1)).add hR') _)
  isplitr; · iapply (know_at X Wt K κ c 0) $$ Hkn
  isplitl [H00]; · iexact H00
  isplitl [HO]; · iexact HO
  iintro ⟨H00, HO⟩
  have e1 : stO 0 0 (n + 2) (n + 1) c + (stO 1 0 (n + 1) n c + stO 0 1 (n + 1) n c + stO 1 1 (n + 1) n c + R)
      = stO 1 0 (n + 1) n c + (stO 0 0 (n + 2) (n + 1) c + stO 0 1 (n + 1) n c + stO 1 1 (n + 1) n c + R) := by ac_rfl
  rw [e1]
  iapply (wp_hop X Wt K κ c Q 1 0 n hn vl hl hvl vr hr hvr _ ((((h2 0 0).add (h1 0 1)).add (h1 1 1)).add hR') _)
  isplitr; · iapply (know_at X Wt K κ c 1) $$ Hkn
  isplitl [H10]; · iexact H10
  isplitl [HO]; · iexact HO
  iintro ⟨H10, HO⟩
  have e2 : stO 1 0 (n + 2) (n + 1) c + (stO 0 0 (n + 2) (n + 1) c + stO 0 1 (n + 1) n c + stO 1 1 (n + 1) n c + R)
      = stO 0 1 (n + 1) n c + (stO 0 0 (n + 2) (n + 1) c + stO 1 0 (n + 2) (n + 1) c + stO 1 1 (n + 1) n c + R) := by ac_rfl
  rw [e2]
  iapply (wp_hop X Wt K κ c Q 0 1 n hn vr hr hvr vl hl hvl _ ((((h2 0 0).add (h2 1 0)).add (h1 1 1)).add hR') _)
  isplitr; · iapply (know_at X Wt K κ c 0) $$ Hkn
  isplitl [H01]; · iexact H01
  isplitl [HO]; · iexact HO
  iintro ⟨H01, HO⟩
  have e3 : stO 0 1 (n + 2) (n + 1) c + (stO 0 0 (n + 2) (n + 1) c + stO 1 0 (n + 2) (n + 1) c + stO 1 1 (n + 1) n c + R)
      = stO 1 1 (n + 1) n c + (stO 0 0 (n + 2) (n + 1) c + stO 1 0 (n + 2) (n + 1) c + stO 0 1 (n + 2) (n + 1) c + R) := by ac_rfl
  rw [e3]
  iapply (wp_hop X Wt K κ c Q 1 1 n hn vl hl hvl vr hr hvr _ ((((h2 0 0).add (h2 1 0)).add (h2 0 1)).add hR') _)
  isplitr; · iapply (know_at X Wt K κ c 1) $$ Hkn
  isplitl [H11]; · iexact H11
  isplitl [HO]; · iexact HO
  iintro ⟨H11, HO⟩
  iapply Hk
  isplitl [Hm]; · iexact Hm
  isplitr [HO]
  · isplitl [H00]; · iexact H00
    isplitl [H10]; · iexact H10
    isplitl [H01]; · iexact H01
    iexact H11
  · rw [show ringO c (n + 2) (n + 1) + R = stO 1 1 (n + 2) (n + 1) c + (stO 0 0 (n + 2) (n + 1) c + stO 1 0 (n + 2) (n + 1) c + stO 0 1 (n + 2) (n + 1) c + R) from by unfold ringO; ac_rfl]
    iexact HO

include hvr hvl in
theorem wp_steps (Q : PUnit → sProp 𝕄) (R : CellTallies nD τ sig ℕ) (hR : Above 63 R) (k : PG F) (j : ℕ) : ∀ n : ℕ, n + j = 30 →
    iprop(know X Wt K κ c ∗ mem X Wt c ∗ St4 c n ∗ ow c (ringO c (n + 1) n + R)
        ∗ ((mem X Wt c ∗ St4 c 30 ∗ ow c (ringO c 31 30 + R)) -∗ WP c k Q))
      ⊢ WP c (stepsK (rhoW c) vr hr vl hl k j n) Q := by
  induction j with
  | zero =>
    intro n h
    obtain rfl : n = 30 := h
    iintro ⟨-, Hm, HS, HO, Hk⟩
    unfold stepsK
    iapply Hk
    isplitl [Hm]; · iexact Hm
    isplitl [HS]; · iexact HS
    iexact HO
  | succ j ih =>
    intro n h
    iintro ⟨#Hkn, Hm, HS, HO, Hk⟩
    unfold stepsK
    iapply (wp_step X Wt K κ c vr hr hvr vl hl hvl Q n (by omega) R hR _)
    isplitr; · iexact Hkn
    isplitl [Hm]; · iexact Hm
    isplitl [HS]; · iexact HS
    isplitl [HO]; · iexact HO
    iintro ⟨Hm, HS, HO⟩
    iapply (ih (n + 1) (by omega))
    isplitr; · iexact Hkn
    isplitl [Hm]; · iexact Hm
    isplitl [HS]; · iexact HS
    isplitl [HO]; · iexact HO
    iexact Hk

/-! ## The first sends -/

/-- A half ring with its first product in the send slot. -/
def InP (d s : Fin 2) : sProp 𝕄 :=
  iprop(rk d s 0 c ∗ rk d s 1 c ∗ arr d s 0 c ∗ rels c d s 0
    ∗ (slotVal (slotM (sM d) s (par 0)) c (part X Wt d s 0 c) ∗ atPos ER (sndC c d s (par 0)) (0 / 2) ∅ 0 ∗ reached ER (sndC c d s (par 0)) (0 / 2))
    ∗ free d s 1 c ∗ tks d s 0 c ∗ gvs d s 0 c ∗ crd d s 0 c)

theorem wp_put0 (Q : PUnit → sProp 𝕄) (d s : Fin 2) (k : PG F) :
    iprop(In d s c ∗ (InP X Wt c d s -∗ WP c k Q)) ⊢ WP c (putK d s 0 (term X Wt d s 0 c) k) Q := by
  unfold In InP
  iintro ⟨⟨H1, H2, H3, H4, H5, H6, H7, H8, H9⟩, Hk⟩
  iapply (free_put c Q d s 0 (term X Wt d s 0 c) k)
  isplitl [H5]; · iexact H5
  iintro H5
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wp_start0 (Q : PUnit → sProp 𝕄) (d s : Fin 2) (v : BitVec 32) (hv : devN v < nD) (hvo : (⟨devN v, hv⟩ : Dev nD) = out d c)
    (R : CellTallies nD τ sig ℕ) (k : PG F) :
    iprop(know X Wt K κ c ∗ InP X Wt c d s ∗ ow c (stO d s 0 0 c + R) ∗ ((St d s 0 c ∗ ow c (stO d s 1 0 c + R)) -∗ WP c k Q))
      ⊢ WP c (startK d s 0 v hv k) Q := by
  have eT : tks (F := F) d s 0 c = iprop(tk d s 0 c ∗ tks d s 1 c) := sepIco (by omega)
  unfold InP St
  rw [eT]
  iintro ⟨#Hkn, ⟨H1, H2, H3, H4, ⟨Hs, Ha, Hr⟩, H6, ⟨Ht, H7⟩, H8, H9⟩, HO, Hk⟩
  ihave Hk2 := (know_at X Wt K κ c d) $$ Hkn
  icases Hk2 with ⟨#Hctx, #Hec, #Hei, #Heo⟩
  unfold tk
  icases Ht with ⟨Hd1, Hd2, Hw⟩
  have eO : stO d s 0 0 c + R = (stO d s 1 0 c + R) + tallyAt (rcvC (out d c) d s (par 0)) 0 NB := by
    unfold stO; rw [sumIco (a := 0) (b := 31) (by omega)]; ac_rfl
  rw [eO]
  iapply (wp_start X Wt K κ c Q d s 0 (by omega) 1 (by decide) v hv hvo _ _)
  isplitr; · iexact Hctx
  isplitl [Hs]; · iexact Hs
  isplitr; · iapply (ent_rel (out d c) d s (par 0)) $$ Heo
  isplitr
  · iapply (Entails.of_eq (bigSep_singleton (Φ := fun q : Dev nD => (ent q : sProp 𝕄))).symm) $$ Hec
  isplitl [Hr]; · iexact Hr
  isplitl [Hd1]; · iexact Hd1
  isplitl [Hd2]; · iexact Hd2
  isplitl [Hw]; · iexact Hw
  isplitl [HO]; · iexact HO
  iintro ⟨Hc, HO⟩
  iapply Hk
  isplitr [HO]
  · isplitl [H1]; · iexact H1
    isplitl [H2]; · iexact H2
    isplitl [H3]; · iexact H3
    isplitl [H4]; · iexact H4
    isplitl [Ha Hc]
    · unfold busy
      isplitl [Ha]; · iexact Ha
      iexact Hc
    isplitl [H6]; · rw [sp_zero]; iexact H6
    isplitl [H7]; · iexact H7
    isplitl [H8]; · iexact H8
    iexact H9
  · iexact HO

def In4 : sProp 𝕄 := iprop(In 0 0 c ∗ In 1 0 c ∗ In 0 1 c ∗ In 1 1 c)

include hvr hvl in
theorem wp_first (Q : PUnit → sProp 𝕄) (R : CellTallies nD τ sig ℕ) (k : PG F) :
    iprop(know X Wt K κ c ∗ mem X Wt c ∗ In4 c ∗ ow c (ringO c 0 0 + R)
        ∗ ((mem X Wt c ∗ St4 c 0 ∗ ow c (ringO c 1 0 + R)) -∗ WP c k Q))
      ⊢ WP c (firstK (rhoW c) vr hr vl hl k) Q := by
  unfold In4 St4
  iintro ⟨#Hkn, Hm, ⟨H00, H10, H01, H11⟩, HO, Hk⟩
  unfold firstK
  iapply (wp_tabMem X Wt c Q _ (mch 0 0 c) (tabW_first0 c) _)
  isplitl [Hm]; · iexact Hm
  iintro Hm
  iapply (wp_dotMem X Wt c Q _ 0 0 _)
  isplitl [Hm]; · iexact Hm
  iintro Hm
  iapply (wp_put0 X Wt c Q 0 0 _)
  isplitl [H00]; · iexact H00
  iintro H00
  iapply (wp_dotMem X Wt c Q _ 0 1 _)
  isplitl [Hm]; · iexact Hm
  iintro Hm
  iapply (wp_put0 X Wt c Q 0 1 _)
  isplitl [H01]; · iexact H01
  iintro H01
  iapply (wp_tabMem X Wt c Q _ (mch 1 0 c) (tabW_first1 c) _)
  isplitl [Hm]; · iexact Hm
  iintro Hm
  iapply (wp_dotMem X Wt c Q _ 1 0 _)
  isplitl [Hm]; · iexact Hm
  iintro Hm
  iapply (wp_put0 X Wt c Q 1 0 _)
  isplitl [H10]; · iexact H10
  iintro H10
  iapply (wp_dotMem X Wt c Q _ 1 1 _)
  isplitl [Hm]; · iexact Hm
  iintro Hm
  iapply (wp_put0 X Wt c Q 1 1 _)
  isplitl [H11]; · iexact H11
  iintro H11
  have e0 : ringO c 0 0 + R = stO 0 0 0 0 c + (stO 1 0 0 0 c + stO 0 1 0 0 c + stO 1 1 0 0 c + R) := by unfold ringO; ac_rfl
  rw [e0]
  iapply (wp_start0 X Wt K κ c Q 0 0 vr hr hvr _ _)
  isplitr; · iexact Hkn
  isplitl [H00]; · iexact H00
  isplitl [HO]; · iexact HO
  iintro ⟨H00, HO⟩
  have e1 : stO 0 0 1 0 c + (stO 1 0 0 0 c + stO 0 1 0 0 c + stO 1 1 0 0 c + R) = stO 0 1 0 0 c + (stO 0 0 1 0 c + stO 1 0 0 0 c + stO 1 1 0 0 c + R) := by ac_rfl
  rw [e1]
  iapply (wp_start0 X Wt K κ c Q 0 1 vr hr hvr _ _)
  isplitr; · iexact Hkn
  isplitl [H01]; · iexact H01
  isplitl [HO]; · iexact HO
  iintro ⟨H01, HO⟩
  have e2 : stO 0 1 1 0 c + (stO 0 0 1 0 c + stO 1 0 0 0 c + stO 1 1 0 0 c + R) = stO 1 0 0 0 c + (stO 0 0 1 0 c + stO 0 1 1 0 c + stO 1 1 0 0 c + R) := by ac_rfl
  rw [e2]
  iapply (wp_start0 X Wt K κ c Q 1 0 vl hl hvl _ _)
  isplitr; · iexact Hkn
  isplitl [H10]; · iexact H10
  isplitl [HO]; · iexact HO
  iintro ⟨H10, HO⟩
  have e3 : stO 1 0 1 0 c + (stO 0 0 1 0 c + stO 0 1 1 0 c + stO 1 1 0 0 c + R) = stO 1 1 0 0 c + (stO 0 0 1 0 c + stO 1 0 1 0 c + stO 0 1 1 0 c + R) := by ac_rfl
  rw [e3]
  iapply (wp_start0 X Wt K κ c Q 1 1 vl hl hvl _ _)
  isplitr; · iexact Hkn
  isplitl [H11]; · iexact H11
  isplitl [HO]; · iexact HO
  iintro ⟨H11, HO⟩
  iapply Hk
  isplitl [Hm]; · iexact Hm
  isplitr [HO]
  · isplitl [H00]; · iexact H00
    isplitl [H10]; · iexact H10
    isplitl [H01]; · iexact H01
    iexact H11
  · rw [show ringO c 1 0 + R = stO 1 1 1 0 c + (stO 0 0 1 0 c + stO 1 0 1 0 c + stO 0 1 1 0 c + R) from by unfold ringO; ac_rfl]
    iexact HO

/-! ## The last step -/

/-- A half ring after the last step; and once its last sends are waited for. -/
def Fn (d s : Fin 2) : sProp 𝕄 := iprop(rk d s 31 c ∗ rk d s 32 c ∗ busy d s 30 c ∗ busy d s 29 c ∗ crd d s 30 c)
def Fn2 (d s : Fin 2) : sProp 𝕄 := iprop(rk d s 31 c ∗ rk d s 32 c ∗ free d s 32 c ∗ free d s 31 c ∗ crd d s 30 c)

theorem lastK_eq (d s : Fin 2) (p : FVec F S128x512 .f32) (k : FVec F S128x512 .f32 → PG F) :
    lastK d s p k = accK d s (par 30) p fun a => k (maximumf a (broadcast S128x512 (Scalar.ofBits .f32 0x00000000#32))) := rfl

theorem wp_last (Q : PUnit → sProp 𝕄) (d s : Fin 2) (O : CellTallies nD τ sig ℕ) (hO : Above 63 O) (k : FVec F S128x512 .f32 → PG F) :
    iprop(know X Wt K κ c ∗ St d s 30 c ∗ ow c O ∗ ((Fn c d s ∗ bigSep (kn d 30 (inn d c)) ent ∗ ow c O) -∗ WP c (k (yv X Wt d s c)) Q))
      ⊢ WP c (lastK d s (term X Wt d s 31 c) k) Q := by
  have eA : arr (F := F) d s 30 c = iprop(cred (tallyAt (rcvC c d s (par 30)) 30 NB) ∗ arr d s 31 c) := sepIco (by omega)
  have eR : rk (F := F) d s 30 c = iprop(atPos ER (rcvC c d s (par 30)) (30 / 2) ∅ 0 ∗ hold d s 30 c) := rfl
  have eR2 : rk (F := F) d s 32 c = iprop(atPos ER (rcvC c d s (par 30)) (30 / 2 + 1) ∅ 0 ∗ slotAt (slotM (rM d) s (par 30)) c) := by
    unfold rk; rw [hold_gt c d s 32 (by omega)]; rfl
  unfold St Fn
  rw [eA, eR, eR2, sp_succ c d s 30 (by omega)]
  iintro ⟨#Hkn, ⟨⟨Hat, -⟩, H2, ⟨Hcr, -⟩, -, H5, H6, -, -, H9⟩, HO, Hk⟩
  rw [lastK_eq]
  iapply (wp_acc X Wt K κ c Q d s 30 (by omega) O hO _)
  isplitr; · iapply (know_ctx X Wt K κ c) $$ Hkn
  isplitl [Hcr]; · iexact Hcr
  isplitl [HO]; · iexact HO
  isplitl [Hat]; · iexact Hat
  iintro ⟨HO, Hat, -, Hrv, Hknn⟩
  iapply Hk
  isplitr [HO Hknn]
  · isplitl [H2]; · iexact H2
    isplitl [Hat Hrv]
    · isplitl [Hat]; · iexact Hat
      iexact Hrv
    isplitl [H5]; · iexact H5
    isplitl [H6]; · iexact H6
    iexact H9
  isplitl [Hknn]; · iexact Hknn
  iexact HO

theorem kn_succ (d : Fin 2) (t : ℕ) (c : Dev nD) : kn d (t + 1) c = insert c (kn d t (inn d c)) := rfl

theorem kn_end (t : ℕ) (h : t + 1 = 31) : insert c (kn 0 t (inn 0 c)) = Finset.univ := by
  rw [← kn_succ, h]; exact kn_all c
theorem ent_all (t : ℕ) (h : t + 1 = 31) : iprop(ent c ∗ bigSep (kn 0 t (inn 0 c)) ent) ⊢ (bigSep Finset.univ ent : sProp 𝕄) := by
  rw [← kn_end c t h]; exact ent_insert c _

def Fn4 : sProp 𝕄 := iprop(Fn c 0 0 ∗ Fn c 1 0 ∗ Fn c 0 1 ∗ Fn c 1 1)
def Fn24 : sProp 𝕄 := iprop(Fn2 c 0 0 ∗ Fn2 c 1 0 ∗ Fn2 c 0 1 ∗ Fn2 c 1 1)

theorem stO_end (d s : Fin 2) : stO d s 31 30 c = 0 := by
  unfold stO
  rw [show Finset.Ico 31 31 = (∅ : Finset ℕ) from rfl, show Finset.Ico 30 29 = (∅ : Finset ℕ) from rfl, Finset.sum_empty, Finset.sum_empty, zero_add]
theorem ringO_end (R : CellTallies nD τ sig ℕ) : ringO c 31 30 + R = R := by
  unfold ringO; simp only [stO_end, zero_add]

theorem wp_fin (Q : PUnit → sProp 𝕄) (R : CellTallies nD τ sig ℕ) (hR : Above 63 R)
    (k : FVec F S128x512 .f32 → FVec F S128x512 .f32 → FVec F S128x512 .f32 → FVec F S128x512 .f32 → PG F) :
    iprop(know X Wt K κ c ∗ mem X Wt c ∗ St4 c 30 ∗ ow c R
        ∗ ((mem X Wt c ∗ Fn4 c ∗ bigSep Finset.univ ent ∗ ow c R) -∗ WP c (k (yv X Wt 0 0 c) (yv X Wt 0 1 c) (yv X Wt 1 0 c) (yv X Wt 1 1 c)) Q))
      ⊢ WP c (finK (rhoW c) k) Q := by
  unfold St4 Fn4
  iintro ⟨#Hkn, Hm, ⟨H00, H10, H01, H11⟩, HO, Hk⟩
  unfold finK
  iapply (wp_dots X Wt c Q 30 le_rfl _)
  isplitl [Hm]; · iexact Hm
  iintro Hm
  iapply (wp_last X Wt K κ c Q 0 0 R hR _)
  isplitr; · iexact Hkn
  isplitl [H00]; · iexact H00
  isplitl [HO]; · iexact HO
  iintro ⟨H00, Hall, HO⟩
  iapply (wp_last X Wt K κ c Q 1 0 R hR _)
  isplitr; · iexact Hkn
  isplitl [H10]; · iexact H10
  isplitl [HO]; · iexact HO
  iintro ⟨H10, -, HO⟩
  iapply (wp_last X Wt K κ c Q 0 1 R hR _)
  isplitr; · iexact Hkn
  isplitl [H01]; · iexact H01
  isplitl [HO]; · iexact HO
  iintro ⟨H01, -, HO⟩
  iapply (wp_last X Wt K κ c Q 1 1 R hR _)
  isplitr; · iexact Hkn
  isplitl [H11]; · iexact H11
  isplitl [HO]; · iexact HO
  iintro ⟨H11, -, HO⟩
  iapply Hk
  isplitl [Hm]; · iexact Hm
  isplitl [H00 H10 H01 H11]
  · isplitl [H00]; · iexact H00
    isplitl [H10]; · iexact H10
    isplitl [H01]; · iexact H01
    iexact H11
  isplitl [Hall]
  · iapply (ent_all c 30 rfl)
    isplitr
    · ihave Hk2 := (know_at X Wt K κ c 0) $$ Hkn
      icases Hk2 with ⟨-, H, -⟩
      iexact H
    · iexact Hall
  iexact HO

theorem drainK_eq (k : PG F) : drainK k = (waitSendK 0 0 (par 30) <| waitSendK 0 1 (par 30) <| waitSendK 1 0 (par 30) <| waitSendK 1 1 (par 30) <|
  waitSendK 0 0 (par 29) <| waitSendK 1 0 (par 29) <| waitSendK 0 1 (par 29) <| waitSendK 1 1 (par 29) k) := rfl

theorem wp_drain (Q : PUnit → sProp 𝕄) (O : CellTallies nD τ sig ℕ) (hO : Above 1 O) (k : PG F) :
    iprop(ctx X Wt K κ ∗ Fn4 c ∗ ow c O ∗ ((Fn24 c ∗ ow c O) -∗ WP c k Q)) ⊢ WP c (drainK k) Q := by
  unfold Fn4 Fn24 Fn Fn2
  iintro ⟨#Hctx, ⟨⟨A1, A2, A3, A4, A5⟩, ⟨B1, B2, B3, B4, B5⟩, ⟨C1, C2, C3, C4, C5⟩, ⟨D1, D2, D3, D4, D5⟩⟩, HO, Hk⟩
  rw [drainK_eq]
  iapply (busy_wait X Wt K κ c Q 0 0 30 (by omega) O hO _)
  isplitr; · iexact Hctx
  isplitl [A3]; · iexact A3
  isplitl [HO]; · iexact HO
  iintro ⟨HO, A3⟩
  iapply (busy_wait X Wt K κ c Q 0 1 30 (by omega) O hO _)
  isplitr; · iexact Hctx
  isplitl [C3]; · iexact C3
  isplitl [HO]; · iexact HO
  iintro ⟨HO, C3⟩
  iapply (busy_wait X Wt K κ c Q 1 0 30 (by omega) O hO _)
  isplitr; · iexact Hctx
  isplitl [B3]; · iexact B3
  isplitl [HO]; · iexact HO
  iintro ⟨HO, B3⟩
  iapply (busy_wait X Wt K κ c Q 1 1 30 (by omega) O hO _)
  isplitr; · iexact Hctx
  isplitl [D3]; · iexact D3
  isplitl [HO]; · iexact HO
  iintro ⟨HO, D3⟩
  iapply (busy_wait X Wt K κ c Q 0 0 29 (by omega) O hO _)
  isplitr; · iexact Hctx
  isplitl [A4]; · iexact A4
  isplitl [HO]; · iexact HO
  iintro ⟨HO, A4⟩
  iapply (busy_wait X Wt K κ c Q 1 0 29 (by omega) O hO _)
  isplitr; · iexact Hctx
  isplitl [B4]; · iexact B4
  isplitl [HO]; · iexact HO
  iintro ⟨HO, B4⟩
  iapply (busy_wait X Wt K κ c Q 0 1 29 (by omega) O hO _)
  isplitr; · iexact Hctx
  isplitl [C4]; · iexact C4
  isplitl [HO]; · iexact HO
  iintro ⟨HO, C4⟩
  iapply (busy_wait X Wt K κ c Q 1 1 29 (by omega) O hO _)
  isplitr; · iexact Hctx
  isplitl [D4]; · iexact D4
  isplitl [HO]; · iexact HO
  iintro ⟨HO, D4⟩
  iapply Hk
  isplitr [HO]
  · isplitl [A1 A2 A3 A4 A5]
    · isplitl [A1]; · iexact A1
      isplitl [A2]; · iexact A2
      isplitl [A3]; · iexact A3
      isplitl [A4]; · iexact A4
      iexact A5
    isplitl [B1 B2 B3 B4 B5]
    · isplitl [B1]; · iexact B1
      isplitl [B2]; · iexact B2
      isplitl [B3]; · iexact B3
      isplitl [B4]; · iexact B4
      iexact B5
    isplitl [C1 C2 C3 C4 C5]
    · isplitl [C1]; · iexact C1
      isplitl [C2]; · iexact C2
      isplitl [C3]; · iexact C3
      isplitl [C4]; · iexact C4
      iexact C5
    · isplitl [D1]; · iexact D1
      isplitl [D2]; · iexact D2
      isplitl [D3]; · iexact D3
      isplitl [D4]; · iexact D4
      iexact D5
  · iexact HO

/-! ## The exchange and the result -/

/-- What a device holds at entry for exchange round `r`. -/
def exIn (r : Fin 5) : sProp 𝕄 :=
  iprop(exAt (exM asM r) c ∗ reached ER (exsC c r) 0 ∗ dutyTok ER (exsC c r) 0 0 ∗ dutyTok ER (exrC (prt r c) r) 0 0
    ∗ Release.writeTok ES (Sum.inr (prt r c, r)) 1 ∗ atPos ER (exsC c r) 0 ∅ 0 ∗ atPos ER (exrC c r) 0 ∅ 0 ∗ cred (tallyAt (exrC c r) 0 NX))
theorem exIn_pre (r : Fin 5) : iprop(bigSep Finset.univ ent ∗ exIn c r) ⊢ (exPre c r : sProp 𝕄) := by
  unfold exIn exPre
  have e : (bigSep Finset.univ ent : sProp 𝕄) ⊢ relX (prt r c) r := (sepElim (Finset.mem_univ (prt r c))).trans (ent_relX _ r)
  iintro ⟨He, H1, H2, H3, H4, H5, H6, H7, H8⟩
  isplitl [H1]; · iexact H1
  isplitl [He]; · iapply e $$ He
  isplitl [H2]; · iexact H2
  isplitl [H3]; · iexact H3
  isplitl [H4]; · iexact H4
  isplitl [H5]; · iexact H5
  isplitl [H6]; · iexact H6
  isplitl [H7]; · iexact H7
  iexact H8

def exT (r : Fin 5) : CellTallies nD τ sig ℕ := tallyAt (exrC (prt r c) r) 0 NX
def exO : CellTallies nD τ sig ℕ := 0 + exT c 4 + exT c 3 + exT c 2 + exT c 1 + exT c 0
theorem above_exT (r : Fin 5) (b : ℕ) (h : b ≤ 100 + r.val) : Above b (exT c r) := Above.tally (by omega) (by rw [cls_exr]; exact h)
theorem above_exO (b : ℕ) (h : b ≤ 100) : Above b (exO c) :=
  (((((Above.zero b).add (above_exT c 4 b (by omega))).add (above_exT c 3 b (by omega))).add (above_exT c 2 b (by omega))).add (above_exT c 1 b (by omega))).add (above_exT c 0 b (by omega))

abbrev oPt (f : Buf (Elt F) (oM.view.loc (c : Thread nD τ))) : sProp 𝕄 := iprop(oM.view.loc (c : Thread nD τ) ↦{fullShare} f)
/-- A column block of the result written. -/
def outW (d s : Fin 2) (f : Buf (Elt F) (oM.view.loc (c : Thread nD τ))) : Buf (Elt F) (oM.view.loc (c : Thread nD τ)) :=
  (oM.access (Rect.unit (s := S128x2048) (colOff d s) S128x512.size (colOff_inb d s))).write (Elt F) f (quant (exv X Wt 5 c) (yv X Wt d s c)) Finset.univ
def outs (f : Buf (Elt F) (oM.view.loc (c : Thread nD τ))) : Buf (Elt F) (oM.view.loc (c : Thread nD τ)) :=
  outW X Wt c 1 1 (outW X Wt c 0 1 (outW X Wt c 1 0 (outW X Wt c 0 0 f)))

theorem wp_done (Q : PUnit → sProp 𝕄) : Q ⟨⟩ ⊢ WP c (.ret ⟨⟩) Q := by
  show Q ⟨⟩ ⊢ iprop(|={Set.univ}=> Q ⟨⟩)
  iintro H
  imodintro
  iexact H
/-- What a device holds at the end. -/
def Post (f : Buf (Elt F) (oM.view.loc (c : Thread nD τ))) : sProp 𝕄 :=
  iprop(mem X Wt c ∗ pbitPt c ∗ oPt c (outs X Wt c f) ∗ Fn24 c ∗ exPost c 0 ∗ exPost c 1 ∗ exPost c 2 ∗ exPost c 3 ∗ exPost c 4 ∗ ow c 0)

theorem wp_tail (Q : PUnit → sProp 𝕄) (f : Buf (Elt F) (oM.view.loc (c : Thread nD τ))) :
    iprop(ctx X Wt K κ ∗ mem X Wt c ∗ pbitPt c ∗ oPt c f ∗ Fn4 c ∗ bigSep Finset.univ ent ∗ exIn c 0 ∗ exIn c 1 ∗ exIn c 2 ∗ exIn c 3 ∗ exIn c 4
        ∗ ow c (exO c) ∗ (Post X Wt c f -∗ Q ⟨⟩))
      ⊢ WP c (tailK c (yv X Wt 0 0 c) (yv X Wt 0 1 c) (yv X Wt 1 0 c) (yv X Wt 1 1 c)) Q := by
  iintro ⟨#Hctx, Hm, Hp, Ho, HF, #Hall, E0, E1, E2, E3, E4, HO, Hk⟩
  unfold tailK
  iapply (wp_drain X Wt K κ c Q _ (above_exO c 1 (by omega)) _)
  isplitr; · iexact Hctx
  isplitl [HF]; · iexact HF
  isplitl [HO]; · iexact HO
  iintro ⟨HF, HO⟩
  unfold exO
  iapply (wp_ex X Wt K κ c Q 0 _ ((((((Above.zero _).add (above_exT c 4 _ (by decide))).add (above_exT c 3 _ (by decide))).add (above_exT c 2 _ (by decide))).add (above_exT c 1 _ (by decide)))) _)
  isplitr; · iexact Hctx
  isplitl [Hp]; · iexact Hp
  isplitl [E0]
  · iapply (exIn_pre c 0)
    isplitr; · iexact Hall
    iexact E0
  isplitl [HO]; · iexact HO
  iintro ⟨Hp, E0, HO⟩
  iapply (wp_ex X Wt K κ c Q 1 _ (((((Above.zero _).add (above_exT c 4 _ (by decide))).add (above_exT c 3 _ (by decide))).add (above_exT c 2 _ (by decide)))) _)
  isplitr; · iexact Hctx
  isplitl [Hp]; · iexact Hp
  isplitl [E1]
  · iapply (exIn_pre c 1)
    isplitr; · iexact Hall
    iexact E1
  isplitl [HO]; · iexact HO
  iintro ⟨Hp, E1, HO⟩
  iapply (wp_ex X Wt K κ c Q 2 _ ((((Above.zero _).add (above_exT c 4 _ (by decide))).add (above_exT c 3 _ (by decide)))) _)
  isplitr; · iexact Hctx
  isplitl [Hp]; · iexact Hp
  isplitl [E2]
  · iapply (exIn_pre c 2)
    isplitr; · iexact Hall
    iexact E2
  isplitl [HO]; · iexact HO
  iintro ⟨Hp, E2, HO⟩
  iapply (wp_ex X Wt K κ c Q 3 _ (((Above.zero _).add (above_exT c 4 _ (by decide)))) _)
  isplitr; · iexact Hctx
  isplitl [Hp]; · iexact Hp
  isplitl [E3]
  · iapply (exIn_pre c 3)
    isplitr; · iexact Hall
    iexact E3
  isplitl [HO]; · iexact HO
  iintro ⟨Hp, E3, HO⟩
  iapply (wp_ex X Wt K κ c Q 4 _ (Above.zero _) _)
  isplitr; · iexact Hctx
  isplitl [Hp]; · iexact Hp
  isplitl [E4]
  · iapply (exIn_pre c 4)
    isplitr; · iexact Hall
    iexact E4
  isplitl [HO]; · iexact HO
  iintro ⟨Hp, E4, HO⟩
  iapply (wp_out c Q 0 0 _ f _)
  isplitl [Ho]; · iexact Ho
  iintro Ho
  iapply (wp_out c Q 1 0 _ _ _)
  isplitl [Ho]; · iexact Ho
  iintro Ho
  iapply (wp_out c Q 0 1 _ _ _)
  isplitl [Ho]; · iexact Ho
  iintro Ho
  iapply (wp_out c Q 1 1 _ _ _)
  isplitl [Ho]; · iexact Ho
  iintro Ho
  iapply (wp_done c Q)
  iapply Hk
  unfold Post
  isplitl [Hm]; · iexact Hm
  isplitl [Hp]; · iexact Hp
  isplitl [Ho]; · iexact Ho
  isplitl [HF]; · iexact HF
  isplitl [E0]; · iexact E0
  isplitl [E1]; · iexact E1
  isplitl [E2]; · iexact E2
  isplitl [E3]; · iexact E3
  isplitl [E4]; · iexact E4
  iexact HO

/-! ## The whole kernel -/

theorem wp_dev (Q : PUnit → sProp 𝕄) (k : Dev nD → PG F) : WP c (k c) Q ⊢ WP c (.op .deviceId k) Q :=
  Entails.of_eq (wp_deviceId 𝒱₀ (c : Thread nD τ) none Set.univ).symm
theorem wp_inv (Q : PUnit → sProp 𝕄) (k : BitVec 32 → PG F) :
    iprop(invPt c ∗ (invPt c -∗ WP c (k (rhoW c)) Q))
      ⊢ WP c (smemLoadElt invM (Rect.unit (s := S32) (k0_off1 c) S1.size (k0_off1_inb c)) (View.loads_smem_one rfl numel1_S1) (Shape.Idx.first (numel1_S1.symm ▸ Nat.one_pos)) k) Q := by
  iintro ⟨Hi, Hk⟩
  iapply (wp_smemLoadElt 𝒱₀ (c : Thread nD τ) none Set.univ (m := invM) (r := Rect.unit (s := S32) (k0_off1 c) S1.size (k0_off1_inb c)) (S := Finset.univ) (Finset.subset_univ _)) $$ Hi
  iintro Hi
  rw [show (invM.access (Rect.unit (s := S32) (k0_off1 c) S1.size (k0_off1_inb c))).read (Elt F)
    (fun i => lit1 (S32.rowMajor i)) (Shape.Idx.first (numel1_S1.symm ▸ Nat.one_pos)) = rhoW c from read_inv c]
  iapply Hk $$ Hi
theorem wp_sig (Q : PUnit → sProp 𝕄) (x : BitVec 32) (w : Dev nD) (h : tabW x = devW w) (k : BitVec 32 → PG F) :
    iprop(sigPt c ∗ (sigPt c -∗ WP c (k (devW w)) Q))
      ⊢ WP c (smemLoadElt sigmaM (Rect.unit (s := S32) (tabOff x) S1.size (tabOff_inb x)) (View.loads_smem_one rfl numel1_S1) (Shape.Idx.first (numel1_S1.symm ▸ Nat.one_pos)) k) Q := by
  iintro ⟨H, Hk⟩
  iapply (wp_smemLoadElt 𝒱₀ (c : Thread nD τ) none Set.univ (m := sigmaM) (r := Rect.unit (s := S32) (tabOff x) S1.size (tabOff_inb x)) (S := Finset.univ) (Finset.subset_univ _)) $$ H
  iintro H
  rw [show (sigmaM.access (Rect.unit (s := S32) (tabOff x) S1.size (tabOff_inb x))).read (Elt F)
    (fun i => lit0 (S32.rowMajor i)) (Shape.Idx.first (numel1_S1.symm ▸ Nat.one_pos)) = devW w from (read_sigma x).trans h]
  iapply Hk $$ H

/-- What a device holds for the barrier. -/
def barIn : sProp 𝕄 :=
  iprop(reached ER (barC (out 1 c)) 0 ∗ dutyTok ER (barC (out 1 c)) 0 1 ∗ reached ER (barC (out 0 c)) 0 ∗ dutyTok ER (barC (out 0 c)) 0 0
    ∗ cred (tallyAt (barC c) 0 2) ∗ atPos ER (barC c) 0 ∅ 0)
def allO : CellTallies nD τ sig ℕ := ringO c 0 0 + exO c + tallyAt (barC (out 0 c)) 0 1 + tallyAt (barC (out 1 c)) 0 1

theorem above_ringO (b : ℕ) (h : b ≤ 2) : Above b (ringO c 0 0) :=
  (((above_stO 0 0 0 0 b (by omega) (by omega) c).add (above_stO 1 0 0 0 b (by omega) (by omega) c)).add (above_stO 0 1 0 0 b (by omega) (by omega) c)).add (above_stO 1 1 0 0 b (by omega) (by omega) c)
theorem above_bar (q : Dev nD) : Above 1 (tallyAt (barC q) 0 1) := Above.tally (by omega) (by rw [cls_bar]; exact le_rfl)
theorem above_allO : Above 1 (allO c) :=
  (((above_ringO c 1 (by omega)).add (above_exO c 1 (by omega))).add (above_bar _)).add (above_bar _)

theorem dev_devW (q : Dev nD) (h : devN (devW q) < nD) : (⟨devN (devW q), h⟩ : Dev nD) = q := Fin.ext (devN_devW q)

theorem wp_body (Q : PUnit → sProp 𝕄) (f : Buf (Elt F) (oM.view.loc (c : Thread nD τ))) :
    iprop(ctx X Wt K κ ∗ ent c ∗ mem X Wt c ∗ invPt c ∗ pbitPt c ∗ oPt c f ∗ barIn c ∗ In4 c ∗ exIn c 0 ∗ exIn c 1 ∗ exIn c 2 ∗ exIn c 3 ∗ exIn c 4
        ∗ ow c (allO c) ∗ ((Post X Wt c f ∗ invPt c ∗ atPos ER (barC c) 1 ∅ 0) -∗ Q ⟨⟩))
      ⊢ WP c body Q := by
  unfold barIn allO
  iintro ⟨#Hctx, #Hec, Hm, Hi, Hp, Ho, ⟨B1, B2, B3, B4, B5, B6⟩, HI, E0, E1, E2, E3, E4, HO, Hk⟩
  unfold body
  iapply (wp_dev c Q _)
  iapply (wp_inv c Q _)
  isplitl [Hi]; · iexact Hi
  iintro Hi
  iapply (wp_assume 𝒱₀ (c : Thread nD τ) none Set.univ (chk1_rhoW c))
  unfold mem
  icases Hm with ⟨Hs, Hxw⟩
  iapply (wp_sig c Q _ (out 0 c) (tabW_right c) _)
  isplitl [Hs]; · iexact Hs
  iintro Hs
  iapply (wp_assume 𝒱₀ (c : Thread nD τ) none Set.univ (chk3_devW (out 0 c)))
  iapply (wp_sig c Q _ (out 1 c) (tabW_left c) _)
  isplitl [Hs]; · iexact Hs
  iintro Hs
  iapply (wp_assume 𝒱₀ (c : Thread nD τ) none Set.univ (chk2_devW (out 1 c)))
  iapply (wp_barSignal X Wt K κ c Q 1 _ _ (dev_devW (out 1 c) _) _ _)
  isplitr; · iexact Hctx
  isplitr; · iexact Hec
  isplitl [B1]; · iexact B1
  isplitl [B2]; · iexact B2
  isplitl [HO]; · iexact HO
  iintro HO
  iapply (wp_barSignal X Wt K κ c Q 0 _ _ (dev_devW (out 0 c) _) _ _)
  isplitr; · iexact Hctx
  isplitr; · iexact Hec
  isplitl [B3]; · iexact B3
  isplitl [B4]; · iexact B4
  isplitl [HO]; · iexact HO
  iintro HO
  iapply (wp_barWait X Wt K κ c Q _ ((above_ringO c 2 le_rfl).add (above_exO c 2 (by omega))) _)
  isplitr; · iexact Hctx
  isplitl [B5]; · iexact B5
  isplitl [HO]; · iexact HO
  isplitl [B6]; · iexact B6
  iintro ⟨HO, B6, #He0, #He1⟩
  ihave Hkn : know X Wt K κ c $$ []
  · unfold know
    isplitr; · iexact Hctx
    isplitr; · iexact Hec
    isplitr; · iexact He0
    iexact He1
  icases Hkn with #Hkn
  iapply (wp_first X Wt K κ c _ _ (dev_devW (out 0 c) _) _ _ (dev_devW (out 1 c) _) Q _ _)
  isplitr; · iexact Hkn
  isplitl [Hs Hxw]
  · unfold mem
    isplitl [Hs]; · iexact Hs
    iexact Hxw
  isplitl [HI]; · iexact HI
  isplitl [HO]; · iexact HO
  iintro ⟨Hm, HS, HO⟩
  iapply (wp_steps X Wt K κ c _ _ (dev_devW (out 0 c) _) _ _ (dev_devW (out 1 c) _) Q _ (above_exO c 63 (by omega)) _ 30 0 rfl)
  isplitr; · iexact Hkn
  isplitl [Hm]; · iexact Hm
  isplitl [HS]; · iexact HS
  isplitl [HO]; · iexact HO
  iintro ⟨Hm, HS, HO⟩
  rw [ringO_end]
  iapply (wp_fin X Wt K κ c Q _ (above_exO c 63 (by omega)) _)
  isplitr; · iexact Hkn
  isplitl [Hm]; · iexact Hm
  isplitl [HS]; · iexact HS
  isplitl [HO]; · iexact HO
  iintro ⟨Hm, HF, Hall, HO⟩
  iapply (wp_tail X Wt K κ c Q f)
  isplitr; · iexact Hctx
  isplitl [Hm]; · iexact Hm
  isplitl [Hp]; · iexact Hp
  isplitl [Ho]; · iexact Ho
  isplitl [HF]; · iexact HF
  isplitl [Hall]; · iexact Hall
  isplitl [E0]; · iexact E0
  isplitl [E1]; · iexact E1
  isplitl [E2]; · iexact E2
  isplitl [E3]; · iexact E3
  isplitl [E4]; · iexact E4
  isplitl [HO]; · iexact HO
  iintro HP
  iapply Hk
  isplitl [HP]; · iexact HP
  isplitl [Hi]; · iexact Hi
  iexact B6

end Cert.KernelIdeal.RS

end
-- ==== Proof.Split.lean ====
/- The buffers of the kernel cut into their slots, and the slots joined again. -/
module

public import proofs.«01_k».proof.Proof.Body

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

/-- The elements of a slot, of a tile of the exchange buffers. -/
abbrev slotR (x : Fin 2 × Fin 2) : Finset S2x2x128x512.Idx := (Rect.unit (s := S2x2x128x512) (slotOff x.1 x.2) S1x1x128x512.size (slotOff_inb x.1 x.2)).set
abbrev exR (r : Fin 5) : Finset S5x8x128.Idx := (Rect.unit (s := S5x8x128) (exOff r) S1x8x128.size (exOff_inb r)).set

theorem mem_slotR (x : Fin 2 × Fin 2) (i : S2x2x128x512.Idx) : i ∈ slotR x ↔ (i 0).val = x.1.val ∧ (i 1).val = x.2.val := by
  unfold slotR
  rw [Rect.mem_set_unit]
  have h2 : (i 2).val < 128 := (i 2).isLt
  have h3 : (i 3).val < 512 := (i 3).isLt
  constructor
  · intro h
    have a0 := h 0
    have a1 := h 1
    have e0 : slotOff x.1 x.2 0 = x.1.val := rfl
    have e1 : slotOff x.1 x.2 1 = x.2.val := rfl
    have s0 : S1x1x128x512.size 0 = 1 := rfl
    have s1 : S1x1x128x512.size 1 = 1 := rfl
    rw [e0, s0] at a0; rw [e1, s1] at a1
    constructor <;> omega
  · rintro ⟨h0, h1⟩ a
    fin_cases a
    · show x.1.val ≤ (i 0).val ∧ (i 0).val < x.1.val + 1; omega
    · show x.2.val ≤ (i 1).val ∧ (i 1).val < x.2.val + 1; omega
    · show 0 ≤ (i 2).val ∧ (i 2).val < 0 + 128; omega
    · show 0 ≤ (i 3).val ∧ (i 3).val < 0 + 512; omega
theorem mem_exR (r : Fin 5) (i : S5x8x128.Idx) : i ∈ exR r ↔ (i 0).val = r.val := by
  unfold exR
  rw [Rect.mem_set_unit]
  have h1 : (i 1).val < 8 := (i 1).isLt
  have h2 : (i 2).val < 128 := (i 2).isLt
  constructor
  · intro h
    have a0 := h 0
    have e0 : exOff r 0 = r.val := rfl
    have s0 : S1x8x128.size 0 = 1 := rfl
    rw [e0, s0] at a0
    omega
  · intro h0 a
    fin_cases a
    · show r.val ≤ (i 0).val ∧ (i 0).val < r.val + 1; omega
    · show 0 ≤ (i 1).val ∧ (i 1).val < 0 + 8; omega
    · show 0 ≤ (i 2).val ∧ (i 2).val < 0 + 128; omega

theorem slotR_disj (x y : Fin 2 × Fin 2) (h : x ≠ y) : Disjoint (slotR x) (slotR y) := Finset.disjoint_left.mpr fun i hx hy => by
  rw [mem_slotR] at hx hy
  exact h (Prod.ext (Fin.ext (hx.1.symm.trans hy.1)) (Fin.ext (hx.2.symm.trans hy.2)))
theorem slotR_cover : Finset.univ.biUnion slotR = Finset.univ := by
  ext i
  simp only [Finset.mem_biUnion, Finset.mem_univ, true_and, iff_true]
  exact ⟨(⟨(i 0).val, (i 0).isLt⟩, ⟨(i 1).val, (i 1).isLt⟩), (mem_slotR _ i).mpr ⟨rfl, rfl⟩⟩
theorem exR_disj (r r' : Fin 5) (h : r ≠ r') : Disjoint (exR r) (exR r') := Finset.disjoint_left.mpr fun i hx hy => by
  rw [mem_exR] at hx hy
  exact h (Fin.ext (hx.symm.trans hy))
theorem exR_cover : Finset.univ.biUnion exR = Finset.univ := by
  ext i
  simp only [Finset.mem_biUnion, Finset.mem_univ, true_and, iff_true]
  exact ⟨⟨(i 0).val, (i 0).isLt⟩, (mem_exR _ i).mpr rfl⟩

/-! ## Any whole buffer of slots -/

section Gen
variable (m : Memref sig .tc .vmem S2x2x128x512 .f32) (a : Memref sig .tc .vmem S5x8x128 .f32)

theorem slot_loc (s b : Fin 2) (c : Dev nD) : (slotM m s b).view.loc (c : Thread nD τ) = m.view.loc (c : Thread nD τ) := rfl
theorem slotSet (x : Fin 2 × Fin 2) : (slotM m x.1 x.2).view.set = (slotR x).map m.view.emb :=
  (View.set_reshape _ _).trans (View.set_slice m.view _)
theorem exSet (r : Fin 5) : (exM a r).view.set = (exR r).map a.view.emb :=
  (View.set_reshape _ _).trans (View.set_slice a.view _)
theorem slotSet_disj (x y : Fin 2 × Fin 2) (h : x ≠ y) : Disjoint ((slotM m x.1 x.2).view.set) ((slotM m y.1 y.2).view.set) := by
  rw [slotSet, slotSet]; exact (Finset.disjoint_map _).mpr (slotR_disj x y h)
theorem exSet_disj (x y : Fin 5) (h : x ≠ y) : Disjoint ((exM a x).view.set) ((exM a y).view.set) := by
  rw [exSet, exSet]; exact (Finset.disjoint_map _).mpr (exR_disj x y h)
def sset (x : Fin 2 × Fin 2) : Finset m.view.ty.Idx := (slotM m x.1 x.2).view.set
def xset (r : Fin 5) : Finset a.view.ty.Idx := (exM a r).view.set
theorem slotSet_cover (hm : m.view.set = Finset.univ) : Finset.univ.biUnion (sset m) = Finset.univ := by
  rw [← hm]
  unfold sset
  simp only [slotSet]
  ext i
  rw [Finset.mem_biUnion]
  constructor
  · rintro ⟨x, -, h⟩
    obtain ⟨j, -, rfl⟩ := Finset.mem_map.mp h
    exact Finset.mem_map_of_mem _ (Finset.mem_univ j)
  · intro h
    obtain ⟨j, -, rfl⟩ := Finset.mem_map.mp h
    have hj : j ∈ Finset.univ.biUnion slotR := by rw [slotR_cover]; exact Finset.mem_univ j
    obtain ⟨x, hx, hj⟩ := Finset.mem_biUnion.mp hj
    exact ⟨x, hx, Finset.mem_map_of_mem _ hj⟩
theorem exSet_cover (hm : a.view.set = Finset.univ) : Finset.univ.biUnion (xset a) = Finset.univ := by
  rw [← hm]
  unfold xset
  simp only [exSet]
  ext i
  rw [Finset.mem_biUnion]
  constructor
  · rintro ⟨x, -, h⟩
    obtain ⟨j, -, rfl⟩ := Finset.mem_map.mp h
    exact Finset.mem_map_of_mem _ (Finset.mem_univ j)
  · intro h
    obtain ⟨j, -, rfl⟩ := Finset.mem_map.mp h
    have hj : j ∈ Finset.univ.biUnion exR := by rw [exR_cover]; exact Finset.mem_univ j
    obtain ⟨x, hx, hj⟩ := Finset.mem_biUnion.mp hj
    exact ⟨x, hx, Finset.mem_map_of_mem _ hj⟩

variable (c : Dev nD)

/-- A whole buffer at some contents. -/
abbrev anyAt {s : Shape} (m : Memref sig .tc .vmem s .f32) (c : Dev nD) : sProp 𝕄 :=
  iprop(∃ f : Buf (Elt F) (m.view.loc (c : Thread nD τ)), (m.view.loc (c : Thread nD τ)) ↦{fullShare} f)

theorem split_slots (hm : m.view.set = Finset.univ) : (anyAt m c : sProp 𝕄) ⊢ bigSep Finset.univ fun x : Fin 2 × Fin 2 => slotAt (slotM m x.1 x.2) c := by
  iintro ⟨%f, H⟩
  have e : (bigSep Finset.univ fun x : Fin 2 × Fin 2 => (m.view.loc (c : Thread nD τ) ↦[sset m x]{fullShare} f : sProp 𝕄))
      ⊢ bigSep Finset.univ fun x : Fin 2 × Fin 2 => slotAt (slotM m x.1 x.2) c := bigSep_mono fun x _ => by
    show (m.view.loc (c : Thread nD τ) ↦[sset m x]{fullShare} f : sProp 𝕄) ⊢ Release.slot (m.view.loc (c : Thread nD τ)) (sset m x)
    unfold Release.slot; iintro H; iexists f; iexact H
  iapply e
  iapply (Entails.of_eq (Ring.pointsTo_blocks (ℓ := m.view.loc (c : Thread nD τ)) (sset m) (slotSet_disj m) (slotSet_cover m hm) f)) $$ H
theorem join_slots (hm : m.view.set = Finset.univ) [Nonempty (Buf (Elt F) (m.view.loc (c : Thread nD τ)))] :
    (bigSep Finset.univ fun x : Fin 2 × Fin 2 => slotAt (slotM m x.1 x.2) c) ⊢ (anyAt m c : sProp 𝕄) :=
  Ring.pointsTo_blocks_join_exists (ℓ := m.view.loc (c : Thread nD τ)) (sset m)
    (slotSet_disj m) (slotSet_cover m hm) (Classical.arbitrary _)
theorem split_ex (hm : a.view.set = Finset.univ) : (anyAt a c : sProp 𝕄) ⊢ bigSep Finset.univ fun r : Fin 5 => exAt (exM a r) c := by
  iintro ⟨%f, H⟩
  have e : (bigSep Finset.univ fun x : Fin 5 => (a.view.loc (c : Thread nD τ) ↦[xset a x]{fullShare} f : sProp 𝕄))
      ⊢ bigSep Finset.univ fun r : Fin 5 => exAt (exM a r) c := bigSep_mono fun x _ => by
    show (a.view.loc (c : Thread nD τ) ↦[xset a x]{fullShare} f : sProp 𝕄) ⊢ Release.slot (a.view.loc (c : Thread nD τ)) (xset a x)
    unfold Release.slot; iintro H; iexists f; iexact H
  iapply e
  iapply (Entails.of_eq (Ring.pointsTo_blocks (ℓ := a.view.loc (c : Thread nD τ)) (xset a) (exSet_disj a) (exSet_cover a hm) f)) $$ H
theorem join_ex (hm : a.view.set = Finset.univ) [Nonempty (Buf (Elt F) (a.view.loc (c : Thread nD τ)))] :
    (bigSep Finset.univ fun r : Fin 5 => exAt (exM a r) c) ⊢ (anyAt a c : sProp 𝕄) :=
  Ring.pointsTo_blocks_join_exists (ℓ := a.view.loc (c : Thread nD τ)) (xset a)
    (exSet_disj a) (exSet_cover a hm) (Classical.arbitrary _)

end Gen

theorem sM_set : ∀ d : Fin 2, (sM d).view.set = Finset.univ := fun | 0 => View.set_whole _ | 1 => View.set_whole _
theorem rM_set : ∀ d : Fin 2, (rM d).view.set = Finset.univ := fun | 0 => View.set_whole _ | 1 => View.set_whole _
theorem asM_set : asM.view.set = Finset.univ := View.set_whole _
theorem arM_set : arM.view.set = Finset.univ := View.set_whole _
instance buf_ne (ℓ : Loc nD τ sig) [∀ e, Nonempty (Elt F e)] : Nonempty (Buf (Elt F) ℓ) := ⟨fun _ => Classical.arbitrary _⟩

variable (c : Dev nD)

/-- The scratch buffers of the kernel, at some contents. -/
theorem scratch_eq : (Pipeline.scopedRest (Ix := ℕ) (Name := ℕ) (U := UU) (Lvl := ℕ) (Val := Elt F) spec0 c : sProp 𝕄)
    = iprop(anyAt (sM 0) c ∗ anyAt (rM 0) c ∗ anyAt (sM 1) c ∗ anyAt (rM 1) c ∗ anyAt asM c ∗ anyAt arM c) := Gen.scopedRest0_eq c

theorem sep_two {M : Type} [URA M] (Φ : Fin 2 → sProp M) : bigSep Finset.univ Φ = iprop(Φ 0 ∗ Φ 1) := BI.bigSep_fin_two Φ
/-- A family over three bits as a family over two of pairs. -/
theorem sep_pairs {M : Type} [URA M] (Φ : Fin 2 × Fin 2 × Fin 2 → sProp M) :
    bigSep Finset.univ Φ = bigSep Finset.univ fun y : Fin 2 × Fin 2 => iprop(Φ (y.1, y.2, 0) ∗ Φ (y.1, y.2, 1)) := by
  rw [bigSep_univ_prod, bigSep_univ_prod]
  refine bigSep_congr fun d _ => ?_
  rw [bigSep_univ_prod]
  exact bigSep_congr fun s _ => sep_two _

def sSlots (c : Dev nD) : sProp 𝕄 := bigSep Finset.univ fun x : Fin 2 × Fin 2 × Fin 2 => slotAt (slotM (sM x.1) x.2.1 x.2.2) c
def rSlots (c : Dev nD) : sProp 𝕄 := bigSep Finset.univ fun x : Fin 2 × Fin 2 × Fin 2 => slotAt (slotM (rM x.1) x.2.1 x.2.2) c
def asSlots (c : Dev nD) : sProp 𝕄 := bigSep Finset.univ fun r : Fin 5 => exAt (exM asM r) c
def arSlots (c : Dev nD) : sProp 𝕄 := bigSep Finset.univ fun r : Fin 5 => exAt (exM arM r) c

theorem scratch_split : (Pipeline.scopedRest (Ix := ℕ) (Name := ℕ) (U := UU) (Lvl := ℕ) (Val := Elt F) spec0 c : sProp 𝕄)
    ⊢ iprop(sSlots c ∗ rSlots c ∗ asSlots c ∗ arSlots c) := by
  rw [scratch_eq]
  unfold sSlots rSlots asSlots arSlots
  rw [bigSep_univ_prod, bigSep_univ_prod, sep_two, sep_two]
  iintro ⟨S0, R0, S1, R1, A, B⟩
  isplitl [S0 S1]
  · isplitl [S0]
    · iapply (split_slots (sM 0) c (sM_set 0)) $$ S0
    · iapply (split_slots (sM 1) c (sM_set 1)) $$ S1
  isplitl [R0 R1]
  · isplitl [R0]
    · iapply (split_slots (rM 0) c (rM_set 0)) $$ R0
    · iapply (split_slots (rM 1) c (rM_set 1)) $$ R1
  isplitl [A]
  · iapply (split_ex asM c asM_set) $$ A
  · iapply (split_ex arM c arM_set) $$ B
theorem scratch_join [∀ e, Nonempty (Elt F e)] : iprop(sSlots c ∗ rSlots c ∗ asSlots c ∗ arSlots c)
    ⊢ (Pipeline.scopedRest (Ix := ℕ) (Name := ℕ) (U := UU) (Lvl := ℕ) (Val := Elt F) spec0 c : sProp 𝕄) := by
  rw [scratch_eq]
  unfold sSlots rSlots asSlots arSlots
  rw [bigSep_univ_prod, bigSep_univ_prod, sep_two, sep_two]
  iintro ⟨⟨S0, S1⟩, ⟨R0, R1⟩, A, B⟩
  isplitl [S0]; · iapply (join_slots (sM 0) c (sM_set 0)) $$ S0
  isplitl [R0]; · iapply (join_slots (rM 0) c (rM_set 0)) $$ R0
  isplitl [S1]; · iapply (join_slots (sM 1) c (sM_set 1)) $$ S1
  isplitl [R1]; · iapply (join_slots (rM 1) c (rM_set 1)) $$ R1
  isplitl [A]; · iapply (join_ex asM c asM_set) $$ A
  iapply (join_ex arM c arM_set) $$ B

end Cert.KernelIdeal.RS

end
-- ==== Proof.Entry.lean ====
/- A device enters the region with its cells opened and leaves it with its cells closed: what the whole run of the kernel
   takes and what it gives back. -/
module

public import proofs.«01_k».proof.Proof.Split

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (X : Dev nD → FVec F S4096x128 .f32) (Wt : Dev nD → FVec F S128x2048 .f32)
variable (K : GSem nD τ sig → ℕ) (κ : Key → ℕ)

/-! ## Families -/

section Fam
variable {I : Type} [Fintype I] [DecidableEq I]
theorem famPair {Φ Ψ : I → sProp 𝕄} : iprop(bigSep Finset.univ Φ ∗ bigSep Finset.univ Ψ) ⊢ bigSep Finset.univ fun i => iprop(Φ i ∗ Ψ i) :=
  Entails.of_eq (bigSep_sep' _ _ _).symm
theorem famCut {Φ Ψ : I → sProp 𝕄} : (bigSep Finset.univ fun i => iprop(Φ i ∗ Ψ i)) ⊢ iprop(bigSep Finset.univ Φ ∗ bigSep Finset.univ Ψ) :=
  Entails.of_eq (bigSep_sep' _ _ _)
theorem famMono {Φ Ψ : I → sProp 𝕄} (h : ∀ i, Φ i ⊢ Ψ i) : bigSep Finset.univ Φ ⊢ bigSep Finset.univ Ψ := bigSep_mono fun i _ => h i
theorem famUpd {R : sProp 𝕄} [BI.Persistent R] {Φ Ψ : I → sProp 𝕄} (h : ∀ i, iprop(R ∗ Φ i) ⊢ iprop(|={Set.univ}=> Ψ i)) :
    iprop(R ∗ bigSep Finset.univ Φ) ⊢ (|={Set.univ}=> bigSep Finset.univ Ψ : sProp 𝕄) :=
  (bigSep_with_persistent fun i _ => h i).trans (bigSep_fupd _ _)
end Fam

theorem fam5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem fam4 (Φ : Fin 2 × Fin 2 → sProp 𝕄) : bigSep Finset.univ Φ = iprop(Φ (0, 0) ∗ Φ (1, 0) ∗ Φ (0, 1) ∗ Φ (1, 1)) :=
  bigSep_univ_eq_bigSepL [(0, 0), (1, 0), (0, 1), (1, 1)] (by decide) (by decide) Φ

/-! ## The semaphores by kind -/

abbrev B2 : Type := Fin 2 × Fin 2
abbrev B3 : Type := Fin 2 × Fin 2 × Fin 2
abbrev CI : Type := B2 ⊕ B3 ⊕ B3 ⊕ Fin 5 ⊕ Fin 5
def ciF : CI → Fin 30
  | .inl x => icr x.1 x.2
  | .inr (.inl x) => isnd x.1 x.2.1 x.2.2
  | .inr (.inr (.inl x)) => ircv x.1 x.2.1 x.2.2
  | .inr (.inr (.inr (.inl r))) => iexs r
  | .inr (.inr (.inr (.inr r))) => iexr r
theorem ciF_bij : Function.Bijective ciF := by decide +kernel
def ciE : CI ≃ Fin 30 := Equiv.ofBijective ciF ciF_bij

theorem famCells (c : Dev nD) (Φ : GSem nD τ sig → sProp 𝕄) :
    (bigSep Finset.univ fun i : Fin 30 => Φ ((c : Thread nD τ), osem i))
      = iprop((bigSep Finset.univ fun x : B2 => Φ (crC c x.1 x.2)) ∗ (bigSep Finset.univ fun x : B3 => Φ (sndC c x.1 x.2.1 x.2.2))
        ∗ (bigSep Finset.univ fun x : B3 => Φ (rcvC c x.1 x.2.1 x.2.2)) ∗ (bigSep Finset.univ fun r : Fin 5 => Φ (exsC c r))
        ∗ (bigSep Finset.univ fun r : Fin 5 => Φ (exrC c r))) := by
  rw [bigSep_univ_equiv ciE, bigSep_univ_sum, bigSep_univ_sum, bigSep_univ_sum, bigSep_univ_sum]
  have e1 : ∀ x : B2, osem (ciE (.inl x)) = crL x.1 x.2 := fun x => osem_cr x.1 x.2
  have e2 : ∀ x : B3, osem (ciE (.inr (.inl x))) = sndL x.1 x.2.1 x.2.2 := fun x => osem_snd x.1 x.2.1 x.2.2
  have e3 : ∀ x : B3, osem (ciE (.inr (.inr (.inl x)))) = rcvL x.1 x.2.1 x.2.2 := fun x => osem_rcv x.1 x.2.1 x.2.2
  have e4 : ∀ r : Fin 5, osem (ciE (.inr (.inr (.inr (.inl r))))) = exsL r := osem_exs
  have e5 : ∀ r : Fin 5, osem (ciE (.inr (.inr (.inr (.inr r))))) = exrL r := osem_exr
  simp only [e1, e2, e3, e4, e5]
  rfl

/-! ## What a device brings -/

/-- A cell just opened. -/
abbrev atR (g : GSem nD τ sig) : sProp 𝕄 := iprop(atPos ER g 0 ∅ 0 ∗ reached ER g 0)
def opened (c : Dev nD) : sProp 𝕄 := bigSep Finset.univ fun i : Fin 30 => atR ((c : Thread nD τ), osem i)
def shut (c : Dev nD) : sProp 𝕄 := bigSep Finset.univ fun i : Fin 30 => openTok ER ((c : Thread nD τ), osem i)
def readers (c : Dev nD) : sProp 𝕄 :=
  iprop((bigSep Finset.univ fun x : B3 => Release.readerAt ES (Sum.inl (c, x)) 0) ∗ (bigSep Finset.univ fun r : Fin 5 => Release.readerAt ES (Sum.inr (c, r)) 0))
/-- The rights and credits of a half ring. -/
def ringTok (d s : Fin 2) (c : Dev nD) : sProp 𝕄 :=
  iprop(tks d s 0 c ∗ gvs d s 0 c ∗ arr d s 0 c ∗ bigSep (Finset.Ico 0 29) fun k => cred (tallyAt (crC c d s) k 1))
def exTok (r : Fin 5) (c : Dev nD) : sProp 𝕄 :=
  iprop(dutyTok ER (exsC c r) 0 0 ∗ dutyTok ER (exrC (prt r c) r) 0 0 ∗ Release.writeTok ES (Sum.inr (prt r c, r)) 1 ∗ cred (tallyAt (exrC c r) 0 NX))
def rights (c : Dev nD) : sProp 𝕄 :=
  iprop((bigSep Finset.univ fun x : B2 => ringTok x.1 x.2 c) ∗ (bigSep Finset.univ fun r : Fin 5 => exTok r c))

variable (c : Dev nD)

theorem scell_at (i : Fin 30) : ctx X Wt K κ ⊢ cellInv ER (Rd X Wt) (K ((c : Thread nD τ), osem i)) ((c : Thread nD τ), osem i) :=
  ctx_cell X Wt K κ (scell_mem i rfl)

theorem open_cells : iprop(ctx X Wt K κ ∗ shut c ∗ Pipeline.ownSems0 osem c) ⊢ (|={Set.univ}=> opened c : sProp 𝕄) := by
  unfold shut opened Pipeline.ownSems0
  have h : ∀ i : Fin 30, iprop(ctx X Wt K κ ∗ (openTok ER ((c : Thread nD τ), osem i) ∗ semVal ((c : Thread nD τ), osem i) 0))
      ⊢ (|={Set.univ}=> atR ((c : Thread nD τ), osem i) : sProp 𝕄) := fun i => by
    iintro ⟨#Hctx, Ho, Hv⟩
    iapply (Rounds.cell_open ER (Rd X Wt) (g := ((c : Thread nD τ), osem i)) (Set.mem_univ (K ((c : Thread nD τ), osem i))))
    isplitr; · iapply (scell_at X Wt K κ c i) $$ Hctx
    isplitl [Ho] <;> iassumption
  iintro ⟨#Hctx, Ho, Hv⟩
  iapply (famUpd h)
  isplitr; · iexact Hctx
  iapply famPair
  isplitl [Ho] <;> iassumption

/-! ## Entry -/

theorem enter_rcv (x : B3) : iprop(ctx X Wt K κ ∗ (atR (rcvC c x.1 x.2.1 x.2.2) ∗ Release.readerAt ES (Sum.inl (c, x)) 0 ∗ slotAt (slotM (rM x.1) x.2.1 x.2.2) c))
    ⊢ (|={Set.univ}=> ((atPos ER (rcvC c x.1 x.2.1 x.2.2) 0 ∅ 0 ∗ Release.readerAt ES (Sum.inl (c, x)) 1) ∗ rel c x.1 x.2.1 x.2.2 1) : sProp 𝕄) := by
  obtain ⟨d, s, b⟩ := x
  dsimp only
  iintro ⟨#Hctx, ⟨Hat, #Hr⟩, Hrd, Hs⟩
  imod (release X Wt K κ c d s b 0) $$ [Hrd Hs] with ⟨Hrd, Hrl⟩
  · isplitr; · iexact Hctx
    isplitl [Hrd] <;> iassumption
  imodintro
  isplitl [Hat Hrd]
  · isplitl [Hat] <;> iassumption
  unfold rel
  isplitl [Hrl]; · iexact Hrl
  iexact Hr

theorem enter_ex (r : Fin 5) : iprop(ctx X Wt K κ ∗ (atR (exrC c r) ∗ Release.readerAt ES (Sum.inr (c, r)) 0 ∗ exAt (exM arM r) c))
    ⊢ (|={Set.univ}=> (atPos ER (exrC c r) 0 ∅ 0 ∗ relX c r) : sProp 𝕄) := by
  iintro ⟨#Hctx, ⟨Hat, #Hr⟩, Hrd, Hs⟩
  imod (Release.slot_release ES (ι := κ (Sum.inr (c, r))) (k := Sum.inr (c, r)) (S := Sl (Sum.inr (c, r))) (Set.mem_univ _) (Sl_excl _) 0) $$ [Hrd Hs] with ⟨Hrd, Hrl⟩
  · isplitr; · iapply (ctx_slot X Wt K κ _) $$ Hctx
    isplitl [Hrd]; · iexact Hrd
    rw [Sl_inr]; iexact Hs
  imodintro
  isplitl [Hat]; · iexact Hat
  unfold relX
  isplitl [Hrl]; · iexact Hrl
  iexact Hr

theorem enter_ring (x : B2) :
    iprop(ent c ∗ (atR (crC c x.1 x.2)
      ∗ ((atPos ER (rcvC c x.1 x.2 0) 0 ∅ 0 ∗ Release.readerAt ES (Sum.inl (c, x.1, x.2, 0)) 1) ∗ (atPos ER (rcvC c x.1 x.2 1) 0 ∅ 0 ∗ Release.readerAt ES (Sum.inl (c, x.1, x.2, 1)) 1))
      ∗ ((slotAt (slotM (sM x.1) x.2 0) c ∗ atR (sndC c x.1 x.2 0)) ∗ (slotAt (slotM (sM x.1) x.2 1) c ∗ atR (sndC c x.1 x.2 1)))
      ∗ ringTok x.1 x.2 c))
    ⊢ (In x.1 x.2 c : sProp 𝕄) := by
  obtain ⟨d, s⟩ := x
  dsimp only
  unfold In rk free ringTok rels
  rw [hold_le c d s 0 (by omega), hold_le c d s 1 (by omega), crd_le c d s 0 (by omega)]
  iintro ⟨#He, ⟨Hc, -⟩, ⟨⟨R0, R0'⟩, ⟨R1, R1'⟩⟩, ⟨⟨S0, S0', S0r⟩, ⟨S1, S1', S1r⟩⟩, ⟨T1, T2, T3, T4⟩⟩
  isplitl [R0 R0']
  · isplitl [R0]; · iexact R0
    iexact R0'
  isplitl [R1 R1']
  · isplitl [R1]; · iexact R1
    iexact R1'
  isplitl [T3]; · iexact T3
  isplitr
  · isplitr
    · iapply (ent_rel c d s 0) $$ He
    · iapply (ent_rel c d s 1) $$ He
  isplitl [S0 S0' S0r]
  · isplitl [S0]; · iexact S0
    isplitl [S0']; · iexact S0'
    iexact S0r
  isplitl [S1 S1' S1r]
  · isplitl [S1]; · iexact S1
    isplitl [S1']; · iexact S1'
    iexact S1r
  isplitl [T1]; · iexact T1
  isplitl [T2]; · iexact T2
  iexists ∅
  isplitl [Hc]; · iexact Hc
  isplitr; · rw [BI.bigSep_empty]; iempintro
  iexact T4

/-- What the run of the kernel takes of the rings and the exchange. -/
def inside (c : Dev nD) : sProp 𝕄 := iprop(ent c ∗ In4 c ∗ exIn c 0 ∗ exIn c 1 ∗ exIn c 2 ∗ exIn c 3 ∗ exIn c 4)

theorem enter :
    iprop(ctx X Wt K κ ∗ Pipeline.scopedRest (Ix := ℕ) (Name := ℕ) (U := UU) (Lvl := ℕ) (Val := Elt F) spec0 c ∗ opened c ∗ readers c ∗ rights c)
      ⊢ (|={Set.univ}=> inside c : sProp 𝕄) := by
  have hEx : ∀ r : Fin 5, iprop(emp ∗ (exAt (exM asM r) c ∗ atR (exsC c r) ∗ atPos ER (exrC c r) 0 ∅ 0 ∗ exTok r c)) ⊢ (exIn c r : sProp 𝕄) := fun r => by
    unfold exIn exTok
    iintro ⟨-, H1, ⟨H6, H2⟩, H7, H3, H4, H5, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  unfold opened readers rights
  iintro ⟨#Hctx, Hsc, Hop, ⟨Hrd, HrdX⟩, ⟨Hring, Hex⟩⟩
  ihave Hsc' := (scratch_split c) $$ Hsc
  icases Hsc' with ⟨Ss, Sr, Sas, Sar⟩
  ihave Hop' := (Entails.of_eq (famCells c atR)) $$ Hop
  icases Hop' with ⟨Ocr, Osnd, Orcv, Oexs, Oexr⟩
  unfold sSlots rSlots asSlots arSlots
  imod (famUpd (enter_rcv X Wt K κ c)) $$ [Orcv Hrd Sr] with Hrcv
  · isplitr; · iexact Hctx
    iapply famPair
    isplitl [Orcv]; · iexact Orcv
    iapply famPair
    isplitl [Hrd] <;> iassumption
  imod (famUpd (enter_ex X Wt K κ c)) $$ [Oexr HrdX Sar] with Hexr
  · isplitr; · iexact Hctx
    iapply famPair
    isplitl [Oexr]; · iexact Oexr
    iapply famPair
    isplitl [HrdX] <;> iassumption
  imodintro
  ihave H1 := famCut $$ Hrcv
  icases H1 with ⟨Hrcv, #Hrel⟩
  ihave H2 := famCut $$ Hexr
  icases H2 with ⟨Hexr, #HrelX⟩
  ihave H3 := famCut $$ Ocr
  icases H3 with ⟨Hcr, #Hcrr⟩
  ihave #He : (ent c : sProp 𝕄) $$ []
  · unfold ent
    isplitr; · iexact Hcrr
    isplitr; · iexact Hrel
    iexact HrelX
  unfold inside
  isplitr; · iexact He
  isplitr [Sas Oexs Hexr Hex]
  · unfold In4
    iapply (Entails.of_eq (fam4 fun x => In x.1 x.2 c))
    iapply (bigSep_with_persistent (R := ent c) fun x _ => enter_ring c x)
    isplitr; · iexact He
    iapply famPair
    isplitl [Hcr]
    · iapply famPair
      isplitl [Hcr]; · iexact Hcr
      iexact Hcrr
    iapply famPair
    isplitl [Hrcv]
    · iapply (Entails.of_eq (sep_pairs _)) $$ Hrcv
    iapply famPair
    isplitl [Ss Osnd]
    · iapply (Entails.of_eq (sep_pairs fun x => iprop(slotAt (slotM (sM x.1) x.2.1 x.2.2) c ∗ atR (sndC c x.1 x.2.1 x.2.2))))
      iapply famPair
      isplitl [Ss] <;> iassumption
    iexact Hring
  · iapply (Entails.of_eq (fam5 fun r => exIn c r))
    iapply (bigSep_with_persistent (R := iprop(emp)) fun r _ => hEx r)
    isplitr; · iempintro
    iapply famPair
    isplitl [Sas]; · iexact Sas
    iapply famPair
    isplitl [Oexs]; · iexact Oexs
    iapply famPair
    isplitl [Hexr] <;> iassumption

/-! ## Exit -/

/-- What the run of the kernel leaves of the rings and the exchange. -/
def after (c : Dev nD) : sProp 𝕄 :=
  iprop(Fn24 c ∗ exPost c 0 ∗ exPost c 1 ∗ exPost c 2 ∗ exPost c 3 ∗ exPost c 4)

theorem close_cell {g : GSem nD τ sig} (hg : g ∈ bcells ∪ scells) (R : ℕ) (hR : ∀ r, R ≤ r → (Rd X Wt).duties g r = ∅) :
    iprop(ctx X Wt K κ ∗ atPos ER g R ∅ 0) ⊢ (|={Set.univ}=> semVal g 0 : sProp 𝕄) := by
  iintro ⟨#Hctx, Ha⟩
  iapply (Rounds.cell_close ER (Rd X Wt) (Set.mem_univ (K g)) id hR)
  isplitr; · iapply (ctx_cell X Wt K κ hg) $$ Hctx
  iexact Ha

theorem rd_duties (g : GSem nD τ sig) (r : ℕ) : (Rd X Wt).duties g r = Cert.KernelIdeal.RS.duties g r := rfl
theorem none_bar : ∀ r, 1 ≤ r → (Rd X Wt).duties (barC c) r = ∅ := fun r h => by
  rw [rd_duties]; unfold duties; rw [cls_bar]; exact if_neg (by omega)
theorem none_cr (d s : Fin 2) : ∀ r, 1 ≤ r → (Rd X Wt).duties (crC c d s) r = ∅ := fun r h => by
  rw [rd_duties]; unfold duties; rw [cls_cr]; exact if_neg (by omega)
theorem none_exs (k : Fin 5) : ∀ r, 1 ≤ r → (Rd X Wt).duties (exsC c k) r = ∅ := fun r h => by
  rw [rd_duties]; unfold duties; rw [cls_exs]; exact if_neg (by omega)
theorem none_exr (k : Fin 5) : ∀ r, 1 ≤ r → (Rd X Wt).duties (exrC c k) r = ∅ := fun r h => by
  rw [rd_duties]; unfold duties; rw [cls_exr]; exact if_neg (by omega)
/-- The round a ring cell of a slot ends at. -/
def ends (b : Fin 2) : ℕ := 16 - b.val
theorem none_snd (x : B3) : ∀ r, ends x.2.2 ≤ r → (Rd X Wt).duties (sndC c x.1 x.2.1 x.2.2) r = ∅ := fun r h => by
  rw [rd_duties]; unfold duties; rw [cls_snd]; exact if_neg (by unfold ends at h; omega)
theorem none_rcv (x : B3) : ∀ r, ends x.2.2 ≤ r → (Rd X Wt).duties (rcvC c x.1 x.2.1 x.2.2) r = ∅ := fun r h => by
  rw [rd_duties]; unfold duties; rw [cls_rcv]; exact if_neg (by unfold ends at h; omega)

theorem leave_ring (x : B2) : Fn2 c x.1 x.2 ⊢ (iprop(atPos ER (crC c x.1 x.2) 1 ∅ 0
      ∗ (atPos ER (sndC c x.1 x.2 0) (ends 0) ∅ 0 ∗ atPos ER (sndC c x.1 x.2 1) (ends 1) ∅ 0)
      ∗ (atPos ER (rcvC c x.1 x.2 0) (ends 0) ∅ 0 ∗ atPos ER (rcvC c x.1 x.2 1) (ends 1) ∅ 0)
      ∗ (slotAt (slotM (sM x.1) x.2 0) c ∗ slotAt (slotM (sM x.1) x.2 1) c)
      ∗ (slotAt (slotM (rM x.1) x.2 0) c ∗ slotAt (slotM (rM x.1) x.2 1) c)) : sProp 𝕄) := by
  obtain ⟨d, s⟩ := x
  dsimp only
  unfold Fn2 rk free
  rw [hold_gt c d s 31 (by omega), hold_gt c d s 32 (by omega), crd_gt c d s 30 (by omega)]
  iintro ⟨⟨R1, R1'⟩, ⟨R0, R0'⟩, ⟨S0, S0', -⟩, ⟨S1, S1', -⟩, HC⟩
  isplitl [HC]; · iexact HC
  isplitl [S0' S1']
  · isplitl [S0']; · iexact S0'
    iexact S1'
  isplitl [R0 R1]
  · isplitl [R0]; · iexact R0
    iexact R1
  isplitl [S0 S1]
  · isplitl [S0]; · iexact S0
    iexact S1
  isplitl [R0']; · iexact R0'
  iexact R1'

theorem leave [∀ e, Nonempty (Elt F e)] :
    iprop(ctx X Wt K κ ∗ after c ∗ atPos ER (barC c) 1 ∅ 0)
      ⊢ (|={Set.univ}=> (Pipeline.scopedRest (Ix := ℕ) (Name := ℕ) (U := UU) (Lvl := ℕ) (Val := Elt F) spec0 c
          ∗ Pipeline.ownSems0 osem c ∗ semVal (barC c) 0) : sProp 𝕄) := by
  unfold after Fn24
  iintro ⟨#Hctx, ⟨HF, HX⟩, HB⟩
  ihave HF := (Entails.of_eq (fam4 fun x => Fn2 c x.1 x.2).symm) $$ HF
  ihave HX := (Entails.of_eq (fam5 fun r => exPost c r).symm) $$ HX
  ihave HF := (famMono (leave_ring c)) $$ HF
  ihave HF := famCut $$ HF
  icases HF with ⟨Hcr, HF⟩
  ihave HF := famCut $$ HF
  icases HF with ⟨Hsnd, HF⟩
  ihave HF := famCut $$ HF
  icases HF with ⟨Hrcv, HF⟩
  ihave HF := famCut $$ HF
  icases HF with ⟨Ss, Sr⟩
  ihave Hsnd := (Entails.of_eq (sep_pairs fun x => atPos ER (sndC c x.1 x.2.1 x.2.2) (ends x.2.2) ∅ 0).symm) $$ Hsnd
  ihave Hrcv := (Entails.of_eq (sep_pairs fun x => atPos ER (rcvC c x.1 x.2.1 x.2.2) (ends x.2.2) ∅ 0).symm) $$ Hrcv
  ihave Ss := (Entails.of_eq (sep_pairs fun x => slotAt (slotM (sM x.1) x.2.1 x.2.2) c).symm) $$ Ss
  ihave Sr := (Entails.of_eq (sep_pairs fun x => slotAt (slotM (rM x.1) x.2.1 x.2.2) c).symm) $$ Sr
  unfold exPost
  ihave HX := famCut $$ HX
  icases HX with ⟨Sas, HX⟩
  ihave HX := famCut $$ HX
  icases HX with ⟨Sar, HX⟩
  ihave HX := famCut $$ HX
  icases HX with ⟨Hexs, Hexr⟩
  imod (famUpd fun x : B2 => close_cell X Wt K κ (scell_mem _ (osem_cr x.1 x.2)) 1 (none_cr X Wt c x.1 x.2)) $$ [Hcr] with Hcr
  · isplitr; · iexact Hctx
    iexact Hcr
  imod (famUpd fun x : B3 => close_cell X Wt K κ (scell_mem _ (osem_snd x.1 x.2.1 x.2.2)) (ends x.2.2) (none_snd X Wt c x)) $$ [Hsnd] with Hsnd
  · isplitr; · iexact Hctx
    iexact Hsnd
  imod (famUpd fun x : B3 => close_cell X Wt K κ (scell_mem _ (osem_rcv x.1 x.2.1 x.2.2)) (ends x.2.2) (none_rcv X Wt c x)) $$ [Hrcv] with Hrcv
  · isplitr; · iexact Hctx
    iexact Hrcv
  imod (famUpd fun r : Fin 5 => close_cell X Wt K κ (scell_mem _ (osem_exs r)) 1 (none_exs X Wt c r)) $$ [Hexs] with Hexs
  · isplitr; · iexact Hctx
    iexact Hexs
  imod (famUpd fun r : Fin 5 => close_cell X Wt K κ (scell_mem _ (osem_exr r)) 1 (none_exr X Wt c r)) $$ [Hexr] with Hexr
  · isplitr; · iexact Hctx
    iexact Hexr
  imod (close_cell X Wt K κ (bar_mem c) 1 (none_bar X Wt c)) $$ [HB] with HB
  · isplitr; · iexact Hctx
    iexact HB
  imodintro
  isplitl [Ss Sr Sas Sar]
  · iapply (scratch_join c)
    unfold sSlots rSlots asSlots arSlots
    isplitl [Ss]; · iexact Ss
    isplitl [Sr]; · iexact Sr
    isplitl [Sas]; · iexact Sas
    iexact Sar
  isplitr [HB]
  · unfold Pipeline.ownSems0
    iapply (Entails.of_eq (famCells c fun g => semVal g 0).symm)
    isplitl [Hcr]; · iexact Hcr
    isplitl [Hsnd]; · iexact Hsnd
    isplitl [Hrcv]; · iexact Hrcv
    isplitl [Hexs]; · iexact Hexs
    iexact Hexr
  iexact HB

end Cert.KernelIdeal.RS

end
-- ==== Proof.Deal.lean ====
/- Dealing at launch: of all the tokens and credits there are, each device is given those it spends. -/
module

public import proofs.«01_k».proof.Proof.Entry

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (c : Dev nD)

/-! ## Tokens -/

/-- A duty a device has to do, by what it is: barrier, send, arrival, credit, and the two of the exchange. -/
abbrev TI : Type := Fin 2 ⊕ (B2 × Fin 31) ⊕ (B2 × Fin 31) ⊕ (B2 × Fin 29) ⊕ Fin 5 ⊕ Fin 5
/-- The device whose cell the duty is at. -/
def tdev : TI → Dev nD → Dev nD
  | .inl d => out d
  | .inr (.inl _) => id
  | .inr (.inr (.inl x)) => out x.1.1
  | .inr (.inr (.inr (.inl x))) => inn x.1.1
  | .inr (.inr (.inr (.inr (.inl _)))) => id
  | .inr (.inr (.inr (.inr (.inr r)))) => prt r
def tsem : TI → SemLoc sig
  | .inl _ => barL
  | .inr (.inl x) => sndL x.1.1 x.1.2 (par x.2.val)
  | .inr (.inr (.inl x)) => rcvL x.1.1 x.1.2 (par x.2.val)
  | .inr (.inr (.inr (.inl x))) => crL x.1.1 x.1.2
  | .inr (.inr (.inr (.inr (.inl r)))) => exsL r
  | .inr (.inr (.inr (.inr (.inr r)))) => exrL r
def tnum : TI → ℕ × ℕ
  | .inl d => (0, d.val)
  | .inr (.inl x) => (x.2.val / 2, 0)
  | .inr (.inr (.inl x)) => (x.2.val / 2, 0)
  | .inr (.inr (.inr (.inl x))) => (0, x.2.val)
  | .inr (.inr (.inr (.inr (.inl _)))) => (0, 0)
  | .inr (.inr (.inr (.inr (.inr _)))) => (0, 0)
def tok (x : Dev nD × TI) : GSem nD τ sig × ℕ × ℕ := (((tdev x.2 x.1 : Thread nD τ), tsem x.2), tnum x.2)

theorem out_inj (d : Fin 2) : Function.Injective (out d) := fun a b h => by rw [← inn_out d a, h, inn_out]
theorem inn_inj (d : Fin 2) : Function.Injective (inn d) := fun a b h => by rw [← out_inn d a, h, out_inn]
theorem prt_inj (r : Fin 5) : Function.Injective (prt r) := fun a b h => by rw [← prt_prt r a, h, prt_prt]
theorem tdev_inj (i : TI) : Function.Injective (tdev i) := by
  rcases i with d | x | x | x | r | r
  · exact out_inj d
  · exact fun _ _ h => h
  · exact out_inj _
  · exact inn_inj _
  · exact fun _ _ h => h
  · exact prt_inj r

theorem par_cancel {a b : ℕ} (h1 : par a = par b) (h2 : a / 2 = b / 2) : a = b := by
  have := congrArg Fin.val h1; unfold par at this; dsimp only at this; omega

theorem tkey_inj : Function.Injective fun i : TI => (cls (tsem i), tnum i) := by
  intro i j h
  obtain ⟨h1, h2⟩ := Prod.mk.injEq .. ▸ h
  rcases i with d | ⟨⟨d, s⟩, t⟩ | ⟨⟨d, s⟩, t⟩ | ⟨⟨d, s⟩, t⟩ | r | r <;> rcases j with d' | ⟨⟨d', s'⟩, t'⟩ | ⟨⟨d', s'⟩, t'⟩ | ⟨⟨d', s'⟩, t'⟩ | r' | r' <;>
    dsimp only [tsem, tnum] at h1 h2 <;> simp only [cls_bar, cls_cr, cls_snd, cls_rcv, cls_exs, cls_exr] at h1 <;> try (cases h1; done)
  · rw [show d = d' from Fin.ext (Prod.mk.inj h2).2]
  · simp only [CellK.snd.injEq] at h1
    rw [h1.1, h1.2.1, show t = t' from Fin.ext (par_cancel h1.2.2 (Prod.mk.inj h2).1)]
  · simp only [CellK.rcv.injEq] at h1
    rw [h1.1, h1.2.1, show t = t' from Fin.ext (par_cancel h1.2.2 (Prod.mk.inj h2).1)]
  · simp only [CellK.cr.injEq] at h1
    rw [h1.1, h1.2, show t = t' from Fin.ext (Prod.mk.inj h2).2]
  · rw [show r = r' from by simpa using h1]
  · rw [show r = r' from by simpa using h1]

theorem tok_inj : Function.Injective tok := by
  rintro ⟨c, i⟩ ⟨c', i'⟩ h
  have hs : tsem i = tsem i' := congrArg (fun t : GSem nD τ sig × ℕ × ℕ => t.1.2) h
  have hn : tnum i = tnum i' := congrArg (fun t : GSem nD τ sig × ℕ × ℕ => t.2) h
  have hi : i = i' := tkey_inj (show (cls (tsem i), tnum i) = (cls (tsem i'), tnum i') by rw [hs, hn])
  subst hi
  have hd : tdev i c = tdev i c' := congrArg (fun t : GSem nD τ sig × ℕ × ℕ => t.1.1.1) h
  rw [tdev_inj i hd]

@[irreducible] def toks : Finset (GSem nD τ sig × ℕ × ℕ) := Finset.univ.map ⟨tok, tok_inj⟩

/-- A write of a receive slot that a device makes. -/
abbrev WI : Type := (B2 × Fin 31) ⊕ Fin 5
def wtok (x : Dev nD × WI) : Key × ℕ := match x.2 with
  | .inl y => (Sum.inl (out y.1.1 x.1, y.1.1, y.1.2, par y.2.val), y.2.val / 2)
  | .inr r => (Sum.inr (prt r x.1, r), 0)
theorem wtok_inj : Function.Injective wtok := by
  rintro ⟨c, i⟩ ⟨c', i'⟩ h
  rcases i with ⟨⟨d, s⟩, t⟩ | r <;> rcases i' with ⟨⟨d', s'⟩, t'⟩ | r' <;> dsimp only [wtok] at h
  · obtain ⟨h1, h2⟩ := Prod.mk.inj h
    have h3 := Sum.inl.inj h1
    simp only [Prod.mk.injEq] at h3
    obtain ⟨h4, rfl, rfl, h5⟩ := h3
    rw [show t = t' from Fin.ext (par_cancel h5 h2), out_inj d h4]
  · exact absurd (Prod.mk.inj h).1 (by simp)
  · exact absurd (Prod.mk.inj h).1 (by simp)
  · have h3 := Sum.inr.inj (Prod.mk.inj h).1
    obtain ⟨h4, rfl⟩ := Prod.mk.inj h3
    rw [prt_inj r h4]
theorem wtok_sub : (Finset.univ.map ⟨wtok, wtok_inj⟩ : Finset (Key × ℕ)) ⊆ Finset.univ ×ˢ Finset.range 16 := by
  intro k hk
  obtain ⟨⟨c, i⟩, -, rfl⟩ := Finset.mem_map.mp hk
  refine Finset.mem_product.mpr ⟨Finset.mem_univ _, Finset.mem_range.mpr ?_⟩
  rcases i with ⟨⟨d, s⟩, t⟩ | r
  · show t.val / 2 < 16; omega
  · show 0 < 16; omega

theorem famIco (n : ℕ) (Φ : ℕ → sProp 𝕄) : (bigSep Finset.univ fun i : Fin n => Φ i.val) = bigSep (Finset.Ico 0 n) Φ := by
  rw [show Finset.Ico 0 n = (Finset.univ : Finset (Fin n)).map Fin.valEmbedding from by ext a; simp [Fin.exists_iff], BI.bigSep_map]
  rfl

theorem famB (n : ℕ) (Φ : B2 × Fin n → sProp 𝕄) : bigSep Finset.univ Φ = bigSep Finset.univ fun x : B2 => bigSep Finset.univ fun t : Fin n => Φ (x, t) :=
  bigSep_univ_prod Φ
theorem osem_inj : Function.Injective osem := by decide +kernel

/-! ## Dealing -/

theorem deal_toks : (bigSep toks fun x => (dutyTok ER x.1 x.2.1 x.2.2 : sProp 𝕄)) ⊢ bigSep Finset.univ fun c : Dev nD =>
    iprop((dutyTok ER (barC (out 0 c)) 0 0 ∗ dutyTok ER (barC (out 1 c)) 0 1)
      ∗ (bigSep Finset.univ fun x : B2 => bigSep (Finset.Ico 0 31) fun n => dutyTok ER (sndC c x.1 x.2 (par n)) (n / 2) 0)
      ∗ (bigSep Finset.univ fun x : B2 => bigSep (Finset.Ico 0 31) fun n => dutyTok ER (rcvC (out x.1 c) x.1 x.2 (par n)) (n / 2) 0)
      ∗ (bigSep Finset.univ fun x : B2 => gvs x.1 x.2 0 c)
      ∗ (bigSep Finset.univ fun r : Fin 5 => dutyTok ER (exsC c r) 0 0) ∗ (bigSep Finset.univ fun r : Fin 5 => dutyTok ER (exrC (prt r c) r) 0 0)) := by
  unfold toks
  rw [BI.bigSep_map, bigSep_univ_prod]
  refine famMono fun c => Entails.of_eq ?_
  rw [bigSep_univ_sum, bigSep_univ_sum, bigSep_univ_sum, bigSep_univ_sum, bigSep_univ_sum, famB 31, famB 31, famB 29, sep_two]
  unfold gvs
  simp only [← famIco]
  rfl

theorem deal_writes : (bigSep ((Finset.univ : Finset Key) ×ˢ Finset.range 16) fun x => (Release.writeTok ES x.1 (x.2 + 1) : sProp 𝕄)) ⊢ bigSep Finset.univ fun c : Dev nD =>
    iprop((bigSep Finset.univ fun x : B2 => bigSep (Finset.Ico 0 31) fun n => Release.writeTok ES (Sum.inl (out x.1 c, x.1, x.2, par n)) (n / 2 + 1))
      ∗ bigSep Finset.univ fun r : Fin 5 => Release.writeTok ES (Sum.inr (prt r c, r)) 1) := by
  refine (BI.bigSep_subset wtok_sub).trans ?_
  rw [BI.bigSep_map, bigSep_univ_prod]
  refine famMono fun c => Entails.of_eq ?_
  rw [bigSep_univ_sum, famB 31]
  simp only [← famIco]
  rfl

theorem deal_readers : (bigSep (Finset.univ : Finset Key) fun k => (Release.readerAt ES k 0 : sProp 𝕄)) ⊢ bigSep Finset.univ fun c : Dev nD => readers c := by
  rw [bigSep_univ_sum, bigSep_univ_prod, bigSep_univ_prod]
  unfold readers
  exact famPair

theorem deal_shut : (bigSep scells fun g => (openTok ER g : sProp 𝕄)) ⊢ bigSep Finset.univ fun c : Dev nD => shut c := by
  unfold scells shut
  rw [BI.bigSep_image_of_injOn (fun x _ y _ h => Prod.ext (congrArg (fun g : GSem nD τ sig => g.1.1) h) (osem_inj (congrArg Prod.snd h))), bigSep_univ_prod]

/-! ## Credits -/

theorem cred_ring (x : B2) : (Pipeline.launchCred (fun d => stO x.1 x.2 0 0 d) c : sProp 𝕄)
    ⊢ iprop(arr x.1 x.2 0 c ∗ bigSep (Finset.Ico 0 29) fun k => cred (tallyAt (crC c x.1 x.2) k 1)) := by
  unfold stO arr
  rw [Pipeline.launchCred_add, Pipeline.launchCred_sum, Pipeline.launchCred_sum]
  exact BI.sep_mono (bigSep_mono fun t _ => Pipeline.launchCred_tallyAt _ (out x.1) (inn x.1) (out_inn x.1) (inn_out x.1) t NB c)
    (bigSep_mono fun j _ => Pipeline.launchCred_tallyAt _ (inn x.1) (out x.1) (inn_out x.1) (out_inn x.1) j 1 c)
theorem cred_ex (r : Fin 5) : (Pipeline.launchCred (fun d => exT d r) c : sProp 𝕄) ⊢ cred (tallyAt (exrC c r) 0 NX) :=
  Pipeline.launchCred_tallyAt _ (prt r) (prt r) (prt_prt r) (prt_prt r) 0 NX c
theorem cred_bar (d : Fin 2) : (Pipeline.launchCred (fun q => tallyAt (barC (out d q)) 0 1) c : sProp 𝕄) ⊢ cred (tallyAt (barC c) 0 1) :=
  Pipeline.launchCred_tallyAt _ (out d) (inn d) (out_inn d) (inn_out d) 0 1 c

theorem creds : (Pipeline.launchCred allO c : sProp 𝕄)
    ⊢ iprop((bigSep Finset.univ fun x : B2 => iprop(arr x.1 x.2 0 c ∗ bigSep (Finset.Ico 0 29) fun k => cred (tallyAt (crC c x.1 x.2) k 1)))
      ∗ (bigSep Finset.univ fun r : Fin 5 => cred (tallyAt (exrC c r) 0 NX)) ∗ cred (tallyAt (barC c) 0 2)) := by
  unfold allO ringO exO
  simp only [Pipeline.launchCred_add]
  iintro ⟨⟨⟨⟨⟨⟨R00, R10⟩, R01⟩, R11⟩, ⟨⟨⟨⟨⟨-, E4⟩, E3⟩, E2⟩, E1⟩, E0⟩⟩, B0⟩, B1⟩
  isplitl [R00 R10 R01 R11]
  · iapply (Entails.of_eq (fam4 _).symm)
    isplitl [R00]; · iapply (cred_ring c (0, 0)) $$ R00
    isplitl [R10]; · iapply (cred_ring c (1, 0)) $$ R10
    isplitl [R01]; · iapply (cred_ring c (0, 1)) $$ R01
    iapply (cred_ring c (1, 1)) $$ R11
  isplitl [E0 E1 E2 E3 E4]
  · iapply (Entails.of_eq (fam5 _).symm)
    isplitl [E0]; · iapply (cred_ex c 0) $$ E0
    isplitl [E1]; · iapply (cred_ex c 1) $$ E1
    isplitl [E2]; · iapply (cred_ex c 2) $$ E2
    isplitl [E3]; · iapply (cred_ex c 3) $$ E3
    iapply (cred_ex c 4) $$ E4
  · ihave B0 := (cred_bar c 0) $$ B0
    ihave B1 := (cred_bar c 1) $$ B1
    rw [show (tallyAt (barC c) 0 2 : CellTallies nD τ sig ℕ) = tallyAt (barC c) 0 1 + tallyAt (barC c) 0 1 from (tallyAt_add _ _ 1 1).symm]
    iapply (cred_add _ _).2
    isplitl [B0] <;> iassumption

end Cert.KernelIdeal.RS

end
-- ==== Proof.Outcome.lean ====
/- What a device's result buffer holds at the end: the four column blocks cover it, so nothing of what it held before is left. -/
module

public import proofs.«01_k».proof.Proof.Deal

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (X : Dev nD → FVec F S4096x128 .f32) (Wt : Dev nD → FVec F S128x2048 .f32)

/-- The place in the result of a place in a column block. -/
def colIx (d s : Fin 2) (j : S128x512.Idx) : S128x2048.Idx := fun
  | 0 => j 0
  | 1 => ⟨1024 * d.val + 512 * s.val + (j 1).val, by
      have h := (j 1).isLt
      have h' : S128x512.size 1 = 512 := rfl
      have h2 : S128x2048.size 1 = 2048 := rfl
      show _ < S128x2048.size 1
      omega⟩

theorem outW_in (c : Dev nD) (d s : Fin 2) (f : Buf (Elt F) (oM.view.loc (c : Thread nD τ))) (j : S128x512.Idx) :
    outW X Wt c d s f (colIx d s j) = quant (exv X Wt 5 c) (yv X Wt d s c) j := by
  unfold outW
  have e : colIx d s j = (oM.access (Rect.unit (s := S128x2048) (colOff d s) S128x512.size (colOff_inb d s))).emb j := by
    funext a
    apply Fin.ext
    match a with
    | 0 => show (j 0).val = 0 + 1 * (j 0).val; omega
    | 1 => show 1024 * d.val + 512 * s.val + (j 1).val = 1024 * d.val + 512 * s.val + 1 * (j 1).val; omega
  rw [e]
  generalize quant (exv X Wt 5 c) (yv X Wt d s c) = z
  refine (View.write_emb_of_mem (v := oM.access (Rect.unit (s := S128x2048) (colOff d s) S128x512.size (colOff_inb d s))) (Val := Elt F) f z
    (M := Finset.univ) (x := j) (Finset.mem_univ _)).trans ?_
  rfl

theorem outW_off (c : Dev nD) (d s d' s' : Fin 2) (h : (d', s') ≠ (d, s)) (f : Buf (Elt F) (oM.view.loc (c : Thread nD τ))) (j : S128x512.Idx) :
    outW X Wt c d s f (colIx d' s' j) = f (colIx d' s' j) := by
  unfold outW
  apply View.write_of_not_mem
  rw [View.setOn_univ]
  intro hm
  obtain ⟨x, -, hx⟩ := Finset.mem_map.mp hm
  have h1 := congrArg (fun i : S128x2048.Idx => (i 1).val) hx
  have h2 : 1024 * d.val + 512 * s.val + 1 * (x 1).val = 1024 * d'.val + 512 * s'.val + (j 1).val := h1
  have hj : (j 1).val < 512 := (j 1).isLt
  have hx' : (x 1).val < 512 := (x 1).isLt
  apply h
  have := d.isLt; have := s.isLt; have := d'.isLt; have := s'.isLt
  have e1 : d'.val = d.val := by omega
  have e2 : s'.val = s.val := by omega
  exact Prod.ext (Fin.ext e1) (Fin.ext e2)

theorem outs_col (c : Dev nD) (d s : Fin 2) (f : Buf (Elt F) (oM.view.loc (c : Thread nD τ))) (j : S128x512.Idx) :
    outs X Wt c f (colIx d s j) = quant (exv X Wt 5 c) (yv X Wt d s c) j := by
  unfold outs
  match d, s with
  | 1, 1 => exact outW_in X Wt c 1 1 _ j
  | 0, 1 => rw [outW_off X Wt c 1 1 0 1 (by decide)]; exact outW_in X Wt c 0 1 _ j
  | 1, 0 => rw [outW_off X Wt c 1 1 1 0 (by decide), outW_off X Wt c 0 1 1 0 (by decide)]; exact outW_in X Wt c 1 0 _ j
  | 0, 0 =>
    rw [outW_off X Wt c 1 1 0 0 (by decide), outW_off X Wt c 0 1 0 0 (by decide), outW_off X Wt c 1 0 0 0 (by decide)]
    exact outW_in X Wt c 0 0 _ j

/-- Every place of the result is in a column block. -/
theorem colIx_surj (i : S128x2048.Idx) : ∃ (d s : Fin 2) (j : S128x512.Idx), colIx d s j = i := by
  have h0 : (i 0).val < 128 := (i 0).isLt
  have h1 : (i 1).val < 2048 := (i 1).isLt
  refine ⟨⟨(i 1).val / 1024, by omega⟩, ⟨(i 1).val % 1024 / 512, by omega⟩, (fun | 0 => ⟨(i 0).val, h0⟩ | 1 => ⟨(i 1).val % 512, Nat.mod_lt _ (by decide)⟩), ?_⟩
  funext a
  apply Fin.ext
  match a with
  | 0 => rfl
  | 1 => show 1024 * ((i 1).val / 1024) + 512 * ((i 1).val % 1024 / 512) + (i 1).val % 512 = (i 1).val; omega

theorem outs_indep (c : Dev nD) (f f' : Buf (Elt F) (oM.view.loc (c : Thread nD τ))) : outs X Wt c f = outs X Wt c f' := by
  funext i
  obtain ⟨d, s, j, rfl⟩ := colIx_surj i
  exact (outs_col X Wt c d s f j).trans (outs_col X Wt c d s f' j).symm

end Cert.KernelIdeal.RS

end
-- ==== Proof.RolledEq.lean ====
/- The kernel function and its short form are the same program: they have the same effects in the same order. -/
module
public import proofs.«01_k».proof.Proof.Rolled
@[expose] public section
set_option maxRecDepth 16384
set_option maxHeartbeats 4000000
noncomputable section
namespace Cert.KernelIdeal.RS
open Idealize.ShloMosaic Idealize.SL.Sem
open Cert.KernelIdeal Cert.KernelIdeal.Facts₀ Cert.KernelIdeal.Facts
variable {F : FTy → Type} [FloatOps F]

theorem op_congr {α : Type} (e : TpuEff nD τ sig (Elt F) Λ₀ .tc α) {k k' : α → PG F} (h : ∀ a, k a = k' a) : Prog.op e k = Prog.op e k' :=
  congrArg _ (funext h)

/-- The certificate's kernel function is the short program. -/
theorem printed_eq : (printed (F := F)) = body := by
  unfold printed body
  repeat refine op_congr _ fun _ => ?_
  rfl
end Cert.KernelIdeal.RS
end
-- ==== Proof.Whole.lean ====
/- The region's proof data: what each staged array holds when the region is entered and when it is left, what a device holds
   before the body and after it; and the body's obligation. -/
module

public import proofs.«01_k».proof.Proof.Outcome
public import proofs.«01_k».proof.Proof.RolledEq
public import Idealize.ShloMosaic.Lib.Pipeline.ValueKit

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]
open Idealize.ShloMosaic.Pipeline (Dat BodyObligation)

local notation "𝕄" => MT nD τ sig ℕ (Elt F) ℕ UU ℕ

variable (m : (ℓ : Loc nD τ sig) → Buf (Elt F) ℓ)

/-! ## Values -/

/-- What a device's buffers hold when the region is entered. -/
abbrev V₁ (c : Dev nD) : Valuation τ sig (Elt F) := StableHlo.after Gen.hostOps0 (fun b => m (c, b))
abbrev V₀ (c : Dev nD) : Valuation τ sig (Elt F) := fun b => m (c, b)
/-- A device's shares of the two factors. -/
def Xm (c : Dev nD) : FVec F S4096x128 .f32 := m ((c : Thread nD τ).loc main_arg0)
def Wm (c : Dev nD) : FVec F S128x2048 .f32 := m ((c : Thread nD τ).loc main_arg1)
/-- A device's share of the result. -/
def outV (c : Dev nD) : FVec F S128x2048 .f32 := outs (Xm m) (Wm m) c (Wm m c)

theorem V₁_of_ne (c : Dev nD) (b : Ref sig .tc) (h0 : b ≠ main_c) (h1 : b ≠ main_c_0) (h2 : b ≠ main_c_1) : V₁ m c b = m ((c : Thread nD τ).loc b) :=
  StableHlo.after_of_forall_not_mem (b := Proc.devRef .tc b) _ _ (List.forall_iff_forall_mem.mp (by
    simp only [Gen.hostOps0, List.Forall, StableHlo.nullary_writes, Finset.mem_singleton]
    exact ⟨StableHlo.devRef_ne_of_ne h0, StableHlo.devRef_ne_of_ne h1, StableHlo.devRef_ne_of_ne h2⟩))
theorem V₁_x (c : Dev nD) : V₁ m c main_arg0 = Xm m c := V₁_of_ne m c _ (by decide) (by decide) (by decide)
theorem V₁_w (c : Dev nD) : V₁ m c main_arg1 = Wm m c := V₁_of_ne m c _ (by decide) (by decide) (by decide)
theorem V₁_sig (c : Dev nD) : V₁ m c main_c = (fun i => lit0 (S32.rowMajor i)) := by
  show StableHlo.after Gen.hostOps0 (V₀ m c) (Proc.devRef .tc main_c) = _
  simp only [Gen.hostOps0, StableHlo.after_cons, StableHlo.after_nil]
  rw [StableHlo.nullary_result_ne _ _ _ _ (by decide), StableHlo.nullary_result_ne _ _ _ _ (by decide), StableHlo.nullary_result]
  rfl
theorem V₁_inv (c : Dev nD) : V₁ m c main_c_0 = (fun i => lit1 (S32.rowMajor i)) := by
  show StableHlo.after Gen.hostOps0 (V₀ m c) (Proc.devRef .tc main_c_0) = _
  simp only [Gen.hostOps0, StableHlo.after_cons, StableHlo.after_nil]
  rw [StableHlo.nullary_result_ne _ _ _ _ (by decide), StableHlo.nullary_result]
  rfl
theorem V₁_pbit (c : Dev nD) : V₁ m c main_c_1 = (fun i => lit2 (S5x32.rowMajor i)) := by
  show StableHlo.after Gen.hostOps0 (V₀ m c) (Proc.devRef .tc main_c_1) = _
  simp only [Gen.hostOps0, StableHlo.after_cons, StableHlo.after_nil]
  rw [StableHlo.nullary_result]
  rfl

/-! ## The proof data -/

/-- The invariants of the cells and of the receive slots, and the levels. -/
def invs : sProp 𝕄 := iprop(∃ (K : GSem nD τ sig → ℕ) (κ : Key → ℕ), ctx (Xm m) (Wm m) K κ)
instance invs_persistent : BI.Persistent (invs m) := by unfold invs; infer_instance
/-- What a device holds when it enters the region, apart from its buffers: its cells opened. -/
def Xk (c : Dev nD) : sProp 𝕄 := iprop(invs m ∗ opened c ∗ readers c ∗ rights c ∗ barIn c)
def Φ₀ (c : Dev nD) : sProp 𝕄 := iprop(Xk m c ∗ Pipeline.scopedRest (Val := Elt F) spec0 c ∗ ∃ r, prngReg c r)
def Φ₁ (c : Dev nD) : sProp 𝕄 :=
  iprop(Pipeline.scopedRest (Val := Elt F) spec0 c ∗ Pipeline.ownSems0 osem c ∗ semVal (barC c) 0 ∗ ∃ r, prngReg c r)

def dat (c : Dev nD) : Dat τ (Elt F) ℕ ℕ UU ℕ cfg0 c where
  A w := V₁ m c (Pipeline.arrRef spec0 w)
  after w _ := match w with
    | ⟨0, _⟩ => (fun i => lit0 (S32.rowMajor i) : S32.Idx → BitVec 32)
    | ⟨1, _⟩ => (fun i => lit1 (S32.rowMajor i) : S32.Idx → BitVec 32)
    | ⟨2, _⟩ => (fun i => lit2 (S5x32.rowMajor i) : S5x32.Idx → BitVec 32)
    | ⟨3, _⟩ => Xm m c
    | ⟨4, _⟩ => Wm m c
    | ⟨5, _⟩ => outV m c
  Φ t := if t.val = 0 then Φ₀ m c else Φ₁ c
  q _ := fullShare
  owed t := if t.val = 0 then allO c else 0

theorem idx : ∀ t : Fin cfg0.N, win0_0.index t = ![0] ∧ win0_1.index t = ![0] ∧ win0_2.index t = ![0, 0] ∧ win0_3.index t = ![0, 0]
    ∧ win0_4.index t = ![0, 0] ∧ win0_5.index t = ![0, 0] :=
  (by decide +kernel : ∀ t : Fin grid0.N, _)

theorem bef0 (c : Dev nD) (d) : (dat m c).before (0 : Fin 6) Gen.t0_0 d = (fun i => lit0 (S32.rowMajor i) : S32.Idx → BitVec 32) := by
  unfold Dat.before; rw [if_pos (Gen.fetch0_0 _)]
  show (dat m c).blockOf (0 : Fin 6) Gen.t0_0 = _
  rw [← V₁_sig m c]
  blk_ext! [Dat.blockOf, dat, idx Gen.t0_0]
theorem bef1 (c : Dev nD) (d) : (dat m c).before (1 : Fin 6) Gen.t0_0 d = (fun i => lit1 (S32.rowMajor i) : S32.Idx → BitVec 32) := by
  unfold Dat.before; rw [if_pos (Gen.fetch0_1 _)]
  show (dat m c).blockOf (1 : Fin 6) Gen.t0_0 = _
  rw [← V₁_inv m c]
  blk_ext! [Dat.blockOf, dat, idx Gen.t0_0]
theorem bef2 (c : Dev nD) (d) : (dat m c).before (2 : Fin 6) Gen.t0_0 d = (fun i => lit2 (S5x32.rowMajor i) : S5x32.Idx → BitVec 32) := by
  unfold Dat.before; rw [if_pos (Gen.fetch0_2 _)]
  show (dat m c).blockOf (2 : Fin 6) Gen.t0_0 = _
  rw [← V₁_pbit m c]
  blk_ext! [Dat.blockOf, dat, idx Gen.t0_0]
theorem bef3 (c : Dev nD) (d) : (dat m c).before (3 : Fin 6) Gen.t0_0 d = Xm m c := by
  unfold Dat.before; rw [if_pos (Gen.fetch0_3 _)]
  show (dat m c).blockOf (3 : Fin 6) Gen.t0_0 = _
  rw [← V₁_x m c]
  blk_ext! [Dat.blockOf, dat, idx Gen.t0_0]
theorem bef4 (c : Dev nD) (d) : (dat m c).before (4 : Fin 6) Gen.t0_0 d = Wm m c := by
  unfold Dat.before; rw [if_pos (Gen.fetch0_4 _)]
  show (dat m c).blockOf (4 : Fin 6) Gen.t0_0 = _
  rw [← V₁_w m c]
  blk_ext! [Dat.blockOf, dat, idx Gen.t0_0]

/-- The result array when the region is left. -/
theorem arr5 (c : Dev nD) : (dat m c).arrAt (5 : Fin 6) cfg0.N = outV m c := by
  refine (dat m c).arrAt_eq_of_after_last (5 : Fin 6) Gen.t0_0 (by decide +kernel) _ fun j => ?_
  blk_simp
  rfl

/-! ## The body's obligation -/

theorem owesAt_in (c : Dev nD) (t : Fin (cfg0.N + 1)) (O : CellTallies nD τ sig ℕ) (h : (dat m c).owed t = O) :
    ow c O ⊢ ((dat m c).owesAt 0 t : sProp 𝕄) := by
  unfold ow Dat.owesAt Pipeline.owesWithin Dat.bound
  rw [h]
  iintro ⟨%W, H⟩
  iexists W
  isplitr; · ipureintro; exact fun _ _ => Or.inl trivial
  iexact H
theorem owesAt_out (c : Dev nD) (t : Fin (cfg0.N + 1)) (O : CellTallies nD τ sig ℕ) (h : (dat m c).owed t = O) :
    ((dat m c).owesAt 0 t : sProp 𝕄) ⊢ ow c O := by
  unfold ow Dat.owesAt Pipeline.owesWithin
  rw [h]
  iintro ⟨%W, -, H⟩
  iexists W
  iexact H

end Cert.KernelIdeal.RS

end
-- ==== Proof.Oblig.lean ====
/- The body's obligation: what a device holds before the body, and what the body leaves. -/
module

public import proofs.«01_k».proof.Proof.Whole

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]
open Idealize.ShloMosaic.Pipeline (Dat BodyObligation)

local notation "𝕄" => MT nD τ sig ℕ (Elt F) ℕ UU ℕ

variable (m : (ℓ : Loc nD τ sig) → Buf (Elt F) ℓ)

/-- The kernel as it is called is the kernel folded up. -/
theorem wp_printed (c : Dev nD) (Q : PUnit → sProp 𝕄) : WP c body Q ⊢ WP c printed Q :=
  Entails.of_eq (congrArg (fun p : PG F => WP c p Q) printed_eq.symm)

theorem wp_end (c : Dev nD) (p : PG F) (Q : PUnit → sProp 𝕄) : WP c p (fun a => iprop(|={Set.univ}=> Q a)) ⊢ WP c p Q :=
  Idealize.SL.Sem.wp_fupd _ _ _ _ _

theorem run_body [∀ e, Nonempty (Elt F e)] (c : Dev nD) (f : Buf (Elt F) (oM.view.loc (c : Thread nD τ))) (Q : PUnit → sProp 𝕄) :
    iprop(Φ₀ m c ∗ sigPt c ∗ invPt c ∗ pbitPt c ∗ xPt (Xm m) c ∗ wPt (Wm m) c ∗ oPt c f ∗ ow c (allO c)
        ∗ ((Φ₁ c ∗ sigPt c ∗ invPt c ∗ pbitPt c ∗ xPt (Xm m) c ∗ wPt (Wm m) c ∗ oPt c (outV m c) ∗ ow c 0) -∗ Q ⟨⟩))
      ⊢ WP c body Q := by
  unfold Φ₀ Xk invs
  iintro ⟨⟨⟨⟨%K, %κ, #Hctx⟩, Hop, Hrd, Hrt, Hb⟩, Hs, Hp⟩, Hsig, Hinv, Hpb, Hx, Hw, Ho, HO, Hk⟩
  imod (enter (Xm m) (Wm m) K κ c) $$ [Hs Hop Hrd Hrt] with HI
  · isplitr; · iexact Hctx
    isplitl [Hs]; · iexact Hs
    isplitl [Hop]; · iexact Hop
    isplitl [Hrd] <;> iassumption
  unfold inside
  icases HI with ⟨#He, HI, E0, E1, E2, E3, E4⟩
  iapply (wp_end c _ Q)
  iapply (wp_body (Xm m) (Wm m) K κ c _ f)
  isplitr; · iexact Hctx
  isplitr; · iexact He
  isplitl [Hsig Hx Hw]
  · unfold mem
    isplitl [Hsig]; · iexact Hsig
    isplitl [Hx] <;> iassumption
  isplitl [Hinv]; · iexact Hinv
  isplitl [Hpb]; · iexact Hpb
  isplitl [Ho]; · iexact Ho
  isplitl [Hb]; · iexact Hb
  isplitl [HI]; · iexact HI
  isplitl [E0]; · iexact E0
  isplitl [E1]; · iexact E1
  isplitl [E2]; · iexact E2
  isplitl [E3]; · iexact E3
  isplitl [E4]; · iexact E4
  isplitl [HO]; · iexact HO
  unfold Post mem
  iintro ⟨⟨⟨Hsig, Hx, Hw⟩, Hpb, Ho, HF, E0, E1, E2, E3, E4, HO⟩, Hinv, Hat⟩
  imod (leave (Xm m) (Wm m) K κ c) $$ [HF E0 E1 E2 E3 E4 Hat] with ⟨Hs, Hos, Hb⟩
  · isplitr; · iexact Hctx
    isplitr [Hat]
    · unfold after
      isplitl [HF]; · iexact HF
      isplitl [E0]; · iexact E0
      isplitl [E1]; · iexact E1
      isplitl [E2]; · iexact E2
      isplitl [E3] <;> iassumption
    · iexact Hat
  imodintro
  iapply Hk
  isplitl [Hs Hos Hb Hp]
  · unfold Φ₁
    isplitl [Hs]; · iexact Hs
    isplitl [Hos]; · iexact Hos
    isplitl [Hb] <;> iassumption
  isplitl [Hsig]; · iexact Hsig
  isplitl [Hinv]; · iexact Hinv
  isplitl [Hpb]; · iexact Hpb
  isplitl [Hx]; · iexact Hx
  isplitl [Hw]; · iexact Hw
  isplitl [Ho]
  · rw [show outV m c = outs (Xm m) (Wm m) c f from outs_indep (Xm m) (Wm m) c _ f]
    iexact Ho
  iexact HO

/-- A staging buffer whole at given contents. -/
abbrev stg (c : Dev nD) (b : Ref sig .tc) (Y : b.ty.Contents (Elt F)) : sProp 𝕄 :=
  iprop(∃ f : Buf (Elt F) ((c : Thread nD τ).loc b), ⌜f = Y⌝ ∗ ((c : Thread nD τ).loc b) ↦{fullShare} f)
theorem owns_stg (c : Dev nD) (b : Ref sig .tc) (Y : b.ty.Contents (Elt F)) :
    (owns (Ix := ℕ) (Name := ℕ) (U := UU) (Lvl := ℕ) (c : Thread nD τ) (Memref.whole b) fullShare Y : sProp 𝕄) = stg c b Y := by
  unfold owns; simp only [Memref.view_whole, View.read_whole, View.set_whole]
theorem stg_in (c : Dev nD) (b : Ref sig .tc) (Y : b.ty.Contents (Elt F)) :
    (iprop(((c : Thread nD τ).loc b) ↦{fullShare} (Y : Buf (Elt F) ((c : Thread nD τ).loc b))) : sProp 𝕄) ⊢ stg c b Y := by
  iintro H; iexists Y; isplitr; · (ipureintro; rfl)
  iexact H
theorem stg_out (c : Dev nD) (b : Ref sig .tc) {D : Type} (B : D → b.ty.Contents (Elt F)) (Y : b.ty.Contents (Elt F)) (h : ∀ d, B d = Y) :
    (iprop(∃ d, stg c b (B d)) : sProp 𝕄) ⊢ iprop(((c : Thread nD τ).loc b) ↦{fullShare} (Y : Buf (Elt F) ((c : Thread nD τ).loc b))) := by
  iintro ⟨%d, %f, %hf, H⟩
  have e : f = Y := hf.trans (h d)
  subst e
  iexact H
theorem stg_any (c : Dev nD) (b : Ref sig .tc) {D : Type} (B : D → b.ty.Contents (Elt F)) :
    (iprop(∃ d, stg c b (B d)) : sProp 𝕄) ⊢ iprop(∃ f : Buf (Elt F) ((c : Thread nD τ).loc b), ((c : Thread nD τ).loc b) ↦{fullShare} f) := by
  iintro ⟨%d, %f, %hf, H⟩
  iexists f
  iexact H

theorem owed_first (c : Dev nD) : (dat m c).owed Gen.t0_0.castSucc = allO c := rfl
theorem owed_last (c : Dev nD) : (dat m c).owed Gen.t0_0.succ = 0 := rfl

def bodyPre (c : Dev nD) : sProp 𝕄 :=
  iprop(Φ₀ m c ∗ (dat m c).owesAt 0 Gen.t0_0.castSucc
    ∗ (∃ d, stg c cc0_stg0_0 ((dat m c).before (0 : Fin 6) Gen.t0_0 d)) ∗ (∃ d, stg c cc0_stg1_0 ((dat m c).before (1 : Fin 6) Gen.t0_0 d))
    ∗ (∃ d, stg c cc0_stg2_0 ((dat m c).before (2 : Fin 6) Gen.t0_0 d)) ∗ (∃ d, stg c cc0_stg3_0 ((dat m c).before (3 : Fin 6) Gen.t0_0 d))
    ∗ (∃ d, stg c cc0_stg4_0 ((dat m c).before (4 : Fin 6) Gen.t0_0 d)) ∗ (∃ d, stg c cc0_stg5_0 ((dat m c).before (5 : Fin 6) Gen.t0_0 d)))
def bodyPost (c : Dev nD) : sProp 𝕄 :=
  iprop(Φ₁ c ∗ (dat m c).owesAt 0 Gen.t0_0.succ
    ∗ stg c cc0_stg0_0 (fun i => lit0 (S32.rowMajor i) : S32.Idx → BitVec 32) ∗ stg c cc0_stg1_0 (fun i => lit1 (S32.rowMajor i) : S32.Idx → BitVec 32)
    ∗ stg c cc0_stg2_0 (fun i => lit2 (S5x32.rowMajor i) : S5x32.Idx → BitVec 32) ∗ stg c cc0_stg3_0 (Xm m c) ∗ stg c cc0_stg4_0 (Wm m c) ∗ stg c cc0_stg5_0 (outV m c))

theorem run_stg [∀ e, Nonempty (Elt F e)] (c : Dev nD) : bodyPre m c ⊢ WP c body (fun _ => bodyPost m c) := by
  unfold bodyPre
  iintro ⟨HΦ, HO, H0, H1, H2, H3, H4, H5⟩
  ihave HO := (owesAt_out m c _ _ (owed_first m c)) $$ HO
  ihave H0 := (stg_out c cc0_stg0_0 _ _ (bef0 m c)) $$ H0
  ihave H1 := (stg_out c cc0_stg1_0 _ _ (bef1 m c)) $$ H1
  ihave H2 := (stg_out c cc0_stg2_0 _ _ (bef2 m c)) $$ H2
  ihave H3 := (stg_out c cc0_stg3_0 _ _ (bef3 m c)) $$ H3
  ihave H4 := (stg_out c cc0_stg4_0 _ _ (bef4 m c)) $$ H4
  ihave H5 := (stg_any c cc0_stg5_0 _) $$ H5
  icases H5 with ⟨%f, H5⟩
  iapply (run_body m c f _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [HO]; · iexact HO
  unfold bodyPost
  iintro ⟨HΦ, H0, H1, H2, H3, H4, H5, HO⟩
  isplitl [HΦ]; · iexact HΦ
  isplitl [HO]; · iapply (owesAt_in m c _ _ (owed_last m c)); iexact HO
  isplitl [H0]; · iapply (stg_in c cc0_stg0_0 _); iexact H0
  isplitl [H1]; · iapply (stg_in c cc0_stg1_0 _); iexact H1
  isplitl [H2]; · iapply (stg_in c cc0_stg2_0 _); iexact H2
  isplitl [H3]; · iapply (stg_in c cc0_stg3_0 _); iexact H3
  isplitl [H4]; · iapply (stg_in c cc0_stg4_0 _); iexact H4
  iapply (stg_in c cc0_stg5_0 _); iexact H5

theorem call_eq : (defs₀ (F := F)) Proc.tc 0 (Gen.t0_0, cfg0.slots Gen.t0_0) = printed := rfl
theorem phi_first (c : Dev nD) : (dat m c).Φ Gen.t0_0.castSucc = Φ₀ m c := rfl
theorem phi_last (c : Dev nD) : (dat m c).Φ Gen.t0_0.succ = Φ₁ c := rfl
theorem WP_def (c : Dev nD) (p : PG F) (Q : PUnit → sProp 𝕄) : wp frame (wpE (defs₀ (F := F)) 𝒱₀ (c : Thread nD τ) none) Set.univ p Q = WP c p Q := rfl
theorem aft0 (c : Dev nD) : (dat m c).after (0 : Fin 6) Gen.t0_0 = (fun i => lit0 (S32.rowMajor i) : S32.Idx → BitVec 32) := rfl
theorem aft1 (c : Dev nD) : (dat m c).after (1 : Fin 6) Gen.t0_0 = (fun i => lit1 (S32.rowMajor i) : S32.Idx → BitVec 32) := rfl
theorem aft2 (c : Dev nD) : (dat m c).after (2 : Fin 6) Gen.t0_0 = (fun i => lit2 (S5x32.rowMajor i) : S5x32.Idx → BitVec 32) := rfl
theorem aft3 (c : Dev nD) : (dat m c).after (3 : Fin 6) Gen.t0_0 = Xm m c := rfl
theorem aft4 (c : Dev nD) : (dat m c).after (4 : Fin 6) Gen.t0_0 = Wm m c := rfl
theorem aft5 (c : Dev nD) : (dat m c).after (5 : Fin 6) Gen.t0_0 = outV m c := rfl
theorem WP_mono (c : Dev nD) (p : PG F) (Q Q' : PUnit → sProp 𝕄) (h : ∀ a, Q a ⊢ Q' a) : WP c p Q ⊢ WP c p Q' :=
  Idealize.SL.Sem.wp_mono _ _ _ h
theorem body_obligation [∀ e, Nonempty (Elt F e)] (c : Dev nD) : BodyObligation (dat m c) (defs₀ (F := F)) 𝒱₀ 0 Set.univ := fun t => by
  obtain rfl := Gen.fin_N0 t
  rw [Gen.bigSep_W0, Gen.bigSep_W0]
  simp only [owns_stg]
  rw [call_eq, printed_eq, phi_first, phi_last, WP_def]
  have h := run_stg m c
  unfold bodyPre bodyPost at h
  rw [aft0, aft1, aft2, aft3, aft4, aft5]
  refine BIBase.Entails.trans (BIBase.Entails.trans ?a h) ?b
  case a => exact .rfl
  case b =>
    refine WP_mono c _ _ _ fun _ => ?_
    exact .rfl

end Cert.KernelIdeal.RS

end
-- ==== Proof.Start.lean ====
module
public import proofs.«01_k».proof.Proof.Deal

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ

variable (X : Dev nD → FVec F S4096x128 .f32) (Wt : Dev nD → FVec F S128x2048 .f32)

/-! ## What every device starts with -/

/-- The invariants of the cells and of the receive slots, and the levels. -/
def agreed : sProp 𝕄 := iprop(∃ (K : GSem nD τ sig → ℕ) (κ : Key → ℕ), ctx X Wt K κ)
instance agreed_persistent : BI.Persistent (agreed X Wt) := by unfold agreed; infer_instance
/-- What device `c` takes into the region, its cells still shut. -/
def Tk (c : Dev nD) : sProp 𝕄 := iprop(agreed X Wt ∗ shut c ∗ readers c ∗ rights c ∗ barIn c)

/-- The same before it is put together: the tokens, the writes and the credits as they are dealt. -/
def pile (c : Dev nD) : sProp 𝕄 :=
  iprop(((dutyTok ER (barC (out 0 c)) 0 0 ∗ dutyTok ER (barC (out 1 c)) 0 1)
      ∗ (bigSep Finset.univ fun x : B2 => bigSep (Finset.Ico 0 31) fun n => dutyTok ER (sndC c x.1 x.2 (par n)) (n / 2) 0)
      ∗ (bigSep Finset.univ fun x : B2 => bigSep (Finset.Ico 0 31) fun n => dutyTok ER (rcvC (out x.1 c) x.1 x.2 (par n)) (n / 2) 0)
      ∗ (bigSep Finset.univ fun x : B2 => gvs x.1 x.2 0 c)
      ∗ (bigSep Finset.univ fun r : Fin 5 => dutyTok ER (exsC c r) 0 0) ∗ (bigSep Finset.univ fun r : Fin 5 => dutyTok ER (exrC (prt r c) r) 0 0))
    ∗ ((bigSep Finset.univ fun x : B2 => bigSep (Finset.Ico 0 31) fun n => Release.writeTok ES (Sum.inl (out x.1 c, x.1, x.2, par n)) (n / 2 + 1))
      ∗ bigSep Finset.univ fun r : Fin 5 => Release.writeTok ES (Sum.inr (prt r c, r)) 1)
    ∗ ((bigSep Finset.univ fun x : B2 => iprop(arr x.1 x.2 0 c ∗ bigSep (Finset.Ico 0 29) fun k => cred (tallyAt (crC c x.1 x.2) k 1)))
      ∗ (bigSep Finset.univ fun r : Fin 5 => cred (tallyAt (exrC c r) 0 NX)) ∗ cred (tallyAt (barC c) 0 2))
    ∗ shut c ∗ readers c ∗ atPos ER (barC c) 0 ∅ 0)

theorem pair_B2 {Φ Ψ : B2 → sProp 𝕄} : iprop(bigSep Finset.univ Φ ∗ bigSep Finset.univ Ψ) ⊢ bigSep Finset.univ fun i => iprop(Φ i ∗ Ψ i) :=
  Entails.of_eq (BI.bigSep_sep' _ _ _).symm
theorem pair_ico {n : ℕ} {Φ Ψ : ℕ → sProp 𝕄} : iprop(bigSep (Finset.Ico 0 n) Φ ∗ bigSep (Finset.Ico 0 n) Ψ) ⊢ bigSep (Finset.Ico 0 n) fun i => iprop(Φ i ∗ Ψ i) :=
  Entails.of_eq (BI.bigSep_sep' _ _ _).symm

theorem rights_of (c : Dev nD) : iprop((bigSep Finset.univ fun x : B2 => bigSep (Finset.Ico 0 31) fun n => dutyTok ER (sndC c x.1 x.2 (par n)) (n / 2) 0)
      ∗ (bigSep Finset.univ fun x : B2 => bigSep (Finset.Ico 0 31) fun n => dutyTok ER (rcvC (out x.1 c) x.1 x.2 (par n)) (n / 2) 0)
      ∗ (bigSep Finset.univ fun x : B2 => bigSep (Finset.Ico 0 31) fun n => Release.writeTok ES (Sum.inl (out x.1 c, x.1, x.2, par n)) (n / 2 + 1))
      ∗ (bigSep Finset.univ fun x : B2 => gvs x.1 x.2 0 c)
      ∗ (bigSep Finset.univ fun x : B2 => iprop(arr x.1 x.2 0 c ∗ bigSep (Finset.Ico 0 29) fun k => cred (tallyAt (crC c x.1 x.2) k 1))))
    ⊢ (bigSep Finset.univ fun x : B2 => ringTok x.1 x.2 c : sProp 𝕄) := by
  have e : ∀ x : B2, iprop((bigSep (Finset.Ico 0 31) fun n => dutyTok ER (sndC c x.1 x.2 (par n)) (n / 2) 0)
      ∗ (bigSep (Finset.Ico 0 31) fun n => dutyTok ER (rcvC (out x.1 c) x.1 x.2 (par n)) (n / 2) 0)
      ∗ (bigSep (Finset.Ico 0 31) fun n => Release.writeTok ES (Sum.inl (out x.1 c, x.1, x.2, par n)) (n / 2 + 1))
      ∗ gvs x.1 x.2 0 c
      ∗ (arr x.1 x.2 0 c ∗ bigSep (Finset.Ico 0 29) fun k => cred (tallyAt (crC c x.1 x.2) k 1))) ⊢ (ringTok x.1 x.2 c : sProp 𝕄) := fun x => by
    unfold ringTok tks tk
    iintro ⟨S, R, W, Gv, A, Cr⟩
    isplitl [S R W]
    · iapply pair_ico
      isplitl [S]; · iexact S
      iapply pair_ico
      isplitl [R]; · iexact R
      iexact W
    isplitl [Gv]; · iexact Gv
    isplitl [A]; · iexact A
    iexact Cr
  refine BIBase.Entails.trans ?_ (BI.bigSep_mono fun x _ => e x)
  iintro ⟨S, R, W, Gv, A⟩
  iapply pair_B2
  isplitl [S]; · iexact S
  iapply pair_B2
  isplitl [R]; · iexact R
  iapply pair_B2
  isplitl [W]; · iexact W
  iapply pair_B2
  isplitl [Gv]; · iexact Gv
  iexact A

theorem exTok_of (c : Dev nD) : iprop((bigSep Finset.univ fun r : Fin 5 => dutyTok ER (exsC c r) 0 0) ∗ (bigSep Finset.univ fun r : Fin 5 => dutyTok ER (exrC (prt r c) r) 0 0)
      ∗ (bigSep Finset.univ fun r : Fin 5 => Release.writeTok ES (Sum.inr (prt r c, r)) 1) ∗ (bigSep Finset.univ fun r : Fin 5 => cred (tallyAt (exrC c r) 0 NX)))
    ⊢ (bigSep Finset.univ fun r : Fin 5 => exTok r c : sProp 𝕄) := by
  unfold exTok
  iintro ⟨S, R, W, A⟩
  iapply famPair
  isplitl [S]; · iexact S
  iapply famPair
  isplitl [R]; · iexact R
  iapply famPair
  isplitl [W]; · iexact W
  iexact A

/-- The barrier cells' entries, known to everyone. -/
def bars : sProp 𝕄 := bigSep bcells fun g => reached ER g 0
instance bars_persistent : BI.Persistent (bars : sProp 𝕄) := by unfold bars; infer_instance
theorem bars_at (c : Dev nD) : (bars : sProp 𝕄) ⊢ reached ER (barC c) 0 := by
  unfold bars
  have h : barC c ∈ bcells := by unfold bcells; exact Finset.mem_image_of_mem _ (Finset.mem_univ c)
  have h' : (bigSep bcells fun g => (reached ER g 0 : sProp 𝕄)) ⊢ reached ER (barC c) 0 := BI.bigSep_elim h
  exact h'

theorem pile_in (c : Dev nD) : iprop((agreed X Wt ∗ bars) ∗ pile c) ⊢ Tk X Wt c := by
  unfold pile Tk rights barIn
  iintro ⟨⟨I, #B⟩, ⟨⟨B0, B1⟩, S, R, Gv, ES, ER⟩, ⟨W, EW⟩, ⟨A, EC, BC⟩, Sh, Rr, At⟩
  isplitl [I]; · iexact I
  isplitl [Sh]; · iexact Sh
  isplitl [Rr]; · iexact Rr
  isplitl [S R Gv ES ER W EW A EC]
  · isplitl [S R Gv W A]
    · iapply (rights_of c)
      isplitl [S]; · iexact S
      isplitl [R]; · iexact R
      isplitl [W]; · iexact W
      isplitl [Gv]; · iexact Gv
      iexact A
    iapply (exTok_of c)
    isplitl [ES]; · iexact ES
    isplitl [ER]; · iexact ER
    isplitl [EW]; · iexact EW
    iexact EC
  isplitr; · iapply (bars_at (out 1 c)); iexact B
  isplitl [B1]; · iexact B1
  isplitr; · iapply (bars_at (out 0 c)); iexact B
  isplitl [B0]; · iexact B0
  isplitl [BC]; · iexact BC
  iexact At

theorem barC_inj : Function.Injective (fun c : Dev nD => barC c) := fun a b h => congrArg (fun g : GSem nD τ sig => g.1.1) h
theorem bcells_fam (Φ : GSem nD τ sig → sProp 𝕄) : bigSep bcells Φ = bigSep Finset.univ fun c : Dev nD => Φ (barC c) := by
  unfold bcells
  rw [BI.bigSep_image_of_injOn barC_inj.injOn]

theorem cells_disj : Disjoint bcells scells := by
  unfold bcells scells
  refine Finset.disjoint_left.mpr fun g hb hs => ?_
  obtain ⟨c, -, rfl⟩ := Finset.mem_image.mp hb
  obtain ⟨⟨c', i⟩, -, h⟩ := Finset.mem_image.mp hs
  exact absurd (congrArg Prod.snd h) ((by decide +kernel : ∀ i, osem i ≠ SemLoc.reg ⟨4, by decide⟩) i)

/-! ## The launch -/

theorem fund (S Sd : Finset (GSem nD τ sig)) (h : Disjoint S Sd) (T : Finset (GSem nD τ sig × ℕ × ℕ)) :
    iprop((bigSep S fun g => semVal g 0) ∗ BI.own (ER (launchOf S Sd T))) ⊢ (|={Set.univ}=> iprop(∃ K : GSem nD τ sig → ℕ,
      (bigSep (S ∪ Sd) fun g => cellInv ER (Rd X Wt) (K g) g) ∗ (bigSep S fun g => reached ER g 0) ∗ (bigSep S fun g => atPos ER g 0 ∅ 0)
      ∗ (bigSep Sd fun g => openTok ER g) ∗ (bigSep T fun x => dutyTok ER x.1 x.2.1 x.2.2)) : sProp 𝕄) := by
  have h1 := Rounds.fund_launch ER (Rd X Wt) h (fun g _ h => h) T ∅ (Es := Set.univ)
  have h2 : ∀ (φ : (GSem nD τ sig → ℕ) → Prop) (P : (GSem nD τ sig → ℕ) → sProp 𝕄), iprop(|={Set.univ}=> ∃ K, ⌜φ K⌝ ∗ P K) ⊢ (|={Set.univ}=> ∃ K, P K : sProp 𝕄) := fun φ P => by
    iintro H
    imod H with ⟨%K, -, H⟩
    imodintro
    iexists K
    iexact H
  exact h1.trans (h2 _ _)

theorem start0 : iprop((bigSep Finset.univ fun c : Dev nD => semVal (barC c) 0) ∗ (BI.own (ER (launchOf bcells scells toks))))
    ⊢ (|={Set.univ}=> (∃ K : GSem nD τ sig → ℕ,
      (bigSep (bcells ∪ scells) fun g => cellInv ER (Rd X Wt) (K g) g) ∗ (bars) ∗ (bigSep Finset.univ fun c : Dev nD => atPos ER (barC c) 0 ∅ 0)
      ∗ (bigSep scells fun g => openTok ER g) ∗ (bigSep toks fun x => dutyTok ER x.1 x.2.1 x.2.2)) : sProp 𝕄) := by
  rw [← bcells_fam fun g => semVal g 0, ← bcells_fam fun g => atPos ER g 0 ∅ 0]
  exact fund X Wt bcells scells cells_disj toks

theorem fundSlots : (BI.own (ES (Release.initSlots (Finset.univ : Finset Key) 16)) : sProp 𝕄) ⊢ (|={Set.univ}=> iprop(∃ κ : Key → ℕ,
      (bigSep Finset.univ fun k : Key => Release.slotInv ES (κ k) k (Sl (F := F) k)) ∗ (bigSep (Finset.univ : Finset Key) fun k => Release.readerAt ES k 0)
      ∗ (bigSep ((Finset.univ : Finset Key) ×ˢ Finset.range 16) fun x => Release.writeTok ES x.1 (x.2 + 1))) : sProp 𝕄) := by
  have h1 := Release.slots_init ES (Finset.univ : Finset Key) 16 (Sl (F := F)) (Es := Set.univ)
  have h2 : ∀ (φ : (Key → ℕ) → Prop) (P : (Key → ℕ) → sProp 𝕄), iprop(|={Set.univ}=> ∃ K, ⌜φ K⌝ ∗ P K) ⊢ (|={Set.univ}=> ∃ K, P K : sProp 𝕄) := fun φ P => by
    iintro H
    imod H with ⟨%K, -, H⟩
    imodintro
    iexists K
    iexact H
  exact h1.trans (h2 _ _)

/-- How the two funds and the rest are put together. -/
theorem gather {I J : Type} (P Oc Os Cr Lv Re At Op Du Rr Wr : sProp 𝕄) (A : I → sProp 𝕄) (B : J → sProp 𝕄)
    (h1 : iprop(P ∗ Oc) ⊢ (|={Set.univ}=> (∃ K, A K ∗ Re ∗ At ∗ Op ∗ Du) : sProp 𝕄)) (h2 : Os ⊢ (|={Set.univ}=> (∃ κ, B κ ∗ Rr ∗ Wr) : sProp 𝕄)) :
    iprop(P ∗ (Oc ∗ Os) ∗ Cr ∗ Lv) ⊢ (|={Set.univ}=> iprop(((∃ K κ, Lv ∗ A K ∗ B κ) ∗ Re) ∗ (Du ∗ Wr ∗ Cr ∗ Op ∗ Rr ∗ At)) : sProp 𝕄) := by
  iintro ⟨P, ⟨Oc, Os⟩, Cr, Lv⟩
  imod h1 $$ [P Oc] with ⟨%K, A, Re, At, Op, Du⟩
  · isplitl [P]; · iexact P
    iexact Oc
  imod h2 $$ Os with ⟨%κ, B, Rr, Wr⟩
  imodintro
  isplitl [A B Lv Re]
  · isplitr [Re]
    · iexists K; iexists κ
      isplitl [Lv]; · iexact Lv
      isplitl [A]; · iexact A
      iexact B
    iexact Re
  isplitl [Du]; · iexact Du
  isplitl [Wr]; · iexact Wr
  isplitl [Cr]; · iexact Cr
  isplitl [Op]; · iexact Op
  isplitl [Rr]; · iexact Rr
  iexact At

theorem both {P Q P' Q' : sProp 𝕄} (h : P ⊢ Q) (h' : P' ⊢ Q') : iprop(P ∗ P') ⊢ iprop(Q ∗ Q') := BI.sep_mono h h'
theorem piles : iprop((bigSep toks fun x => dutyTok ER x.1 x.2.1 x.2.2) ∗ (bigSep ((Finset.univ : Finset Key) ×ˢ Finset.range 16) fun x => Release.writeTok ES x.1 (x.2 + 1))
      ∗ (bigSep Finset.univ fun c : Dev nD => Pipeline.launchCred allO c) ∗ (bigSep scells fun g => openTok ER g)
      ∗ (bigSep (Finset.univ : Finset Key) fun k => Release.readerAt ES k 0) ∗ (bigSep Finset.univ fun c : Dev nD => atPos ER (barC c) 0 ∅ 0))
    ⊢ (bigSep Finset.univ fun c : Dev nD => pile c : sProp 𝕄) := by
  unfold pile
  exact (both deal_toks ((both deal_writes ((both (famMono fun c => creds c) ((both deal_shut ((both deal_readers .rfl).trans
    famPair)).trans famPair)).trans famPair)).trans famPair)).trans famPair

theorem start : iprop((bigSep Finset.univ fun c : Dev nD => semVal (barC c) 0) ∗ (BI.own (ER (launchOf bcells scells toks)) ∗ BI.own (ES (Release.initSlots Finset.univ 16)))
      ∗ (bigSep Finset.univ fun c : Dev nD => Pipeline.launchCred allO c) ∗ levAts L lv)
    ⊢ (|={Set.univ}=> bigSep Finset.univ fun c => Tk X Wt c : sProp 𝕄) := by
  have e3 : iprop((agreed X Wt ∗ bars) ∗ bigSep Finset.univ fun c : Dev nD => pile c) ⊢ bigSep Finset.univ fun c => Tk X Wt c :=
    bigSep_with_persistent fun c _ => pile_in X Wt c
  exact (gather _ _ _ _ _ _ _ _ _ _ _ _ _ (start0 X Wt) fundSlots).trans (BI.fupd_mono ((both .rfl piles).trans e3))

end Cert.KernelIdeal.RS

end
-- ==== Proof.Launch.lean ====
module
public import proofs.«01_k».proof.Proof.Oblig
public import proofs.«01_k».proof.Proof.Start
public import proofs.«01_k».proof.Proof.Gen.KernelIdeal.Frame
public import Idealize.ShloMosaic.Lib.Pipeline.RegionTalk

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig ℕ (Elt F) ℕ UU ℕ
open Idealize.ShloMosaic.Pipeline (Dat BodyObligation cellOf)

variable (m : (ℓ : Loc nD τ sig) → Buf (Elt F) ℓ)

/-! ## The region -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0, c => dat m c
theorem cells_inj : Function.Injective (cellOf (nD := nD) (τ := τ) (Pipeline.pin (pcfgs (F := F)) adm)) := Gen.cellOf_inj
def kitP : Pipeline.PLaunchFacts (nD := nD) (τ := τ) (pcfgs (F := F)) 0 := Gen.launch0.toP

/-- What a device's buffers hold when the region is left. -/
def V₂ (c : Dev nD) : Valuation τ sig (Elt F) := Function.update (V₁ m c) (Proc.devRef .tc main_v1) (outV m c)

theorem V₂_v1 (c : Dev nD) : V₂ m c main_v1 = outV m c := Function.update_self _ _ _
theorem V₂_of_ne (c : Dev nD) (b : Ref sig .tc) (h : b ≠ main_v1) : V₂ m c b = V₁ m c b :=
  Function.update_of_ne (StableHlo.devRef_ne_of_ne h) _ _
theorem V₂_x (c : Dev nD) : V₂ m c main_arg0 = Xm m c := (V₂_of_ne m c _ (by decide)).trans (V₁_x m c)
theorem V₂_w (c : Dev nD) : V₂ m c main_arg1 = Wm m c := (V₂_of_ne m c _ (by decide)).trans (V₁_w m c)

theorem arr_in (c : Dev nD) : ∀ w : Fin 6, (dat m c).arrAt w 0 = V₁ m c (Proc.devRef .tc (Pipeline.arrRef spec0 w)) := fun _ => rfl
theorem arr_out (c : Dev nD) : ∀ w : Fin 6, (dat m c).arrAt w cfg0.N = V₂ m c (Proc.devRef .tc (Pipeline.arrRef spec0 w))
  | ⟨0, _⟩ => ((dat m c).arrAt_in (0 : Fin 6) rfl _).trans (V₂_of_ne m c main_c (by decide)).symm
  | ⟨1, _⟩ => ((dat m c).arrAt_in (1 : Fin 6) rfl _).trans (V₂_of_ne m c main_c_0 (by decide)).symm
  | ⟨2, _⟩ => ((dat m c).arrAt_in (2 : Fin 6) rfl _).trans (V₂_of_ne m c main_c_1 (by decide)).symm
  | ⟨3, _⟩ => ((dat m c).arrAt_in (3 : Fin 6) rfl _).trans (V₂_of_ne m c main_arg0 (by decide)).symm
  | ⟨4, _⟩ => ((dat m c).arrAt_in (4 : Fin 6) rfl _).trans (V₂_of_ne m c main_arg1 (by decide)).symm
  | ⟨5, _⟩ => (arr5 m c).trans (V₂_v1 m c).symm

theorem opens (c : Dev nD) : iprop(Tk (Xm m) (Wm m) c ∗ Pipeline.ownSems0 osem c ∗ levAts L lv) ⊢ (|={Set.univ}=> Xk m c : sProp 𝕄) := by
  unfold Tk Xk agreed invs
  iintro ⟨⟨⟨%K, %κ, #I⟩, Sh, Rd, Rt, Ba⟩, Os, -⟩
  imod (open_cells (Xm m) (Wm m) K κ c) $$ [Sh Os] with Op
  · isplitr; · iexact I
    isplitl [Sh]; · iexact Sh
    iexact Os
  imodintro
  isplitr
  · iexists K; iexists κ; iexact I
  isplitl [Op]; · iexact Op
  isplitl [Rd]; · iexact Rd
  isplitl [Rt]; · iexact Rt
  iexact Ba

theorem phi_in (c : Dev nD) : iprop(Pipeline.scopedRest (Val := Elt F) spec0 c ∗ (∃ r, prngReg c r) ∗ StableHlo.held (c.tc : Thread nD τ) ∅ (V₁ m c) ∗ Xk m c) ⊢ Φ₀ m c := by
  unfold Φ₀
  iintro ⟨S, P, -, X⟩
  isplitl [X]; · iexact X
  isplitl [S]; · iexact S
  iexact P

theorem phi_out (c : Dev nD) : (Φ₁ c : sProp 𝕄)
    ⊢ iprop(Pipeline.scopedRest (Val := Elt F) spec0 c ∗ (∃ r, prngReg c r) ∗ StableHlo.held (c.tc : Thread nD τ) ∅ (V₂ m c) ∗ Pipeline.ownSems0 osem c ∗ semVal (barC c) 0) := by
  unfold Φ₁ StableHlo.held
  rw [BI.bigSep_empty]
  iintro ⟨S, O, B, P⟩
  isplitl [S]; · iexact S
  isplitl [P]; · iexact P
  isplitr; · iempintro
  isplitl [O]; · iexact O
  iexact B

theorem osem_facts : Pipeline.OwnSemFacts spec0 osem := by decide +kernel

theorem stage_lev (c : Dev nD) : ∀ (w : Fin 6) (s : Fin (spec0 w).nbuf), (0 : ℕ) ∈ L ((c : Thread nD τ), .dma ((spec0 w).sem s)) ∧ lv ((c : Thread nD τ), .dma ((spec0 w).sem s)) 0 ≤ 0 := by
  intro w s
  refine ⟨by rw [L_tc]; decide, ?_⟩
  have h : ∀ (w : Fin 6) (s : Fin (spec0 w).nbuf), lvK (cls (.dma ((spec0 w).sem s))) 0 ≤ 0 := by decide +kernel
  exact h w s

theorem owed_lev (c : Dev nD) (t : Fin (cfg0.N + 1)) (g : GSem nD τ sig) (i : ℕ) (h : 0 < (dat m c).owed t g i) : i ∈ L g ∧ 0 < lv g i := by
  have h' : 0 < (if t.val = 0 then allO c else 0) g i := h
  by_cases h0 : t.val = 0
  · rw [if_pos h0] at h'
    exact above_allO c g i h'
  · rw [if_neg h0] at h'
    exact absurd h' (by simp)

theorem share_full (c : Dev nD) (w : Fin 6) : (dat m c).share w = fullShare := by
  unfold Dat.share; split <;> rfl

set_option backward.isDefEq.respectTransparency.types false in
/-- The kernel's region. -/
def reg [∀ e, Nonempty (Elt F e)] : Pipeline.RegionSeg (pcfgs (F := F)) adm (pdats m) (0 : ℕ) defs₀ 𝒱₀ L lv 0 :=
  Pipeline.RegionSeg.ofTalk (pcfgs (F := F)) adm (pdats m) (0 : ℕ) defs₀ 𝒱₀ L lv 0 osem osem_facts
    ∅ ∅ (Finset.Subset.refl _) kitP rfl (fun c => (body_obligation m c).loose)
    (fun _ => 0) allO (fun c => (zero_add _).symm) (fun c => rfl) (fun _ => rfl) (fun c w => share_full m c w)
    (V₁ m) (V₂ m) (fun _ b hb => absurd hb (by rw [Finset.sdiff_self]; exact Finset.notMem_empty b))
    (Tk (Xm m) (Wm m)) (fun c => semVal (barC c) 0) (Xk m) (fun c => semVal (barC c) 0) (opens m) (phi_in m) (phi_out m)
    (fun c => by iintro H; imodintro; iexact H)
    (fun _ => 0)
    ⟨fun c w s => (stage_lev c w s).1, fun c w s => (stage_lev c w s).2, fun c t g i h => owed_lev m c t g i h⟩
    (fun _ => iprop(emp)) (arr_in m) (arr_out m)

/-! ## The run -/

theorem held_at (c : Dev nD) (W : Valuation τ sig (Elt F)) :
    (unscopedBufs (Ix := ℕ) (Name := ℕ) (U := UU) (Lvl := ℕ) c (fun b => W b) : sProp 𝕄) = StableHlo.held (c.tc : Thread nD τ) (Pipeline.arrRefs spec0) W :=
  (Pipeline.unscopedBufs_held c W).trans (by rw [show Pipeline.ucRefs (τ := τ) (sig := sig) = Pipeline.arrRefs spec0 from by decide +kernel])

theorem unscoped_eq : ∀ sm : SemLoc sig, sm.isScoped .tc = false → sm = .reg ⟨4, by decide⟩ := by decide +kernel
theorem bar_sem (c : Dev nD) : (unscopedSems0 c : sProp 𝕄) = semVal (barC c) 0 := by
  unfold unscopedSems0
  rw [show (Finset.univ.filter fun sm : SemLoc sig => ¬ sm.isScoped .tc = true) = {SemLoc.reg ⟨4, by decide⟩} from by decide +kernel, BI.bigSep_singleton]
  rfl

/-- What rides along with the buffers until the region. -/
def ride (c : Dev nD) : sProp 𝕄 := iprop(Tk (Xm m) (Wm m) c ∗ (∃ r, prngReg c r) ∗ ∃ W, owes (c : Thread nD τ) (allO c) W)

theorem ops_sub : ∀ op ∈ (Gen.hostOps0 : List (HloOp τ sig (Elt F))), op.bufs ⊆ Pipeline.arrRefs spec0 := List.forall_iff_forall_mem.mp (by
  refine ⟨?_, ?_, ?_⟩
  · show ({Proc.devRef .tc main_c} : Finset (DevRef τ sig)) ⊆ _; decide +kernel
  · show ({Proc.devRef .tc main_c_0} : Finset (DevRef τ sig)) ⊆ _; decide +kernel
  · show ({Proc.devRef .tc main_c_1} : Finset (DevRef τ sig)) ⊆ _; decide +kernel)

def host : Pipeline.HostSeg (Name := ℕ) (U := UU) (pcfgs (F := F)) defs₀ 𝒱₀ L lv :=
  Pipeline.HostSeg.ofOps _ _ _ _ _ (Pipeline.arrRefs spec0) Gen.hostOps0 ops_sub (List.forall_iff_forall_mem.mp Gen.hostOps0_fresh) (V₀ m) (ride m)

def segs [∀ e, Nonempty (Elt F e)] : List (Pipeline.Seg (pcfgs (F := F)) adm (pdats m) (0 : ℕ) defs₀ 𝒱₀ L lv) := [.host (host m), .region (reg m)]
theorem main_eq [∀ e, Nonempty (Elt F e)] (c : Dev nD) : main (F := F) c = Pipeline.Seg.run (segs m) :=
  Gen.main_segs adm (pdats m) (0 : ℕ) 𝒱₀ L lv (host m) (reg m) rfl c

/-! ### The launch -/

def u₀ : UU := (initOf (Pipeline.cells (Pipeline.pin (pcfgs (F := F)) adm) cells_inj) (Pipeline.launchToks (Pipeline.pin (pcfgs (F := F)) adm) cells_inj),
  (launchOf bcells scells toks, Release.initSlots Finset.univ 16))
/-- A resource kept at device 0 until it is dealt. -/
def at0 (P : sProp 𝕄) (c : Dev nD) : sProp 𝕄 := if c = 0 then P else iprop(emp)
theorem at0_all (P : sProp 𝕄) : bigSep Finset.univ (at0 P) = P := by
  have h0 : at0 P 0 = P := if_pos rfl
  have h1 : bigSep (Finset.univ.erase 0) (at0 P) = (BI.emp : sProp 𝕄) :=
    (BI.bigSep_congr (Ψ := fun _ => (BI.emp : sProp 𝕄)) fun c hc => if_neg (Finset.ne_of_mem_erase hc)).trans (BI.bigSep_emp_const _)
  rw [show (Finset.univ : Finset (Dev nD)) = insert 0 (Finset.univ.erase 0) from (Finset.insert_erase (Finset.mem_univ _)).symm,
    sepInsert (Finset.notMem_erase _ _), h0, h1]
  exact equiv_iff.mp BI.sep_emp
def funds : sProp 𝕄 := iprop(BI.own (ER (launchOf bcells scells toks)) ∗ BI.own (ES (Release.initSlots Finset.univ 16)))

theorem funded : (ownU (u₀ (F := F)) : sProp 𝕄) ⊢ (|={Set.univ}=> iprop(BI.own (EP (initOf (Pipeline.cells (Pipeline.pin (pcfgs (F := F)) adm) cells_inj)
      (Pipeline.launchToks (Pipeline.pin (pcfgs (F := F)) adm) cells_inj))) ∗ bigSep Finset.univ (at0 funds)) : sProp 𝕄) := by
  rw [at0_all]
  unfold u₀ funds
  refine BIBase.Entails.trans (ownU_pair _ _) ?_
  iintro ⟨HP, HX⟩
  imodintro
  isplitl [HP]; · iexact HP
  iapply (own_pair_emb E2 _ _) $$ HX

theorem init (ρ : Dev nD → PrngReg) : iprop((bigSep Finset.univ fun c : Dev nD => iprop(unscopedBufs c (fun b => m ((c.tc : Thread nD τ).loc b)) ∗ unscopedSems0 c
      ∗ owes (c.tc : Thread nD τ) (allO c) ∅ ∗ Pipeline.launchCred allO c ∗ prngReg c (ρ c) ∗ at0 funds c)) ∗ levAts L lv)
    ⊢ (|={Set.univ}=> bigSep Finset.univ fun c => iprop(StableHlo.held (c.tc : Thread nD τ) (Pipeline.arrRefs spec0) (V₀ m c) ∗ ride m c) : sProp 𝕄) := by
  have h1 (c : Dev nD) : iprop(unscopedBufs c (fun b => m ((c.tc : Thread nD τ).loc b)) ∗ unscopedSems0 c
      ∗ owes (c.tc : Thread nD τ) (allO c) ∅ ∗ Pipeline.launchCred allO c ∗ prngReg c (ρ c) ∗ at0 funds c)
      ⊢ (iprop((StableHlo.held (c.tc : Thread nD τ) (Pipeline.arrRefs spec0) (V₀ m c) ∗ (∃ r, prngReg c r) ∗ ∃ W, owes (c : Thread nD τ) (allO c) W)
        ∗ semVal (barC c) 0 ∗ at0 funds c ∗ Pipeline.launchCred allO c) : sProp 𝕄) := by
    rw [bar_sem, ← held_at c (V₀ m c)]
    iintro ⟨Hb, Hs, Ho, Hc, Hr, Hf⟩
    isplitl [Hb Ho Hr]
    · isplitl [Hb]; · iexact Hb
      isplitl [Hr]; · iexists _; iexact Hr
      iexists _; iexact Ho
    isplitl [Hs]; · iexact Hs
    isplitl [Hf]; · iexact Hf
    iexact Hc
  have h2 (c : Dev nD) : iprop((StableHlo.held (c.tc : Thread nD τ) (Pipeline.arrRefs spec0) (V₀ m c) ∗ (∃ r, prngReg c r) ∗ ∃ W, owes (c : Thread nD τ) (allO c) W) ∗ Tk (Xm m) (Wm m) c)
      ⊢ iprop(StableHlo.held (c.tc : Thread nD τ) (Pipeline.arrRefs spec0) (V₀ m c) ∗ ride m c) := by
    unfold ride
    iintro ⟨⟨Hb, Hr⟩, HT⟩
    isplitl [Hb]; · iexact Hb
    isplitl [HT]; · iexact HT
    iexact Hr
  have h3 : iprop((bigSep Finset.univ fun c : Dev nD => semVal (barC c) 0) ∗ bigSep Finset.univ (at0 funds)
      ∗ (bigSep Finset.univ fun c : Dev nD => Pipeline.launchCred allO c) ∗ levAts L lv)
      ⊢ (|={Set.univ}=> bigSep Finset.univ fun c => Tk (Xm m) (Wm m) c : sProp 𝕄) := by
    rw [at0_all]; exact start (Xm m) (Wm m)
  have h4 : (bigSep Finset.univ fun c : Dev nD => iprop(unscopedBufs c (fun b => m ((c.tc : Thread nD τ).loc b)) ∗ unscopedSems0 c
      ∗ owes (c.tc : Thread nD τ) (allO c) ∅ ∗ Pipeline.launchCred allO c ∗ prngReg c (ρ c) ∗ at0 funds c))
      ⊢ iprop((bigSep Finset.univ fun c : Dev nD => iprop(StableHlo.held (c.tc : Thread nD τ) (Pipeline.arrRefs spec0) (V₀ m c) ∗ (∃ r, prngReg c r) ∗ ∃ W, owes (c : Thread nD τ) (allO c) W))
        ∗ (bigSep Finset.univ fun c : Dev nD => semVal (barC c) 0) ∗ bigSep Finset.univ (at0 funds) ∗ (bigSep Finset.univ fun c : Dev nD => Pipeline.launchCred allO c)) :=
    (famMono h1).trans (famCut.trans (both .rfl (famCut.trans (both .rfl famCut))))
  iintro ⟨H, HL⟩
  ihave H := h4 $$ H
  icases H with ⟨Hh, Hs, Hf, Hc⟩
  imod h3 $$ [Hs Hf Hc HL] with HT
  · isplitl [Hs]; · iexact Hs
    isplitl [Hf]; · iexact Hf
    isplitl [Hc]; · iexact Hc
    iexact HL
  imodintro
  iapply (famPair.trans (famMono h2))
  isplitl [Hh]; · iexact Hh
  iexact HT

/-- What a device holds at the end. -/
def Tend (c : Dev nD) : sProp 𝕄 := iprop(StableHlo.held (c.tc : Thread nD τ) (Pipeline.arrRefs spec0) (V₂ m c) ∗ semVal (barC c) 0)

theorem held_take (c : Dev nD) (W : Valuation τ sig (Elt F)) : (StableHlo.held (c.tc : Thread nD τ) (Pipeline.arrRefs spec0) W : sProp 𝕄)
    ⊢ iprop(((c : Thread nD τ).loc main_arg0 ↦{fullShare} W main_arg0) ∗ ((c : Thread nD τ).loc main_arg1 ↦{fullShare} W main_arg1)
      ∗ ((c : Thread nD τ).loc main_v1 ↦{fullShare} W main_v1)) := by
  have h : ({Proc.devRef .tc main_arg0, Proc.devRef .tc main_arg1, Proc.devRef .tc main_v1} : Finset (DevRef τ sig)) ⊆ Pipeline.arrRefs spec0 := by decide +kernel
  unfold StableHlo.held
  refine BIBase.Entails.trans (BI.bigSep_subset h) ?_
  rw [sepInsert (by decide), sepInsert (by decide), BI.bigSep_singleton]

theorem reg_in [∀ e, Nonempty (Elt F e)] (c : Dev nD) : (host m).post c ⊢ (reg m).pre c := by
  show iprop(StableHlo.held (c.tc : Thread nD τ) (Pipeline.arrRefs spec0) (V₁ m c) ∗ ride m c)
    ⊢ iprop(StableHlo.held (c.tc : Thread nD τ) (Pipeline.arrRefs spec0) (V₁ m c) ∗ (∃ r, prngReg c r)
      ∗ (StableHlo.held (c.tc : Thread nD τ) ∅ (V₁ m c) ∗ emp) ∗ Tk (Xm m) (Wm m) c ∗ ∃ W, owes (c : Thread nD τ) (0 + allO c) W)
  rw [zero_add]
  unfold ride StableHlo.held
  rw [BI.bigSep_empty]
  iintro ⟨H, T, R, O⟩
  isplitl [H]; · iexact H
  isplitl [R]; · iexact R
  isplitr
  · isplitr <;> iempintro
  isplitl [T]; · iexact T
  iexact O

theorem reg_out [∀ e, Nonempty (Elt F e)] (c : Dev nD) : (reg m).post c ⊢ iprop(Tend m c ∗ ∃ W, owes (c.tc : Thread nD τ) (0 : CellTallies nD τ sig ℕ) W) := by
  show iprop(StableHlo.held (c.tc : Thread nD τ) (Pipeline.arrRefs spec0) (V₂ m c) ∗ (∃ r, prngReg c r)
      ∗ (StableHlo.held (c.tc : Thread nD τ) ∅ (V₂ m c) ∗ emp) ∗ semVal (barC c) 0 ∗ ∃ W, owes (c : Thread nD τ) 0 W) ⊢ _
  unfold Tend
  iintro ⟨H, -, -, S, O⟩
  isplitl [H S]
  · isplitl [H]; · iexact H
    iexact S
  iexact O

set_option backward.isDefEq.respectTransparency.types false in
/-- The run of the whole program, over any float values: the arguments are unchanged, the result holds each device's share, every counter ends at zero. -/
theorem run_main [∀ e, Nonempty (Elt F e)] (ρ : Dev nD → PrngReg) : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outV m c) ∧ r.2.sem = fun _ => 0) :=
  Pipeline.θ_run_regions_kit_sems (pcfgs (F := F)) adm (pdats m) (0 : ℕ) cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := allO) (hL := L_of_ne) (G := at0 funds) (u₀ := u₀ (F := F)) (hu₀ := funded)
    (T₀ := fun c => iprop(StableHlo.held (c.tc : Thread nD τ) (Pipeline.arrRefs spec0) (V₀ m c) ∗ ride m c)) (Tₙ := Tend m)
    (hch := ⟨fun c => .rfl, fun c => reg_in m c, fun c => reg_out m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v1) = V₂ m c main_v1) ∧ s.sem (barC c) = 0)
    (hfin := fun c s' => by
      unfold Tend
      refine BIBase.Entails.trans (both (both (held_take c _) .rfl) .rfl) ?_
      iintro ⟨⟨⟨Hx, Hw, Hv⟩, Hb⟩, HSI⟩
      icombine HSI Hx gives %hx
      icombine HSI Hw gives %hw
      icombine HSI Hv gives %hv
      icombine HSI Hb gives %hb
      imodintro
      isplitr
      · ipureintro
        exact ⟨⟨Buf.eq_of_forall_mem_univ hx, Buf.eq_of_forall_mem_univ hw, Buf.eq_of_forall_mem_univ hv⟩, by simpa using hb⟩
      iexact HSI)
    (hQ := fun s h hs => ⟨fun c => by
        obtain ⟨⟨hx, hw, hv⟩, -⟩ := h c
        exact ⟨hx.trans (V₂_x m c), hw.trans (V₂_w m c), hv.trans (V₂_v1 m c)⟩,
      sem_eq_zero hs fun c sm hsm => by
        obtain rfl := unscoped_eq sm hsm
        exact (h c).2⟩)

end Cert.KernelIdeal.RS

end
-- ==== Proof.Same.lean ====
module

public import proofs.«01_k».proof.Proof.Launch
public import proofs.«01_k».proof.Proof.Gen.Kernel

@[expose] public section

set_option maxHeartbeats 4000000

noncomputable section

/-! # The printed kernel is the idealized program

No operation was rewritten, so the two printed texts are the same text in two namespaces, over any
reading of the floats. -/

namespace Cert.KernelIdeal.RS

open Idealize.ShloMosaic Idealize.ShloMosaic.TcCoe

variable (F : FTy → Type) [FloatOps F]

/-- The two kernel functions. -/
theorem body_same : Cert.Kernel.cc0_body (F := F) = Cert.KernelIdeal.cc0_body (F := F) := rfl

/-- The two tables of kernel functions. -/
theorem kernels_same : Cert.Kernel.defs₀ (F := F) = Cert.KernelIdeal.defs₀ (F := F) := by
  funext p l a
  rcases p with _ | _ | _
  · rcases l with ⟨_ | n, h⟩
    · rcases a with ⟨t, s⟩
      with_unfolding_all rfl
    · exact absurd h (by omega)
  · rfl
  · rfl

/-- The two body tables. -/
theorem defs_same : Cert.Kernel.defs (F := F) = Cert.KernelIdeal.defs (F := F) :=
  congrArg (Pipeline.defs Cert.KernelIdeal.pcfgs) (kernels_same F)

/-- The two entry functions. -/
theorem main_same : Cert.Kernel.main (F := F) = Cert.KernelIdeal.main (F := F) := rfl

/-- A run of the idealized program is a run of the printed one. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (Cert.KernelIdeal.main (F := F))) s Q) :
    θ_run (Cert.Kernel.defs (F := F)) (onTc (Cert.Kernel.main (F := F))) s Q := by
  rw [defs_same, main_same]
  exact h

end Cert.KernelIdeal.RS

end
-- ==== Proof.Sums.lean ====
/- What a stream adds up, over the extended reals: a finished block is the block of the whole product. -/
module

public import proofs.«01_k».proof.Proof.Sched
public import proofs.«01_k».proof.Proof.Gen.ReferenceIdeal
public import Idealize.ShloMosaic.PureOps.Ideal.Laws
public import Idealize.ShloMosaic.Lib.Layout
public import Idealize.ShloMosaic.Lib.ValueIdx
public import Idealize.ShloMosaic.Lib.Pipeline.Value
public import Idealize.ShloMosaic.Lib.Pipeline.ValueKit.Acc

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

open scoped BigOperators
open Idealize.ShloMosaic.ValueIdx

/-- The element of an array at two numbers, zero outside it. -/
def el {n k : ℕ} (A : (⟨2, ![n, k]⟩ : Shape).Idx → EReal) (a b : ℕ) : EReal :=
  if h : a < n ∧ b < k then A (ix2 ⟨a, h.1⟩ ⟨b, h.2⟩) else 0

theorem el_idx {n k : ℕ} (A : (⟨2, ![n, k]⟩ : Shape).Idx → EReal) (i : (⟨2, ![n, k]⟩ : Shape).Idx) : A i = el A (i 0).val (i 1).val := by
  unfold el
  rw [dif_pos ⟨idx2_lt0 i, idx2_lt1 i⟩]
  exact congrArg A (eq_ix2 i)

/-- A column block of a device's right block and a chunk of its left block, element by element. -/
theorem xch_el (X : FVec Ideal S4096x128 .f32) (v : Dev nD) (i : S128x128.Idx) :
    xch X v i = el (n := 4096) (k := 128) X (128 * v.val + (i 0).val) (i 1).val := by
  unfold xch
  refine (el_idx (n := 4096) (k := 128) X _).trans ?_
  congr 1
  · show chunkOff (devW v) 0 + 1 * (i 0).val = _
    rw [chunkOff_devW]
    show 128 * v.val + 1 * (i 0).val = _
    omega
  · show chunkOff (devW v) 1 + 1 * (i 1).val = _
    rw [chunkOff_devW]
    show 0 + 1 * (i 1).val = _
    omega

theorem wcol_el (W : FVec Ideal S128x2048 .f32) (d s : Fin 2) (i : S128x512.Idx) :
    wcol W d s i = el (n := 128) (k := 2048) W (i 0).val (1024 * d.val + 512 * s.val + (i 1).val) := by
  unfold wcol
  refine (el_idx (n := 128) (k := 2048) W _).trans ?_
  congr 1
  · show 0 + 1 * (i 0).val = _
    omega
  · show 1024 * d.val + 512 * s.val + 1 * (i 1).val = _
    omega

/-- A sum over the one axis of a contraction. -/
theorem sum_contr {sl sr so : Shape} (D : DotDims sl sr so) (n : ℕ) (hr : D.contr.rank = 1) (hs : D.contr.size ⟨0, by omega⟩ = n)
    (f : D.contr.Idx → EReal) (g : ℕ → EReal) (h : ∀ q : D.contr.Idx, f q = g (q ⟨0, by omega⟩).val) :
    ∑ q : D.contr.Idx, f q = ∑ k ∈ Finset.range n, g k := by
  rw [← Fin.sum_univ_eq_sum_range g n, ← Equiv.sum_comp (contrEquiv1 D n hr hs).symm]
  refine Finset.sum_congr rfl fun k _ => ?_
  rw [h, contrEquiv1_symm_val]

theorem prod_el (x : FVec Ideal S128x128 .f32) (w : FVec Ideal S128x512 .f32) (j : S128x512.Idx) :
    prod x w j = ∑ k ∈ Finset.range 128, el (n := 128) (k := 128) x (j 0).val k * el (n := 128) (k := 512) w k (j 1).val := by
  unfold prod
  rw [shapeCast_self, shapeCast_self]
  refine (Ideal.matmul_constant_zero_apply _ _ _ _ j).trans ?_
  refine sum_contr _ 128 rfl rfl _ _ fun q => ?_
  rw [el_idx (n := 128) (k := 128) x, el_idx (n := 128) (k := 512) w]
  rfl

/-- The element of the whole product at a row and a column. -/
def whole (A : (⟨2, ![4096, 4096]⟩ : Shape).Idx → EReal) (B : (⟨2, ![4096, 2048]⟩ : Shape).Idx → EReal) (r q : ℕ) : EReal :=
  ∑ k ∈ Finset.range 4096, el A r k * el B k q
/-- One device's share of it: the columns of `A` and rows of `B` that the device holds. -/
def slab (A : (⟨2, ![4096, 4096]⟩ : Shape).Idx → EReal) (B : (⟨2, ![4096, 2048]⟩ : Shape).Idx → EReal) (r q : ℕ) (c : Dev nD) : EReal :=
  ∑ k ∈ Finset.range 128, el A r (c.val * 128 + k) * el B (c.val * 128 + k) q

theorem sum_slab (A : (⟨2, ![4096, 4096]⟩ : Shape).Idx → EReal) (B : (⟨2, ![4096, 2048]⟩ : Shape).Idx → EReal) (r q : ℕ) :
    ∑ c : Dev nD, slab A B r q c = whole A B r q := by
  unfold slab whole
  refine (Fin.sum_univ_eq_sum_range (fun c => ∑ k ∈ Finset.range 128, el A r (c * 128 + k) * el B (c * 128 + k) q) 32).trans ?_
  exact Finset.sum_range_range_mul_add 32 128 fun k => el A r k * el B k q

theorem kn_fresh : ∀ (d : Fin 2) (t : Fin 31) (c : Dev nD), c ∉ kn d t.val (inn d c) := by decide +kernel
theorem kn_every : ∀ (d : Fin 2) (c : Dev nD), kn d 31 c = Finset.univ := by decide +kernel

/-- The columns of the left array that device `c` holds. -/
def leftOf (A : (⟨2, ![4096, 4096]⟩ : Shape).Idx → EReal) (c : Dev nD) : FVec Ideal S4096x128 .f32 :=
  Layout.block ⟨2, ![4096, 128]⟩ ⟨2, ![4096, 4096]⟩ 1 32 c A
/-- The rows of the right array that device `c` holds. -/
def rightOf (B : (⟨2, ![4096, 2048]⟩ : Shape).Idx → EReal) (c : Dev nD) : FVec Ideal S128x2048 .f32 :=
  Layout.block ⟨2, ![128, 2048]⟩ ⟨2, ![4096, 2048]⟩ 0 32 c B

section Blocks

variable (X : Dev nD → FVec Ideal S4096x128 .f32) (Wt : Dev nD → FVec Ideal S128x2048 .f32)
variable (A : (⟨2, ![4096, 4096]⟩ : Shape).Idx → EReal) (B : (⟨2, ![4096, 2048]⟩ : Shape).Idx → EReal)
variable (hX : ∀ c, X c = leftOf A c)
variable (hW : ∀ c, Wt c = rightOf B c)

include hX in
theorem left_el (c : Dev nD) (a b : ℕ) (ha : a < 4096) (hb : b < 128) : el (n := 4096) (k := 128) (X c) a b = el A a (c.val * 128 + b) := by
  unfold el
  have hc : c.val < 32 := c.isLt
  rw [dif_pos ⟨ha, hb⟩, dif_pos ⟨ha, by omega⟩, hX, leftOf, Layout.block_apply]
  congr 1
  funext x
  match x with
  | ⟨0, _⟩ => rfl
  | ⟨1, _⟩ => rfl

include hW in
theorem right_el (c : Dev nD) (a b : ℕ) (ha : a < 128) (hb : b < 2048) : el (n := 128) (k := 2048) (Wt c) a b = el B (c.val * 128 + a) b := by
  unfold el
  have hc : c.val < 32 := c.isLt
  rw [dif_pos ⟨ha, hb⟩, dif_pos ⟨by omega, hb⟩, hW, rightOf, Layout.block_apply]
  congr 1
  funext x
  match x with
  | ⟨0, _⟩ => rfl
  | ⟨1, _⟩ => rfl

include hX hW in
theorem term_el (d s : Fin 2) (t : ℕ) (c : Dev nD) (j : S128x512.Idx) :
    term X Wt d s t c j = slab A B (128 * (mch d t c).val + (j 0).val) (1024 * d.val + 512 * s.val + (j 1).val) c := by
  unfold term slab
  rw [prod_el]
  refine Finset.sum_congr rfl fun k hk => ?_
  have hk : k < 128 := Finset.mem_range.mp hk
  have h0 : (j 0).val < 128 := (j 0).isLt
  have h1 : (j 1).val < 512 := (j 1).isLt
  have hm : (mch d t c).val < 32 := (mch d t c).isLt
  have hd := d.isLt
  have hs := s.isLt
  have e1 : el (n := 128) (k := 128) (xch (X c) (mch d t c)) (j 0).val k = xch (X c) (mch d t c) (ix2 ⟨(j 0).val, h0⟩ ⟨k, hk⟩) := by
    unfold el
    rw [dif_pos ⟨h0, hk⟩]
  have e2 : el (n := 128) (k := 512) (wcol (Wt c) d s) k (j 1).val = wcol (Wt c) d s (ix2 ⟨k, hk⟩ ⟨(j 1).val, h1⟩) := by
    unfold el
    rw [dif_pos ⟨hk, h1⟩]
  rw [e1, e2, xch_el, wcol_el]
  exact congrArg₂ (· * ·) (left_el X A hX c _ _ (by show 128 * (mch d t c).val + (j 0).val < 4096; omega) hk)
    (right_el Wt B hW c _ _ hk (by show 1024 * d.val + 512 * s.val + (j 1).val < 2048; omega))

include hX hW in
/-- A message is the sum of the shares of the devices that added to it. -/
theorem part_el (d s : Fin 2) (t : ℕ) (ht : t ≤ 31) (c : Dev nD) (j : S128x512.Idx) :
    part X Wt d s t c j
      = ∑ c' ∈ kn d t c, slab A B (128 * (mch d t c).val + (j 0).val) (1024 * d.val + 512 * s.val + (j 1).val) c' := by
  induction t generalizing c with
  | zero =>
    show term X Wt d s 0 c j = ∑ c' ∈ {c}, _
    rw [Finset.sum_singleton, term_el X Wt A B hX hW]
  | succ t ih =>
    show part X Wt d s t (inn d c) j + term X Wt d s (t + 1) c j = ∑ c' ∈ insert c (kn d t (inn d c)), _
    rw [Finset.sum_insert (kn_fresh d ⟨t, by omega⟩ c), ih (by omega), term_el X Wt A B hX hW, add_comm]
    have e : mch d t (inn d c) = mch d (t + 1) c := mch_inn d ⟨t, by omega⟩ c
    rw [e]

include hX hW in
/-- A finished block is a block of the whole product, clipped at zero. -/
theorem yv_el (d s : Fin 2) (c : Dev nD) (j : S128x512.Idx) :
    yv X Wt d s c j = max (whole A B (128 * c.val + (j 0).val) (1024 * d.val + 512 * s.val + (j 1).val)) 0 := by
  show max (part X Wt d s 31 c j) (Ideal.ofBits .f32 0x00000000#32) = _
  rw [Ideal.ofBits_zero_f32, part_el X Wt A B hX hW d s 31 le_rfl, kn_every, mch_last, sum_slab]

end Blocks

/-- The reference's product. -/
theorem dot_el (A : FVec Ideal Cert.ReferenceIdeal.S4096x4096 .f32) (B : FVec Ideal Cert.ReferenceIdeal.S4096x2048 .f32) (i : Cert.ReferenceIdeal.S4096x2048.Idx) :
    Host.dotGeneral Cert.ReferenceIdeal.dot_S4096x4096_S4096x2048_S4096x2048_1_0_0_1_n_n none A B i = whole A B (i 0).val (i 1).val := by
  refine (Ideal.dotGeneral_apply _ _ _ _ _ i).trans ?_
  refine sum_contr _ 4096 rfl rfl _ _ fun q => ?_
  rw [el_idx (n := 4096) (k := 4096) A, el_idx (n := 4096) (k := 2048) B]
  rfl

end Cert.KernelIdeal.RS

end
-- ==== Proof.Quant.lean ====
/- The quantiser over the extended reals: multiplying by 127 over the maximum and dividing by the maximum over 127 round the
   same number, whatever the maximum is. -/
module

public import Idealize.ShloMosaic.PureOps.Ideal
public import Idealize.ShloMosaic.PureOps.Ideal.Laws

@[expose] public section

noncomputable section

namespace Cert.KernelIdeal.RS

open Idealize.ShloMosaic

/-- The pattern of 127. -/
theorem bits_127 : Ideal.ofBits .f32 0x42FE0000#32 = ((127 : ℝ) : EReal) := by
  simp [Ideal.ofBits, Ideal.ieee, -EReal.coe_mul]; norm_num
/-- The pattern of −127. -/
theorem bits_neg_127 : Ideal.ofBits .f32 0xC2FE0000#32 = ((-127 : ℝ) : EReal) := by
  simp [Ideal.ofBits, Ideal.ieee, -EReal.coe_mul]; norm_num
/-- The pattern of −∞. -/
theorem bits_bot : Ideal.ofBits .f32 0xFF800000#32 = ⊥ := by
  simp [Ideal.ofBits, Ideal.ieee]

/-- Rounding to the nearest integer, ties to even. -/
abbrev rnd (x : EReal) : EReal := Ideal.liftRound Ideal.roundHalfEven x

theorem rnd_zero : rnd 0 = 0 := by
  have h : rnd ((0 : ℝ) : EReal) = ((Ideal.roundHalfEven 0 : ℝ) : EReal) := Ideal.liftRound_coe _ _
  rw [EReal.coe_zero] at h
  rw [h]
  norm_num [Ideal.roundHalfEven]

/-- The kernel's quantiser of `y` at the maximum `a`. -/
def qk (a y : EReal) : EReal :=
  min ((127 : ℝ) : EReal) (max 0 (rnd (y * Ideal.div ((127 : ℝ) : EReal) a))) * Ideal.div a ((127 : ℝ) : EReal)
/-- The reference's. -/
def qr (a y : EReal) : EReal :=
  min ((127 : ℝ) : EReal) (max ((-127 : ℝ) : EReal) (rnd (Ideal.div y (Ideal.div a ((127 : ℝ) : EReal))))) * Ideal.div a ((127 : ℝ) : EReal)

theorem round_nonneg {r : ℝ} (h : 0 ≤ r) : 0 ≤ Ideal.roundHalfEven r := by
  have h0 : 0 ≤ ⌊r⌋ := Int.floor_nonneg.mpr h
  unfold Ideal.roundHalfEven
  dsimp only
  split_ifs <;> omega

theorem qk_eq_qr {a y : EReal} (h0 : 0 ≤ y) (h1 : y ≤ a) : qk a y = qr a y := by
  have n127 : (127 : ℝ) ≠ 0 := by norm_num
  have p127 : (0 : EReal) < ((127 : ℝ) : EReal) := by exact_mod_cast (by norm_num : (0 : ℝ) < 127)
  have m127 : ((-127 : ℝ) : EReal) ≤ 0 := by exact_mod_cast (by norm_num : (-127 : ℝ) ≤ 0)
  unfold qk qr
  rw [Ideal.div_coe n127]
  induction a with
  | bot => exact absurd (le_antisymm (h1.trans bot_le) (bot_le.trans h0) ▸ h0) (by simp)
  | top =>
    rw [EReal.top_mul_coe_of_pos (by norm_num : (0 : ℝ) < 1 / 127)]
    have e1 : Ideal.div ((127 : ℝ) : EReal) ⊤ = 0 := by simp [Ideal.div]
    have e2 : Ideal.div y ⊤ = 0 := by simp [Ideal.div]
    rw [e1, e2, mul_zero, rnd_zero, max_self, max_eq_right m127]
  | coe r =>
    have hr : 0 ≤ r := by exact_mod_cast h0.trans h1
    obtain ⟨z, rfl⟩ : ∃ z : ℝ, y = z := by
      induction y with
      | bot => exact absurd h0 (by simp)
      | top => exact absurd h1 (by simp)
      | coe z => exact ⟨z, rfl⟩
    have hz : 0 ≤ z := by exact_mod_cast h0
    rcases hr.eq_or_lt with rfl | hr
    · simp
    · have e1 : Ideal.div ((127 : ℝ) : EReal) (r : EReal) = ((127 * (1 / r) : ℝ) : EReal) := by
        rw [Ideal.div_coe hr.ne', ← EReal.coe_mul]
      have hs : r * (1 / 127) ≠ 0 := by positivity
      rw [e1, ← EReal.coe_mul, ← EReal.coe_mul, Ideal.div_coe hs, ← EReal.coe_mul]
      have e2 : z * (1 / (r * (1 / 127))) = z * (127 * (1 / r)) := by field_simp
      rw [e2]
      have hp : 0 ≤ z * (127 * (1 / r)) := by positivity
      have hq : (0 : EReal) ≤ rnd ((z * (127 * (1 / r)) : ℝ) : EReal) := by
        show (0 : EReal) ≤ ((Ideal.roundHalfEven (z * (127 * (1 / r))) : ℝ) : EReal)
        exact_mod_cast round_nonneg hp
      rw [max_eq_right hq, max_eq_right (m127.trans hq)]

end Cert.KernelIdeal.RS

end
-- ==== Proof.Peak.lean ====
/- The maximum that the devices agree on, over the extended reals: it is the largest element of the whole clipped product. -/
module

public import proofs.«01_k».proof.Proof.Sums
public import proofs.«01_k».proof.Proof.Quant

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

open scoped BigOperators
open Idealize.ShloMosaic.ValueIdx

/-- A maximum over every axis is at most `z` when every element is. -/
theorem reduced_le {s t : Shape} {axes : List (Fin s.rank)} (x : FVec Ideal s .f32) (h : s.Reduces axes t) (ht : ∀ a b : t.Idx, a = b)
    (hφ : FKind.Formats .f32) (hacc : (0xFF800000#32 : BitVec 32) = FKind.maximumf.neutral .f32 hφ) (j : t.Idx) (z : EReal) :
    multiReduction .maximumf axes t x 0xFF800000#32 h hφ hacc j ≤ z ↔ ∀ i, x i ≤ z := by
  rw [multiReduction_maximumf_eq_fold, Finset.filter_true_of_mem fun i _ => ht _ _]
  show Finset.univ.fold max (Ideal.ofBits .f32 0xFF800000#32) x ≤ z ↔ _
  rw [Finset.fold_max_le, bits_bot]
  simp

/-- The same of the host's maximum over every axis. -/
theorem host_reduced_le {s t u : Shape} {axes : List (Fin s.rank)} (x : FVec Ideal s .f32) (init : FVec Ideal u .f32) (hi : ∀ k, init k = ⊥)
    (h : s.ReducesTo axes t) (hu : 0 < u.numel) (ht : ∀ a b : t.Idx, a = b) (j : t.Idx) (z : EReal) :
    Host.reduce FloatOps.maximumf x init h hu j ≤ z ↔ ∀ i, x i ≤ z := by
  rw [Host.reduce_eq_fold, Finset.filter_true_of_mem fun i _ => ht _ _, hi]
  show Finset.univ.fold max (⊥ : EReal) x ≤ z ↔ _
  rw [Finset.fold_max_le]
  simp

/-- Reshaping moves elements and drops none. -/
theorem reshaped_le {s t : Shape} (x : FVec Ideal s .f32) (h : s.ShapeCasts t) (z : EReal) :
    (∀ i, shapeCast t x h i ≤ z) ↔ ∀ i, x i ≤ z := by
  unfold shapeCast
  exact (Shape.reshapeEquiv h).surjective.forall (p := fun i => x i ≤ z) |>.symm

theorem one_place (a b : S1.Idx) : a = b := by
  funext k
  have h1 : (a k).val < S1.size k := (a k).isLt
  have h2 : (b k).val < S1.size k := (b k).isLt
  have e : S1.size k = 1 := (by decide : ∀ k, S1.size k = 1) k
  apply Fin.ext
  omega

theorem blockMax_le (y : FVec Ideal S128x512 .f32) (z : EReal) : blockMax y ≤ z ↔ ∀ j, y j ≤ z := by
  unfold blockMax
  exact (reduced_le _ _ one_place (.inl rfl) rfl _ z).trans (reshaped_le y _ z)

theorem tmax_tile (a : EReal) : tmax (F := Ideal) (tile (F := Ideal) a) = a := by
  have h : ∀ z : EReal, tmax (F := Ideal) (tile (F := Ideal) a) ≤ z ↔ a ≤ z := fun z => by
    unfold tmax
    refine ((reduced_le _ _ one_place (.inl rfl) rfl _ z).trans (reshaped_le _ _ z)).trans ?_
    exact ⟨fun h => h (ix2 0 0), fun h _ => h⟩
  exact le_antisymm ((h a).mpr le_rfl) ((h _).mp le_rfl)

/-- The devices whose blocks count in the maximum a device holds before exchange round `r`. -/
def met : ℕ → Dev nD → Dev nD → Bool
  | 0, c, c' => c == c'
  | r + 1, c, c' => met r c c' || met r (prtN r c) c'
theorem met_all : ∀ c c' : Dev nD, met 5 c c' = true := by decide +kernel

section Agreed

variable (X : Dev nD → FVec Ideal S4096x128 .f32) (Wt : Dev nD → FVec Ideal S128x2048 .f32)

theorem exv_le (r : ℕ) (c : Dev nD) (z : EReal) : exv X Wt r c ≤ z ↔ ∀ c', met r c c' = true → exv X Wt 0 c' ≤ z := by
  induction r generalizing c with
  | zero => simp [met]
  | succ r ih =>
    have e : exv X Wt (r + 1) c = max (exv X Wt r c) (exv X Wt r (prtN r c)) := by
      show max (exv X Wt r c) (tmax (F := Ideal) (tile (F := Ideal) (exv X Wt r (prtN r c)))) = _
      rw [tmax_tile]
    rw [e, max_le_iff, ih, ih]
    simp only [met, Bool.or_eq_true]
    exact ⟨fun h c' hc' => hc'.elim (h.1 c') (h.2 c'), fun h => ⟨fun c' hc' => h c' (.inl hc'), fun c' hc' => h c' (.inr hc')⟩⟩

theorem exv_zero_le (c : Dev nD) (z : EReal) : exv X Wt 0 c ≤ z ↔ ∀ d s j, yv X Wt d s c j ≤ z := by
  show max (max (blockMax (yv X Wt 0 0 c)) (blockMax (yv X Wt 0 1 c))) (max (blockMax (yv X Wt 1 0 c)) (blockMax (yv X Wt 1 1 c))) ≤ z ↔ _
  rw [max_le_iff, max_le_iff, max_le_iff, blockMax_le, blockMax_le, blockMax_le, blockMax_le]
  refine ⟨fun h d s j => ?_, fun h => ⟨⟨h 0 0, h 0 1⟩, h 1 0, h 1 1⟩⟩
  match d, s with
  | 0, 0 => exact h.1.1 j
  | 0, 1 => exact h.1.2 j
  | 1, 0 => exact h.2.1 j
  | 1, 1 => exact h.2.2 j

theorem exv_last_le (c : Dev nD) (z : EReal) : exv X Wt 5 c ≤ z ↔ ∀ c' d s j, yv X Wt d s c' j ≤ z := by
  rw [exv_le]
  simp only [met_all, true_imp_iff, exv_zero_le]

end Agreed

end Cert.KernelIdeal.RS

end
-- ==== Proof.Values.lean ====
/- The value claim: each device's result is its block of rows of the reference's result. -/
module

public import proofs.«01_k».proof.Proof.Peak
public import proofs.«01_k».proof.Proof.Outcome

@[expose] public section

set_option maxRecDepth 16384

noncomputable section

namespace Cert.KernelIdeal.RS

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

open Idealize.ShloMosaic.ValueIdx

/-- Index and array types of the reference. -/
abbrev RIx : Type := Cert.ReferenceIdeal.S4096x2048.Idx

/-- One number at every place of the reference's result. -/
def spread (x : FVec Ideal Cert.ReferenceIdeal.S_ .f32) : FVec Ideal Cert.ReferenceIdeal.S4096x2048 .f32 :=
  broadcastInDim Cert.ReferenceIdeal.S4096x2048 ![] Cert.ReferenceIdeal.Facts₀.bcast_S_S4096x2048 x

theorem spread_el (x : FVec Ideal Cert.ReferenceIdeal.S_ .f32) (i : RIx) : spread x i = x ix0 :=
  congrArg x (funext fun k => Fin.elim0 (show Fin 0 from k))

section Reference

variable (A : FVec Ideal Cert.ReferenceIdeal.S4096x4096 .f32) (B : FVec Ideal Cert.ReferenceIdeal.S4096x2048 .f32)

/-- The reference's clipped product. -/
def refY : FVec Ideal Cert.ReferenceIdeal.S4096x2048 .f32 :=
  maximumf (Host.dotGeneral Cert.ReferenceIdeal.dot_S4096x4096_S4096x2048_S4096x2048_1_0_0_1_n_n none A B)
    (broadcastInDim Cert.ReferenceIdeal.S4096x2048 ![] Cert.ReferenceIdeal.Facts₀.bcast_S_S4096x2048 (constant Cert.ReferenceIdeal.S_ .f32 0x00000000#32))
/-- Its largest magnitude. -/
def refA : FVec Ideal Cert.ReferenceIdeal.S_ .f32 :=
  Host.reduce FloatOps.maximumf (Host.absf (refY A B)) (constant Cert.ReferenceIdeal.S_ .f32 0xFF800000#32)
    Cert.ReferenceIdeal.Facts₀.reducesTo_S4096x2048_S_d0_1 Cert.ReferenceIdeal.Facts₀.h_S_
/-- Its result. -/
def refV : FVec Ideal Cert.ReferenceIdeal.S4096x2048 .f32 :=
  mulf (minimumf (spread (id (constant Cert.ReferenceIdeal.S_ .f32 0x42FE0000#32)))
    (maximumf (spread (id (constant Cert.ReferenceIdeal.S_ .f32 0xC2FE0000#32)))
      (Host.roundeven (Host.divf (refY A B) (spread (Host.divf (refA A B) (constant Cert.ReferenceIdeal.S_ .f32 0x42FE0000#32)))))))
    (spread (Host.divf (refA A B) (constant Cert.ReferenceIdeal.S_ .f32 0x42FE0000#32)))

theorem refY_el (i : RIx) : refY A B i = max (whole A B (i 0).val (i 1).val) 0 := by
  show max (Host.dotGeneral Cert.ReferenceIdeal.dot_S4096x4096_S4096x2048_S4096x2048_1_0_0_1_n_n none A B i) (Ideal.ofBits .f32 0x00000000#32) = _
  rw [Ideal.ofBits_zero_f32, dot_el]

theorem refA_le (z : EReal) : refA A B ix0 ≤ z ↔ ∀ i, refY A B i ≤ z := by
  unfold refA
  refine (host_reduced_le _ _ (fun _ => bits_bot) _ _ (fun a b => funext fun k => Fin.elim0 (show Fin 0 from k)) _ z).trans ?_
  have e : ∀ i, Host.absf (refY A B) i = refY A B i := fun i => by
    show max (refY A B i) (-(refY A B i)) = refY A B i
    have h : 0 ≤ refY A B i := by rw [refY_el]; exact le_max_right _ _
    exact max_eq_left ((EReal.neg_le_zero.mpr h).trans h)
  simp only [e]

theorem refV_el (i : RIx) : refV A B i = qr (refA A B ix0) (refY A B i) := by
  unfold qr
  rw [← bits_127, ← bits_neg_127]
  show min (spread _ i) (max (spread _ i) (rnd (Ideal.div (refY A B i) (spread _ i)))) * spread _ i = _
  rw [spread_el, spread_el, spread_el]
  rfl

end Reference

theorem quant_el (a : EReal) (y : FVec Ideal S128x512 .f32) (j : S128x512.Idx) : quant (F := Ideal) a y j = qk a (y j) := by
  unfold qk
  rw [← bits_127, ← Ideal.ofBits_zero_f32]
  rfl

variable (X : Dev nD → FVec Ideal S4096x128 .f32) (Wt : Dev nD → FVec Ideal S128x2048 .f32)
variable (A : (⟨2, ![4096, 4096]⟩ : Shape).Idx → EReal) (B : (⟨2, ![4096, 2048]⟩ : Shape).Idx → EReal)
variable (hX : ∀ c, X c = leftOf A c)
variable (hW : ∀ c, Wt c = rightOf B c)

/-- The row and column of the whole result at a place of a device's column block. -/
def at4 (c : Dev nD) (d s : Fin 2) (j : S128x512.Idx) : (⟨2, ![4096, 2048]⟩ : Shape).Idx :=
  ix2 ⟨128 * c.val + (j 0).val, by have h : (j 0).val < 128 := (j 0).isLt; have h' : c.val < 32 := c.isLt; omega⟩
    ⟨1024 * d.val + 512 * s.val + (j 1).val, by have h : (j 1).val < 512 := (j 1).isLt; omega⟩

include hX hW in
theorem yv_ref (c : Dev nD) (d s : Fin 2) (j : S128x512.Idx) : yv X Wt d s c j = refY A B (at4 c d s j) := by
  rw [yv_el X Wt A B hX hW, refY_el]
  rfl

theorem at4_surj (i : (⟨2, ![4096, 2048]⟩ : Shape).Idx) : ∃ c d s j, at4 c d s j = i := by
  have h0 := idx2_lt0 i
  have h1 := idx2_lt1 i
  refine ⟨⟨(i 0).val / 128, by show _ < 32; omega⟩, ⟨(i 1).val / 1024, by omega⟩, ⟨(i 1).val % 1024 / 512, by omega⟩,
    ix2 ⟨(i 0).val % 128, by omega⟩ ⟨(i 1).val % 512, by omega⟩, ?_⟩
  refine Eq.trans ?_ (eq_ix2 i).symm
  unfold at4
  congr 1
  · apply Fin.ext
    show 128 * ((i 0).val / 128) + (i 0).val % 128 = (i 0).val
    omega
  · apply Fin.ext
    show 1024 * ((i 1).val / 1024) + 512 * ((i 1).val % 1024 / 512) + (i 1).val % 512 = (i 1).val
    omega

include hX hW in
/-- Every device ends with the reference's maximum. -/
theorem exv_ref (c : Dev nD) : exv X Wt 5 c = refA A B ix0 := by
  have h : ∀ z : EReal, exv X Wt 5 c ≤ z ↔ refA A B ix0 ≤ z := fun z => by
    rw [exv_last_le, refA_le]
    constructor
    · intro h i
      obtain ⟨c', d, s, j, rfl⟩ := at4_surj i
      rw [← yv_ref X Wt A B hX hW]
      exact h c' d s j
    · intro h c' d s j
      rw [yv_ref X Wt A B hX hW]
      exact h _
  exact le_antisymm ((h _).mpr le_rfl) ((h _).mp le_rfl)

include hX hW in
/-- Each device's result is its rows of the reference's. -/
theorem outs_ref (c : Dev nD) (f : Buf (Elt Ideal) (oM.view.loc (c : Thread nD τ))) :
    outs X Wt c f = rightOf (refV A B) c := by
  funext i
  obtain ⟨d, s, j, rfl⟩ := colIx_surj i
  rw [outs_col, quant_el, exv_ref X Wt A B hX hW, yv_ref X Wt A B hX hW]
  have h0 : 0 ≤ refY A B (at4 c d s j) := by rw [refY_el]; exact le_max_right _ _
  rw [qk_eq_qr h0 ((refA_le A B _).mp le_rfl _), ← refV_el, rightOf, Layout.block_apply]
  congr 1
  funext x
  apply Fin.ext
  match x with
  | ⟨0, _⟩ => show 128 * c.val + (j 0).val = c.val * 128 + (j 0).val; omega
  | ⟨1, _⟩ => rfl

end Cert.KernelIdeal.RS

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel's frame: its text is the idealized program's, read at the machine's floats. -/
theorem frame_kernel : Cert.quiescent_Kernel (hKernel := Cert.Kernel.Gen.facts) := fun m ρ _ =>
  Cert.KernelIdeal.RS.run_same Bits _ _
    ((θ_run Cert.KernelIdeal.defs _ _).mono (fun _ h => ⟨fun c => ⟨(h.1 c).1, (h.1 c).2.1⟩, h.2⟩)
      (Cert.KernelIdeal.RS.run_main (F := Bits) m ρ))

/-- The idealized kernel's frame. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.RS.run_main (F := Ideal) m ρ)

/-- The reference's frame: it has no semaphore at all. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run m ρ)

/-- Every device's result is its block of rows of the reference's result. -/
theorem algebraic : Cert.algebraic_KernelIdeal_ReferenceIdeal (hKernelIdeal := Cert.KernelIdeal.Gen.facts) (hReferenceIdeal := Cert.ReferenceIdeal.Gen.facts) :=
  fun m ρ m' ρ' _ hm =>
    ⟨Cert.KernelIdeal.RS.refV (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun _ h c => ⟨(h.1 c).2.2.trans (Cert.KernelIdeal.RS.outs_ref (Cert.KernelIdeal.RS.Xm m) (Cert.KernelIdeal.RS.Wm m) _ _
          (fun c => (hm c).1) (fun c => (hm c).2) c _), (h.1 c).1, (h.1 c).2.1⟩)
        (Cert.KernelIdeal.RS.run_main (F := Ideal) m ρ),
      (θ_run Cert.ReferenceIdeal.defs _ _).mono (fun _ h => ⟨(h 0).1, (h 0).2.1, (h 0).2.2⟩) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
